-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_SwigluGrad (m : (ℓ : Loc Cert.SwigluGrad.nD Cert.SwigluGrad.τ Cert.SwigluGrad.sig) → Buf (Elt Bits) ℓ) : Prop :=
  True

def Pre_SwigluGradIdeal (m : (ℓ : Loc Cert.SwigluGradIdeal.nD Cert.SwigluGradIdeal.τ Cert.SwigluGradIdeal.sig) → Buf (Elt Ideal) ℓ) : Prop :=
  True

def Pre_SwigluGradIdeal_finite_swiglu [hPre_finite_swiglu : Cert.Pre_finite_swiglu.Facts] (m : (ℓ : Loc Cert.SwigluGradIdeal.nD Cert.SwigluGradIdeal.τ Cert.SwigluGradIdeal.sig) → Buf (Elt Ideal) ℓ) : Prop :=
  ∀ c : Dev Cert.SwigluGradIdeal.nD,
    (Cert.Pre_finite_swiglu.fn (F := Ideal) (m ((c.tc : Thread Cert.SwigluGradIdeal.nD Cert.SwigluGradIdeal.τ).loc Cert.SwigluGradIdeal.main_arg0)) (m ((c.tc : Thread Cert.SwigluGradIdeal.nD Cert.SwigluGradIdeal.τ).loc Cert.SwigluGradIdeal.main_arg1)) (m ((c.tc : Thread Cert.SwigluGradIdeal.nD Cert.SwigluGradIdeal.τ).loc Cert.SwigluGradIdeal.main_arg2)) (m ((c.tc : Thread Cert.SwigluGradIdeal.nD Cert.SwigluGradIdeal.τ).loc Cert.SwigluGradIdeal.main_arg3))) = (fun _ => 1#1)

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_QkvGrad (m : (ℓ : Loc Cert.QkvGrad.nD Cert.QkvGrad.τ Cert.QkvGrad.sig) → Buf (Elt Bits) ℓ) : Prop :=
  True

def Pre_QkvGradIdeal (m : (ℓ : Loc Cert.QkvGradIdeal.nD Cert.QkvGradIdeal.τ Cert.QkvGradIdeal.sig) → Buf (Elt Ideal) ℓ) : Prop :=
  True

def Pre_FirstGrad (m : (ℓ : Loc Cert.FirstGrad.nD Cert.FirstGrad.τ Cert.FirstGrad.sig) → Buf (Elt Bits) ℓ) : Prop :=
  True

def Pre_FirstGradIdeal (m : (ℓ : Loc Cert.FirstGradIdeal.nD Cert.FirstGradIdeal.τ Cert.FirstGradIdeal.sig) → Buf (Elt Ideal) ℓ) : Prop :=
  True

def Pre_AttnGrad (m : (ℓ : Loc Cert.AttnGrad.nD Cert.AttnGrad.τ Cert.AttnGrad.sig) → Buf (Elt Bits) ℓ) : Prop :=
  True

def Pre_AttnGradIdeal (m : (ℓ : Loc Cert.AttnGradIdeal.nD Cert.AttnGradIdeal.τ Cert.AttnGradIdeal.sig) → Buf (Elt Ideal) ℓ) : Prop :=
  True

def Pre_QkvA (m : (ℓ : Loc Cert.QkvA.nD Cert.QkvA.τ Cert.QkvA.sig) → Buf (Elt Bits) ℓ) : Prop :=
  True

def Pre_QkvAIdeal (m : (ℓ : Loc Cert.QkvAIdeal.nD Cert.QkvAIdeal.τ Cert.QkvAIdeal.sig) → Buf (Elt Ideal) ℓ) : Prop :=
  True

def Pre_QkvB (m : (ℓ : Loc Cert.QkvB.nD Cert.QkvB.τ Cert.QkvB.sig) → Buf (Elt Bits) ℓ) : Prop :=
  True

def Pre_QkvBIdeal (m : (ℓ : Loc Cert.QkvBIdeal.nD Cert.QkvBIdeal.τ Cert.QkvBIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_TopGrad (m : (ℓ : Loc Cert.TopGrad.nD Cert.TopGrad.τ Cert.TopGrad.sig) → Buf (Elt Bits) ℓ) : Prop :=
  True

def Pre_TopGradIdeal (m : (ℓ : Loc Cert.TopGradIdeal.nD Cert.TopGradIdeal.τ Cert.TopGradIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_SumMod (m : (ℓ : Loc Cert.SumMod.nD Cert.SumMod.τ Cert.SumMod.sig) → Buf (Elt Bits) ℓ) : Prop :=
  True

def Pre_SumModIdeal (m : (ℓ : Loc Cert.SumModIdeal.nD Cert.SumModIdeal.τ Cert.SumModIdeal.sig) → Buf (Elt Ideal) ℓ) : Prop :=
  True

def Pre_SumGain (m : (ℓ : Loc Cert.SumGain.nD Cert.SumGain.τ Cert.SumGain.sig) → Buf (Elt Bits) ℓ) : Prop :=
  True

def Pre_SumGainIdeal (m : (ℓ : Loc Cert.SumGainIdeal.nD Cert.SumGainIdeal.τ Cert.SumGainIdeal.sig) → Buf (Elt Ideal) ℓ) : Prop :=
  True

def Pre_StepAdaW (m : (ℓ : Loc Cert.StepAdaW.nD Cert.StepAdaW.τ Cert.StepAdaW.sig) → Buf (Elt Bits) ℓ) : Prop :=
  True

def Pre_StepAdaWIdeal (m : (ℓ : Loc Cert.StepAdaWIdeal.nD Cert.StepAdaWIdeal.τ Cert.StepAdaWIdeal.sig) → Buf (Elt Ideal) ℓ) : Prop :=
  True

def Pre_StepAdaB (m : (ℓ : Loc Cert.StepAdaB.nD Cert.StepAdaB.τ Cert.StepAdaB.sig) → Buf (Elt Bits) ℓ) : Prop :=
  True

def Pre_StepAdaBIdeal (m : (ℓ : Loc Cert.StepAdaBIdeal.nD Cert.StepAdaBIdeal.τ Cert.StepAdaBIdeal.sig) → Buf (Elt Ideal) ℓ) : Prop :=
  True

def Pre_StepGain (m : (ℓ : Loc Cert.StepGain.nD Cert.StepGain.τ Cert.StepGain.sig) → Buf (Elt Bits) ℓ) : Prop :=
  True

def Pre_StepGainIdeal (m : (ℓ : Loc Cert.StepGainIdeal.nD Cert.StepGainIdeal.τ Cert.StepGainIdeal.sig) → Buf (Elt Ideal) ℓ) : Prop :=
  True

def Pre_StepQkvA (m : (ℓ : Loc Cert.StepQkvA.nD Cert.StepQkvA.τ Cert.StepQkvA.sig) → Buf (Elt Bits) ℓ) : Prop :=
  True

def Pre_StepQkvAIdeal (m : (ℓ : Loc Cert.StepQkvAIdeal.nD Cert.StepQkvAIdeal.τ Cert.StepQkvAIdeal.sig) → Buf (Elt Ideal) ℓ) : Prop :=
  True

def Pre_StepHeadGain (m : (ℓ : Loc Cert.StepHeadGain.nD Cert.StepHeadGain.τ Cert.StepHeadGain.sig) → Buf (Elt Bits) ℓ) : Prop :=
  True

def Pre_StepHeadGainIdeal (m : (ℓ : Loc Cert.StepHeadGainIdeal.nD Cert.StepHeadGainIdeal.τ Cert.StepHeadGainIdeal.sig) → Buf (Elt Ideal) ℓ) : Prop :=
  True

def Pre_StepSinks (m : (ℓ : Loc Cert.StepSinks.nD Cert.StepSinks.τ Cert.StepSinks.sig) → Buf (Elt Bits) ℓ) : Prop :=
  True

def Pre_StepSinksIdeal (m : (ℓ : Loc Cert.StepSinksIdeal.nD Cert.StepSinksIdeal.τ Cert.StepSinksIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepQkvB (m : (ℓ : Loc Cert.StepQkvB.nD Cert.StepQkvB.τ Cert.StepQkvB.sig) → Buf (Elt Bits) ℓ) : Prop :=
  True

def Pre_StepQkvBIdeal (m : (ℓ : Loc Cert.StepQkvBIdeal.nD Cert.StepQkvBIdeal.τ Cert.StepQkvBIdeal.sig) → Buf (Elt Ideal) ℓ) : Prop :=
  True

def Pre_StepUp (m : (ℓ : Loc Cert.StepUp.nD Cert.StepUp.τ Cert.StepUp.sig) → Buf (Elt Bits) ℓ) : Prop :=
  True

def Pre_StepUpIdeal (m : (ℓ : Loc Cert.StepUpIdeal.nD Cert.StepUpIdeal.τ Cert.StepUpIdeal.sig) → Buf (Elt Ideal) ℓ) : Prop :=
  True

def Pre_StepDown (m : (ℓ : Loc Cert.StepDown.nD Cert.StepDown.τ Cert.StepDown.sig) → Buf (Elt Bits) ℓ) : Prop :=
  True

def Pre_StepDownIdeal (m : (ℓ : Loc Cert.StepDownIdeal.nD Cert.StepDownIdeal.τ Cert.StepDownIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_GateGradRefIdeal (m : (ℓ : Loc Cert.GateGradRefIdeal.nD Cert.GateGradRefIdeal.τ Cert.GateGradRefIdeal.sig) → Buf (Elt Ideal) ℓ) : Prop :=
  True

def Pre_SwigluGradRefIdeal (m : (ℓ : Loc Cert.SwigluGradRefIdeal.nD Cert.SwigluGradRefIdeal.τ Cert.SwigluGradRefIdeal.sig) → Buf (Elt Ideal) ℓ) : Prop :=
  True

def Pre_SwigluGradRefIdeal_finite_swiglu [hPre_finite_swiglu : Cert.Pre_finite_swiglu.Facts] (m : (ℓ : Loc Cert.SwigluGradRefIdeal.nD Cert.SwigluGradRefIdeal.τ Cert.SwigluGradRefIdeal.sig) → Buf (Elt Ideal) ℓ) : Prop :=
  ∀ c : Dev Cert.SwigluGradRefIdeal.nD,
    (Cert.Pre_finite_swiglu.fn (F := Ideal) (m ((c.tc : Thread Cert.SwigluGradRefIdeal.nD Cert.SwigluGradRefIdeal.τ).loc Cert.SwigluGradRefIdeal.main_arg0)) (m ((c.tc : Thread Cert.SwigluGradRefIdeal.nD Cert.SwigluGradRefIdeal.τ).loc Cert.SwigluGradRefIdeal.main_arg1)) (m ((c.tc : Thread Cert.SwigluGradRefIdeal.nD Cert.SwigluGradRefIdeal.τ).loc Cert.SwigluGradRefIdeal.main_arg2)) (m ((c.tc : Thread Cert.SwigluGradRefIdeal.nD Cert.SwigluGradRefIdeal.τ).loc Cert.SwigluGradRefIdeal.main_arg3))) = (fun _ => 1#1)

def Pre_NormGradRefIdeal (m : (ℓ : Loc Cert.NormGradRefIdeal.nD Cert.NormGradRefIdeal.τ Cert.NormGradRefIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_ResidualRefIdeal (m : (ℓ : Loc Cert.ResidualRefIdeal.nD Cert.ResidualRefIdeal.τ Cert.ResidualRefIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_ThirdGradRefIdeal (m : (ℓ : Loc Cert.ThirdGradRefIdeal.nD Cert.ThirdGradRefIdeal.τ Cert.ThirdGradRefIdeal.sig) → Buf (Elt Ideal) ℓ) : Prop :=
  True

def Pre_QkvGradRefIdeal (m : (ℓ : Loc Cert.QkvGradRefIdeal.nD Cert.QkvGradRefIdeal.τ Cert.QkvGradRefIdeal.sig) → Buf (Elt Ideal) ℓ) : Prop :=
  True

def Pre_FirstGradRefIdeal (m : (ℓ : Loc Cert.FirstGradRefIdeal.nD Cert.FirstGradRefIdeal.τ Cert.FirstGradRefIdeal.sig) → Buf (Elt Ideal) ℓ) : Prop :=
  True

def Pre_AttnGradRefIdeal (m : (ℓ : Loc Cert.AttnGradRefIdeal.nD Cert.AttnGradRefIdeal.τ Cert.AttnGradRefIdeal.sig) → Buf (Elt Ideal) ℓ) : Prop :=
  True

def Pre_QkvARefIdeal (m : (ℓ : Loc Cert.QkvARefIdeal.nD Cert.QkvARefIdeal.τ Cert.QkvARefIdeal.sig) → Buf (Elt Ideal) ℓ) : Prop :=
  True

def Pre_QkvBRefIdeal (m : (ℓ : Loc Cert.QkvBRefIdeal.nD Cert.QkvBRefIdeal.τ Cert.QkvBRefIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_TopGradRefIdeal (m : (ℓ : Loc Cert.TopGradRefIdeal.nD Cert.TopGradRefIdeal.τ Cert.TopGradRefIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def Pre_SumModRefIdeal (m : (ℓ : Loc Cert.SumModRefIdeal.nD Cert.SumModRefIdeal.τ Cert.SumModRefIdeal.sig) → Buf (Elt Ideal) ℓ) : Prop :=
  True

def Pre_SumGainRefIdeal (m : (ℓ : Loc Cert.SumGainRefIdeal.nD Cert.SumGainRefIdeal.τ Cert.SumGainRefIdeal.sig) → Buf (Elt Ideal) ℓ) : Prop :=
  True

def Pre_StepAdaWRefIdeal (m : (ℓ : Loc Cert.StepAdaWRefIdeal.nD Cert.StepAdaWRefIdeal.τ Cert.StepAdaWRefIdeal.sig) → Buf (Elt Ideal) ℓ) : Prop :=
  True

def Pre_StepAdaBRefIdeal (m : (ℓ : Loc Cert.StepAdaBRefIdeal.nD Cert.StepAdaBRefIdeal.τ Cert.StepAdaBRefIdeal.sig) → Buf (Elt Ideal) ℓ) : Prop :=
  True

def Pre_StepGainRefIdeal (m : (ℓ : Loc Cert.StepGainRefIdeal.nD Cert.StepGainRefIdeal.τ Cert.StepGainRefIdeal.sig) → Buf (Elt Ideal) ℓ) : Prop :=
  True

def Pre_StepQkvARefIdeal (m : (ℓ : Loc Cert.StepQkvARefIdeal.nD Cert.StepQkvARefIdeal.τ Cert.StepQkvARefIdeal.sig) → Buf (Elt Ideal) ℓ) : Prop :=
  True

def Pre_StepHeadGainRefIdeal (m : (ℓ : Loc Cert.StepHeadGainRefIdeal.nD Cert.StepHeadGainRefIdeal.τ Cert.StepHeadGainRefIdeal.sig) → Buf (Elt Ideal) ℓ) : Prop :=
  True

def Pre_StepSinksRefIdeal (m : (ℓ : Loc Cert.StepSinksRefIdeal.nD Cert.StepSinksRefIdeal.τ Cert.StepSinksRefIdeal.sig) → Buf (Elt Ideal) ℓ) : Prop :=
  True

def Pre_StepOutRefIdeal (m : (ℓ : Loc Cert.StepOutRefIdeal.nD Cert.StepOutRefIdeal.τ Cert.StepOutRefIdeal.sig) → Buf (Elt Ideal) ℓ) : Prop :=
  True

def Pre_StepQkvBRefIdeal (m : (ℓ : Loc Cert.StepQkvBRefIdeal.nD Cert.StepQkvBRefIdeal.τ Cert.StepQkvBRefIdeal.sig) → Buf (Elt Ideal) ℓ) : Prop :=
  True

def Pre_StepUpRefIdeal (m : (ℓ : Loc Cert.StepUpRefIdeal.nD Cert.StepUpRefIdeal.τ Cert.StepUpRefIdeal.sig) → Buf (Elt Ideal) ℓ) : Prop :=
  True

def Pre_StepDownRefIdeal (m : (ℓ : Loc Cert.StepDownRefIdeal.nD Cert.StepDownRefIdeal.τ Cert.StepDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_SwigluGrad [hSwigluGrad : Cert.SwigluGrad.Facts] : Prop :=
  ∀ (m : (ℓ : Loc Cert.SwigluGrad.nD Cert.SwigluGrad.τ Cert.SwigluGrad.sig) → Buf (Elt Bits) ℓ) (g : Dev Cert.SwigluGrad.nD → PrngReg), Pre_SwigluGrad m →
    θ_run (Cert.SwigluGrad.defs (F := Bits)) (onTc (τ := Cert.SwigluGrad.τ) (Cert.SwigluGrad.main (F := Bits))) ⟨m, fun _ => 0, g⟩ (fun r => (∀ c : Dev Cert.SwigluGrad.nD,
      r.2.mem ((c.tc : Thread Cert.SwigluGrad.nD Cert.SwigluGrad.τ).loc Cert.SwigluGrad.main_arg0) = m ((c.tc : Thread Cert.SwigluGrad.nD Cert.SwigluGrad.τ).loc Cert.SwigluGrad.main_arg0)
      ∧ r.2.mem ((c.tc : Thread Cert.SwigluGrad.nD Cert.SwigluGrad.τ).loc Cert.SwigluGrad.main_arg1) = m ((c.tc : Thread Cert.SwigluGrad.nD Cert.SwigluGrad.τ).loc Cert.SwigluGrad.main_arg1)
      ∧ r.2.mem ((c.tc : Thread Cert.SwigluGrad.nD Cert.SwigluGrad.τ).loc Cert.SwigluGrad.main_arg2) = m ((c.tc : Thread Cert.SwigluGrad.nD Cert.SwigluGrad.τ).loc Cert.SwigluGrad.main_arg2)
      ∧ r.2.mem ((c.tc : Thread Cert.SwigluGrad.nD Cert.SwigluGrad.τ).loc Cert.SwigluGrad.main_arg3) = m ((c.tc : Thread Cert.SwigluGrad.nD Cert.SwigluGrad.τ).loc Cert.SwigluGrad.main_arg3))
      ∧ r.2.sem = fun _ => 0)

def quiescent_SwigluGradIdeal [hSwigluGradIdeal : Cert.SwigluGradIdeal.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg), Pre_SwigluGradIdeal m →
    θ_run (Cert.SwigluGradIdeal.defs (F := Ideal)) (onTc (τ := Cert.SwigluGradIdeal.τ) (Cert.SwigluGradIdeal.main (F := Ideal))) ⟨m, fun _ => 0, g⟩ (fun r => (∀ c : Dev Cert.SwigluGradIdeal.nD,
      r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
      ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
      ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2)
      ∧ r.2.mem ((c.tc : Thread Cert.SwigluGradIdeal.nD Cert.SwigluGradIdeal.τ).loc Cert.SwigluGradIdeal.main_arg3) = m ((c.tc : Thread Cert.SwigluGradIdeal.nD Cert.SwigluGradIdeal.τ).loc Cert.SwigluGradIdeal.main_arg3))
      ∧ r.2.sem = fun _ => 0)

def quiescent_SwigluGradIdeal_pre_finite_swiglu [hSwigluGradIdeal : Cert.SwigluGradIdeal.Facts] [hPre_finite_swiglu : Cert.Pre_finite_swiglu.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg), Pre_SwigluGradIdeal_finite_swiglu m →
    θ_run (Cert.SwigluGradIdeal.defs (F := Ideal)) (onTc (τ := Cert.SwigluGradIdeal.τ) (Cert.SwigluGradIdeal.main (F := Ideal))) ⟨m, fun _ => 0, g⟩ (fun r => (∀ c : Dev Cert.SwigluGradIdeal.nD,
      r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
      ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
      ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2)
      ∧ r.2.mem ((c.tc : Thread Cert.SwigluGradIdeal.nD Cert.SwigluGradIdeal.τ).loc Cert.SwigluGradIdeal.main_arg3) = m ((c.tc : Thread Cert.SwigluGradIdeal.nD Cert.SwigluGradIdeal.τ).loc Cert.SwigluGradIdeal.main_arg3))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4)
      ∧ r.2.mem ((c.tc : Thread Cert.NormGrad.nD Cert.NormGrad.τ).loc Cert.NormGrad.main_arg5) = m ((c.tc : Thread Cert.NormGrad.nD Cert.NormGrad.τ).loc Cert.NormGrad.main_arg5)
      ∧ r.2.mem ((c.tc : Thread Cert.NormGrad.nD Cert.NormGrad.τ).loc Cert.NormGrad.main_arg6) = m ((c.tc : Thread Cert.NormGrad.nD Cert.NormGrad.τ).loc Cert.NormGrad.main_arg6)
      ∧ r.2.mem ((c.tc : Thread Cert.NormGrad.nD Cert.NormGrad.τ).loc Cert.NormGrad.main_arg7) = m ((c.tc : Thread Cert.NormGrad.nD Cert.NormGrad.τ).loc Cert.NormGrad.main_arg7)
      ∧ r.2.mem ((c.tc : Thread Cert.NormGrad.nD Cert.NormGrad.τ).loc Cert.NormGrad.main_arg8) = m ((c.tc : Thread Cert.NormGrad.nD Cert.NormGrad.τ).loc Cert.NormGrad.main_arg8)
      ∧ r.2.mem ((c.tc : Thread Cert.NormGrad.nD Cert.NormGrad.τ).loc Cert.NormGrad.main_arg9) = m ((c.tc : Thread Cert.NormGrad.nD Cert.NormGrad.τ).loc Cert.NormGrad.main_arg9))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
      ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6)
      ∧ r.2.mem ((c.tc : Thread Cert.NormGradIdeal.nD Cert.NormGradIdeal.τ).loc Cert.NormGradIdeal.main_arg7) = m ((c.tc : Thread Cert.NormGradIdeal.nD Cert.NormGradIdeal.τ).loc Cert.NormGradIdeal.main_arg7)
      ∧ r.2.mem ((c.tc : Thread Cert.NormGradIdeal.nD Cert.NormGradIdeal.τ).loc Cert.NormGradIdeal.main_arg8) = m ((c.tc : Thread Cert.NormGradIdeal.nD Cert.NormGradIdeal.τ).loc Cert.NormGradIdeal.main_arg8)
      ∧ r.2.mem ((c.tc : Thread Cert.NormGradIdeal.nD Cert.NormGradIdeal.τ).loc Cert.NormGradIdeal.main_arg9) = m ((c.tc : Thread Cert.NormGradIdeal.nD Cert.NormGradIdeal.τ).loc Cert.NormGradIdeal.main_arg9))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3)
      ∧ r.2.mem ((c.tc : Thread Cert.Residual.nD Cert.Residual.τ).loc Cert.Residual.main_arg4) = m ((c.tc : Thread Cert.Residual.nD Cert.Residual.τ).loc Cert.Residual.main_arg4)
      ∧ r.2.mem ((c.tc : Thread Cert.Residual.nD Cert.Residual.τ).loc Cert.Residual.main_arg5) = m ((c.tc : Thread Cert.Residual.nD Cert.Residual.τ).loc Cert.Residual.main_arg5)
      ∧ r.2.mem ((c.tc : Thread Cert.Residual.nD Cert.Residual.τ).loc Cert.Residual.main_arg6) = m ((c.tc : Thread Cert.Residual.nD Cert.Residual.τ).loc Cert.Residual.main_arg6))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3)
      ∧ r.2.mem ((c.tc : Thread Cert.ResidualIdeal.nD Cert.ResidualIdeal.τ).loc Cert.ResidualIdeal.main_arg4) = m ((c.tc : Thread Cert.ResidualIdeal.nD Cert.ResidualIdeal.τ).loc Cert.ResidualIdeal.main_arg4)
      ∧ r.2.mem ((c.tc : Thread Cert.ResidualIdeal.nD Cert.ResidualIdeal.τ).loc Cert.ResidualIdeal.main_arg5) = m ((c.tc : Thread Cert.ResidualIdeal.nD Cert.ResidualIdeal.τ).loc Cert.ResidualIdeal.main_arg5)
      ∧ r.2.mem ((c.tc : Thread Cert.ResidualIdeal.nD Cert.ResidualIdeal.τ).loc Cert.ResidualIdeal.main_arg6) = m ((c.tc : Thread Cert.ResidualIdeal.nD Cert.ResidualIdeal.τ).loc Cert.ResidualIdeal.main_arg6))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_QkvGrad [hQkvGrad : Cert.QkvGrad.Facts] : Prop :=
  ∀ (m : (ℓ : Loc Cert.QkvGrad.nD Cert.QkvGrad.τ Cert.QkvGrad.sig) → Buf (Elt Bits) ℓ) (g : Dev Cert.QkvGrad.nD → PrngReg), Pre_QkvGrad m →
    θ_run (Cert.QkvGrad.defs (F := Bits)) (onTc (τ := Cert.QkvGrad.τ) (Cert.QkvGrad.main (F := Bits))) ⟨m, fun _ => 0, g⟩ (fun r => (∀ c : Dev Cert.QkvGrad.nD,
      r.2.mem ((c.tc : Thread Cert.QkvGrad.nD Cert.QkvGrad.τ).loc Cert.QkvGrad.main_arg0) = m ((c.tc : Thread Cert.QkvGrad.nD Cert.QkvGrad.τ).loc Cert.QkvGrad.main_arg0)
      ∧ r.2.mem ((c.tc : Thread Cert.QkvGrad.nD Cert.QkvGrad.τ).loc Cert.QkvGrad.main_arg1) = m ((c.tc : Thread Cert.QkvGrad.nD Cert.QkvGrad.τ).loc Cert.QkvGrad.main_arg1))
      ∧ r.2.sem = fun _ => 0)

def quiescent_QkvGradIdeal [hQkvGradIdeal : Cert.QkvGradIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg), Pre_QkvGradIdeal m →
    θ_run (Cert.QkvGradIdeal.defs (F := Ideal)) (onTc (τ := Cert.QkvGradIdeal.τ) (Cert.QkvGradIdeal.main (F := Ideal))) ⟨m, fun _ => 0, g⟩ (fun r => (∀ c : Dev Cert.QkvGradIdeal.nD,
      r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
      ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1))
      ∧ r.2.sem = fun _ => 0)

def quiescent_FirstGrad [hFirstGrad : Cert.FirstGrad.Facts] : Prop :=
  ∀ (m : (ℓ : Loc Cert.FirstGrad.nD Cert.FirstGrad.τ Cert.FirstGrad.sig) → Buf (Elt Bits) ℓ) (g : Dev Cert.FirstGrad.nD → PrngReg), Pre_FirstGrad m →
    θ_run (Cert.FirstGrad.defs (F := Bits)) (onTc (τ := Cert.FirstGrad.τ) (Cert.FirstGrad.main (F := Bits))) ⟨m, fun _ => 0, g⟩ (fun r => (∀ c : Dev Cert.FirstGrad.nD,
      r.2.mem ((c.tc : Thread Cert.FirstGrad.nD Cert.FirstGrad.τ).loc Cert.FirstGrad.main_arg0) = m ((c.tc : Thread Cert.FirstGrad.nD Cert.FirstGrad.τ).loc Cert.FirstGrad.main_arg0)
      ∧ r.2.mem ((c.tc : Thread Cert.FirstGrad.nD Cert.FirstGrad.τ).loc Cert.FirstGrad.main_arg1) = m ((c.tc : Thread Cert.FirstGrad.nD Cert.FirstGrad.τ).loc Cert.FirstGrad.main_arg1)
      ∧ r.2.mem ((c.tc : Thread Cert.FirstGrad.nD Cert.FirstGrad.τ).loc Cert.FirstGrad.main_arg2) = m ((c.tc : Thread Cert.FirstGrad.nD Cert.FirstGrad.τ).loc Cert.FirstGrad.main_arg2)
      ∧ r.2.mem ((c.tc : Thread Cert.FirstGrad.nD Cert.FirstGrad.τ).loc Cert.FirstGrad.main_arg3) = m ((c.tc : Thread Cert.FirstGrad.nD Cert.FirstGrad.τ).loc Cert.FirstGrad.main_arg3)
      ∧ r.2.mem ((c.tc : Thread Cert.FirstGrad.nD Cert.FirstGrad.τ).loc Cert.FirstGrad.main_arg4) = m ((c.tc : Thread Cert.FirstGrad.nD Cert.FirstGrad.τ).loc Cert.FirstGrad.main_arg4)
      ∧ r.2.mem ((c.tc : Thread Cert.FirstGrad.nD Cert.FirstGrad.τ).loc Cert.FirstGrad.main_arg5) = m ((c.tc : Thread Cert.FirstGrad.nD Cert.FirstGrad.τ).loc Cert.FirstGrad.main_arg5))
      ∧ r.2.sem = fun _ => 0)

def quiescent_FirstGradIdeal [hFirstGradIdeal : Cert.FirstGradIdeal.Facts] : Prop :=
  ∀ (m : (ℓ : Loc Cert.FirstGradIdeal.nD Cert.FirstGradIdeal.τ Cert.FirstGradIdeal.sig) → Buf (Elt Ideal) ℓ) (g : Dev Cert.FirstGradIdeal.nD → PrngReg), Pre_FirstGradIdeal m →
    θ_run (Cert.FirstGradIdeal.defs (F := Ideal)) (onTc (τ := Cert.FirstGradIdeal.τ) (Cert.FirstGradIdeal.main (F := Ideal))) ⟨m, fun _ => 0, g⟩ (fun r => (∀ c : Dev Cert.FirstGradIdeal.nD,
      r.2.mem ((c.tc : Thread Cert.FirstGradIdeal.nD Cert.FirstGradIdeal.τ).loc Cert.FirstGradIdeal.main_arg0) = m ((c.tc : Thread Cert.FirstGradIdeal.nD Cert.FirstGradIdeal.τ).loc Cert.FirstGradIdeal.main_arg0)
      ∧ r.2.mem ((c.tc : Thread Cert.FirstGradIdeal.nD Cert.FirstGradIdeal.τ).loc Cert.FirstGradIdeal.main_arg1) = m ((c.tc : Thread Cert.FirstGradIdeal.nD Cert.FirstGradIdeal.τ).loc Cert.FirstGradIdeal.main_arg1)
      ∧ r.2.mem ((c.tc : Thread Cert.FirstGradIdeal.nD Cert.FirstGradIdeal.τ).loc Cert.FirstGradIdeal.main_arg2) = m ((c.tc : Thread Cert.FirstGradIdeal.nD Cert.FirstGradIdeal.τ).loc Cert.FirstGradIdeal.main_arg2)
      ∧ r.2.mem ((c.tc : Thread Cert.FirstGradIdeal.nD Cert.FirstGradIdeal.τ).loc Cert.FirstGradIdeal.main_arg3) = m ((c.tc : Thread Cert.FirstGradIdeal.nD Cert.FirstGradIdeal.τ).loc Cert.FirstGradIdeal.main_arg3)
      ∧ r.2.mem ((c.tc : Thread Cert.FirstGradIdeal.nD Cert.FirstGradIdeal.τ).loc Cert.FirstGradIdeal.main_arg4) = m ((c.tc : Thread Cert.FirstGradIdeal.nD Cert.FirstGradIdeal.τ).loc Cert.FirstGradIdeal.main_arg4)
      ∧ r.2.mem ((c.tc : Thread Cert.FirstGradIdeal.nD Cert.FirstGradIdeal.τ).loc Cert.FirstGradIdeal.main_arg5) = m ((c.tc : Thread Cert.FirstGradIdeal.nD Cert.FirstGradIdeal.τ).loc Cert.FirstGradIdeal.main_arg5))
      ∧ r.2.sem = fun _ => 0)

def quiescent_AttnGrad [hAttnGrad : Cert.AttnGrad.Facts] : Prop :=
  ∀ (m : (ℓ : Loc Cert.AttnGrad.nD Cert.AttnGrad.τ Cert.AttnGrad.sig) → Buf (Elt Bits) ℓ) (g : Dev Cert.AttnGrad.nD → PrngReg), Pre_AttnGrad m →
    θ_run (Cert.AttnGrad.defs (F := Bits)) (onTc (τ := Cert.AttnGrad.τ) (Cert.AttnGrad.main (F := Bits))) ⟨m, fun _ => 0, g⟩ (fun r => (∀ c : Dev Cert.AttnGrad.nD,
      r.2.mem ((c.tc : Thread Cert.AttnGrad.nD Cert.AttnGrad.τ).loc Cert.AttnGrad.main_arg0) = m ((c.tc : Thread Cert.AttnGrad.nD Cert.AttnGrad.τ).loc Cert.AttnGrad.main_arg0)
      ∧ r.2.mem ((c.tc : Thread Cert.AttnGrad.nD Cert.AttnGrad.τ).loc Cert.AttnGrad.main_arg1) = m ((c.tc : Thread Cert.AttnGrad.nD Cert.AttnGrad.τ).loc Cert.AttnGrad.main_arg1))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1))
      ∧ r.2.sem = fun _ => 0)

def quiescent_QkvA [hQkvA : Cert.QkvA.Facts] : Prop :=
  ∀ (m : (ℓ : Loc Cert.QkvA.nD Cert.QkvA.τ Cert.QkvA.sig) → Buf (Elt Bits) ℓ) (g : Dev Cert.QkvA.nD → PrngReg), Pre_QkvA m →
    θ_run (Cert.QkvA.defs (F := Bits)) (onTc (τ := Cert.QkvA.τ) (Cert.QkvA.main (F := Bits))) ⟨m, fun _ => 0, g⟩ (fun r => (∀ c : Dev Cert.QkvA.nD,
      r.2.mem ((c.tc : Thread Cert.QkvA.nD Cert.QkvA.τ).loc Cert.QkvA.main_arg0) = m ((c.tc : Thread Cert.QkvA.nD Cert.QkvA.τ).loc Cert.QkvA.main_arg0)
      ∧ r.2.mem ((c.tc : Thread Cert.QkvA.nD Cert.QkvA.τ).loc Cert.QkvA.main_arg1) = m ((c.tc : Thread Cert.QkvA.nD Cert.QkvA.τ).loc Cert.QkvA.main_arg1))
      ∧ r.2.sem = fun _ => 0)

def quiescent_QkvAIdeal [hQkvAIdeal : Cert.QkvAIdeal.Facts] : Prop :=
  ∀ (m : (ℓ : Loc Cert.QkvAIdeal.nD Cert.QkvAIdeal.τ Cert.QkvAIdeal.sig) → Buf (Elt Ideal) ℓ) (g : Dev Cert.QkvAIdeal.nD → PrngReg), Pre_QkvAIdeal m →
    θ_run (Cert.QkvAIdeal.defs (F := Ideal)) (onTc (τ := Cert.QkvAIdeal.τ) (Cert.QkvAIdeal.main (F := Ideal))) ⟨m, fun _ => 0, g⟩ (fun r => (∀ c : Dev Cert.QkvAIdeal.nD,
      r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
      ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1))
      ∧ r.2.sem = fun _ => 0)

def quiescent_QkvB [hQkvB : Cert.QkvB.Facts] : Prop :=
  ∀ (m : (ℓ : Loc Cert.QkvB.nD Cert.QkvB.τ Cert.QkvB.sig) → Buf (Elt Bits) ℓ) (g : Dev Cert.QkvB.nD → PrngReg), Pre_QkvB m →
    θ_run (Cert.QkvB.defs (F := Bits)) (onTc (τ := Cert.QkvB.τ) (Cert.QkvB.main (F := Bits))) ⟨m, fun _ => 0, g⟩ (fun r => (∀ c : Dev Cert.QkvB.nD,
      r.2.mem ((c.tc : Thread Cert.QkvB.nD Cert.QkvB.τ).loc Cert.QkvB.main_arg0) = m ((c.tc : Thread Cert.QkvB.nD Cert.QkvB.τ).loc Cert.QkvB.main_arg0)
      ∧ r.2.mem ((c.tc : Thread Cert.QkvB.nD Cert.QkvB.τ).loc Cert.QkvB.main_arg1) = m ((c.tc : Thread Cert.QkvB.nD Cert.QkvB.τ).loc Cert.QkvB.main_arg1))
      ∧ r.2.sem = fun _ => 0)

def quiescent_QkvBIdeal [hQkvBIdeal : Cert.QkvBIdeal.Facts] : Prop :=
  ∀ (m : (ℓ : Loc Cert.QkvBIdeal.nD Cert.QkvBIdeal.τ Cert.QkvBIdeal.sig) → Buf (Elt Ideal) ℓ) (g : Dev Cert.QkvBIdeal.nD → PrngReg), Pre_QkvBIdeal m →
    θ_run (Cert.QkvBIdeal.defs (F := Ideal)) (onTc (τ := Cert.QkvBIdeal.τ) (Cert.QkvBIdeal.main (F := Ideal))) ⟨m, fun _ => 0, g⟩ (fun r => (∀ c : Dev Cert.QkvBIdeal.nD,
      r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
      ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4)
      ∧ r.2.mem ((c.tc : Thread Cert.AttnOut.nD Cert.AttnOut.τ).loc Cert.AttnOut.main_arg5) = m ((c.tc : Thread Cert.AttnOut.nD Cert.AttnOut.τ).loc Cert.AttnOut.main_arg5)
      ∧ r.2.mem ((c.tc : Thread Cert.AttnOut.nD Cert.AttnOut.τ).loc Cert.AttnOut.main_arg6) = m ((c.tc : Thread Cert.AttnOut.nD Cert.AttnOut.τ).loc Cert.AttnOut.main_arg6))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
      ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_TopGrad [hTopGrad : Cert.TopGrad.Facts] : Prop :=
  ∀ (m : (ℓ : Loc Cert.TopGrad.nD Cert.TopGrad.τ Cert.TopGrad.sig) → Buf (Elt Bits) ℓ) (g : Dev Cert.TopGrad.nD → PrngReg), Pre_TopGrad m →
    θ_run (Cert.TopGrad.defs (F := Bits)) (onTc (τ := Cert.TopGrad.τ) (Cert.TopGrad.main (F := Bits))) ⟨m, fun _ => 0, g⟩ (fun r => (∀ c : Dev Cert.TopGrad.nD,
      r.2.mem ((c.tc : Thread Cert.TopGrad.nD Cert.TopGrad.τ).loc Cert.TopGrad.main_arg0) = m ((c.tc : Thread Cert.TopGrad.nD Cert.TopGrad.τ).loc Cert.TopGrad.main_arg0)
      ∧ r.2.mem ((c.tc : Thread Cert.TopGrad.nD Cert.TopGrad.τ).loc Cert.TopGrad.main_arg1) = m ((c.tc : Thread Cert.TopGrad.nD Cert.TopGrad.τ).loc Cert.TopGrad.main_arg1)
      ∧ r.2.mem ((c.tc : Thread Cert.TopGrad.nD Cert.TopGrad.τ).loc Cert.TopGrad.main_arg2) = m ((c.tc : Thread Cert.TopGrad.nD Cert.TopGrad.τ).loc Cert.TopGrad.main_arg2))
      ∧ r.2.sem = fun _ => 0)

def quiescent_TopGradIdeal [hTopGradIdeal : Cert.TopGradIdeal.Facts] : Prop :=
  ∀ (m : (ℓ : Loc Cert.TopGradIdeal.nD Cert.TopGradIdeal.τ Cert.TopGradIdeal.sig) → Buf (Elt Ideal) ℓ) (g : Dev Cert.TopGradIdeal.nD → PrngReg), Pre_TopGradIdeal m →
    θ_run (Cert.TopGradIdeal.defs (F := Ideal)) (onTc (τ := Cert.TopGradIdeal.τ) (Cert.TopGradIdeal.main (F := Ideal))) ⟨m, fun _ => 0, g⟩ (fun r => (∀ c : Dev Cert.TopGradIdeal.nD,
      r.2.mem ((c.tc : Thread Cert.TopGradIdeal.nD Cert.TopGradIdeal.τ).loc Cert.TopGradIdeal.main_arg0) = m ((c.tc : Thread Cert.TopGradIdeal.nD Cert.TopGradIdeal.τ).loc Cert.TopGradIdeal.main_arg0)
      ∧ r.2.mem ((c.tc : Thread Cert.TopGradIdeal.nD Cert.TopGradIdeal.τ).loc Cert.TopGradIdeal.main_arg1) = m ((c.tc : Thread Cert.TopGradIdeal.nD Cert.TopGradIdeal.τ).loc Cert.TopGradIdeal.main_arg1)
      ∧ r.2.mem ((c.tc : Thread Cert.TopGradIdeal.nD Cert.TopGradIdeal.τ).loc Cert.TopGradIdeal.main_arg2) = m ((c.tc : Thread Cert.TopGradIdeal.nD Cert.TopGradIdeal.τ).loc Cert.TopGradIdeal.main_arg2))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_SumMod [hSumMod : Cert.SumMod.Facts] : Prop :=
  ∀ (m : (ℓ : Loc Cert.SumMod.nD Cert.SumMod.τ Cert.SumMod.sig) → Buf (Elt Bits) ℓ) (g : Dev Cert.SumMod.nD → PrngReg), Pre_SumMod m →
    θ_run (Cert.SumMod.defs (F := Bits)) (onTc (τ := Cert.SumMod.τ) (Cert.SumMod.main (F := Bits))) ⟨m, fun _ => 0, g⟩ (fun r => (∀ c : Dev Cert.SumMod.nD,
      r.2.mem ((c.tc : Thread Cert.SumMod.nD Cert.SumMod.τ).loc Cert.SumMod.main_arg0) = m ((c.tc : Thread Cert.SumMod.nD Cert.SumMod.τ).loc Cert.SumMod.main_arg0))
      ∧ r.2.sem = fun _ => 0)

def quiescent_SumModIdeal [hSumModIdeal : Cert.SumModIdeal.Facts] : Prop :=
  ∀ (m : (ℓ : Loc Cert.SumModIdeal.nD Cert.SumModIdeal.τ Cert.SumModIdeal.sig) → Buf (Elt Ideal) ℓ) (g : Dev Cert.SumModIdeal.nD → PrngReg), Pre_SumModIdeal m →
    θ_run (Cert.SumModIdeal.defs (F := Ideal)) (onTc (τ := Cert.SumModIdeal.τ) (Cert.SumModIdeal.main (F := Ideal))) ⟨m, fun _ => 0, g⟩ (fun r => (∀ c : Dev Cert.SumModIdeal.nD,
      r.2.mem ((c.tc : Thread Cert.SumModIdeal.nD Cert.SumModIdeal.τ).loc Cert.SumModIdeal.main_arg0) = m ((c.tc : Thread Cert.SumModIdeal.nD Cert.SumModIdeal.τ).loc Cert.SumModIdeal.main_arg0))
      ∧ r.2.sem = fun _ => 0)

def quiescent_SumGain [hSumGain : Cert.SumGain.Facts] : Prop :=
  ∀ (m : (ℓ : Loc Cert.SumGain.nD Cert.SumGain.τ Cert.SumGain.sig) → Buf (Elt Bits) ℓ) (g : Dev Cert.SumGain.nD → PrngReg), Pre_SumGain m →
    θ_run (Cert.SumGain.defs (F := Bits)) (onTc (τ := Cert.SumGain.τ) (Cert.SumGain.main (F := Bits))) ⟨m, fun _ => 0, g⟩ (fun r => (∀ c : Dev Cert.SumGain.nD,
      r.2.mem ((c.tc : Thread Cert.SumGain.nD Cert.SumGain.τ).loc Cert.SumGain.main_arg0) = m ((c.tc : Thread Cert.SumGain.nD Cert.SumGain.τ).loc Cert.SumGain.main_arg0))
      ∧ r.2.sem = fun _ => 0)

def quiescent_SumGainIdeal [hSumGainIdeal : Cert.SumGainIdeal.Facts] : Prop :=
  ∀ (m : (ℓ : Loc Cert.SumGainIdeal.nD Cert.SumGainIdeal.τ Cert.SumGainIdeal.sig) → Buf (Elt Ideal) ℓ) (g : Dev Cert.SumGainIdeal.nD → PrngReg), Pre_SumGainIdeal m →
    θ_run (Cert.SumGainIdeal.defs (F := Ideal)) (onTc (τ := Cert.SumGainIdeal.τ) (Cert.SumGainIdeal.main (F := Ideal))) ⟨m, fun _ => 0, g⟩ (fun r => (∀ c : Dev Cert.SumGainIdeal.nD,
      r.2.mem ((c.tc : Thread Cert.SumGainIdeal.nD Cert.SumGainIdeal.τ).loc Cert.SumGainIdeal.main_arg0) = m ((c.tc : Thread Cert.SumGainIdeal.nD Cert.SumGainIdeal.τ).loc Cert.SumGainIdeal.main_arg0))
      ∧ r.2.sem = fun _ => 0)

def quiescent_StepAdaW [hStepAdaW : Cert.StepAdaW.Facts] : Prop :=
  ∀ (m : (ℓ : Loc Cert.StepAdaW.nD Cert.StepAdaW.τ Cert.StepAdaW.sig) → Buf (Elt Bits) ℓ) (g : Dev Cert.StepAdaW.nD → PrngReg), Pre_StepAdaW m →
    θ_run (Cert.StepAdaW.defs (F := Bits)) (onTc (τ := Cert.StepAdaW.τ) (Cert.StepAdaW.main (F := Bits))) ⟨m, fun _ => 0, g⟩ (fun r => (∀ c : Dev Cert.StepAdaW.nD,
      r.2.mem ((c.tc : Thread Cert.StepAdaW.nD Cert.StepAdaW.τ).loc Cert.StepAdaW.main_arg0) = m ((c.tc : Thread Cert.StepAdaW.nD Cert.StepAdaW.τ).loc Cert.StepAdaW.main_arg0)
      ∧ r.2.mem ((c.tc : Thread Cert.StepAdaW.nD Cert.StepAdaW.τ).loc Cert.StepAdaW.main_arg1) = m ((c.tc : Thread Cert.StepAdaW.nD Cert.StepAdaW.τ).loc Cert.StepAdaW.main_arg1)
      ∧ r.2.mem ((c.tc : Thread Cert.StepAdaW.nD Cert.StepAdaW.τ).loc Cert.StepAdaW.main_arg2) = m ((c.tc : Thread Cert.StepAdaW.nD Cert.StepAdaW.τ).loc Cert.StepAdaW.main_arg2)
      ∧ r.2.mem ((c.tc : Thread Cert.StepAdaW.nD Cert.StepAdaW.τ).loc Cert.StepAdaW.main_arg3) = m ((c.tc : Thread Cert.StepAdaW.nD Cert.StepAdaW.τ).loc Cert.StepAdaW.main_arg3))
      ∧ r.2.sem = fun _ => 0)

def quiescent_StepAdaWIdeal [hStepAdaWIdeal : Cert.StepAdaWIdeal.Facts] : Prop :=
  ∀ (m : (ℓ : Loc Cert.StepAdaWIdeal.nD Cert.StepAdaWIdeal.τ Cert.StepAdaWIdeal.sig) → Buf (Elt Ideal) ℓ) (g : Dev Cert.StepAdaWIdeal.nD → PrngReg), Pre_StepAdaWIdeal m →
    θ_run (Cert.StepAdaWIdeal.defs (F := Ideal)) (onTc (τ := Cert.StepAdaWIdeal.τ) (Cert.StepAdaWIdeal.main (F := Ideal))) ⟨m, fun _ => 0, g⟩ (fun r => (∀ c : Dev Cert.StepAdaWIdeal.nD,
      r.2.mem ((c.tc : Thread Cert.StepAdaWIdeal.nD Cert.StepAdaWIdeal.τ).loc Cert.StepAdaWIdeal.main_arg0) = m ((c.tc : Thread Cert.StepAdaWIdeal.nD Cert.StepAdaWIdeal.τ).loc Cert.StepAdaWIdeal.main_arg0)
      ∧ r.2.mem ((c.tc : Thread Cert.StepAdaWIdeal.nD Cert.StepAdaWIdeal.τ).loc Cert.StepAdaWIdeal.main_arg1) = m ((c.tc : Thread Cert.StepAdaWIdeal.nD Cert.StepAdaWIdeal.τ).loc Cert.StepAdaWIdeal.main_arg1)
      ∧ r.2.mem ((c.tc : Thread Cert.StepAdaWIdeal.nD Cert.StepAdaWIdeal.τ).loc Cert.StepAdaWIdeal.main_arg2) = m ((c.tc : Thread Cert.StepAdaWIdeal.nD Cert.StepAdaWIdeal.τ).loc Cert.StepAdaWIdeal.main_arg2)
      ∧ r.2.mem ((c.tc : Thread Cert.StepAdaWIdeal.nD Cert.StepAdaWIdeal.τ).loc Cert.StepAdaWIdeal.main_arg3) = m ((c.tc : Thread Cert.StepAdaWIdeal.nD Cert.StepAdaWIdeal.τ).loc Cert.StepAdaWIdeal.main_arg3))
      ∧ r.2.sem = fun _ => 0)

def quiescent_StepAdaB [hStepAdaB : Cert.StepAdaB.Facts] : Prop :=
  ∀ (m : (ℓ : Loc Cert.StepAdaB.nD Cert.StepAdaB.τ Cert.StepAdaB.sig) → Buf (Elt Bits) ℓ) (g : Dev Cert.StepAdaB.nD → PrngReg), Pre_StepAdaB m →
    θ_run (Cert.StepAdaB.defs (F := Bits)) (onTc (τ := Cert.StepAdaB.τ) (Cert.StepAdaB.main (F := Bits))) ⟨m, fun _ => 0, g⟩ (fun r => (∀ c : Dev Cert.StepAdaB.nD,
      r.2.mem ((c.tc : Thread Cert.StepAdaB.nD Cert.StepAdaB.τ).loc Cert.StepAdaB.main_arg0) = m ((c.tc : Thread Cert.StepAdaB.nD Cert.StepAdaB.τ).loc Cert.StepAdaB.main_arg0)
      ∧ r.2.mem ((c.tc : Thread Cert.StepAdaB.nD Cert.StepAdaB.τ).loc Cert.StepAdaB.main_arg1) = m ((c.tc : Thread Cert.StepAdaB.nD Cert.StepAdaB.τ).loc Cert.StepAdaB.main_arg1)
      ∧ r.2.mem ((c.tc : Thread Cert.StepAdaB.nD Cert.StepAdaB.τ).loc Cert.StepAdaB.main_arg2) = m ((c.tc : Thread Cert.StepAdaB.nD Cert.StepAdaB.τ).loc Cert.StepAdaB.main_arg2)
      ∧ r.2.mem ((c.tc : Thread Cert.StepAdaB.nD Cert.StepAdaB.τ).loc Cert.StepAdaB.main_arg3) = m ((c.tc : Thread Cert.StepAdaB.nD Cert.StepAdaB.τ).loc Cert.StepAdaB.main_arg3))
      ∧ r.2.sem = fun _ => 0)

def quiescent_StepAdaBIdeal [hStepAdaBIdeal : Cert.StepAdaBIdeal.Facts] : Prop :=
  ∀ (m : (ℓ : Loc Cert.StepAdaBIdeal.nD Cert.StepAdaBIdeal.τ Cert.StepAdaBIdeal.sig) → Buf (Elt Ideal) ℓ) (g : Dev Cert.StepAdaBIdeal.nD → PrngReg), Pre_StepAdaBIdeal m →
    θ_run (Cert.StepAdaBIdeal.defs (F := Ideal)) (onTc (τ := Cert.StepAdaBIdeal.τ) (Cert.StepAdaBIdeal.main (F := Ideal))) ⟨m, fun _ => 0, g⟩ (fun r => (∀ c : Dev Cert.StepAdaBIdeal.nD,
      r.2.mem ((c.tc : Thread Cert.StepAdaBIdeal.nD Cert.StepAdaBIdeal.τ).loc Cert.StepAdaBIdeal.main_arg0) = m ((c.tc : Thread Cert.StepAdaBIdeal.nD Cert.StepAdaBIdeal.τ).loc Cert.StepAdaBIdeal.main_arg0)
      ∧ r.2.mem ((c.tc : Thread Cert.StepAdaBIdeal.nD Cert.StepAdaBIdeal.τ).loc Cert.StepAdaBIdeal.main_arg1) = m ((c.tc : Thread Cert.StepAdaBIdeal.nD Cert.StepAdaBIdeal.τ).loc Cert.StepAdaBIdeal.main_arg1)
      ∧ r.2.mem ((c.tc : Thread Cert.StepAdaBIdeal.nD Cert.StepAdaBIdeal.τ).loc Cert.StepAdaBIdeal.main_arg2) = m ((c.tc : Thread Cert.StepAdaBIdeal.nD Cert.StepAdaBIdeal.τ).loc Cert.StepAdaBIdeal.main_arg2)
      ∧ r.2.mem ((c.tc : Thread Cert.StepAdaBIdeal.nD Cert.StepAdaBIdeal.τ).loc Cert.StepAdaBIdeal.main_arg3) = m ((c.tc : Thread Cert.StepAdaBIdeal.nD Cert.StepAdaBIdeal.τ).loc Cert.StepAdaBIdeal.main_arg3))
      ∧ r.2.sem = fun _ => 0)

def quiescent_StepGain [hStepGain : Cert.StepGain.Facts] : Prop :=
  ∀ (m : (ℓ : Loc Cert.StepGain.nD Cert.StepGain.τ Cert.StepGain.sig) → Buf (Elt Bits) ℓ) (g : Dev Cert.StepGain.nD → PrngReg), Pre_StepGain m →
    θ_run (Cert.StepGain.defs (F := Bits)) (onTc (τ := Cert.StepGain.τ) (Cert.StepGain.main (F := Bits))) ⟨m, fun _ => 0, g⟩ (fun r => (∀ c : Dev Cert.StepGain.nD,
      r.2.mem ((c.tc : Thread Cert.StepGain.nD Cert.StepGain.τ).loc Cert.StepGain.main_arg0) = m ((c.tc : Thread Cert.StepGain.nD Cert.StepGain.τ).loc Cert.StepGain.main_arg0)
      ∧ r.2.mem ((c.tc : Thread Cert.StepGain.nD Cert.StepGain.τ).loc Cert.StepGain.main_arg1) = m ((c.tc : Thread Cert.StepGain.nD Cert.StepGain.τ).loc Cert.StepGain.main_arg1)
      ∧ r.2.mem ((c.tc : Thread Cert.StepGain.nD Cert.StepGain.τ).loc Cert.StepGain.main_arg2) = m ((c.tc : Thread Cert.StepGain.nD Cert.StepGain.τ).loc Cert.StepGain.main_arg2)
      ∧ r.2.mem ((c.tc : Thread Cert.StepGain.nD Cert.StepGain.τ).loc Cert.StepGain.main_arg3) = m ((c.tc : Thread Cert.StepGain.nD Cert.StepGain.τ).loc Cert.StepGain.main_arg3))
      ∧ r.2.sem = fun _ => 0)

def quiescent_StepGainIdeal [hStepGainIdeal : Cert.StepGainIdeal.Facts] : Prop :=
  ∀ (m : (ℓ : Loc Cert.StepGainIdeal.nD Cert.StepGainIdeal.τ Cert.StepGainIdeal.sig) → Buf (Elt Ideal) ℓ) (g : Dev Cert.StepGainIdeal.nD → PrngReg), Pre_StepGainIdeal m →
    θ_run (Cert.StepGainIdeal.defs (F := Ideal)) (onTc (τ := Cert.StepGainIdeal.τ) (Cert.StepGainIdeal.main (F := Ideal))) ⟨m, fun _ => 0, g⟩ (fun r => (∀ c : Dev Cert.StepGainIdeal.nD,
      r.2.mem ((c.tc : Thread Cert.StepGainIdeal.nD Cert.StepGainIdeal.τ).loc Cert.StepGainIdeal.main_arg0) = m ((c.tc : Thread Cert.StepGainIdeal.nD Cert.StepGainIdeal.τ).loc Cert.StepGainIdeal.main_arg0)
      ∧ r.2.mem ((c.tc : Thread Cert.StepGainIdeal.nD Cert.StepGainIdeal.τ).loc Cert.StepGainIdeal.main_arg1) = m ((c.tc : Thread Cert.StepGainIdeal.nD Cert.StepGainIdeal.τ).loc Cert.StepGainIdeal.main_arg1)
      ∧ r.2.mem ((c.tc : Thread Cert.StepGainIdeal.nD Cert.StepGainIdeal.τ).loc Cert.StepGainIdeal.main_arg2) = m ((c.tc : Thread Cert.StepGainIdeal.nD Cert.StepGainIdeal.τ).loc Cert.StepGainIdeal.main_arg2)
      ∧ r.2.mem ((c.tc : Thread Cert.StepGainIdeal.nD Cert.StepGainIdeal.τ).loc Cert.StepGainIdeal.main_arg3) = m ((c.tc : Thread Cert.StepGainIdeal.nD Cert.StepGainIdeal.τ).loc Cert.StepGainIdeal.main_arg3))
      ∧ r.2.sem = fun _ => 0)

def quiescent_StepQkvA [hStepQkvA : Cert.StepQkvA.Facts] : Prop :=
  ∀ (m : (ℓ : Loc Cert.StepQkvA.nD Cert.StepQkvA.τ Cert.StepQkvA.sig) → Buf (Elt Bits) ℓ) (g : Dev Cert.StepQkvA.nD → PrngReg), Pre_StepQkvA m →
    θ_run (Cert.StepQkvA.defs (F := Bits)) (onTc (τ := Cert.StepQkvA.τ) (Cert.StepQkvA.main (F := Bits))) ⟨m, fun _ => 0, g⟩ (fun r => (∀ c : Dev Cert.StepQkvA.nD,
      r.2.mem ((c.tc : Thread Cert.StepQkvA.nD Cert.StepQkvA.τ).loc Cert.StepQkvA.main_arg0) = m ((c.tc : Thread Cert.StepQkvA.nD Cert.StepQkvA.τ).loc Cert.StepQkvA.main_arg0)
      ∧ r.2.mem ((c.tc : Thread Cert.StepQkvA.nD Cert.StepQkvA.τ).loc Cert.StepQkvA.main_arg1) = m ((c.tc : Thread Cert.StepQkvA.nD Cert.StepQkvA.τ).loc Cert.StepQkvA.main_arg1)
      ∧ r.2.mem ((c.tc : Thread Cert.StepQkvA.nD Cert.StepQkvA.τ).loc Cert.StepQkvA.main_arg2) = m ((c.tc : Thread Cert.StepQkvA.nD Cert.StepQkvA.τ).loc Cert.StepQkvA.main_arg2)
      ∧ r.2.mem ((c.tc : Thread Cert.StepQkvA.nD Cert.StepQkvA.τ).loc Cert.StepQkvA.main_arg3) = m ((c.tc : Thread Cert.StepQkvA.nD Cert.StepQkvA.τ).loc Cert.StepQkvA.main_arg3))
      ∧ r.2.sem = fun _ => 0)

def quiescent_StepQkvAIdeal [hStepQkvAIdeal : Cert.StepQkvAIdeal.Facts] : Prop :=
  ∀ (m : (ℓ : Loc Cert.StepQkvAIdeal.nD Cert.StepQkvAIdeal.τ Cert.StepQkvAIdeal.sig) → Buf (Elt Ideal) ℓ) (g : Dev Cert.StepQkvAIdeal.nD → PrngReg), Pre_StepQkvAIdeal m →
    θ_run (Cert.StepQkvAIdeal.defs (F := Ideal)) (onTc (τ := Cert.StepQkvAIdeal.τ) (Cert.StepQkvAIdeal.main (F := Ideal))) ⟨m, fun _ => 0, g⟩ (fun r => (∀ c : Dev Cert.StepQkvAIdeal.nD,
      r.2.mem ((c.tc : Thread Cert.StepQkvAIdeal.nD Cert.StepQkvAIdeal.τ).loc Cert.StepQkvAIdeal.main_arg0) = m ((c.tc : Thread Cert.StepQkvAIdeal.nD Cert.StepQkvAIdeal.τ).loc Cert.StepQkvAIdeal.main_arg0)
      ∧ r.2.mem ((c.tc : Thread Cert.StepQkvAIdeal.nD Cert.StepQkvAIdeal.τ).loc Cert.StepQkvAIdeal.main_arg1) = m ((c.tc : Thread Cert.StepQkvAIdeal.nD Cert.StepQkvAIdeal.τ).loc Cert.StepQkvAIdeal.main_arg1)
      ∧ r.2.mem ((c.tc : Thread Cert.StepQkvAIdeal.nD Cert.StepQkvAIdeal.τ).loc Cert.StepQkvAIdeal.main_arg2) = m ((c.tc : Thread Cert.StepQkvAIdeal.nD Cert.StepQkvAIdeal.τ).loc Cert.StepQkvAIdeal.main_arg2)
      ∧ r.2.mem ((c.tc : Thread Cert.StepQkvAIdeal.nD Cert.StepQkvAIdeal.τ).loc Cert.StepQkvAIdeal.main_arg3) = m ((c.tc : Thread Cert.StepQkvAIdeal.nD Cert.StepQkvAIdeal.τ).loc Cert.StepQkvAIdeal.main_arg3))
      ∧ r.2.sem = fun _ => 0)

def quiescent_StepHeadGain [hStepHeadGain : Cert.StepHeadGain.Facts] : Prop :=
  ∀ (m : (ℓ : Loc Cert.StepHeadGain.nD Cert.StepHeadGain.τ Cert.StepHeadGain.sig) → Buf (Elt Bits) ℓ) (g : Dev Cert.StepHeadGain.nD → PrngReg), Pre_StepHeadGain m →
    θ_run (Cert.StepHeadGain.defs (F := Bits)) (onTc (τ := Cert.StepHeadGain.τ) (Cert.StepHeadGain.main (F := Bits))) ⟨m, fun _ => 0, g⟩ (fun r => (∀ c : Dev Cert.StepHeadGain.nD,
      r.2.mem ((c.tc : Thread Cert.StepHeadGain.nD Cert.StepHeadGain.τ).loc Cert.StepHeadGain.main_arg0) = m ((c.tc : Thread Cert.StepHeadGain.nD Cert.StepHeadGain.τ).loc Cert.StepHeadGain.main_arg0)
      ∧ r.2.mem ((c.tc : Thread Cert.StepHeadGain.nD Cert.StepHeadGain.τ).loc Cert.StepHeadGain.main_arg1) = m ((c.tc : Thread Cert.StepHeadGain.nD Cert.StepHeadGain.τ).loc Cert.StepHeadGain.main_arg1)
      ∧ r.2.mem ((c.tc : Thread Cert.StepHeadGain.nD Cert.StepHeadGain.τ).loc Cert.StepHeadGain.main_arg2) = m ((c.tc : Thread Cert.StepHeadGain.nD Cert.StepHeadGain.τ).loc Cert.StepHeadGain.main_arg2)
      ∧ r.2.mem ((c.tc : Thread Cert.StepHeadGain.nD Cert.StepHeadGain.τ).loc Cert.StepHeadGain.main_arg3) = m ((c.tc : Thread Cert.StepHeadGain.nD Cert.StepHeadGain.τ).loc Cert.StepHeadGain.main_arg3))
      ∧ r.2.sem = fun _ => 0)

def quiescent_StepHeadGainIdeal [hStepHeadGainIdeal : Cert.StepHeadGainIdeal.Facts] : Prop :=
  ∀ (m : (ℓ : Loc Cert.StepHeadGainIdeal.nD Cert.StepHeadGainIdeal.τ Cert.StepHeadGainIdeal.sig) → Buf (Elt Ideal) ℓ) (g : Dev Cert.StepHeadGainIdeal.nD → PrngReg), Pre_StepHeadGainIdeal m →
    θ_run (Cert.StepHeadGainIdeal.defs (F := Ideal)) (onTc (τ := Cert.StepHeadGainIdeal.τ) (Cert.StepHeadGainIdeal.main (F := Ideal))) ⟨m, fun _ => 0, g⟩ (fun r => (∀ c : Dev Cert.StepHeadGainIdeal.nD,
      r.2.mem ((c.tc : Thread Cert.StepHeadGainIdeal.nD Cert.StepHeadGainIdeal.τ).loc Cert.StepHeadGainIdeal.main_arg0) = m ((c.tc : Thread Cert.StepHeadGainIdeal.nD Cert.StepHeadGainIdeal.τ).loc Cert.StepHeadGainIdeal.main_arg0)
      ∧ r.2.mem ((c.tc : Thread Cert.StepHeadGainIdeal.nD Cert.StepHeadGainIdeal.τ).loc Cert.StepHeadGainIdeal.main_arg1) = m ((c.tc : Thread Cert.StepHeadGainIdeal.nD Cert.StepHeadGainIdeal.τ).loc Cert.StepHeadGainIdeal.main_arg1)
      ∧ r.2.mem ((c.tc : Thread Cert.StepHeadGainIdeal.nD Cert.StepHeadGainIdeal.τ).loc Cert.StepHeadGainIdeal.main_arg2) = m ((c.tc : Thread Cert.StepHeadGainIdeal.nD Cert.StepHeadGainIdeal.τ).loc Cert.StepHeadGainIdeal.main_arg2)
      ∧ r.2.mem ((c.tc : Thread Cert.StepHeadGainIdeal.nD Cert.StepHeadGainIdeal.τ).loc Cert.StepHeadGainIdeal.main_arg3) = m ((c.tc : Thread Cert.StepHeadGainIdeal.nD Cert.StepHeadGainIdeal.τ).loc Cert.StepHeadGainIdeal.main_arg3))
      ∧ r.2.sem = fun _ => 0)

def quiescent_StepSinks [hStepSinks : Cert.StepSinks.Facts] : Prop :=
  ∀ (m : (ℓ : Loc Cert.StepSinks.nD Cert.StepSinks.τ Cert.StepSinks.sig) → Buf (Elt Bits) ℓ) (g : Dev Cert.StepSinks.nD → PrngReg), Pre_StepSinks m →
    θ_run (Cert.StepSinks.defs (F := Bits)) (onTc (τ := Cert.StepSinks.τ) (Cert.StepSinks.main (F := Bits))) ⟨m, fun _ => 0, g⟩ (fun r => (∀ c : Dev Cert.StepSinks.nD,
      r.2.mem ((c.tc : Thread Cert.StepSinks.nD Cert.StepSinks.τ).loc Cert.StepSinks.main_arg0) = m ((c.tc : Thread Cert.StepSinks.nD Cert.StepSinks.τ).loc Cert.StepSinks.main_arg0)
      ∧ r.2.mem ((c.tc : Thread Cert.StepSinks.nD Cert.StepSinks.τ).loc Cert.StepSinks.main_arg1) = m ((c.tc : Thread Cert.StepSinks.nD Cert.StepSinks.τ).loc Cert.StepSinks.main_arg1)
      ∧ r.2.mem ((c.tc : Thread Cert.StepSinks.nD Cert.StepSinks.τ).loc Cert.StepSinks.main_arg2) = m ((c.tc : Thread Cert.StepSinks.nD Cert.StepSinks.τ).loc Cert.StepSinks.main_arg2)
      ∧ r.2.mem ((c.tc : Thread Cert.StepSinks.nD Cert.StepSinks.τ).loc Cert.StepSinks.main_arg3) = m ((c.tc : Thread Cert.StepSinks.nD Cert.StepSinks.τ).loc Cert.StepSinks.main_arg3))
      ∧ r.2.sem = fun _ => 0)

def quiescent_StepSinksIdeal [hStepSinksIdeal : Cert.StepSinksIdeal.Facts] : Prop :=
  ∀ (m : (ℓ : Loc Cert.StepSinksIdeal.nD Cert.StepSinksIdeal.τ Cert.StepSinksIdeal.sig) → Buf (Elt Ideal) ℓ) (g : Dev Cert.StepSinksIdeal.nD → PrngReg), Pre_StepSinksIdeal m →
    θ_run (Cert.StepSinksIdeal.defs (F := Ideal)) (onTc (τ := Cert.StepSinksIdeal.τ) (Cert.StepSinksIdeal.main (F := Ideal))) ⟨m, fun _ => 0, g⟩ (fun r => (∀ c : Dev Cert.StepSinksIdeal.nD,
      r.2.mem ((c.tc : Thread Cert.StepSinksIdeal.nD Cert.StepSinksIdeal.τ).loc Cert.StepSinksIdeal.main_arg0) = m ((c.tc : Thread Cert.StepSinksIdeal.nD Cert.StepSinksIdeal.τ).loc Cert.StepSinksIdeal.main_arg0)
      ∧ r.2.mem ((c.tc : Thread Cert.StepSinksIdeal.nD Cert.StepSinksIdeal.τ).loc Cert.StepSinksIdeal.main_arg1) = m ((c.tc : Thread Cert.StepSinksIdeal.nD Cert.StepSinksIdeal.τ).loc Cert.StepSinksIdeal.main_arg1)
      ∧ r.2.mem ((c.tc : Thread Cert.StepSinksIdeal.nD Cert.StepSinksIdeal.τ).loc Cert.StepSinksIdeal.main_arg2) = m ((c.tc : Thread Cert.StepSinksIdeal.nD Cert.StepSinksIdeal.τ).loc Cert.StepSinksIdeal.main_arg2)
      ∧ r.2.mem ((c.tc : Thread Cert.StepSinksIdeal.nD Cert.StepSinksIdeal.τ).loc Cert.StepSinksIdeal.main_arg3) = m ((c.tc : Thread Cert.StepSinksIdeal.nD Cert.StepSinksIdeal.τ).loc Cert.StepSinksIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepQkvB [hStepQkvB : Cert.StepQkvB.Facts] : Prop :=
  ∀ (m : (ℓ : Loc Cert.StepQkvB.nD Cert.StepQkvB.τ Cert.StepQkvB.sig) → Buf (Elt Bits) ℓ) (g : Dev Cert.StepQkvB.nD → PrngReg), Pre_StepQkvB m →
    θ_run (Cert.StepQkvB.defs (F := Bits)) (onTc (τ := Cert.StepQkvB.τ) (Cert.StepQkvB.main (F := Bits))) ⟨m, fun _ => 0, g⟩ (fun r => (∀ c : Dev Cert.StepQkvB.nD,
      r.2.mem ((c.tc : Thread Cert.StepQkvB.nD Cert.StepQkvB.τ).loc Cert.StepQkvB.main_arg0) = m ((c.tc : Thread Cert.StepQkvB.nD Cert.StepQkvB.τ).loc Cert.StepQkvB.main_arg0)
      ∧ r.2.mem ((c.tc : Thread Cert.StepQkvB.nD Cert.StepQkvB.τ).loc Cert.StepQkvB.main_arg1) = m ((c.tc : Thread Cert.StepQkvB.nD Cert.StepQkvB.τ).loc Cert.StepQkvB.main_arg1)
      ∧ r.2.mem ((c.tc : Thread Cert.StepQkvB.nD Cert.StepQkvB.τ).loc Cert.StepQkvB.main_arg2) = m ((c.tc : Thread Cert.StepQkvB.nD Cert.StepQkvB.τ).loc Cert.StepQkvB.main_arg2)
      ∧ r.2.mem ((c.tc : Thread Cert.StepQkvB.nD Cert.StepQkvB.τ).loc Cert.StepQkvB.main_arg3) = m ((c.tc : Thread Cert.StepQkvB.nD Cert.StepQkvB.τ).loc Cert.StepQkvB.main_arg3))
      ∧ r.2.sem = fun _ => 0)

def quiescent_StepQkvBIdeal [hStepQkvBIdeal : Cert.StepQkvBIdeal.Facts] : Prop :=
  ∀ (m : (ℓ : Loc Cert.StepQkvBIdeal.nD Cert.StepQkvBIdeal.τ Cert.StepQkvBIdeal.sig) → Buf (Elt Ideal) ℓ) (g : Dev Cert.StepQkvBIdeal.nD → PrngReg), Pre_StepQkvBIdeal m →
    θ_run (Cert.StepQkvBIdeal.defs (F := Ideal)) (onTc (τ := Cert.StepQkvBIdeal.τ) (Cert.StepQkvBIdeal.main (F := Ideal))) ⟨m, fun _ => 0, g⟩ (fun r => (∀ c : Dev Cert.StepQkvBIdeal.nD,
      r.2.mem ((c.tc : Thread Cert.StepQkvBIdeal.nD Cert.StepQkvBIdeal.τ).loc Cert.StepQkvBIdeal.main_arg0) = m ((c.tc : Thread Cert.StepQkvBIdeal.nD Cert.StepQkvBIdeal.τ).loc Cert.StepQkvBIdeal.main_arg0)
      ∧ r.2.mem ((c.tc : Thread Cert.StepQkvBIdeal.nD Cert.StepQkvBIdeal.τ).loc Cert.StepQkvBIdeal.main_arg1) = m ((c.tc : Thread Cert.StepQkvBIdeal.nD Cert.StepQkvBIdeal.τ).loc Cert.StepQkvBIdeal.main_arg1)
      ∧ r.2.mem ((c.tc : Thread Cert.StepQkvBIdeal.nD Cert.StepQkvBIdeal.τ).loc Cert.StepQkvBIdeal.main_arg2) = m ((c.tc : Thread Cert.StepQkvBIdeal.nD Cert.StepQkvBIdeal.τ).loc Cert.StepQkvBIdeal.main_arg2)
      ∧ r.2.mem ((c.tc : Thread Cert.StepQkvBIdeal.nD Cert.StepQkvBIdeal.τ).loc Cert.StepQkvBIdeal.main_arg3) = m ((c.tc : Thread Cert.StepQkvBIdeal.nD Cert.StepQkvBIdeal.τ).loc Cert.StepQkvBIdeal.main_arg3))
      ∧ r.2.sem = fun _ => 0)

def quiescent_StepUp [hStepUp : Cert.StepUp.Facts] : Prop :=
  ∀ (m : (ℓ : Loc Cert.StepUp.nD Cert.StepUp.τ Cert.StepUp.sig) → Buf (Elt Bits) ℓ) (g : Dev Cert.StepUp.nD → PrngReg), Pre_StepUp m →
    θ_run (Cert.StepUp.defs (F := Bits)) (onTc (τ := Cert.StepUp.τ) (Cert.StepUp.main (F := Bits))) ⟨m, fun _ => 0, g⟩ (fun r => (∀ c : Dev Cert.StepUp.nD,
      r.2.mem ((c.tc : Thread Cert.StepUp.nD Cert.StepUp.τ).loc Cert.StepUp.main_arg0) = m ((c.tc : Thread Cert.StepUp.nD Cert.StepUp.τ).loc Cert.StepUp.main_arg0)
      ∧ r.2.mem ((c.tc : Thread Cert.StepUp.nD Cert.StepUp.τ).loc Cert.StepUp.main_arg1) = m ((c.tc : Thread Cert.StepUp.nD Cert.StepUp.τ).loc Cert.StepUp.main_arg1)
      ∧ r.2.mem ((c.tc : Thread Cert.StepUp.nD Cert.StepUp.τ).loc Cert.StepUp.main_arg2) = m ((c.tc : Thread Cert.StepUp.nD Cert.StepUp.τ).loc Cert.StepUp.main_arg2)
      ∧ r.2.mem ((c.tc : Thread Cert.StepUp.nD Cert.StepUp.τ).loc Cert.StepUp.main_arg3) = m ((c.tc : Thread Cert.StepUp.nD Cert.StepUp.τ).loc Cert.StepUp.main_arg3))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3))
      ∧ r.2.sem = fun _ => 0)

def quiescent_StepDown [hStepDown : Cert.StepDown.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_GateGradRefIdeal [hGateGradRefIdeal : Cert.GateGradRefIdeal.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1))
      ∧ r.2.sem = fun _ => 0)

def quiescent_SwigluGradRefIdeal [hSwigluGradRefIdeal : Cert.SwigluGradRefIdeal.Facts] : Prop :=
  ∀ (m : (ℓ : Loc Cert.SwigluGradRefIdeal.nD Cert.SwigluGradRefIdeal.τ Cert.SwigluGradRefIdeal.sig) → Buf (Elt Ideal) ℓ) (g : Dev Cert.SwigluGradRefIdeal.nD → PrngReg), Pre_SwigluGradRefIdeal m →
    θ_run (Cert.SwigluGradRefIdeal.defs (F := Ideal)) (onTc (τ := Cert.SwigluGradRefIdeal.τ) (Cert.SwigluGradRefIdeal.main (F := Ideal))) ⟨m, fun _ => 0, g⟩ (fun r => (∀ c : Dev Cert.SwigluGradRefIdeal.nD,
      r.2.mem ((c.tc : Thread Cert.SwigluGradRefIdeal.nD Cert.SwigluGradRefIdeal.τ).loc Cert.SwigluGradRefIdeal.main_arg0) = m ((c.tc : Thread Cert.SwigluGradRefIdeal.nD Cert.SwigluGradRefIdeal.τ).loc Cert.SwigluGradRefIdeal.main_arg0)
      ∧ r.2.mem ((c.tc : Thread Cert.SwigluGradRefIdeal.nD Cert.SwigluGradRefIdeal.τ).loc Cert.SwigluGradRefIdeal.main_arg1) = m ((c.tc : Thread Cert.SwigluGradRefIdeal.nD Cert.SwigluGradRefIdeal.τ).loc Cert.SwigluGradRefIdeal.main_arg1)
      ∧ r.2.mem ((c.tc : Thread Cert.SwigluGradRefIdeal.nD Cert.SwigluGradRefIdeal.τ).loc Cert.SwigluGradRefIdeal.main_arg2) = m ((c.tc : Thread Cert.SwigluGradRefIdeal.nD Cert.SwigluGradRefIdeal.τ).loc Cert.SwigluGradRefIdeal.main_arg2)
      ∧ r.2.mem ((c.tc : Thread Cert.SwigluGradRefIdeal.nD Cert.SwigluGradRefIdeal.τ).loc Cert.SwigluGradRefIdeal.main_arg3) = m ((c.tc : Thread Cert.SwigluGradRefIdeal.nD Cert.SwigluGradRefIdeal.τ).loc Cert.SwigluGradRefIdeal.main_arg3))
      ∧ r.2.sem = fun _ => 0)

def quiescent_SwigluGradRefIdeal_pre_finite_swiglu [hSwigluGradRefIdeal : Cert.SwigluGradRefIdeal.Facts] [hPre_finite_swiglu : Cert.Pre_finite_swiglu.Facts] : Prop :=
  ∀ (m : (ℓ : Loc Cert.SwigluGradRefIdeal.nD Cert.SwigluGradRefIdeal.τ Cert.SwigluGradRefIdeal.sig) → Buf (Elt Ideal) ℓ) (g : Dev Cert.SwigluGradRefIdeal.nD → PrngReg), Pre_SwigluGradRefIdeal_finite_swiglu m →
    θ_run (Cert.SwigluGradRefIdeal.defs (F := Ideal)) (onTc (τ := Cert.SwigluGradRefIdeal.τ) (Cert.SwigluGradRefIdeal.main (F := Ideal))) ⟨m, fun _ => 0, g⟩ (fun r => (∀ c : Dev Cert.SwigluGradRefIdeal.nD,
      r.2.mem ((c.tc : Thread Cert.SwigluGradRefIdeal.nD Cert.SwigluGradRefIdeal.τ).loc Cert.SwigluGradRefIdeal.main_arg0) = m ((c.tc : Thread Cert.SwigluGradRefIdeal.nD Cert.SwigluGradRefIdeal.τ).loc Cert.SwigluGradRefIdeal.main_arg0)
      ∧ r.2.mem ((c.tc : Thread Cert.SwigluGradRefIdeal.nD Cert.SwigluGradRefIdeal.τ).loc Cert.SwigluGradRefIdeal.main_arg1) = m ((c.tc : Thread Cert.SwigluGradRefIdeal.nD Cert.SwigluGradRefIdeal.τ).loc Cert.SwigluGradRefIdeal.main_arg1)
      ∧ r.2.mem ((c.tc : Thread Cert.SwigluGradRefIdeal.nD Cert.SwigluGradRefIdeal.τ).loc Cert.SwigluGradRefIdeal.main_arg2) = m ((c.tc : Thread Cert.SwigluGradRefIdeal.nD Cert.SwigluGradRefIdeal.τ).loc Cert.SwigluGradRefIdeal.main_arg2)
      ∧ r.2.mem ((c.tc : Thread Cert.SwigluGradRefIdeal.nD Cert.SwigluGradRefIdeal.τ).loc Cert.SwigluGradRefIdeal.main_arg3) = m ((c.tc : Thread Cert.SwigluGradRefIdeal.nD Cert.SwigluGradRefIdeal.τ).loc Cert.SwigluGradRefIdeal.main_arg3))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4)
      ∧ r.2.mem ((c.tc : Thread Cert.NormGradRefIdeal.nD Cert.NormGradRefIdeal.τ).loc Cert.NormGradRefIdeal.main_arg5) = m ((c.tc : Thread Cert.NormGradRefIdeal.nD Cert.NormGradRefIdeal.τ).loc Cert.NormGradRefIdeal.main_arg5)
      ∧ r.2.mem ((c.tc : Thread Cert.NormGradRefIdeal.nD Cert.NormGradRefIdeal.τ).loc Cert.NormGradRefIdeal.main_arg6) = m ((c.tc : Thread Cert.NormGradRefIdeal.nD Cert.NormGradRefIdeal.τ).loc Cert.NormGradRefIdeal.main_arg6)
      ∧ r.2.mem ((c.tc : Thread Cert.NormGradRefIdeal.nD Cert.NormGradRefIdeal.τ).loc Cert.NormGradRefIdeal.main_arg7) = m ((c.tc : Thread Cert.NormGradRefIdeal.nD Cert.NormGradRefIdeal.τ).loc Cert.NormGradRefIdeal.main_arg7)
      ∧ r.2.mem ((c.tc : Thread Cert.NormGradRefIdeal.nD Cert.NormGradRefIdeal.τ).loc Cert.NormGradRefIdeal.main_arg8) = m ((c.tc : Thread Cert.NormGradRefIdeal.nD Cert.NormGradRefIdeal.τ).loc Cert.NormGradRefIdeal.main_arg8)
      ∧ r.2.mem ((c.tc : Thread Cert.NormGradRefIdeal.nD Cert.NormGradRefIdeal.τ).loc Cert.NormGradRefIdeal.main_arg9) = m ((c.tc : Thread Cert.NormGradRefIdeal.nD Cert.NormGradRefIdeal.τ).loc Cert.NormGradRefIdeal.main_arg9))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_ResidualRefIdeal [hResidualRefIdeal : Cert.ResidualRefIdeal.Facts] : Prop :=
  ∀ (m : (ℓ : Loc Cert.ResidualRefIdeal.nD Cert.ResidualRefIdeal.τ Cert.ResidualRefIdeal.sig) → Buf (Elt Ideal) ℓ) (g : Dev Cert.ResidualRefIdeal.nD → PrngReg), Pre_ResidualRefIdeal m →
    θ_run (Cert.ResidualRefIdeal.defs (F := Ideal)) (onTc (τ := Cert.ResidualRefIdeal.τ) (Cert.ResidualRefIdeal.main (F := Ideal))) ⟨m, fun _ => 0, g⟩ (fun r => (∀ c : Dev Cert.ResidualRefIdeal.nD,
      r.2.mem ((c.tc : Thread Cert.ResidualRefIdeal.nD Cert.ResidualRefIdeal.τ).loc Cert.ResidualRefIdeal.main_arg0) = m ((c.tc : Thread Cert.ResidualRefIdeal.nD Cert.ResidualRefIdeal.τ).loc Cert.ResidualRefIdeal.main_arg0)
      ∧ r.2.mem ((c.tc : Thread Cert.ResidualRefIdeal.nD Cert.ResidualRefIdeal.τ).loc Cert.ResidualRefIdeal.main_arg1) = m ((c.tc : Thread Cert.ResidualRefIdeal.nD Cert.ResidualRefIdeal.τ).loc Cert.ResidualRefIdeal.main_arg1)
      ∧ r.2.mem ((c.tc : Thread Cert.ResidualRefIdeal.nD Cert.ResidualRefIdeal.τ).loc Cert.ResidualRefIdeal.main_arg2) = m ((c.tc : Thread Cert.ResidualRefIdeal.nD Cert.ResidualRefIdeal.τ).loc Cert.ResidualRefIdeal.main_arg2)
      ∧ r.2.mem ((c.tc : Thread Cert.ResidualRefIdeal.nD Cert.ResidualRefIdeal.τ).loc Cert.ResidualRefIdeal.main_arg3) = m ((c.tc : Thread Cert.ResidualRefIdeal.nD Cert.ResidualRefIdeal.τ).loc Cert.ResidualRefIdeal.main_arg3)
      ∧ r.2.mem ((c.tc : Thread Cert.ResidualRefIdeal.nD Cert.ResidualRefIdeal.τ).loc Cert.ResidualRefIdeal.main_arg4) = m ((c.tc : Thread Cert.ResidualRefIdeal.nD Cert.ResidualRefIdeal.τ).loc Cert.ResidualRefIdeal.main_arg4)
      ∧ r.2.mem ((c.tc : Thread Cert.ResidualRefIdeal.nD Cert.ResidualRefIdeal.τ).loc Cert.ResidualRefIdeal.main_arg5) = m ((c.tc : Thread Cert.ResidualRefIdeal.nD Cert.ResidualRefIdeal.τ).loc Cert.ResidualRefIdeal.main_arg5)
      ∧ r.2.mem ((c.tc : Thread Cert.ResidualRefIdeal.nD Cert.ResidualRefIdeal.τ).loc Cert.ResidualRefIdeal.main_arg6) = m ((c.tc : Thread Cert.ResidualRefIdeal.nD Cert.ResidualRefIdeal.τ).loc Cert.ResidualRefIdeal.main_arg6))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_ThirdGradRefIdeal [hThirdGradRefIdeal : Cert.ThirdGradRefIdeal.Facts] : Prop :=
  ∀ (m : (ℓ : Loc Cert.ThirdGradRefIdeal.nD Cert.ThirdGradRefIdeal.τ Cert.ThirdGradRefIdeal.sig) → Buf (Elt Ideal) ℓ) (g : Dev Cert.ThirdGradRefIdeal.nD → PrngReg), Pre_ThirdGradRefIdeal m →
    θ_run (Cert.ThirdGradRefIdeal.defs (F := Ideal)) (onTc (τ := Cert.ThirdGradRefIdeal.τ) (Cert.ThirdGradRefIdeal.main (F := Ideal))) ⟨m, fun _ => 0, g⟩ (fun r => (∀ c : Dev Cert.ThirdGradRefIdeal.nD,
      r.2.mem ((c.tc : Thread Cert.ThirdGradRefIdeal.nD Cert.ThirdGradRefIdeal.τ).loc Cert.ThirdGradRefIdeal.main_arg0) = m ((c.tc : Thread Cert.ThirdGradRefIdeal.nD Cert.ThirdGradRefIdeal.τ).loc Cert.ThirdGradRefIdeal.main_arg0)
      ∧ r.2.mem ((c.tc : Thread Cert.ThirdGradRefIdeal.nD Cert.ThirdGradRefIdeal.τ).loc Cert.ThirdGradRefIdeal.main_arg1) = m ((c.tc : Thread Cert.ThirdGradRefIdeal.nD Cert.ThirdGradRefIdeal.τ).loc Cert.ThirdGradRefIdeal.main_arg1))
      ∧ r.2.sem = fun _ => 0)

def quiescent_QkvGradRefIdeal [hQkvGradRefIdeal : Cert.QkvGradRefIdeal.Facts] : Prop :=
  ∀ (m : (ℓ : Loc Cert.QkvGradRefIdeal.nD Cert.QkvGradRefIdeal.τ Cert.QkvGradRefIdeal.sig) → Buf (Elt Ideal) ℓ) (g : Dev Cert.QkvGradRefIdeal.nD → PrngReg), Pre_QkvGradRefIdeal m →
    θ_run (Cert.QkvGradRefIdeal.defs (F := Ideal)) (onTc (τ := Cert.QkvGradRefIdeal.τ) (Cert.QkvGradRefIdeal.main (F := Ideal))) ⟨m, fun _ => 0, g⟩ (fun r => (∀ c : Dev Cert.QkvGradRefIdeal.nD,
      r.2.mem ((c.tc : Thread Cert.QkvGradRefIdeal.nD Cert.QkvGradRefIdeal.τ).loc Cert.QkvGradRefIdeal.main_arg0) = m ((c.tc : Thread Cert.QkvGradRefIdeal.nD Cert.QkvGradRefIdeal.τ).loc Cert.QkvGradRefIdeal.main_arg0)
      ∧ r.2.mem ((c.tc : Thread Cert.QkvGradRefIdeal.nD Cert.QkvGradRefIdeal.τ).loc Cert.QkvGradRefIdeal.main_arg1) = m ((c.tc : Thread Cert.QkvGradRefIdeal.nD Cert.QkvGradRefIdeal.τ).loc Cert.QkvGradRefIdeal.main_arg1))
      ∧ r.2.sem = fun _ => 0)

def quiescent_FirstGradRefIdeal [hFirstGradRefIdeal : Cert.FirstGradRefIdeal.Facts] : Prop :=
  ∀ (m : (ℓ : Loc Cert.FirstGradRefIdeal.nD Cert.FirstGradRefIdeal.τ Cert.FirstGradRefIdeal.sig) → Buf (Elt Ideal) ℓ) (g : Dev Cert.FirstGradRefIdeal.nD → PrngReg), Pre_FirstGradRefIdeal m →
    θ_run (Cert.FirstGradRefIdeal.defs (F := Ideal)) (onTc (τ := Cert.FirstGradRefIdeal.τ) (Cert.FirstGradRefIdeal.main (F := Ideal))) ⟨m, fun _ => 0, g⟩ (fun r => (∀ c : Dev Cert.FirstGradRefIdeal.nD,
      r.2.mem ((c.tc : Thread Cert.FirstGradRefIdeal.nD Cert.FirstGradRefIdeal.τ).loc Cert.FirstGradRefIdeal.main_arg0) = m ((c.tc : Thread Cert.FirstGradRefIdeal.nD Cert.FirstGradRefIdeal.τ).loc Cert.FirstGradRefIdeal.main_arg0)
      ∧ r.2.mem ((c.tc : Thread Cert.FirstGradRefIdeal.nD Cert.FirstGradRefIdeal.τ).loc Cert.FirstGradRefIdeal.main_arg1) = m ((c.tc : Thread Cert.FirstGradRefIdeal.nD Cert.FirstGradRefIdeal.τ).loc Cert.FirstGradRefIdeal.main_arg1)
      ∧ r.2.mem ((c.tc : Thread Cert.FirstGradRefIdeal.nD Cert.FirstGradRefIdeal.τ).loc Cert.FirstGradRefIdeal.main_arg2) = m ((c.tc : Thread Cert.FirstGradRefIdeal.nD Cert.FirstGradRefIdeal.τ).loc Cert.FirstGradRefIdeal.main_arg2)
      ∧ r.2.mem ((c.tc : Thread Cert.FirstGradRefIdeal.nD Cert.FirstGradRefIdeal.τ).loc Cert.FirstGradRefIdeal.main_arg3) = m ((c.tc : Thread Cert.FirstGradRefIdeal.nD Cert.FirstGradRefIdeal.τ).loc Cert.FirstGradRefIdeal.main_arg3)
      ∧ r.2.mem ((c.tc : Thread Cert.FirstGradRefIdeal.nD Cert.FirstGradRefIdeal.τ).loc Cert.FirstGradRefIdeal.main_arg4) = m ((c.tc : Thread Cert.FirstGradRefIdeal.nD Cert.FirstGradRefIdeal.τ).loc Cert.FirstGradRefIdeal.main_arg4)
      ∧ r.2.mem ((c.tc : Thread Cert.FirstGradRefIdeal.nD Cert.FirstGradRefIdeal.τ).loc Cert.FirstGradRefIdeal.main_arg5) = m ((c.tc : Thread Cert.FirstGradRefIdeal.nD Cert.FirstGradRefIdeal.τ).loc Cert.FirstGradRefIdeal.main_arg5))
      ∧ r.2.sem = fun _ => 0)

def quiescent_AttnGradRefIdeal [hAttnGradRefIdeal : Cert.AttnGradRefIdeal.Facts] : Prop :=
  ∀ (m : (ℓ : Loc Cert.AttnGradRefIdeal.nD Cert.AttnGradRefIdeal.τ Cert.AttnGradRefIdeal.sig) → Buf (Elt Ideal) ℓ) (g : Dev Cert.AttnGradRefIdeal.nD → PrngReg), Pre_AttnGradRefIdeal m →
    θ_run (Cert.AttnGradRefIdeal.defs (F := Ideal)) (onTc (τ := Cert.AttnGradRefIdeal.τ) (Cert.AttnGradRefIdeal.main (F := Ideal))) ⟨m, fun _ => 0, g⟩ (fun r => (∀ c : Dev Cert.AttnGradRefIdeal.nD,
      r.2.mem ((c.tc : Thread Cert.AttnGradRefIdeal.nD Cert.AttnGradRefIdeal.τ).loc Cert.AttnGradRefIdeal.main_arg0) = m ((c.tc : Thread Cert.AttnGradRefIdeal.nD Cert.AttnGradRefIdeal.τ).loc Cert.AttnGradRefIdeal.main_arg0)
      ∧ r.2.mem ((c.tc : Thread Cert.AttnGradRefIdeal.nD Cert.AttnGradRefIdeal.τ).loc Cert.AttnGradRefIdeal.main_arg1) = m ((c.tc : Thread Cert.AttnGradRefIdeal.nD Cert.AttnGradRefIdeal.τ).loc Cert.AttnGradRefIdeal.main_arg1))
      ∧ r.2.sem = fun _ => 0)

def quiescent_QkvARefIdeal [hQkvARefIdeal : Cert.QkvARefIdeal.Facts] : Prop :=
  ∀ (m : (ℓ : Loc Cert.QkvARefIdeal.nD Cert.QkvARefIdeal.τ Cert.QkvARefIdeal.sig) → Buf (Elt Ideal) ℓ) (g : Dev Cert.QkvARefIdeal.nD → PrngReg), Pre_QkvARefIdeal m →
    θ_run (Cert.QkvARefIdeal.defs (F := Ideal)) (onTc (τ := Cert.QkvARefIdeal.τ) (Cert.QkvARefIdeal.main (F := Ideal))) ⟨m, fun _ => 0, g⟩ (fun r => (∀ c : Dev Cert.QkvARefIdeal.nD,
      r.2.mem ((c.tc : Thread Cert.QkvARefIdeal.nD Cert.QkvARefIdeal.τ).loc Cert.QkvARefIdeal.main_arg0) = m ((c.tc : Thread Cert.QkvARefIdeal.nD Cert.QkvARefIdeal.τ).loc Cert.QkvARefIdeal.main_arg0)
      ∧ r.2.mem ((c.tc : Thread Cert.QkvARefIdeal.nD Cert.QkvARefIdeal.τ).loc Cert.QkvARefIdeal.main_arg1) = m ((c.tc : Thread Cert.QkvARefIdeal.nD Cert.QkvARefIdeal.τ).loc Cert.QkvARefIdeal.main_arg1))
      ∧ r.2.sem = fun _ => 0)

def quiescent_QkvBRefIdeal [hQkvBRefIdeal : Cert.QkvBRefIdeal.Facts] : Prop :=
  ∀ (m : (ℓ : Loc Cert.QkvBRefIdeal.nD Cert.QkvBRefIdeal.τ Cert.QkvBRefIdeal.sig) → Buf (Elt Ideal) ℓ) (g : Dev Cert.QkvBRefIdeal.nD → PrngReg), Pre_QkvBRefIdeal m →
    θ_run (Cert.QkvBRefIdeal.defs (F := Ideal)) (onTc (τ := Cert.QkvBRefIdeal.τ) (Cert.QkvBRefIdeal.main (F := Ideal))) ⟨m, fun _ => 0, g⟩ (fun r => (∀ c : Dev Cert.QkvBRefIdeal.nD,
      r.2.mem ((c.tc : Thread Cert.QkvBRefIdeal.nD Cert.QkvBRefIdeal.τ).loc Cert.QkvBRefIdeal.main_arg0) = m ((c.tc : Thread Cert.QkvBRefIdeal.nD Cert.QkvBRefIdeal.τ).loc Cert.QkvBRefIdeal.main_arg0)
      ∧ r.2.mem ((c.tc : Thread Cert.QkvBRefIdeal.nD Cert.QkvBRefIdeal.τ).loc Cert.QkvBRefIdeal.main_arg1) = m ((c.tc : Thread Cert.QkvBRefIdeal.nD Cert.QkvBRefIdeal.τ).loc Cert.QkvBRefIdeal.main_arg1))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4)
      ∧ r.2.mem ((c.tc : Thread Cert.AttnOutRefIdeal.nD Cert.AttnOutRefIdeal.τ).loc Cert.AttnOutRefIdeal.main_arg5) = m ((c.tc : Thread Cert.AttnOutRefIdeal.nD Cert.AttnOutRefIdeal.τ).loc Cert.AttnOutRefIdeal.main_arg5)
      ∧ r.2.mem ((c.tc : Thread Cert.AttnOutRefIdeal.nD Cert.AttnOutRefIdeal.τ).loc Cert.AttnOutRefIdeal.main_arg6) = m ((c.tc : Thread Cert.AttnOutRefIdeal.nD Cert.AttnOutRefIdeal.τ).loc Cert.AttnOutRefIdeal.main_arg6))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_TopGradRefIdeal [hTopGradRefIdeal : Cert.TopGradRefIdeal.Facts] : Prop :=
  ∀ (m : (ℓ : Loc Cert.TopGradRefIdeal.nD Cert.TopGradRefIdeal.τ Cert.TopGradRefIdeal.sig) → Buf (Elt Ideal) ℓ) (g : Dev Cert.TopGradRefIdeal.nD → PrngReg), Pre_TopGradRefIdeal m →
    θ_run (Cert.TopGradRefIdeal.defs (F := Ideal)) (onTc (τ := Cert.TopGradRefIdeal.τ) (Cert.TopGradRefIdeal.main (F := Ideal))) ⟨m, fun _ => 0, g⟩ (fun r => (∀ c : Dev Cert.TopGradRefIdeal.nD,
      r.2.mem ((c.tc : Thread Cert.TopGradRefIdeal.nD Cert.TopGradRefIdeal.τ).loc Cert.TopGradRefIdeal.main_arg0) = m ((c.tc : Thread Cert.TopGradRefIdeal.nD Cert.TopGradRefIdeal.τ).loc Cert.TopGradRefIdeal.main_arg0)
      ∧ r.2.mem ((c.tc : Thread Cert.TopGradRefIdeal.nD Cert.TopGradRefIdeal.τ).loc Cert.TopGradRefIdeal.main_arg1) = m ((c.tc : Thread Cert.TopGradRefIdeal.nD Cert.TopGradRefIdeal.τ).loc Cert.TopGradRefIdeal.main_arg1)
      ∧ r.2.mem ((c.tc : Thread Cert.TopGradRefIdeal.nD Cert.TopGradRefIdeal.τ).loc Cert.TopGradRefIdeal.main_arg2) = m ((c.tc : Thread Cert.TopGradRefIdeal.nD Cert.TopGradRefIdeal.τ).loc Cert.TopGradRefIdeal.main_arg2))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1))
      ∧ r.2.sem = fun _ => 0)

def quiescent_SumModRefIdeal [hSumModRefIdeal : Cert.SumModRefIdeal.Facts] : Prop :=
  ∀ (m : (ℓ : Loc Cert.SumModRefIdeal.nD Cert.SumModRefIdeal.τ Cert.SumModRefIdeal.sig) → Buf (Elt Ideal) ℓ) (g : Dev Cert.SumModRefIdeal.nD → PrngReg), Pre_SumModRefIdeal m →
    θ_run (Cert.SumModRefIdeal.defs (F := Ideal)) (onTc (τ := Cert.SumModRefIdeal.τ) (Cert.SumModRefIdeal.main (F := Ideal))) ⟨m, fun _ => 0, g⟩ (fun r => (∀ c : Dev Cert.SumModRefIdeal.nD,
      r.2.mem ((c.tc : Thread Cert.SumModRefIdeal.nD Cert.SumModRefIdeal.τ).loc Cert.SumModRefIdeal.main_arg0) = m ((c.tc : Thread Cert.SumModRefIdeal.nD Cert.SumModRefIdeal.τ).loc Cert.SumModRefIdeal.main_arg0))
      ∧ r.2.sem = fun _ => 0)

def quiescent_SumGainRefIdeal [hSumGainRefIdeal : Cert.SumGainRefIdeal.Facts] : Prop :=
  ∀ (m : (ℓ : Loc Cert.SumGainRefIdeal.nD Cert.SumGainRefIdeal.τ Cert.SumGainRefIdeal.sig) → Buf (Elt Ideal) ℓ) (g : Dev Cert.SumGainRefIdeal.nD → PrngReg), Pre_SumGainRefIdeal m →
    θ_run (Cert.SumGainRefIdeal.defs (F := Ideal)) (onTc (τ := Cert.SumGainRefIdeal.τ) (Cert.SumGainRefIdeal.main (F := Ideal))) ⟨m, fun _ => 0, g⟩ (fun r => (∀ c : Dev Cert.SumGainRefIdeal.nD,
      r.2.mem ((c.tc : Thread Cert.SumGainRefIdeal.nD Cert.SumGainRefIdeal.τ).loc Cert.SumGainRefIdeal.main_arg0) = m ((c.tc : Thread Cert.SumGainRefIdeal.nD Cert.SumGainRefIdeal.τ).loc Cert.SumGainRefIdeal.main_arg0))
      ∧ r.2.sem = fun _ => 0)

def quiescent_StepAdaWRefIdeal [hStepAdaWRefIdeal : Cert.StepAdaWRefIdeal.Facts] : Prop :=
  ∀ (m : (ℓ : Loc Cert.StepAdaWRefIdeal.nD Cert.StepAdaWRefIdeal.τ Cert.StepAdaWRefIdeal.sig) → Buf (Elt Ideal) ℓ) (g : Dev Cert.StepAdaWRefIdeal.nD → PrngReg), Pre_StepAdaWRefIdeal m →
    θ_run (Cert.StepAdaWRefIdeal.defs (F := Ideal)) (onTc (τ := Cert.StepAdaWRefIdeal.τ) (Cert.StepAdaWRefIdeal.main (F := Ideal))) ⟨m, fun _ => 0, g⟩ (fun r => (∀ c : Dev Cert.StepAdaWRefIdeal.nD,
      r.2.mem ((c.tc : Thread Cert.StepAdaWRefIdeal.nD Cert.StepAdaWRefIdeal.τ).loc Cert.StepAdaWRefIdeal.main_arg0) = m ((c.tc : Thread Cert.StepAdaWRefIdeal.nD Cert.StepAdaWRefIdeal.τ).loc Cert.StepAdaWRefIdeal.main_arg0)
      ∧ r.2.mem ((c.tc : Thread Cert.StepAdaWRefIdeal.nD Cert.StepAdaWRefIdeal.τ).loc Cert.StepAdaWRefIdeal.main_arg1) = m ((c.tc : Thread Cert.StepAdaWRefIdeal.nD Cert.StepAdaWRefIdeal.τ).loc Cert.StepAdaWRefIdeal.main_arg1)
      ∧ r.2.mem ((c.tc : Thread Cert.StepAdaWRefIdeal.nD Cert.StepAdaWRefIdeal.τ).loc Cert.StepAdaWRefIdeal.main_arg2) = m ((c.tc : Thread Cert.StepAdaWRefIdeal.nD Cert.StepAdaWRefIdeal.τ).loc Cert.StepAdaWRefIdeal.main_arg2)
      ∧ r.2.mem ((c.tc : Thread Cert.StepAdaWRefIdeal.nD Cert.StepAdaWRefIdeal.τ).loc Cert.StepAdaWRefIdeal.main_arg3) = m ((c.tc : Thread Cert.StepAdaWRefIdeal.nD Cert.StepAdaWRefIdeal.τ).loc Cert.StepAdaWRefIdeal.main_arg3))
      ∧ r.2.sem = fun _ => 0)

def quiescent_StepAdaBRefIdeal [hStepAdaBRefIdeal : Cert.StepAdaBRefIdeal.Facts] : Prop :=
  ∀ (m : (ℓ : Loc Cert.StepAdaBRefIdeal.nD Cert.StepAdaBRefIdeal.τ Cert.StepAdaBRefIdeal.sig) → Buf (Elt Ideal) ℓ) (g : Dev Cert.StepAdaBRefIdeal.nD → PrngReg), Pre_StepAdaBRefIdeal m →
    θ_run (Cert.StepAdaBRefIdeal.defs (F := Ideal)) (onTc (τ := Cert.StepAdaBRefIdeal.τ) (Cert.StepAdaBRefIdeal.main (F := Ideal))) ⟨m, fun _ => 0, g⟩ (fun r => (∀ c : Dev Cert.StepAdaBRefIdeal.nD,
      r.2.mem ((c.tc : Thread Cert.StepAdaBRefIdeal.nD Cert.StepAdaBRefIdeal.τ).loc Cert.StepAdaBRefIdeal.main_arg0) = m ((c.tc : Thread Cert.StepAdaBRefIdeal.nD Cert.StepAdaBRefIdeal.τ).loc Cert.StepAdaBRefIdeal.main_arg0)
      ∧ r.2.mem ((c.tc : Thread Cert.StepAdaBRefIdeal.nD Cert.StepAdaBRefIdeal.τ).loc Cert.StepAdaBRefIdeal.main_arg1) = m ((c.tc : Thread Cert.StepAdaBRefIdeal.nD Cert.StepAdaBRefIdeal.τ).loc Cert.StepAdaBRefIdeal.main_arg1)
      ∧ r.2.mem ((c.tc : Thread Cert.StepAdaBRefIdeal.nD Cert.StepAdaBRefIdeal.τ).loc Cert.StepAdaBRefIdeal.main_arg2) = m ((c.tc : Thread Cert.StepAdaBRefIdeal.nD Cert.StepAdaBRefIdeal.τ).loc Cert.StepAdaBRefIdeal.main_arg2)
      ∧ r.2.mem ((c.tc : Thread Cert.StepAdaBRefIdeal.nD Cert.StepAdaBRefIdeal.τ).loc Cert.StepAdaBRefIdeal.main_arg3) = m ((c.tc : Thread Cert.StepAdaBRefIdeal.nD Cert.StepAdaBRefIdeal.τ).loc Cert.StepAdaBRefIdeal.main_arg3))
      ∧ r.2.sem = fun _ => 0)

def quiescent_StepGainRefIdeal [hStepGainRefIdeal : Cert.StepGainRefIdeal.Facts] : Prop :=
  ∀ (m : (ℓ : Loc Cert.StepGainRefIdeal.nD Cert.StepGainRefIdeal.τ Cert.StepGainRefIdeal.sig) → Buf (Elt Ideal) ℓ) (g : Dev Cert.StepGainRefIdeal.nD → PrngReg), Pre_StepGainRefIdeal m →
    θ_run (Cert.StepGainRefIdeal.defs (F := Ideal)) (onTc (τ := Cert.StepGainRefIdeal.τ) (Cert.StepGainRefIdeal.main (F := Ideal))) ⟨m, fun _ => 0, g⟩ (fun r => (∀ c : Dev Cert.StepGainRefIdeal.nD,
      r.2.mem ((c.tc : Thread Cert.StepGainRefIdeal.nD Cert.StepGainRefIdeal.τ).loc Cert.StepGainRefIdeal.main_arg0) = m ((c.tc : Thread Cert.StepGainRefIdeal.nD Cert.StepGainRefIdeal.τ).loc Cert.StepGainRefIdeal.main_arg0)
      ∧ r.2.mem ((c.tc : Thread Cert.StepGainRefIdeal.nD Cert.StepGainRefIdeal.τ).loc Cert.StepGainRefIdeal.main_arg1) = m ((c.tc : Thread Cert.StepGainRefIdeal.nD Cert.StepGainRefIdeal.τ).loc Cert.StepGainRefIdeal.main_arg1)
      ∧ r.2.mem ((c.tc : Thread Cert.StepGainRefIdeal.nD Cert.StepGainRefIdeal.τ).loc Cert.StepGainRefIdeal.main_arg2) = m ((c.tc : Thread Cert.StepGainRefIdeal.nD Cert.StepGainRefIdeal.τ).loc Cert.StepGainRefIdeal.main_arg2)
      ∧ r.2.mem ((c.tc : Thread Cert.StepGainRefIdeal.nD Cert.StepGainRefIdeal.τ).loc Cert.StepGainRefIdeal.main_arg3) = m ((c.tc : Thread Cert.StepGainRefIdeal.nD Cert.StepGainRefIdeal.τ).loc Cert.StepGainRefIdeal.main_arg3))
      ∧ r.2.sem = fun _ => 0)

def quiescent_StepQkvARefIdeal [hStepQkvARefIdeal : Cert.StepQkvARefIdeal.Facts] : Prop :=
  ∀ (m : (ℓ : Loc Cert.StepQkvARefIdeal.nD Cert.StepQkvARefIdeal.τ Cert.StepQkvARefIdeal.sig) → Buf (Elt Ideal) ℓ) (g : Dev Cert.StepQkvARefIdeal.nD → PrngReg), Pre_StepQkvARefIdeal m →
    θ_run (Cert.StepQkvARefIdeal.defs (F := Ideal)) (onTc (τ := Cert.StepQkvARefIdeal.τ) (Cert.StepQkvARefIdeal.main (F := Ideal))) ⟨m, fun _ => 0, g⟩ (fun r => (∀ c : Dev Cert.StepQkvARefIdeal.nD,
      r.2.mem ((c.tc : Thread Cert.StepQkvARefIdeal.nD Cert.StepQkvARefIdeal.τ).loc Cert.StepQkvARefIdeal.main_arg0) = m ((c.tc : Thread Cert.StepQkvARefIdeal.nD Cert.StepQkvARefIdeal.τ).loc Cert.StepQkvARefIdeal.main_arg0)
      ∧ r.2.mem ((c.tc : Thread Cert.StepQkvARefIdeal.nD Cert.StepQkvARefIdeal.τ).loc Cert.StepQkvARefIdeal.main_arg1) = m ((c.tc : Thread Cert.StepQkvARefIdeal.nD Cert.StepQkvARefIdeal.τ).loc Cert.StepQkvARefIdeal.main_arg1)
      ∧ r.2.mem ((c.tc : Thread Cert.StepQkvARefIdeal.nD Cert.StepQkvARefIdeal.τ).loc Cert.StepQkvARefIdeal.main_arg2) = m ((c.tc : Thread Cert.StepQkvARefIdeal.nD Cert.StepQkvARefIdeal.τ).loc Cert.StepQkvARefIdeal.main_arg2)
      ∧ r.2.mem ((c.tc : Thread Cert.StepQkvARefIdeal.nD Cert.StepQkvARefIdeal.τ).loc Cert.StepQkvARefIdeal.main_arg3) = m ((c.tc : Thread Cert.StepQkvARefIdeal.nD Cert.StepQkvARefIdeal.τ).loc Cert.StepQkvARefIdeal.main_arg3))
      ∧ r.2.sem = fun _ => 0)

def quiescent_StepHeadGainRefIdeal [hStepHeadGainRefIdeal : Cert.StepHeadGainRefIdeal.Facts] : Prop :=
  ∀ (m : (ℓ : Loc Cert.StepHeadGainRefIdeal.nD Cert.StepHeadGainRefIdeal.τ Cert.StepHeadGainRefIdeal.sig) → Buf (Elt Ideal) ℓ) (g : Dev Cert.StepHeadGainRefIdeal.nD → PrngReg), Pre_StepHeadGainRefIdeal m →
    θ_run (Cert.StepHeadGainRefIdeal.defs (F := Ideal)) (onTc (τ := Cert.StepHeadGainRefIdeal.τ) (Cert.StepHeadGainRefIdeal.main (F := Ideal))) ⟨m, fun _ => 0, g⟩ (fun r => (∀ c : Dev Cert.StepHeadGainRefIdeal.nD,
      r.2.mem ((c.tc : Thread Cert.StepHeadGainRefIdeal.nD Cert.StepHeadGainRefIdeal.τ).loc Cert.StepHeadGainRefIdeal.main_arg0) = m ((c.tc : Thread Cert.StepHeadGainRefIdeal.nD Cert.StepHeadGainRefIdeal.τ).loc Cert.StepHeadGainRefIdeal.main_arg0)
      ∧ r.2.mem ((c.tc : Thread Cert.StepHeadGainRefIdeal.nD Cert.StepHeadGainRefIdeal.τ).loc Cert.StepHeadGainRefIdeal.main_arg1) = m ((c.tc : Thread Cert.StepHeadGainRefIdeal.nD Cert.StepHeadGainRefIdeal.τ).loc Cert.StepHeadGainRefIdeal.main_arg1)
      ∧ r.2.mem ((c.tc : Thread Cert.StepHeadGainRefIdeal.nD Cert.StepHeadGainRefIdeal.τ).loc Cert.StepHeadGainRefIdeal.main_arg2) = m ((c.tc : Thread Cert.StepHeadGainRefIdeal.nD Cert.StepHeadGainRefIdeal.τ).loc Cert.StepHeadGainRefIdeal.main_arg2)
      ∧ r.2.mem ((c.tc : Thread Cert.StepHeadGainRefIdeal.nD Cert.StepHeadGainRefIdeal.τ).loc Cert.StepHeadGainRefIdeal.main_arg3) = m ((c.tc : Thread Cert.StepHeadGainRefIdeal.nD Cert.StepHeadGainRefIdeal.τ).loc Cert.StepHeadGainRefIdeal.main_arg3))
      ∧ r.2.sem = fun _ => 0)

def quiescent_StepSinksRefIdeal [hStepSinksRefIdeal : Cert.StepSinksRefIdeal.Facts] : Prop :=
  ∀ (m : (ℓ : Loc Cert.StepSinksRefIdeal.nD Cert.StepSinksRefIdeal.τ Cert.StepSinksRefIdeal.sig) → Buf (Elt Ideal) ℓ) (g : Dev Cert.StepSinksRefIdeal.nD → PrngReg), Pre_StepSinksRefIdeal m →
    θ_run (Cert.StepSinksRefIdeal.defs (F := Ideal)) (onTc (τ := Cert.StepSinksRefIdeal.τ) (Cert.StepSinksRefIdeal.main (F := Ideal))) ⟨m, fun _ => 0, g⟩ (fun r => (∀ c : Dev Cert.StepSinksRefIdeal.nD,
      r.2.mem ((c.tc : Thread Cert.StepSinksRefIdeal.nD Cert.StepSinksRefIdeal.τ).loc Cert.StepSinksRefIdeal.main_arg0) = m ((c.tc : Thread Cert.StepSinksRefIdeal.nD Cert.StepSinksRefIdeal.τ).loc Cert.StepSinksRefIdeal.main_arg0)
      ∧ r.2.mem ((c.tc : Thread Cert.StepSinksRefIdeal.nD Cert.StepSinksRefIdeal.τ).loc Cert.StepSinksRefIdeal.main_arg1) = m ((c.tc : Thread Cert.StepSinksRefIdeal.nD Cert.StepSinksRefIdeal.τ).loc Cert.StepSinksRefIdeal.main_arg1)
      ∧ r.2.mem ((c.tc : Thread Cert.StepSinksRefIdeal.nD Cert.StepSinksRefIdeal.τ).loc Cert.StepSinksRefIdeal.main_arg2) = m ((c.tc : Thread Cert.StepSinksRefIdeal.nD Cert.StepSinksRefIdeal.τ).loc Cert.StepSinksRefIdeal.main_arg2)
      ∧ r.2.mem ((c.tc : Thread Cert.StepSinksRefIdeal.nD Cert.StepSinksRefIdeal.τ).loc Cert.StepSinksRefIdeal.main_arg3) = m ((c.tc : Thread Cert.StepSinksRefIdeal.nD Cert.StepSinksRefIdeal.τ).loc Cert.StepSinksRefIdeal.main_arg3))
      ∧ r.2.sem = fun _ => 0)

def quiescent_StepOutRefIdeal [hStepOutRefIdeal : Cert.StepOutRefIdeal.Facts] : Prop :=
  ∀ (m : (ℓ : Loc Cert.StepOutRefIdeal.nD Cert.StepOutRefIdeal.τ Cert.StepOutRefIdeal.sig) → Buf (Elt Ideal) ℓ) (g : Dev Cert.StepOutRefIdeal.nD → PrngReg), Pre_StepOutRefIdeal m →
    θ_run (Cert.StepOutRefIdeal.defs (F := Ideal)) (onTc (τ := Cert.StepOutRefIdeal.τ) (Cert.StepOutRefIdeal.main (F := Ideal))) ⟨m, fun _ => 0, g⟩ (fun r => (∀ c : Dev Cert.StepOutRefIdeal.nD,
      r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
      ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
      ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
      ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3))
      ∧ r.2.sem = fun _ => 0)

def quiescent_StepQkvBRefIdeal [hStepQkvBRefIdeal : Cert.StepQkvBRefIdeal.Facts] : Prop :=
  ∀ (m : (ℓ : Loc Cert.StepQkvBRefIdeal.nD Cert.StepQkvBRefIdeal.τ Cert.StepQkvBRefIdeal.sig) → Buf (Elt Ideal) ℓ) (g : Dev Cert.StepQkvBRefIdeal.nD → PrngReg), Pre_StepQkvBRefIdeal m →
    θ_run (Cert.StepQkvBRefIdeal.defs (F := Ideal)) (onTc (τ := Cert.StepQkvBRefIdeal.τ) (Cert.StepQkvBRefIdeal.main (F := Ideal))) ⟨m, fun _ => 0, g⟩ (fun r => (∀ c : Dev Cert.StepQkvBRefIdeal.nD,
      r.2.mem ((c.tc : Thread Cert.StepQkvBRefIdeal.nD Cert.StepQkvBRefIdeal.τ).loc Cert.StepQkvBRefIdeal.main_arg0) = m ((c.tc : Thread Cert.StepQkvBRefIdeal.nD Cert.StepQkvBRefIdeal.τ).loc Cert.StepQkvBRefIdeal.main_arg0)
      ∧ r.2.mem ((c.tc : Thread Cert.StepQkvBRefIdeal.nD Cert.StepQkvBRefIdeal.τ).loc Cert.StepQkvBRefIdeal.main_arg1) = m ((c.tc : Thread Cert.StepQkvBRefIdeal.nD Cert.StepQkvBRefIdeal.τ).loc Cert.StepQkvBRefIdeal.main_arg1)
      ∧ r.2.mem ((c.tc : Thread Cert.StepQkvBRefIdeal.nD Cert.StepQkvBRefIdeal.τ).loc Cert.StepQkvBRefIdeal.main_arg2) = m ((c.tc : Thread Cert.StepQkvBRefIdeal.nD Cert.StepQkvBRefIdeal.τ).loc Cert.StepQkvBRefIdeal.main_arg2)
      ∧ r.2.mem ((c.tc : Thread Cert.StepQkvBRefIdeal.nD Cert.StepQkvBRefIdeal.τ).loc Cert.StepQkvBRefIdeal.main_arg3) = m ((c.tc : Thread Cert.StepQkvBRefIdeal.nD Cert.StepQkvBRefIdeal.τ).loc Cert.StepQkvBRefIdeal.main_arg3))
      ∧ r.2.sem = fun _ => 0)

def quiescent_StepUpRefIdeal [hStepUpRefIdeal : Cert.StepUpRefIdeal.Facts] : Prop :=
  ∀ (m : (ℓ : Loc Cert.StepUpRefIdeal.nD Cert.StepUpRefIdeal.τ Cert.StepUpRefIdeal.sig) → Buf (Elt Ideal) ℓ) (g : Dev Cert.StepUpRefIdeal.nD → PrngReg), Pre_StepUpRefIdeal m →
    θ_run (Cert.StepUpRefIdeal.defs (F := Ideal)) (onTc (τ := Cert.StepUpRefIdeal.τ) (Cert.StepUpRefIdeal.main (F := Ideal))) ⟨m, fun _ => 0, g⟩ (fun r => (∀ c : Dev Cert.StepUpRefIdeal.nD,
      r.2.mem ((c.tc : Thread Cert.StepUpRefIdeal.nD Cert.StepUpRefIdeal.τ).loc Cert.StepUpRefIdeal.main_arg0) = m ((c.tc : Thread Cert.StepUpRefIdeal.nD Cert.StepUpRefIdeal.τ).loc Cert.StepUpRefIdeal.main_arg0)
      ∧ r.2.mem ((c.tc : Thread Cert.StepUpRefIdeal.nD Cert.StepUpRefIdeal.τ).loc Cert.StepUpRefIdeal.main_arg1) = m ((c.tc : Thread Cert.StepUpRefIdeal.nD Cert.StepUpRefIdeal.τ).loc Cert.StepUpRefIdeal.main_arg1)
      ∧ r.2.mem ((c.tc : Thread Cert.StepUpRefIdeal.nD Cert.StepUpRefIdeal.τ).loc Cert.StepUpRefIdeal.main_arg2) = m ((c.tc : Thread Cert.StepUpRefIdeal.nD Cert.StepUpRefIdeal.τ).loc Cert.StepUpRefIdeal.main_arg2)
      ∧ r.2.mem ((c.tc : Thread Cert.StepUpRefIdeal.nD Cert.StepUpRefIdeal.τ).loc Cert.StepUpRefIdeal.main_arg3) = m ((c.tc : Thread Cert.StepUpRefIdeal.nD Cert.StepUpRefIdeal.τ).loc Cert.StepUpRefIdeal.main_arg3))
      ∧ r.2.sem = fun _ => 0)

def quiescent_StepDownRefIdeal [hStepDownRefIdeal : Cert.StepDownRefIdeal.Facts] : Prop :=
  ∀ (m : (ℓ : Loc Cert.StepDownRefIdeal.nD Cert.StepDownRefIdeal.τ Cert.StepDownRefIdeal.sig) → Buf (Elt Ideal) ℓ) (g : Dev Cert.StepDownRefIdeal.nD → PrngReg), Pre_StepDownRefIdeal m →
    θ_run (Cert.StepDownRefIdeal.defs (F := Ideal)) (onTc (τ := Cert.StepDownRefIdeal.τ) (Cert.StepDownRefIdeal.main (F := Ideal))) ⟨m, fun _ => 0, g⟩ (fun r => (∀ c : Dev Cert.StepDownRefIdeal.nD,
      r.2.mem ((c.tc : Thread Cert.StepDownRefIdeal.nD Cert.StepDownRefIdeal.τ).loc Cert.StepDownRefIdeal.main_arg0) = m ((c.tc : Thread Cert.StepDownRefIdeal.nD Cert.StepDownRefIdeal.τ).loc Cert.StepDownRefIdeal.main_arg0)
      ∧ r.2.mem ((c.tc : Thread Cert.StepDownRefIdeal.nD Cert.StepDownRefIdeal.τ).loc Cert.StepDownRefIdeal.main_arg1) = m ((c.tc : Thread Cert.StepDownRefIdeal.nD Cert.StepDownRefIdeal.τ).loc Cert.StepDownRefIdeal.main_arg1)
      ∧ r.2.mem ((c.tc : Thread Cert.StepDownRefIdeal.nD Cert.StepDownRefIdeal.τ).loc Cert.StepDownRefIdeal.main_arg2) = m ((c.tc : Thread Cert.StepDownRefIdeal.nD Cert.StepDownRefIdeal.τ).loc Cert.StepDownRefIdeal.main_arg2)
      ∧ r.2.mem ((c.tc : Thread Cert.StepDownRefIdeal.nD Cert.StepDownRefIdeal.τ).loc Cert.StepDownRefIdeal.main_arg3) = m ((c.tc : Thread Cert.StepDownRefIdeal.nD Cert.StepDownRefIdeal.τ).loc Cert.StepDownRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)) (v2 : (c : Dev Cert.KernelIdeal.nD) → Buf (Elt Ideal) ((c.tc : Thread Cert.KernelIdeal.nD Cert.KernelIdeal.τ).loc Cert.KernelIdeal.main_v76_2)) (v3 : (c : Dev Cert.KernelIdeal.nD) → Buf (Elt Ideal) ((c.tc : Thread Cert.KernelIdeal.nD Cert.KernelIdeal.τ).loc Cert.KernelIdeal.main_v76_3)) (v4 : (c : Dev Cert.KernelIdeal.nD) → Buf (Elt Ideal) ((c.tc : Thread Cert.KernelIdeal.nD Cert.KernelIdeal.τ).loc Cert.KernelIdeal.main_v76_4)) (v5 : (c : Dev Cert.KernelIdeal.nD) → Buf (Elt Ideal) ((c.tc : Thread Cert.KernelIdeal.nD Cert.KernelIdeal.τ).loc Cert.KernelIdeal.main_v76_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_v76_2) = v2 c
          ∧ r.2.mem ((c.tc : Thread Cert.KernelIdeal.nD Cert.KernelIdeal.τ).loc Cert.KernelIdeal.main_v76_3) = v3 c
          ∧ r.2.mem ((c.tc : Thread Cert.KernelIdeal.nD Cert.KernelIdeal.τ).loc Cert.KernelIdeal.main_v76_4) = v4 c
          ∧ r.2.mem ((c.tc : Thread Cert.KernelIdeal.nD Cert.KernelIdeal.τ).loc Cert.KernelIdeal.main_v76_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_v133) = v3 c
          ∧ r.2.mem ((c.tc : Thread Cert.ReferenceIdeal.nD Cert.ReferenceIdeal.τ).loc Cert.ReferenceIdeal.main_v135) = v4 c
          ∧ r.2.mem ((c.tc : Thread Cert.ReferenceIdeal.nD Cert.ReferenceIdeal.τ).loc Cert.ReferenceIdeal.main_v126) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_WeightGrad_WeightGradIdeal : Prop :=
  True

def preserves_SwigluGrad_SwigluGradIdeal : Prop :=
  True

def preserves_NormGrad_NormGradIdeal : Prop :=
  True

def preserves_Swiglu_SwigluIdeal : Prop :=
  True

def preserves_Residual_ResidualIdeal : Prop :=
  True

def preserves_OutGrad_OutGradIdeal : Prop :=
  True

def preserves_QkvGrad_QkvGradIdeal : Prop :=
  True

def preserves_FirstGrad_FirstGradIdeal : Prop :=
  True

def preserves_AttnGrad_AttnGradIdeal : Prop :=
  True

def preserves_QkvA_QkvAIdeal : Prop :=
  True

def preserves_QkvB_QkvBIdeal : Prop :=
  True

def preserves_AttnOut_AttnOutIdeal : Prop :=
  True

def preserves_LossHead_LossHeadIdeal : Prop :=
  True

def preserves_TopGrad_TopGradIdeal : Prop :=
  True

def preserves_AdaGrad_AdaGradIdeal : Prop :=
  True

def preserves_SumMod_SumModIdeal : Prop :=
  True

def preserves_SumGain_SumGainIdeal : Prop :=
  True

def preserves_StepAdaW_StepAdaWIdeal : Prop :=
  True

def preserves_StepAdaB_StepAdaBIdeal : Prop :=
  True

def preserves_StepGain_StepGainIdeal : Prop :=
  True

def preserves_StepQkvA_StepQkvAIdeal : Prop :=
  True

def preserves_StepHeadGain_StepHeadGainIdeal : Prop :=
  True

def preserves_StepSinks_StepSinksIdeal : Prop :=
  True

def preserves_StepOut_StepOutIdeal : Prop :=
  True

def preserves_StepQkvB_StepQkvBIdeal : Prop :=
  True

def preserves_StepUp_StepUpIdeal : Prop :=
  True

def preserves_StepDown_StepDownIdeal : Prop :=
  True

def algebraic_WeightGradIdeal_DownGradRefIdeal [hWeightGradIdeal : Cert.WeightGradIdeal.Facts] [hDownGradRefIdeal : Cert.DownGradRefIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_WeightGradIdeal m →
    (∀ c : Dev Cert.WeightGradIdeal.nD,
      m' ((c.tc : Thread Cert.DownGradRefIdeal.nD Cert.DownGradRefIdeal.τ).loc Cert.DownGradRefIdeal.main_arg0) = m ((c.tc : Thread Cert.WeightGradIdeal.nD Cert.WeightGradIdeal.τ).loc Cert.WeightGradIdeal.main_arg0)
      ∧ m' ((c.tc : Thread Cert.DownGradRefIdeal.nD Cert.DownGradRefIdeal.τ).loc Cert.DownGradRefIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v2)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v2) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v4) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def algebraic_WeightGradIdeal_GateGradRefIdeal [hWeightGradIdeal : Cert.WeightGradIdeal.Facts] [hGateGradRefIdeal : Cert.GateGradRefIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.GateGradRefIdeal.nD Cert.GateGradRefIdeal.τ Cert.GateGradRefIdeal.sig) → Buf (Elt Ideal) ℓ) (g' : Dev Cert.GateGradRefIdeal.nD → PrngReg), Pre_WeightGradIdeal m →
    (∀ c : Dev Cert.WeightGradIdeal.nD,
      m' ((c.tc : Thread Cert.GateGradRefIdeal.nD Cert.GateGradRefIdeal.τ).loc Cert.GateGradRefIdeal.main_arg0) = m ((c.tc : Thread Cert.WeightGradIdeal.nD Cert.WeightGradIdeal.τ).loc Cert.WeightGradIdeal.main_arg0)
      ∧ m' ((c.tc : Thread Cert.GateGradRefIdeal.nD Cert.GateGradRefIdeal.τ).loc Cert.GateGradRefIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v2)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v2) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.GateGradRefIdeal.defs (F := Ideal)) (onTc (τ := Cert.GateGradRefIdeal.τ) (Cert.GateGradRefIdeal.main (F := Ideal))) ⟨m', fun _ => 0, g'⟩ (fun r => ∀ c : Dev Cert.GateGradRefIdeal.nD,
          r.2.mem ((c.tc : Thread Cert.GateGradRefIdeal.nD Cert.GateGradRefIdeal.τ).loc Cert.GateGradRefIdeal.main_v5) = v0 c
          ∧ r.2.mem ((c.tc : Thread Cert.GateGradRefIdeal.nD Cert.GateGradRefIdeal.τ).loc Cert.GateGradRefIdeal.main_arg0) = m' ((c.tc : Thread Cert.GateGradRefIdeal.nD Cert.GateGradRefIdeal.τ).loc Cert.GateGradRefIdeal.main_arg0)
          ∧ r.2.mem ((c.tc : Thread Cert.GateGradRefIdeal.nD Cert.GateGradRefIdeal.τ).loc Cert.GateGradRefIdeal.main_arg1) = m' ((c.tc : Thread Cert.GateGradRefIdeal.nD Cert.GateGradRefIdeal.τ).loc Cert.GateGradRefIdeal.main_arg1))

def algebraic_SwigluGradIdeal_SwigluGradRefIdeal_pre_finite_swiglu [hSwigluGradIdeal : Cert.SwigluGradIdeal.Facts] [hSwigluGradRefIdeal : Cert.SwigluGradRefIdeal.Facts] [hPre_finite_swiglu : Cert.Pre_finite_swiglu.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg)
    (m' : (ℓ : Loc Cert.SwigluGradRefIdeal.nD Cert.SwigluGradRefIdeal.τ Cert.SwigluGradRefIdeal.sig) → Buf (Elt Ideal) ℓ) (g' : Dev Cert.SwigluGradRefIdeal.nD → PrngReg), Pre_SwigluGradIdeal_finite_swiglu m →
    (∀ c : Dev Cert.SwigluGradIdeal.nD,
      m' ((c.tc : Thread Cert.SwigluGradRefIdeal.nD Cert.SwigluGradRefIdeal.τ).loc Cert.SwigluGradRefIdeal.main_arg0) = m ((c.tc : Thread Cert.SwigluGradIdeal.nD Cert.SwigluGradIdeal.τ).loc Cert.SwigluGradIdeal.main_arg0)
      ∧ m' ((c.tc : Thread Cert.SwigluGradRefIdeal.nD Cert.SwigluGradRefIdeal.τ).loc Cert.SwigluGradRefIdeal.main_arg1) = m ((c.tc : Thread Cert.SwigluGradIdeal.nD Cert.SwigluGradIdeal.τ).loc Cert.SwigluGradIdeal.main_arg1)
      ∧ m' ((c.tc : Thread Cert.SwigluGradRefIdeal.nD Cert.SwigluGradRefIdeal.τ).loc Cert.SwigluGradRefIdeal.main_arg2) = m ((c.tc : Thread Cert.SwigluGradIdeal.nD Cert.SwigluGradIdeal.τ).loc Cert.SwigluGradIdeal.main_arg2)
      ∧ m' ((c.tc : Thread Cert.SwigluGradRefIdeal.nD Cert.SwigluGradRefIdeal.τ).loc Cert.SwigluGradRefIdeal.main_arg3) = m ((c.tc : Thread Cert.SwigluGradIdeal.nD Cert.SwigluGradIdeal.τ).loc Cert.SwigluGradIdeal.main_arg3)) →
    ∃ (v0 : (c : Dev Cert.SwigluGradIdeal.nD) → Buf (Elt Ideal) ((c.tc : Thread Cert.SwigluGradIdeal.nD Cert.SwigluGradIdeal.τ).loc Cert.SwigluGradIdeal.main_v4_0)) (v1 : (c : Dev Cert.SwigluGradIdeal.nD) → Buf (Elt Ideal) ((c.tc : Thread Cert.SwigluGradIdeal.nD Cert.SwigluGradIdeal.τ).loc Cert.SwigluGradIdeal.main_v4_1)),
      θ_run (Cert.SwigluGradIdeal.defs (F := Ideal)) (onTc (τ := Cert.SwigluGradIdeal.τ) (Cert.SwigluGradIdeal.main (F := Ideal))) ⟨m, fun _ => 0, g⟩ (fun r => ∀ c : Dev Cert.SwigluGradIdeal.nD,
          r.2.mem ((c.tc : Thread Cert.SwigluGradIdeal.nD Cert.SwigluGradIdeal.τ).loc Cert.SwigluGradIdeal.main_v4_0) = v0 c
          ∧ r.2.mem ((c.tc : Thread Cert.SwigluGradIdeal.nD Cert.SwigluGradIdeal.τ).loc Cert.SwigluGradIdeal.main_v4_1) = v1 c
          ∧ r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
          ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
          ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2)
          ∧ r.2.mem ((c.tc : Thread Cert.SwigluGradIdeal.nD Cert.SwigluGradIdeal.τ).loc Cert.SwigluGradIdeal.main_arg3) = m ((c.tc : Thread Cert.SwigluGradIdeal.nD Cert.SwigluGradIdeal.τ).loc Cert.SwigluGradIdeal.main_arg3))
      ∧ θ_run (Cert.SwigluGradRefIdeal.defs (F := Ideal)) (onTc (τ := Cert.SwigluGradRefIdeal.τ) (Cert.SwigluGradRefIdeal.main (F := Ideal))) ⟨m', fun _ => 0, g'⟩ (fun r => ∀ c : Dev Cert.SwigluGradRefIdeal.nD,
          r.2.mem ((c.tc : Thread Cert.SwigluGradRefIdeal.nD Cert.SwigluGradRefIdeal.τ).loc Cert.SwigluGradRefIdeal.main_v7) = v0 c
          ∧ r.2.mem ((c.tc : Thread Cert.SwigluGradRefIdeal.nD Cert.SwigluGradRefIdeal.τ).loc Cert.SwigluGradRefIdeal.main_v8) = v1 c
          ∧ r.2.mem ((c.tc : Thread Cert.SwigluGradRefIdeal.nD Cert.SwigluGradRefIdeal.τ).loc Cert.SwigluGradRefIdeal.main_arg0) = m' ((c.tc : Thread Cert.SwigluGradRefIdeal.nD Cert.SwigluGradRefIdeal.τ).loc Cert.SwigluGradRefIdeal.main_arg0)
          ∧ r.2.mem ((c.tc : Thread Cert.SwigluGradRefIdeal.nD Cert.SwigluGradRefIdeal.τ).loc Cert.SwigluGradRefIdeal.main_arg1) = m' ((c.tc : Thread Cert.SwigluGradRefIdeal.nD Cert.SwigluGradRefIdeal.τ).loc Cert.SwigluGradRefIdeal.main_arg1)
          ∧ r.2.mem ((c.tc : Thread Cert.SwigluGradRefIdeal.nD Cert.SwigluGradRefIdeal.τ).loc Cert.SwigluGradRefIdeal.main_arg2) = m' ((c.tc : Thread Cert.SwigluGradRefIdeal.nD Cert.SwigluGradRefIdeal.τ).loc Cert.SwigluGradRefIdeal.main_arg2)
          ∧ r.2.mem ((c.tc : Thread Cert.SwigluGradRefIdeal.nD Cert.SwigluGradRefIdeal.τ).loc Cert.SwigluGradRefIdeal.main_arg3) = m' ((c.tc : Thread Cert.SwigluGradRefIdeal.nD Cert.SwigluGradRefIdeal.τ).loc Cert.SwigluGradRefIdeal.main_arg3))

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)
      ∧ m' ((c.tc : Thread Cert.NormGradRefIdeal.nD Cert.NormGradRefIdeal.τ).loc Cert.NormGradRefIdeal.main_arg4) = m ((c.tc : Thread Cert.NormGradIdeal.nD Cert.NormGradIdeal.τ).loc Cert.NormGradIdeal.main_arg4)
      ∧ m' ((c.tc : Thread Cert.NormGradRefIdeal.nD Cert.NormGradRefIdeal.τ).loc Cert.NormGradRefIdeal.main_arg5) = m ((c.tc : Thread Cert.NormGradIdeal.nD Cert.NormGradIdeal.τ).loc Cert.NormGradIdeal.main_arg5)
      ∧ m' ((c.tc : Thread Cert.NormGradRefIdeal.nD Cert.NormGradRefIdeal.τ).loc Cert.NormGradRefIdeal.main_arg6) = m ((c.tc : Thread Cert.NormGradIdeal.nD Cert.NormGradIdeal.τ).loc Cert.NormGradIdeal.main_arg6)
      ∧ m' ((c.tc : Thread Cert.NormGradRefIdeal.nD Cert.NormGradRefIdeal.τ).loc Cert.NormGradRefIdeal.main_arg7) = m ((c.tc : Thread Cert.NormGradIdeal.nD Cert.NormGradIdeal.τ).loc Cert.NormGradIdeal.main_arg7)
      ∧ m' ((c.tc : Thread Cert.NormGradRefIdeal.nD Cert.NormGradRefIdeal.τ).loc Cert.NormGradRefIdeal.main_arg8) = m ((c.tc : Thread Cert.NormGradIdeal.nD Cert.NormGradIdeal.τ).loc Cert.NormGradIdeal.main_arg8)
      ∧ m' ((c.tc : Thread Cert.NormGradRefIdeal.nD Cert.NormGradRefIdeal.τ).loc Cert.NormGradRefIdeal.main_arg9) = m ((c.tc : Thread Cert.NormGradIdeal.nD Cert.NormGradIdeal.τ).loc Cert.NormGradIdeal.main_arg9)) →
    ∃ (v0 : (c : Dev Cert.NormGradIdeal.nD) → Buf (Elt Ideal) ((c.tc : Thread Cert.NormGradIdeal.nD Cert.NormGradIdeal.τ).loc Cert.NormGradIdeal.main_v16_0)) (v1 : (c : Dev Cert.NormGradIdeal.nD) → Buf (Elt Ideal) ((c.tc : Thread Cert.NormGradIdeal.nD Cert.NormGradIdeal.τ).loc Cert.NormGradIdeal.main_v16_1)) (v2 : (c : Dev Cert.NormGradIdeal.nD) → Buf (Elt Ideal) ((c.tc : Thread Cert.NormGradIdeal.nD Cert.NormGradIdeal.τ).loc Cert.NormGradIdeal.main_v16_2)) (v3 : (c : Dev Cert.NormGradIdeal.nD) → Buf (Elt Ideal) ((c.tc : Thread Cert.NormGradIdeal.nD Cert.NormGradIdeal.τ).loc Cert.NormGradIdeal.main_v16_3)) (v4 : (c : Dev Cert.NormGradIdeal.nD) → Buf (Elt Ideal) ((c.tc : Thread Cert.NormGradIdeal.nD Cert.NormGradIdeal.τ).loc Cert.NormGradIdeal.main_v16_4)) (v5 : (c : Dev Cert.NormGradIdeal.nD) → Buf (Elt Ideal) ((c.tc : Thread Cert.NormGradIdeal.nD Cert.NormGradIdeal.τ).loc Cert.NormGradIdeal.main_v16_5)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v16_0) = v0 c
          ∧ r.2.mem ((c.tc : Thread Cert.NormGradIdeal.nD Cert.NormGradIdeal.τ).loc Cert.NormGradIdeal.main_v16_1) = v1 c
          ∧ r.2.mem ((c.tc : Thread Cert.NormGradIdeal.nD Cert.NormGradIdeal.τ).loc Cert.NormGradIdeal.main_v16_2) = v2 c
          ∧ r.2.mem ((c.tc : Thread Cert.NormGradIdeal.nD Cert.NormGradIdeal.τ).loc Cert.NormGradIdeal.main_v16_3) = v3 c
          ∧ r.2.mem ((c.tc : Thread Cert.NormGradIdeal.nD Cert.NormGradIdeal.τ).loc Cert.NormGradIdeal.main_v16_4) = v4 c
          ∧ r.2.mem ((c.tc : Thread Cert.NormGradIdeal.nD Cert.NormGradIdeal.τ).loc Cert.NormGradIdeal.main_v16_5) = v5 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
          ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
          ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6)
          ∧ r.2.mem ((c.tc : Thread Cert.NormGradIdeal.nD Cert.NormGradIdeal.τ).loc Cert.NormGradIdeal.main_arg7) = m ((c.tc : Thread Cert.NormGradIdeal.nD Cert.NormGradIdeal.τ).loc Cert.NormGradIdeal.main_arg7)
          ∧ r.2.mem ((c.tc : Thread Cert.NormGradIdeal.nD Cert.NormGradIdeal.τ).loc Cert.NormGradIdeal.main_arg8) = m ((c.tc : Thread Cert.NormGradIdeal.nD Cert.NormGradIdeal.τ).loc Cert.NormGradIdeal.main_arg8)
          ∧ r.2.mem ((c.tc : Thread Cert.NormGradIdeal.nD Cert.NormGradIdeal.τ).loc Cert.NormGradIdeal.main_arg9) = m ((c.tc : Thread Cert.NormGradIdeal.nD Cert.NormGradIdeal.τ).loc Cert.NormGradIdeal.main_arg9))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v65) = v0 c
          ∧ r.2.mem ((c.tc : Thread Cert.NormGradRefIdeal.nD Cert.NormGradRefIdeal.τ).loc Cert.NormGradRefIdeal.main_v33) = v1 c
          ∧ r.2.mem ((c.tc : Thread Cert.NormGradRefIdeal.nD Cert.NormGradRefIdeal.τ).loc Cert.NormGradRefIdeal.main_v36) = v2 c
          ∧ r.2.mem ((c.tc : Thread Cert.NormGradRefIdeal.nD Cert.NormGradRefIdeal.τ).loc Cert.NormGradRefIdeal.main_v41) = v3 c
          ∧ r.2.mem ((c.tc : Thread Cert.NormGradRefIdeal.nD Cert.NormGradRefIdeal.τ).loc Cert.NormGradRefIdeal.main_v67) = v4 c
          ∧ r.2.mem ((c.tc : Thread Cert.NormGradRefIdeal.nD Cert.NormGradRefIdeal.τ).loc Cert.NormGradRefIdeal.main_v64) = v5 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3)
          ∧ r.2.mem ((c.tc : Thread Cert.NormGradRefIdeal.nD Cert.NormGradRefIdeal.τ).loc Cert.NormGradRefIdeal.main_arg4) = m' ((c.tc : Thread Cert.NormGradRefIdeal.nD Cert.NormGradRefIdeal.τ).loc Cert.NormGradRefIdeal.main_arg4)
          ∧ r.2.mem ((c.tc : Thread Cert.NormGradRefIdeal.nD Cert.NormGradRefIdeal.τ).loc Cert.NormGradRefIdeal.main_arg5) = m' ((c.tc : Thread Cert.NormGradRefIdeal.nD Cert.NormGradRefIdeal.τ).loc Cert.NormGradRefIdeal.main_arg5)
          ∧ r.2.mem ((c.tc : Thread Cert.NormGradRefIdeal.nD Cert.NormGradRefIdeal.τ).loc Cert.NormGradRefIdeal.main_arg6) = m' ((c.tc : Thread Cert.NormGradRefIdeal.nD Cert.NormGradRefIdeal.τ).loc Cert.NormGradRefIdeal.main_arg6)
          ∧ r.2.mem ((c.tc : Thread Cert.NormGradRefIdeal.nD Cert.NormGradRefIdeal.τ).loc Cert.NormGradRefIdeal.main_arg7) = m' ((c.tc : Thread Cert.NormGradRefIdeal.nD Cert.NormGradRefIdeal.τ).loc Cert.NormGradRefIdeal.main_arg7)
          ∧ r.2.mem ((c.tc : Thread Cert.NormGradRefIdeal.nD Cert.NormGradRefIdeal.τ).loc Cert.NormGradRefIdeal.main_arg8) = m' ((c.tc : Thread Cert.NormGradRefIdeal.nD Cert.NormGradRefIdeal.τ).loc Cert.NormGradRefIdeal.main_arg8)
          ∧ r.2.mem ((c.tc : Thread Cert.NormGradRefIdeal.nD Cert.NormGradRefIdeal.τ).loc Cert.NormGradRefIdeal.main_arg9) = m' ((c.tc : Thread Cert.NormGradRefIdeal.nD Cert.NormGradRefIdeal.τ).loc Cert.NormGradRefIdeal.main_arg9))

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v5_0)) (v1 : (c : Dev Cert.SwigluIdeal.nD) → Buf (Elt Ideal) ((c.tc : Thread Cert.SwigluIdeal.nD Cert.SwigluIdeal.τ).loc Cert.SwigluIdeal.main_v5_1)) (v2 : (c : Dev Cert.SwigluIdeal.nD) → Buf (Elt Ideal) ((c.tc : Thread Cert.SwigluIdeal.nD Cert.SwigluIdeal.τ).loc Cert.SwigluIdeal.main_v5_2)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v5_0) = v0 c
          ∧ r.2.mem ((c.tc : Thread Cert.SwigluIdeal.nD Cert.SwigluIdeal.τ).loc Cert.SwigluIdeal.main_v5_1) = v1 c
          ∧ r.2.mem ((c.tc : Thread Cert.SwigluIdeal.nD Cert.SwigluIdeal.τ).loc Cert.SwigluIdeal.main_v5_2) = v2 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v2) = v0 c
          ∧ r.2.mem ((c.tc : Thread Cert.SwigluRefIdeal.nD Cert.SwigluRefIdeal.τ).loc Cert.SwigluRefIdeal.main_v3) = v1 c
          ∧ r.2.mem ((c.tc : Thread Cert.SwigluRefIdeal.nD Cert.SwigluRefIdeal.τ).loc Cert.SwigluRefIdeal.main_v6) = v2 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def algebraic_ResidualIdeal_ResidualRefIdeal [hResidualIdeal : Cert.ResidualIdeal.Facts] [hResidualRefIdeal : Cert.ResidualRefIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualRefIdeal.nD Cert.ResidualRefIdeal.τ Cert.ResidualRefIdeal.sig) → Buf (Elt Ideal) ℓ) (g' : Dev Cert.ResidualRefIdeal.nD → PrngReg), Pre_ResidualIdeal m →
    (∀ c : Dev Cert.ResidualIdeal.nD,
      m' ((c.tc : Thread Cert.ResidualRefIdeal.nD Cert.ResidualRefIdeal.τ).loc Cert.ResidualRefIdeal.main_arg0) = m ((c.tc : Thread Cert.ResidualIdeal.nD Cert.ResidualIdeal.τ).loc Cert.ResidualIdeal.main_arg0)
      ∧ m' ((c.tc : Thread Cert.ResidualRefIdeal.nD Cert.ResidualRefIdeal.τ).loc Cert.ResidualRefIdeal.main_arg1) = m ((c.tc : Thread Cert.ResidualIdeal.nD Cert.ResidualIdeal.τ).loc Cert.ResidualIdeal.main_arg1)
      ∧ m' ((c.tc : Thread Cert.ResidualRefIdeal.nD Cert.ResidualRefIdeal.τ).loc Cert.ResidualRefIdeal.main_arg2) = m ((c.tc : Thread Cert.ResidualIdeal.nD Cert.ResidualIdeal.τ).loc Cert.ResidualIdeal.main_arg2)
      ∧ m' ((c.tc : Thread Cert.ResidualRefIdeal.nD Cert.ResidualRefIdeal.τ).loc Cert.ResidualRefIdeal.main_arg3) = m ((c.tc : Thread Cert.ResidualIdeal.nD Cert.ResidualIdeal.τ).loc Cert.ResidualIdeal.main_arg3)
      ∧ m' ((c.tc : Thread Cert.ResidualRefIdeal.nD Cert.ResidualRefIdeal.τ).loc Cert.ResidualRefIdeal.main_arg4) = m ((c.tc : Thread Cert.ResidualIdeal.nD Cert.ResidualIdeal.τ).loc Cert.ResidualIdeal.main_arg4)
      ∧ m' ((c.tc : Thread Cert.ResidualRefIdeal.nD Cert.ResidualRefIdeal.τ).loc Cert.ResidualRefIdeal.main_arg5) = m ((c.tc : Thread Cert.ResidualIdeal.nD Cert.ResidualIdeal.τ).loc Cert.ResidualIdeal.main_arg5)
      ∧ m' ((c.tc : Thread Cert.ResidualRefIdeal.nD Cert.ResidualRefIdeal.τ).loc Cert.ResidualRefIdeal.main_arg6) = m ((c.tc : Thread Cert.ResidualIdeal.nD Cert.ResidualIdeal.τ).loc Cert.ResidualIdeal.main_arg6)) →
    ∃ (v0 : (c : Dev Cert.ResidualIdeal.nD) → Buf (Elt Ideal) ((c.tc : Thread Cert.ResidualIdeal.nD Cert.ResidualIdeal.τ).loc Cert.ResidualIdeal.main_v5_0)) (v1 : (c : Dev Cert.ResidualIdeal.nD) → Buf (Elt Ideal) ((c.tc : Thread Cert.ResidualIdeal.nD Cert.ResidualIdeal.τ).loc Cert.ResidualIdeal.main_v5_1)) (v2 : (c : Dev Cert.ResidualIdeal.nD) → Buf (Elt Ideal) ((c.tc : Thread Cert.ResidualIdeal.nD Cert.ResidualIdeal.τ).loc Cert.ResidualIdeal.main_v5_2)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v5_0) = v0 c
          ∧ r.2.mem ((c.tc : Thread Cert.ResidualIdeal.nD Cert.ResidualIdeal.τ).loc Cert.ResidualIdeal.main_v5_1) = v1 c
          ∧ r.2.mem ((c.tc : Thread Cert.ResidualIdeal.nD Cert.ResidualIdeal.τ).loc Cert.ResidualIdeal.main_v5_2) = v2 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3)
          ∧ r.2.mem ((c.tc : Thread Cert.ResidualIdeal.nD Cert.ResidualIdeal.τ).loc Cert.ResidualIdeal.main_arg4) = m ((c.tc : Thread Cert.ResidualIdeal.nD Cert.ResidualIdeal.τ).loc Cert.ResidualIdeal.main_arg4)
          ∧ r.2.mem ((c.tc : Thread Cert.ResidualIdeal.nD Cert.ResidualIdeal.τ).loc Cert.ResidualIdeal.main_arg5) = m ((c.tc : Thread Cert.ResidualIdeal.nD Cert.ResidualIdeal.τ).loc Cert.ResidualIdeal.main_arg5)
          ∧ r.2.mem ((c.tc : Thread Cert.ResidualIdeal.nD Cert.ResidualIdeal.τ).loc Cert.ResidualIdeal.main_arg6) = m ((c.tc : Thread Cert.ResidualIdeal.nD Cert.ResidualIdeal.τ).loc Cert.ResidualIdeal.main_arg6))
      ∧ θ_run (Cert.ResidualRefIdeal.defs (F := Ideal)) (onTc (τ := Cert.ResidualRefIdeal.τ) (Cert.ResidualRefIdeal.main (F := Ideal))) ⟨m', fun _ => 0, g'⟩ (fun r => ∀ c : Dev Cert.ResidualRefIdeal.nD,
          r.2.mem ((c.tc : Thread Cert.ResidualRefIdeal.nD Cert.ResidualRefIdeal.τ).loc Cert.ResidualRefIdeal.main_v24) = v0 c
          ∧ r.2.mem ((c.tc : Thread Cert.ResidualRefIdeal.nD Cert.ResidualRefIdeal.τ).loc Cert.ResidualRefIdeal.main_v25) = v1 c
          ∧ r.2.mem ((c.tc : Thread Cert.ResidualRefIdeal.nD Cert.ResidualRefIdeal.τ).loc Cert.ResidualRefIdeal.main_v27) = v2 c
          ∧ r.2.mem ((c.tc : Thread Cert.ResidualRefIdeal.nD Cert.ResidualRefIdeal.τ).loc Cert.ResidualRefIdeal.main_arg0) = m' ((c.tc : Thread Cert.ResidualRefIdeal.nD Cert.ResidualRefIdeal.τ).loc Cert.ResidualRefIdeal.main_arg0)
          ∧ r.2.mem ((c.tc : Thread Cert.ResidualRefIdeal.nD Cert.ResidualRefIdeal.τ).loc Cert.ResidualRefIdeal.main_arg1) = m' ((c.tc : Thread Cert.ResidualRefIdeal.nD Cert.ResidualRefIdeal.τ).loc Cert.ResidualRefIdeal.main_arg1)
          ∧ r.2.mem ((c.tc : Thread Cert.ResidualRefIdeal.nD Cert.ResidualRefIdeal.τ).loc Cert.ResidualRefIdeal.main_arg2) = m' ((c.tc : Thread Cert.ResidualRefIdeal.nD Cert.ResidualRefIdeal.τ).loc Cert.ResidualRefIdeal.main_arg2)
          ∧ r.2.mem ((c.tc : Thread Cert.ResidualRefIdeal.nD Cert.ResidualRefIdeal.τ).loc Cert.ResidualRefIdeal.main_arg3) = m' ((c.tc : Thread Cert.ResidualRefIdeal.nD Cert.ResidualRefIdeal.τ).loc Cert.ResidualRefIdeal.main_arg3)
          ∧ r.2.mem ((c.tc : Thread Cert.ResidualRefIdeal.nD Cert.ResidualRefIdeal.τ).loc Cert.ResidualRefIdeal.main_arg4) = m' ((c.tc : Thread Cert.ResidualRefIdeal.nD Cert.ResidualRefIdeal.τ).loc Cert.ResidualRefIdeal.main_arg4)
          ∧ r.2.mem ((c.tc : Thread Cert.ResidualRefIdeal.nD Cert.ResidualRefIdeal.τ).loc Cert.ResidualRefIdeal.main_arg5) = m' ((c.tc : Thread Cert.ResidualRefIdeal.nD Cert.ResidualRefIdeal.τ).loc Cert.ResidualRefIdeal.main_arg5)
          ∧ r.2.mem ((c.tc : Thread Cert.ResidualRefIdeal.nD Cert.ResidualRefIdeal.τ).loc Cert.ResidualRefIdeal.main_arg6) = m' ((c.tc : Thread Cert.ResidualRefIdeal.nD Cert.ResidualRefIdeal.τ).loc Cert.ResidualRefIdeal.main_arg6))

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v2)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v2) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v4) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def algebraic_OutGradIdeal_ThirdGradRefIdeal [hOutGradIdeal : Cert.OutGradIdeal.Facts] [hThirdGradRefIdeal : Cert.ThirdGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.ThirdGradRefIdeal.nD Cert.ThirdGradRefIdeal.τ Cert.ThirdGradRefIdeal.sig) → Buf (Elt Ideal) ℓ) (g' : Dev Cert.ThirdGradRefIdeal.nD → PrngReg), Pre_OutGradIdeal m →
    (∀ c : Dev Cert.OutGradIdeal.nD,
      m' ((c.tc : Thread Cert.ThirdGradRefIdeal.nD Cert.ThirdGradRefIdeal.τ).loc Cert.ThirdGradRefIdeal.main_arg0) = m ((c.tc : Thread Cert.OutGradIdeal.nD Cert.OutGradIdeal.τ).loc Cert.OutGradIdeal.main_arg0)
      ∧ m' ((c.tc : Thread Cert.ThirdGradRefIdeal.nD Cert.ThirdGradRefIdeal.τ).loc Cert.ThirdGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v2)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v2) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.ThirdGradRefIdeal.defs (F := Ideal)) (onTc (τ := Cert.ThirdGradRefIdeal.τ) (Cert.ThirdGradRefIdeal.main (F := Ideal))) ⟨m', fun _ => 0, g'⟩ (fun r => ∀ c : Dev Cert.ThirdGradRefIdeal.nD,
          r.2.mem ((c.tc : Thread Cert.ThirdGradRefIdeal.nD Cert.ThirdGradRefIdeal.τ).loc Cert.ThirdGradRefIdeal.main_v5) = v0 c
          ∧ r.2.mem ((c.tc : Thread Cert.ThirdGradRefIdeal.nD Cert.ThirdGradRefIdeal.τ).loc Cert.ThirdGradRefIdeal.main_arg0) = m' ((c.tc : Thread Cert.ThirdGradRefIdeal.nD Cert.ThirdGradRefIdeal.τ).loc Cert.ThirdGradRefIdeal.main_arg0)
          ∧ r.2.mem ((c.tc : Thread Cert.ThirdGradRefIdeal.nD Cert.ThirdGradRefIdeal.τ).loc Cert.ThirdGradRefIdeal.main_arg1) = m' ((c.tc : Thread Cert.ThirdGradRefIdeal.nD Cert.ThirdGradRefIdeal.τ).loc Cert.ThirdGradRefIdeal.main_arg1))

def algebraic_QkvGradIdeal_QkvGradRefIdeal [hQkvGradIdeal : Cert.QkvGradIdeal.Facts] [hQkvGradRefIdeal : Cert.QkvGradRefIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg)
    (m' : (ℓ : Loc Cert.QkvGradRefIdeal.nD Cert.QkvGradRefIdeal.τ Cert.QkvGradRefIdeal.sig) → Buf (Elt Ideal) ℓ) (g' : Dev Cert.QkvGradRefIdeal.nD → PrngReg), Pre_QkvGradIdeal m →
    (∀ c : Dev Cert.QkvGradIdeal.nD,
      m' ((c.tc : Thread Cert.QkvGradRefIdeal.nD Cert.QkvGradRefIdeal.τ).loc Cert.QkvGradRefIdeal.main_arg0) = m ((c.tc : Thread Cert.QkvGradIdeal.nD Cert.QkvGradIdeal.τ).loc Cert.QkvGradIdeal.main_arg0)
      ∧ m' ((c.tc : Thread Cert.QkvGradRefIdeal.nD Cert.QkvGradRefIdeal.τ).loc Cert.QkvGradRefIdeal.main_arg1) = m ((c.tc : Thread Cert.QkvGradIdeal.nD Cert.QkvGradIdeal.τ).loc Cert.QkvGradIdeal.main_arg1)) →
    ∃ (v0 : (c : Dev Cert.QkvGradIdeal.nD) → Buf (Elt Ideal) ((c.tc : Thread Cert.QkvGradIdeal.nD Cert.QkvGradIdeal.τ).loc Cert.QkvGradIdeal.main_v2)),
      θ_run (Cert.QkvGradIdeal.defs (F := Ideal)) (onTc (τ := Cert.QkvGradIdeal.τ) (Cert.QkvGradIdeal.main (F := Ideal))) ⟨m, fun _ => 0, g⟩ (fun r => ∀ c : Dev Cert.QkvGradIdeal.nD,
          r.2.mem ((c.tc : Thread Cert.QkvGradIdeal.nD Cert.QkvGradIdeal.τ).loc Cert.QkvGradIdeal.main_v2) = v0 c
          ∧ r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
          ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1))
      ∧ θ_run (Cert.QkvGradRefIdeal.defs (F := Ideal)) (onTc (τ := Cert.QkvGradRefIdeal.τ) (Cert.QkvGradRefIdeal.main (F := Ideal))) ⟨m', fun _ => 0, g'⟩ (fun r => ∀ c : Dev Cert.QkvGradRefIdeal.nD,
          r.2.mem ((c.tc : Thread Cert.QkvGradRefIdeal.nD Cert.QkvGradRefIdeal.τ).loc Cert.QkvGradRefIdeal.main_v5) = v0 c
          ∧ r.2.mem ((c.tc : Thread Cert.QkvGradRefIdeal.nD Cert.QkvGradRefIdeal.τ).loc Cert.QkvGradRefIdeal.main_arg0) = m' ((c.tc : Thread Cert.QkvGradRefIdeal.nD Cert.QkvGradRefIdeal.τ).loc Cert.QkvGradRefIdeal.main_arg0)
          ∧ r.2.mem ((c.tc : Thread Cert.QkvGradRefIdeal.nD Cert.QkvGradRefIdeal.τ).loc Cert.QkvGradRefIdeal.main_arg1) = m' ((c.tc : Thread Cert.QkvGradRefIdeal.nD Cert.QkvGradRefIdeal.τ).loc Cert.QkvGradRefIdeal.main_arg1))

def algebraic_FirstGradIdeal_FirstGradRefIdeal [hFirstGradIdeal : Cert.FirstGradIdeal.Facts] [hFirstGradRefIdeal : Cert.FirstGradRefIdeal.Facts] : Prop :=
  ∀ (m : (ℓ : Loc Cert.FirstGradIdeal.nD Cert.FirstGradIdeal.τ Cert.FirstGradIdeal.sig) → Buf (Elt Ideal) ℓ) (g : Dev Cert.FirstGradIdeal.nD → PrngReg)
    (m' : (ℓ : Loc Cert.FirstGradRefIdeal.nD Cert.FirstGradRefIdeal.τ Cert.FirstGradRefIdeal.sig) → Buf (Elt Ideal) ℓ) (g' : Dev Cert.FirstGradRefIdeal.nD → PrngReg), Pre_FirstGradIdeal m →
    (∀ c : Dev Cert.FirstGradIdeal.nD,
      m' ((c.tc : Thread Cert.FirstGradRefIdeal.nD Cert.FirstGradRefIdeal.τ).loc Cert.FirstGradRefIdeal.main_arg0) = m ((c.tc : Thread Cert.FirstGradIdeal.nD Cert.FirstGradIdeal.τ).loc Cert.FirstGradIdeal.main_arg0)
      ∧ m' ((c.tc : Thread Cert.FirstGradRefIdeal.nD Cert.FirstGradRefIdeal.τ).loc Cert.FirstGradRefIdeal.main_arg1) = m ((c.tc : Thread Cert.FirstGradIdeal.nD Cert.FirstGradIdeal.τ).loc Cert.FirstGradIdeal.main_arg1)
      ∧ m' ((c.tc : Thread Cert.FirstGradRefIdeal.nD Cert.FirstGradRefIdeal.τ).loc Cert.FirstGradRefIdeal.main_arg2) = m ((c.tc : Thread Cert.FirstGradIdeal.nD Cert.FirstGradIdeal.τ).loc Cert.FirstGradIdeal.main_arg2)
      ∧ m' ((c.tc : Thread Cert.FirstGradRefIdeal.nD Cert.FirstGradRefIdeal.τ).loc Cert.FirstGradRefIdeal.main_arg3) = m ((c.tc : Thread Cert.FirstGradIdeal.nD Cert.FirstGradIdeal.τ).loc Cert.FirstGradIdeal.main_arg3)
      ∧ m' ((c.tc : Thread Cert.FirstGradRefIdeal.nD Cert.FirstGradRefIdeal.τ).loc Cert.FirstGradRefIdeal.main_arg4) = m ((c.tc : Thread Cert.FirstGradIdeal.nD Cert.FirstGradIdeal.τ).loc Cert.FirstGradIdeal.main_arg4)
      ∧ m' ((c.tc : Thread Cert.FirstGradRefIdeal.nD Cert.FirstGradRefIdeal.τ).loc Cert.FirstGradRefIdeal.main_arg5) = m ((c.tc : Thread Cert.FirstGradIdeal.nD Cert.FirstGradIdeal.τ).loc Cert.FirstGradIdeal.main_arg5)) →
    ∃ (v0 : (c : Dev Cert.FirstGradIdeal.nD) → Buf (Elt Ideal) ((c.tc : Thread Cert.FirstGradIdeal.nD Cert.FirstGradIdeal.τ).loc Cert.FirstGradIdeal.main_v7_0)) (v1 : (c : Dev Cert.FirstGradIdeal.nD) → Buf (Elt Ideal) ((c.tc : Thread Cert.FirstGradIdeal.nD Cert.FirstGradIdeal.τ).loc Cert.FirstGradIdeal.main_v7_1)) (v2 : (c : Dev Cert.FirstGradIdeal.nD) → Buf (Elt Ideal) ((c.tc : Thread Cert.FirstGradIdeal.nD Cert.FirstGradIdeal.τ).loc Cert.FirstGradIdeal.main_v7_2)) (v3 : (c : Dev Cert.FirstGradIdeal.nD) → Buf (Elt Ideal) ((c.tc : Thread Cert.FirstGradIdeal.nD Cert.FirstGradIdeal.τ).loc Cert.FirstGradIdeal.main_v7_3)),
      θ_run (Cert.FirstGradIdeal.defs (F := Ideal)) (onTc (τ := Cert.FirstGradIdeal.τ) (Cert.FirstGradIdeal.main (F := Ideal))) ⟨m, fun _ => 0, g⟩ (fun r => ∀ c : Dev Cert.FirstGradIdeal.nD,
          r.2.mem ((c.tc : Thread Cert.FirstGradIdeal.nD Cert.FirstGradIdeal.τ).loc Cert.FirstGradIdeal.main_v7_0) = v0 c
          ∧ r.2.mem ((c.tc : Thread Cert.FirstGradIdeal.nD Cert.FirstGradIdeal.τ).loc Cert.FirstGradIdeal.main_v7_1) = v1 c
          ∧ r.2.mem ((c.tc : Thread Cert.FirstGradIdeal.nD Cert.FirstGradIdeal.τ).loc Cert.FirstGradIdeal.main_v7_2) = v2 c
          ∧ r.2.mem ((c.tc : Thread Cert.FirstGradIdeal.nD Cert.FirstGradIdeal.τ).loc Cert.FirstGradIdeal.main_v7_3) = v3 c
          ∧ r.2.mem ((c.tc : Thread Cert.FirstGradIdeal.nD Cert.FirstGradIdeal.τ).loc Cert.FirstGradIdeal.main_arg0) = m ((c.tc : Thread Cert.FirstGradIdeal.nD Cert.FirstGradIdeal.τ).loc Cert.FirstGradIdeal.main_arg0)
          ∧ r.2.mem ((c.tc : Thread Cert.FirstGradIdeal.nD Cert.FirstGradIdeal.τ).loc Cert.FirstGradIdeal.main_arg1) = m ((c.tc : Thread Cert.FirstGradIdeal.nD Cert.FirstGradIdeal.τ).loc Cert.FirstGradIdeal.main_arg1)
          ∧ r.2.mem ((c.tc : Thread Cert.FirstGradIdeal.nD Cert.FirstGradIdeal.τ).loc Cert.FirstGradIdeal.main_arg2) = m ((c.tc : Thread Cert.FirstGradIdeal.nD Cert.FirstGradIdeal.τ).loc Cert.FirstGradIdeal.main_arg2)
          ∧ r.2.mem ((c.tc : Thread Cert.FirstGradIdeal.nD Cert.FirstGradIdeal.τ).loc Cert.FirstGradIdeal.main_arg3) = m ((c.tc : Thread Cert.FirstGradIdeal.nD Cert.FirstGradIdeal.τ).loc Cert.FirstGradIdeal.main_arg3)
          ∧ r.2.mem ((c.tc : Thread Cert.FirstGradIdeal.nD Cert.FirstGradIdeal.τ).loc Cert.FirstGradIdeal.main_arg4) = m ((c.tc : Thread Cert.FirstGradIdeal.nD Cert.FirstGradIdeal.τ).loc Cert.FirstGradIdeal.main_arg4)
          ∧ r.2.mem ((c.tc : Thread Cert.FirstGradIdeal.nD Cert.FirstGradIdeal.τ).loc Cert.FirstGradIdeal.main_arg5) = m ((c.tc : Thread Cert.FirstGradIdeal.nD Cert.FirstGradIdeal.τ).loc Cert.FirstGradIdeal.main_arg5))
      ∧ θ_run (Cert.FirstGradRefIdeal.defs (F := Ideal)) (onTc (τ := Cert.FirstGradRefIdeal.τ) (Cert.FirstGradRefIdeal.main (F := Ideal))) ⟨m', fun _ => 0, g'⟩ (fun r => ∀ c : Dev Cert.FirstGradRefIdeal.nD,
          r.2.mem ((c.tc : Thread Cert.FirstGradRefIdeal.nD Cert.FirstGradRefIdeal.τ).loc Cert.FirstGradRefIdeal.main_v53) = v0 c
          ∧ r.2.mem ((c.tc : Thread Cert.FirstGradRefIdeal.nD Cert.FirstGradRefIdeal.τ).loc Cert.FirstGradRefIdeal.main_v27) = v1 c
          ∧ r.2.mem ((c.tc : Thread Cert.FirstGradRefIdeal.nD Cert.FirstGradRefIdeal.τ).loc Cert.FirstGradRefIdeal.main_v30) = v2 c
          ∧ r.2.mem ((c.tc : Thread Cert.FirstGradRefIdeal.nD Cert.FirstGradRefIdeal.τ).loc Cert.FirstGradRefIdeal.main_v35) = v3 c
          ∧ r.2.mem ((c.tc : Thread Cert.FirstGradRefIdeal.nD Cert.FirstGradRefIdeal.τ).loc Cert.FirstGradRefIdeal.main_arg0) = m' ((c.tc : Thread Cert.FirstGradRefIdeal.nD Cert.FirstGradRefIdeal.τ).loc Cert.FirstGradRefIdeal.main_arg0)
          ∧ r.2.mem ((c.tc : Thread Cert.FirstGradRefIdeal.nD Cert.FirstGradRefIdeal.τ).loc Cert.FirstGradRefIdeal.main_arg1) = m' ((c.tc : Thread Cert.FirstGradRefIdeal.nD Cert.FirstGradRefIdeal.τ).loc Cert.FirstGradRefIdeal.main_arg1)
          ∧ r.2.mem ((c.tc : Thread Cert.FirstGradRefIdeal.nD Cert.FirstGradRefIdeal.τ).loc Cert.FirstGradRefIdeal.main_arg2) = m' ((c.tc : Thread Cert.FirstGradRefIdeal.nD Cert.FirstGradRefIdeal.τ).loc Cert.FirstGradRefIdeal.main_arg2)
          ∧ r.2.mem ((c.tc : Thread Cert.FirstGradRefIdeal.nD Cert.FirstGradRefIdeal.τ).loc Cert.FirstGradRefIdeal.main_arg3) = m' ((c.tc : Thread Cert.FirstGradRefIdeal.nD Cert.FirstGradRefIdeal.τ).loc Cert.FirstGradRefIdeal.main_arg3)
          ∧ r.2.mem ((c.tc : Thread Cert.FirstGradRefIdeal.nD Cert.FirstGradRefIdeal.τ).loc Cert.FirstGradRefIdeal.main_arg4) = m' ((c.tc : Thread Cert.FirstGradRefIdeal.nD Cert.FirstGradRefIdeal.τ).loc Cert.FirstGradRefIdeal.main_arg4)
          ∧ r.2.mem ((c.tc : Thread Cert.FirstGradRefIdeal.nD Cert.FirstGradRefIdeal.τ).loc Cert.FirstGradRefIdeal.main_arg5) = m' ((c.tc : Thread Cert.FirstGradRefIdeal.nD Cert.FirstGradRefIdeal.τ).loc Cert.FirstGradRefIdeal.main_arg5))

def algebraic_AttnGradIdeal_AttnGradRefIdeal [hAttnGradIdeal : Cert.AttnGradIdeal.Facts] [hAttnGradRefIdeal : Cert.AttnGradRefIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg)
    (m' : (ℓ : Loc Cert.AttnGradRefIdeal.nD Cert.AttnGradRefIdeal.τ Cert.AttnGradRefIdeal.sig) → Buf (Elt Ideal) ℓ) (g' : Dev Cert.AttnGradRefIdeal.nD → PrngReg), Pre_AttnGradIdeal m →
    (∀ c : Dev Cert.AttnGradIdeal.nD,
      m' ((c.tc : Thread Cert.AttnGradRefIdeal.nD Cert.AttnGradRefIdeal.τ).loc Cert.AttnGradRefIdeal.main_arg0) = m ((c.tc : Thread Cert.AttnGradIdeal.nD Cert.AttnGradIdeal.τ).loc Cert.AttnGradIdeal.main_arg0)
      ∧ m' ((c.tc : Thread Cert.AttnGradRefIdeal.nD Cert.AttnGradRefIdeal.τ).loc Cert.AttnGradRefIdeal.main_arg1) = m ((c.tc : Thread Cert.AttnGradIdeal.nD Cert.AttnGradIdeal.τ).loc Cert.AttnGradIdeal.main_arg1)) →
    ∃ (v0 : (c : Dev Cert.AttnGradIdeal.nD) → Buf (Elt Ideal) ((c.tc : Thread Cert.AttnGradIdeal.nD Cert.AttnGradIdeal.τ).loc Cert.AttnGradIdeal.main_v2)),
      θ_run (Cert.AttnGradIdeal.defs (F := Ideal)) (onTc (τ := Cert.AttnGradIdeal.τ) (Cert.AttnGradIdeal.main (F := Ideal))) ⟨m, fun _ => 0, g⟩ (fun r => ∀ c : Dev Cert.AttnGradIdeal.nD,
          r.2.mem ((c.tc : Thread Cert.AttnGradIdeal.nD Cert.AttnGradIdeal.τ).loc Cert.AttnGradIdeal.main_v2) = v0 c
          ∧ r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1))
      ∧ θ_run (Cert.AttnGradRefIdeal.defs (F := Ideal)) (onTc (τ := Cert.AttnGradRefIdeal.τ) (Cert.AttnGradRefIdeal.main (F := Ideal))) ⟨m', fun _ => 0, g'⟩ (fun r => ∀ c : Dev Cert.AttnGradRefIdeal.nD,
          r.2.mem ((c.tc : Thread Cert.AttnGradRefIdeal.nD Cert.AttnGradRefIdeal.τ).loc Cert.AttnGradRefIdeal.main_v3) = v0 c
          ∧ r.2.mem ((c.tc : Thread Cert.AttnGradRefIdeal.nD Cert.AttnGradRefIdeal.τ).loc Cert.AttnGradRefIdeal.main_arg0) = m' ((c.tc : Thread Cert.AttnGradRefIdeal.nD Cert.AttnGradRefIdeal.τ).loc Cert.AttnGradRefIdeal.main_arg0)
          ∧ r.2.mem ((c.tc : Thread Cert.AttnGradRefIdeal.nD Cert.AttnGradRefIdeal.τ).loc Cert.AttnGradRefIdeal.main_arg1) = m' ((c.tc : Thread Cert.AttnGradRefIdeal.nD Cert.AttnGradRefIdeal.τ).loc Cert.AttnGradRefIdeal.main_arg1))

def algebraic_QkvAIdeal_QkvARefIdeal [hQkvAIdeal : Cert.QkvAIdeal.Facts] [hQkvARefIdeal : Cert.QkvARefIdeal.Facts] : Prop :=
  ∀ (m : (ℓ : Loc Cert.QkvAIdeal.nD Cert.QkvAIdeal.τ Cert.QkvAIdeal.sig) → Buf (Elt Ideal) ℓ) (g : Dev Cert.QkvAIdeal.nD → PrngReg)
    (m' : (ℓ : Loc Cert.QkvARefIdeal.nD Cert.QkvARefIdeal.τ Cert.QkvARefIdeal.sig) → Buf (Elt Ideal) ℓ) (g' : Dev Cert.QkvARefIdeal.nD → PrngReg), Pre_QkvAIdeal m →
    (∀ c : Dev Cert.QkvAIdeal.nD,
      m' ((c.tc : Thread Cert.QkvARefIdeal.nD Cert.QkvARefIdeal.τ).loc Cert.QkvARefIdeal.main_arg0) = m ((c.tc : Thread Cert.QkvAIdeal.nD Cert.QkvAIdeal.τ).loc Cert.QkvAIdeal.main_arg0)
      ∧ m' ((c.tc : Thread Cert.QkvARefIdeal.nD Cert.QkvARefIdeal.τ).loc Cert.QkvARefIdeal.main_arg1) = m ((c.tc : Thread Cert.QkvAIdeal.nD Cert.QkvAIdeal.τ).loc Cert.QkvAIdeal.main_arg1)) →
    ∃ (v0 : (c : Dev Cert.QkvAIdeal.nD) → Buf (Elt Ideal) ((c.tc : Thread Cert.QkvAIdeal.nD Cert.QkvAIdeal.τ).loc Cert.QkvAIdeal.main_v3)),
      θ_run (Cert.QkvAIdeal.defs (F := Ideal)) (onTc (τ := Cert.QkvAIdeal.τ) (Cert.QkvAIdeal.main (F := Ideal))) ⟨m, fun _ => 0, g⟩ (fun r => ∀ c : Dev Cert.QkvAIdeal.nD,
          r.2.mem ((c.tc : Thread Cert.QkvAIdeal.nD Cert.QkvAIdeal.τ).loc Cert.QkvAIdeal.main_v3) = v0 c
          ∧ r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
          ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1))
      ∧ θ_run (Cert.QkvARefIdeal.defs (F := Ideal)) (onTc (τ := Cert.QkvARefIdeal.τ) (Cert.QkvARefIdeal.main (F := Ideal))) ⟨m', fun _ => 0, g'⟩ (fun r => ∀ c : Dev Cert.QkvARefIdeal.nD,
          r.2.mem ((c.tc : Thread Cert.QkvARefIdeal.nD Cert.QkvARefIdeal.τ).loc Cert.QkvARefIdeal.main_v0) = v0 c
          ∧ r.2.mem ((c.tc : Thread Cert.QkvARefIdeal.nD Cert.QkvARefIdeal.τ).loc Cert.QkvARefIdeal.main_arg0) = m' ((c.tc : Thread Cert.QkvARefIdeal.nD Cert.QkvARefIdeal.τ).loc Cert.QkvARefIdeal.main_arg0)
          ∧ r.2.mem ((c.tc : Thread Cert.QkvARefIdeal.nD Cert.QkvARefIdeal.τ).loc Cert.QkvARefIdeal.main_arg1) = m' ((c.tc : Thread Cert.QkvARefIdeal.nD Cert.QkvARefIdeal.τ).loc Cert.QkvARefIdeal.main_arg1))

def algebraic_QkvBIdeal_QkvBRefIdeal [hQkvBIdeal : Cert.QkvBIdeal.Facts] [hQkvBRefIdeal : Cert.QkvBRefIdeal.Facts] : Prop :=
  ∀ (m : (ℓ : Loc Cert.QkvBIdeal.nD Cert.QkvBIdeal.τ Cert.QkvBIdeal.sig) → Buf (Elt Ideal) ℓ) (g : Dev Cert.QkvBIdeal.nD → PrngReg)
    (m' : (ℓ : Loc Cert.QkvBRefIdeal.nD Cert.QkvBRefIdeal.τ Cert.QkvBRefIdeal.sig) → Buf (Elt Ideal) ℓ) (g' : Dev Cert.QkvBRefIdeal.nD → PrngReg), Pre_QkvBIdeal m →
    (∀ c : Dev Cert.QkvBIdeal.nD,
      m' ((c.tc : Thread Cert.QkvBRefIdeal.nD Cert.QkvBRefIdeal.τ).loc Cert.QkvBRefIdeal.main_arg0) = m ((c.tc : Thread Cert.QkvBIdeal.nD Cert.QkvBIdeal.τ).loc Cert.QkvBIdeal.main_arg0)
      ∧ m' ((c.tc : Thread Cert.QkvBRefIdeal.nD Cert.QkvBRefIdeal.τ).loc Cert.QkvBRefIdeal.main_arg1) = m ((c.tc : Thread Cert.QkvBIdeal.nD Cert.QkvBIdeal.τ).loc Cert.QkvBIdeal.main_arg1)) →
    ∃ (v0 : (c : Dev Cert.QkvBIdeal.nD) → Buf (Elt Ideal) ((c.tc : Thread Cert.QkvBIdeal.nD Cert.QkvBIdeal.τ).loc Cert.QkvBIdeal.main_v3)),
      θ_run (Cert.QkvBIdeal.defs (F := Ideal)) (onTc (τ := Cert.QkvBIdeal.τ) (Cert.QkvBIdeal.main (F := Ideal))) ⟨m, fun _ => 0, g⟩ (fun r => ∀ c : Dev Cert.QkvBIdeal.nD,
          r.2.mem ((c.tc : Thread Cert.QkvBIdeal.nD Cert.QkvBIdeal.τ).loc Cert.QkvBIdeal.main_v3) = v0 c
          ∧ r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
          ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ θ_run (Cert.QkvBRefIdeal.defs (F := Ideal)) (onTc (τ := Cert.QkvBRefIdeal.τ) (Cert.QkvBRefIdeal.main (F := Ideal))) ⟨m', fun _ => 0, g'⟩ (fun r => ∀ c : Dev Cert.QkvBRefIdeal.nD,
          r.2.mem ((c.tc : Thread Cert.QkvBRefIdeal.nD Cert.QkvBRefIdeal.τ).loc Cert.QkvBRefIdeal.main_v1) = v0 c
          ∧ r.2.mem ((c.tc : Thread Cert.QkvBRefIdeal.nD Cert.QkvBRefIdeal.τ).loc Cert.QkvBRefIdeal.main_arg0) = m' ((c.tc : Thread Cert.QkvBRefIdeal.nD Cert.QkvBRefIdeal.τ).loc Cert.QkvBRefIdeal.main_arg0)
          ∧ r.2.mem ((c.tc : Thread Cert.QkvBRefIdeal.nD Cert.QkvBRefIdeal.τ).loc Cert.QkvBRefIdeal.main_arg1) = m' ((c.tc : Thread Cert.QkvBRefIdeal.nD Cert.QkvBRefIdeal.τ).loc Cert.QkvBRefIdeal.main_arg1))

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)
      ∧ m' ((c.tc : Thread Cert.AttnOutRefIdeal.nD Cert.AttnOutRefIdeal.τ).loc Cert.AttnOutRefIdeal.main_arg5) = m ((c.tc : Thread Cert.AttnOutIdeal.nD Cert.AttnOutIdeal.τ).loc Cert.AttnOutIdeal.main_arg5)
      ∧ m' ((c.tc : Thread Cert.AttnOutRefIdeal.nD Cert.AttnOutRefIdeal.τ).loc Cert.AttnOutRefIdeal.main_arg6) = m ((c.tc : Thread Cert.AttnOutIdeal.nD Cert.AttnOutIdeal.τ).loc Cert.AttnOutIdeal.main_arg6)) →
    ∃ (v0 : (c : Dev Cert.AttnOutIdeal.nD) → Buf (Elt Ideal) ((c.tc : Thread Cert.AttnOutIdeal.nD Cert.AttnOutIdeal.τ).loc Cert.AttnOutIdeal.main_v5_0)) (v1 : (c : Dev Cert.AttnOutIdeal.nD) → Buf (Elt Ideal) ((c.tc : Thread Cert.AttnOutIdeal.nD Cert.AttnOutIdeal.τ).loc Cert.AttnOutIdeal.main_v5_1)) (v2 : (c : Dev Cert.AttnOutIdeal.nD) → Buf (Elt Ideal) ((c.tc : Thread Cert.AttnOutIdeal.nD Cert.AttnOutIdeal.τ).loc Cert.AttnOutIdeal.main_v5_2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v5_0) = v0 c
          ∧ r.2.mem ((c.tc : Thread Cert.AttnOutIdeal.nD Cert.AttnOutIdeal.τ).loc Cert.AttnOutIdeal.main_v5_1) = v1 c
          ∧ r.2.mem ((c.tc : Thread Cert.AttnOutIdeal.nD Cert.AttnOutIdeal.τ).loc Cert.AttnOutIdeal.main_v5_2) = v2 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
          ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
          ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v24) = v0 c
          ∧ r.2.mem ((c.tc : Thread Cert.AttnOutRefIdeal.nD Cert.AttnOutRefIdeal.τ).loc Cert.AttnOutRefIdeal.main_v25) = v1 c
          ∧ r.2.mem ((c.tc : Thread Cert.AttnOutRefIdeal.nD Cert.AttnOutRefIdeal.τ).loc Cert.AttnOutRefIdeal.main_v27) = v2 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4)
          ∧ r.2.mem ((c.tc : Thread Cert.AttnOutRefIdeal.nD Cert.AttnOutRefIdeal.τ).loc Cert.AttnOutRefIdeal.main_arg5) = m' ((c.tc : Thread Cert.AttnOutRefIdeal.nD Cert.AttnOutRefIdeal.τ).loc Cert.AttnOutRefIdeal.main_arg5)
          ∧ r.2.mem ((c.tc : Thread Cert.AttnOutRefIdeal.nD Cert.AttnOutRefIdeal.τ).loc Cert.AttnOutRefIdeal.main_arg6) = m' ((c.tc : Thread Cert.AttnOutRefIdeal.nD Cert.AttnOutRefIdeal.τ).loc Cert.AttnOutRefIdeal.main_arg6))

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v2_0)) (v1 : (c : Dev Cert.LossHeadIdeal.nD) → Buf (Elt Ideal) ((c.tc : Thread Cert.LossHeadIdeal.nD Cert.LossHeadIdeal.τ).loc Cert.LossHeadIdeal.main_v2_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v2_0) = v0 c
          ∧ r.2.mem ((c.tc : Thread Cert.LossHeadIdeal.nD Cert.LossHeadIdeal.τ).loc Cert.LossHeadIdeal.main_v2_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v15) = v0 c
          ∧ r.2.mem ((c.tc : Thread Cert.LossHeadRefIdeal.nD Cert.LossHeadRefIdeal.τ).loc Cert.LossHeadRefIdeal.main_v16) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def algebraic_TopGradIdeal_TopGradRefIdeal [hTopGradIdeal : Cert.TopGradIdeal.Facts] [hTopGradRefIdeal : Cert.TopGradRefIdeal.Facts] : Prop :=
  ∀ (m : (ℓ : Loc Cert.TopGradIdeal.nD Cert.TopGradIdeal.τ Cert.TopGradIdeal.sig) → Buf (Elt Ideal) ℓ) (g : Dev Cert.TopGradIdeal.nD → PrngReg)
    (m' : (ℓ : Loc Cert.TopGradRefIdeal.nD Cert.TopGradRefIdeal.τ Cert.TopGradRefIdeal.sig) → Buf (Elt Ideal) ℓ) (g' : Dev Cert.TopGradRefIdeal.nD → PrngReg), Pre_TopGradIdeal m →
    (∀ c : Dev Cert.TopGradIdeal.nD,
      m' ((c.tc : Thread Cert.TopGradRefIdeal.nD Cert.TopGradRefIdeal.τ).loc Cert.TopGradRefIdeal.main_arg0) = m ((c.tc : Thread Cert.TopGradIdeal.nD Cert.TopGradIdeal.τ).loc Cert.TopGradIdeal.main_arg0)
      ∧ m' ((c.tc : Thread Cert.TopGradRefIdeal.nD Cert.TopGradRefIdeal.τ).loc Cert.TopGradRefIdeal.main_arg1) = m ((c.tc : Thread Cert.TopGradIdeal.nD Cert.TopGradIdeal.τ).loc Cert.TopGradIdeal.main_arg1)
      ∧ m' ((c.tc : Thread Cert.TopGradRefIdeal.nD Cert.TopGradRefIdeal.τ).loc Cert.TopGradRefIdeal.main_arg2) = m ((c.tc : Thread Cert.TopGradIdeal.nD Cert.TopGradIdeal.τ).loc Cert.TopGradIdeal.main_arg2)) →
    ∃ (v0 : (c : Dev Cert.TopGradIdeal.nD) → Buf (Elt Ideal) ((c.tc : Thread Cert.TopGradIdeal.nD Cert.TopGradIdeal.τ).loc Cert.TopGradIdeal.main_v3_0)) (v1 : (c : Dev Cert.TopGradIdeal.nD) → Buf (Elt Ideal) ((c.tc : Thread Cert.TopGradIdeal.nD Cert.TopGradIdeal.τ).loc Cert.TopGradIdeal.main_v3_1)),
      θ_run (Cert.TopGradIdeal.defs (F := Ideal)) (onTc (τ := Cert.TopGradIdeal.τ) (Cert.TopGradIdeal.main (F := Ideal))) ⟨m, fun _ => 0, g⟩ (fun r => ∀ c : Dev Cert.TopGradIdeal.nD,
          r.2.mem ((c.tc : Thread Cert.TopGradIdeal.nD Cert.TopGradIdeal.τ).loc Cert.TopGradIdeal.main_v3_0) = v0 c
          ∧ r.2.mem ((c.tc : Thread Cert.TopGradIdeal.nD Cert.TopGradIdeal.τ).loc Cert.TopGradIdeal.main_v3_1) = v1 c
          ∧ r.2.mem ((c.tc : Thread Cert.TopGradIdeal.nD Cert.TopGradIdeal.τ).loc Cert.TopGradIdeal.main_arg0) = m ((c.tc : Thread Cert.TopGradIdeal.nD Cert.TopGradIdeal.τ).loc Cert.TopGradIdeal.main_arg0)
          ∧ r.2.mem ((c.tc : Thread Cert.TopGradIdeal.nD Cert.TopGradIdeal.τ).loc Cert.TopGradIdeal.main_arg1) = m ((c.tc : Thread Cert.TopGradIdeal.nD Cert.TopGradIdeal.τ).loc Cert.TopGradIdeal.main_arg1)
          ∧ r.2.mem ((c.tc : Thread Cert.TopGradIdeal.nD Cert.TopGradIdeal.τ).loc Cert.TopGradIdeal.main_arg2) = m ((c.tc : Thread Cert.TopGradIdeal.nD Cert.TopGradIdeal.τ).loc Cert.TopGradIdeal.main_arg2))
      ∧ θ_run (Cert.TopGradRefIdeal.defs (F := Ideal)) (onTc (τ := Cert.TopGradRefIdeal.τ) (Cert.TopGradRefIdeal.main (F := Ideal))) ⟨m', fun _ => 0, g'⟩ (fun r => ∀ c : Dev Cert.TopGradRefIdeal.nD,
          r.2.mem ((c.tc : Thread Cert.TopGradRefIdeal.nD Cert.TopGradRefIdeal.τ).loc Cert.TopGradRefIdeal.main_v8) = v0 c
          ∧ r.2.mem ((c.tc : Thread Cert.TopGradRefIdeal.nD Cert.TopGradRefIdeal.τ).loc Cert.TopGradRefIdeal.main_v6) = v1 c
          ∧ r.2.mem ((c.tc : Thread Cert.TopGradRefIdeal.nD Cert.TopGradRefIdeal.τ).loc Cert.TopGradRefIdeal.main_arg0) = m' ((c.tc : Thread Cert.TopGradRefIdeal.nD Cert.TopGradRefIdeal.τ).loc Cert.TopGradRefIdeal.main_arg0)
          ∧ r.2.mem ((c.tc : Thread Cert.TopGradRefIdeal.nD Cert.TopGradRefIdeal.τ).loc Cert.TopGradRefIdeal.main_arg1) = m' ((c.tc : Thread Cert.TopGradRefIdeal.nD Cert.TopGradRefIdeal.τ).loc Cert.TopGradRefIdeal.main_arg1)
          ∧ r.2.mem ((c.tc : Thread Cert.TopGradRefIdeal.nD Cert.TopGradRefIdeal.τ).loc Cert.TopGradRefIdeal.main_arg2) = m' ((c.tc : Thread Cert.TopGradRefIdeal.nD Cert.TopGradRefIdeal.τ).loc Cert.TopGradRefIdeal.main_arg2))

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v0)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v0) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v6) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1))

def algebraic_SumModIdeal_SumModRefIdeal [hSumModIdeal : Cert.SumModIdeal.Facts] [hSumModRefIdeal : Cert.SumModRefIdeal.Facts] : Prop :=
  ∀ (m : (ℓ : Loc Cert.SumModIdeal.nD Cert.SumModIdeal.τ Cert.SumModIdeal.sig) → Buf (Elt Ideal) ℓ) (g : Dev Cert.SumModIdeal.nD → PrngReg)
    (m' : (ℓ : Loc Cert.SumModRefIdeal.nD Cert.SumModRefIdeal.τ Cert.SumModRefIdeal.sig) → Buf (Elt Ideal) ℓ) (g' : Dev Cert.SumModRefIdeal.nD → PrngReg), Pre_SumModIdeal m →
    (∀ c : Dev Cert.SumModIdeal.nD,
      m' ((c.tc : Thread Cert.SumModRefIdeal.nD Cert.SumModRefIdeal.τ).loc Cert.SumModRefIdeal.main_arg0) = m ((c.tc : Thread Cert.SumModIdeal.nD Cert.SumModIdeal.τ).loc Cert.SumModIdeal.main_arg0)) →
    ∃ (v0 : (c : Dev Cert.SumModIdeal.nD) → Buf (Elt Ideal) ((c.tc : Thread Cert.SumModIdeal.nD Cert.SumModIdeal.τ).loc Cert.SumModIdeal.main_v0)),
      θ_run (Cert.SumModIdeal.defs (F := Ideal)) (onTc (τ := Cert.SumModIdeal.τ) (Cert.SumModIdeal.main (F := Ideal))) ⟨m, fun _ => 0, g⟩ (fun r => ∀ c : Dev Cert.SumModIdeal.nD,
          r.2.mem ((c.tc : Thread Cert.SumModIdeal.nD Cert.SumModIdeal.τ).loc Cert.SumModIdeal.main_v0) = v0 c
          ∧ r.2.mem ((c.tc : Thread Cert.SumModIdeal.nD Cert.SumModIdeal.τ).loc Cert.SumModIdeal.main_arg0) = m ((c.tc : Thread Cert.SumModIdeal.nD Cert.SumModIdeal.τ).loc Cert.SumModIdeal.main_arg0))
      ∧ θ_run (Cert.SumModRefIdeal.defs (F := Ideal)) (onTc (τ := Cert.SumModRefIdeal.τ) (Cert.SumModRefIdeal.main (F := Ideal))) ⟨m', fun _ => 0, g'⟩ (fun r => ∀ c : Dev Cert.SumModRefIdeal.nD,
          r.2.mem ((c.tc : Thread Cert.SumModRefIdeal.nD Cert.SumModRefIdeal.τ).loc Cert.SumModRefIdeal.main_v0) = v0 c
          ∧ r.2.mem ((c.tc : Thread Cert.SumModRefIdeal.nD Cert.SumModRefIdeal.τ).loc Cert.SumModRefIdeal.main_arg0) = m' ((c.tc : Thread Cert.SumModRefIdeal.nD Cert.SumModRefIdeal.τ).loc Cert.SumModRefIdeal.main_arg0))

def algebraic_SumGainIdeal_SumGainRefIdeal [hSumGainIdeal : Cert.SumGainIdeal.Facts] [hSumGainRefIdeal : Cert.SumGainRefIdeal.Facts] : Prop :=
  ∀ (m : (ℓ : Loc Cert.SumGainIdeal.nD Cert.SumGainIdeal.τ Cert.SumGainIdeal.sig) → Buf (Elt Ideal) ℓ) (g : Dev Cert.SumGainIdeal.nD → PrngReg)
    (m' : (ℓ : Loc Cert.SumGainRefIdeal.nD Cert.SumGainRefIdeal.τ Cert.SumGainRefIdeal.sig) → Buf (Elt Ideal) ℓ) (g' : Dev Cert.SumGainRefIdeal.nD → PrngReg), Pre_SumGainIdeal m →
    (∀ c : Dev Cert.SumGainIdeal.nD,
      m' ((c.tc : Thread Cert.SumGainRefIdeal.nD Cert.SumGainRefIdeal.τ).loc Cert.SumGainRefIdeal.main_arg0) = m ((c.tc : Thread Cert.SumGainIdeal.nD Cert.SumGainIdeal.τ).loc Cert.SumGainIdeal.main_arg0)) →
    ∃ (v0 : (c : Dev Cert.SumGainIdeal.nD) → Buf (Elt Ideal) ((c.tc : Thread Cert.SumGainIdeal.nD Cert.SumGainIdeal.τ).loc Cert.SumGainIdeal.main_v0)),
      θ_run (Cert.SumGainIdeal.defs (F := Ideal)) (onTc (τ := Cert.SumGainIdeal.τ) (Cert.SumGainIdeal.main (F := Ideal))) ⟨m, fun _ => 0, g⟩ (fun r => ∀ c : Dev Cert.SumGainIdeal.nD,
          r.2.mem ((c.tc : Thread Cert.SumGainIdeal.nD Cert.SumGainIdeal.τ).loc Cert.SumGainIdeal.main_v0) = v0 c
          ∧ r.2.mem ((c.tc : Thread Cert.SumGainIdeal.nD Cert.SumGainIdeal.τ).loc Cert.SumGainIdeal.main_arg0) = m ((c.tc : Thread Cert.SumGainIdeal.nD Cert.SumGainIdeal.τ).loc Cert.SumGainIdeal.main_arg0))
      ∧ θ_run (Cert.SumGainRefIdeal.defs (F := Ideal)) (onTc (τ := Cert.SumGainRefIdeal.τ) (Cert.SumGainRefIdeal.main (F := Ideal))) ⟨m', fun _ => 0, g'⟩ (fun r => ∀ c : Dev Cert.SumGainRefIdeal.nD,
          r.2.mem ((c.tc : Thread Cert.SumGainRefIdeal.nD Cert.SumGainRefIdeal.τ).loc Cert.SumGainRefIdeal.main_v0) = v0 c
          ∧ r.2.mem ((c.tc : Thread Cert.SumGainRefIdeal.nD Cert.SumGainRefIdeal.τ).loc Cert.SumGainRefIdeal.main_arg0) = m' ((c.tc : Thread Cert.SumGainRefIdeal.nD Cert.SumGainRefIdeal.τ).loc Cert.SumGainRefIdeal.main_arg0))

def algebraic_StepAdaWIdeal_StepAdaWRefIdeal [hStepAdaWIdeal : Cert.StepAdaWIdeal.Facts] [hStepAdaWRefIdeal : Cert.StepAdaWRefIdeal.Facts] : Prop :=
  ∀ (m : (ℓ : Loc Cert.StepAdaWIdeal.nD Cert.StepAdaWIdeal.τ Cert.StepAdaWIdeal.sig) → Buf (Elt Ideal) ℓ) (g : Dev Cert.StepAdaWIdeal.nD → PrngReg)
    (m' : (ℓ : Loc Cert.StepAdaWRefIdeal.nD Cert.StepAdaWRefIdeal.τ Cert.StepAdaWRefIdeal.sig) → Buf (Elt Ideal) ℓ) (g' : Dev Cert.StepAdaWRefIdeal.nD → PrngReg), Pre_StepAdaWIdeal m →
    (∀ c : Dev Cert.StepAdaWIdeal.nD,
      m' ((c.tc : Thread Cert.StepAdaWRefIdeal.nD Cert.StepAdaWRefIdeal.τ).loc Cert.StepAdaWRefIdeal.main_arg0) = m ((c.tc : Thread Cert.StepAdaWIdeal.nD Cert.StepAdaWIdeal.τ).loc Cert.StepAdaWIdeal.main_arg0)
      ∧ m' ((c.tc : Thread Cert.StepAdaWRefIdeal.nD Cert.StepAdaWRefIdeal.τ).loc Cert.StepAdaWRefIdeal.main_arg1) = m ((c.tc : Thread Cert.StepAdaWIdeal.nD Cert.StepAdaWIdeal.τ).loc Cert.StepAdaWIdeal.main_arg1)
      ∧ m' ((c.tc : Thread Cert.StepAdaWRefIdeal.nD Cert.StepAdaWRefIdeal.τ).loc Cert.StepAdaWRefIdeal.main_arg2) = m ((c.tc : Thread Cert.StepAdaWIdeal.nD Cert.StepAdaWIdeal.τ).loc Cert.StepAdaWIdeal.main_arg2)
      ∧ m' ((c.tc : Thread Cert.StepAdaWRefIdeal.nD Cert.StepAdaWRefIdeal.τ).loc Cert.StepAdaWRefIdeal.main_arg3) = m ((c.tc : Thread Cert.StepAdaWIdeal.nD Cert.StepAdaWIdeal.τ).loc Cert.StepAdaWIdeal.main_arg3)) →
    ∃ (v0 : (c : Dev Cert.StepAdaWIdeal.nD) → Buf (Elt Ideal) ((c.tc : Thread Cert.StepAdaWIdeal.nD Cert.StepAdaWIdeal.τ).loc Cert.StepAdaWIdeal.main_v4_0)) (v1 : (c : Dev Cert.StepAdaWIdeal.nD) → Buf (Elt Ideal) ((c.tc : Thread Cert.StepAdaWIdeal.nD Cert.StepAdaWIdeal.τ).loc Cert.StepAdaWIdeal.main_v4_1)) (v2 : (c : Dev Cert.StepAdaWIdeal.nD) → Buf (Elt Ideal) ((c.tc : Thread Cert.StepAdaWIdeal.nD Cert.StepAdaWIdeal.τ).loc Cert.StepAdaWIdeal.main_v4_2)),
      θ_run (Cert.StepAdaWIdeal.defs (F := Ideal)) (onTc (τ := Cert.StepAdaWIdeal.τ) (Cert.StepAdaWIdeal.main (F := Ideal))) ⟨m, fun _ => 0, g⟩ (fun r => ∀ c : Dev Cert.StepAdaWIdeal.nD,
          r.2.mem ((c.tc : Thread Cert.StepAdaWIdeal.nD Cert.StepAdaWIdeal.τ).loc Cert.StepAdaWIdeal.main_v4_0) = v0 c
          ∧ r.2.mem ((c.tc : Thread Cert.StepAdaWIdeal.nD Cert.StepAdaWIdeal.τ).loc Cert.StepAdaWIdeal.main_v4_1) = v1 c
          ∧ r.2.mem ((c.tc : Thread Cert.StepAdaWIdeal.nD Cert.StepAdaWIdeal.τ).loc Cert.StepAdaWIdeal.main_v4_2) = v2 c
          ∧ r.2.mem ((c.tc : Thread Cert.StepAdaWIdeal.nD Cert.StepAdaWIdeal.τ).loc Cert.StepAdaWIdeal.main_arg0) = m ((c.tc : Thread Cert.StepAdaWIdeal.nD Cert.StepAdaWIdeal.τ).loc Cert.StepAdaWIdeal.main_arg0)
          ∧ r.2.mem ((c.tc : Thread Cert.StepAdaWIdeal.nD Cert.StepAdaWIdeal.τ).loc Cert.StepAdaWIdeal.main_arg1) = m ((c.tc : Thread Cert.StepAdaWIdeal.nD Cert.StepAdaWIdeal.τ).loc Cert.StepAdaWIdeal.main_arg1)
          ∧ r.2.mem ((c.tc : Thread Cert.StepAdaWIdeal.nD Cert.StepAdaWIdeal.τ).loc Cert.StepAdaWIdeal.main_arg2) = m ((c.tc : Thread Cert.StepAdaWIdeal.nD Cert.StepAdaWIdeal.τ).loc Cert.StepAdaWIdeal.main_arg2)
          ∧ r.2.mem ((c.tc : Thread Cert.StepAdaWIdeal.nD Cert.StepAdaWIdeal.τ).loc Cert.StepAdaWIdeal.main_arg3) = m ((c.tc : Thread Cert.StepAdaWIdeal.nD Cert.StepAdaWIdeal.τ).loc Cert.StepAdaWIdeal.main_arg3))
      ∧ θ_run (Cert.StepAdaWRefIdeal.defs (F := Ideal)) (onTc (τ := Cert.StepAdaWRefIdeal.τ) (Cert.StepAdaWRefIdeal.main (F := Ideal))) ⟨m', fun _ => 0, g'⟩ (fun r => ∀ c : Dev Cert.StepAdaWRefIdeal.nD,
          r.2.mem ((c.tc : Thread Cert.StepAdaWRefIdeal.nD Cert.StepAdaWRefIdeal.τ).loc Cert.StepAdaWRefIdeal.main_v24) = v0 c
          ∧ r.2.mem ((c.tc : Thread Cert.StepAdaWRefIdeal.nD Cert.StepAdaWRefIdeal.τ).loc Cert.StepAdaWRefIdeal.main_v25) = v1 c
          ∧ r.2.mem ((c.tc : Thread Cert.StepAdaWRefIdeal.nD Cert.StepAdaWRefIdeal.τ).loc Cert.StepAdaWRefIdeal.main_v26) = v2 c
          ∧ r.2.mem ((c.tc : Thread Cert.StepAdaWRefIdeal.nD Cert.StepAdaWRefIdeal.τ).loc Cert.StepAdaWRefIdeal.main_arg0) = m' ((c.tc : Thread Cert.StepAdaWRefIdeal.nD Cert.StepAdaWRefIdeal.τ).loc Cert.StepAdaWRefIdeal.main_arg0)
          ∧ r.2.mem ((c.tc : Thread Cert.StepAdaWRefIdeal.nD Cert.StepAdaWRefIdeal.τ).loc Cert.StepAdaWRefIdeal.main_arg1) = m' ((c.tc : Thread Cert.StepAdaWRefIdeal.nD Cert.StepAdaWRefIdeal.τ).loc Cert.StepAdaWRefIdeal.main_arg1)
          ∧ r.2.mem ((c.tc : Thread Cert.StepAdaWRefIdeal.nD Cert.StepAdaWRefIdeal.τ).loc Cert.StepAdaWRefIdeal.main_arg2) = m' ((c.tc : Thread Cert.StepAdaWRefIdeal.nD Cert.StepAdaWRefIdeal.τ).loc Cert.StepAdaWRefIdeal.main_arg2)
          ∧ r.2.mem ((c.tc : Thread Cert.StepAdaWRefIdeal.nD Cert.StepAdaWRefIdeal.τ).loc Cert.StepAdaWRefIdeal.main_arg3) = m' ((c.tc : Thread Cert.StepAdaWRefIdeal.nD Cert.StepAdaWRefIdeal.τ).loc Cert.StepAdaWRefIdeal.main_arg3))

def algebraic_StepAdaBIdeal_StepAdaBRefIdeal [hStepAdaBIdeal : Cert.StepAdaBIdeal.Facts] [hStepAdaBRefIdeal : Cert.StepAdaBRefIdeal.Facts] : Prop :=
  ∀ (m : (ℓ : Loc Cert.StepAdaBIdeal.nD Cert.StepAdaBIdeal.τ Cert.StepAdaBIdeal.sig) → Buf (Elt Ideal) ℓ) (g : Dev Cert.StepAdaBIdeal.nD → PrngReg)
    (m' : (ℓ : Loc Cert.StepAdaBRefIdeal.nD Cert.StepAdaBRefIdeal.τ Cert.StepAdaBRefIdeal.sig) → Buf (Elt Ideal) ℓ) (g' : Dev Cert.StepAdaBRefIdeal.nD → PrngReg), Pre_StepAdaBIdeal m →
    (∀ c : Dev Cert.StepAdaBIdeal.nD,
      m' ((c.tc : Thread Cert.StepAdaBRefIdeal.nD Cert.StepAdaBRefIdeal.τ).loc Cert.StepAdaBRefIdeal.main_arg0) = m ((c.tc : Thread Cert.StepAdaBIdeal.nD Cert.StepAdaBIdeal.τ).loc Cert.StepAdaBIdeal.main_arg0)
      ∧ m' ((c.tc : Thread Cert.StepAdaBRefIdeal.nD Cert.StepAdaBRefIdeal.τ).loc Cert.StepAdaBRefIdeal.main_arg1) = m ((c.tc : Thread Cert.StepAdaBIdeal.nD Cert.StepAdaBIdeal.τ).loc Cert.StepAdaBIdeal.main_arg1)
      ∧ m' ((c.tc : Thread Cert.StepAdaBRefIdeal.nD Cert.StepAdaBRefIdeal.τ).loc Cert.StepAdaBRefIdeal.main_arg2) = m ((c.tc : Thread Cert.StepAdaBIdeal.nD Cert.StepAdaBIdeal.τ).loc Cert.StepAdaBIdeal.main_arg2)
      ∧ m' ((c.tc : Thread Cert.StepAdaBRefIdeal.nD Cert.StepAdaBRefIdeal.τ).loc Cert.StepAdaBRefIdeal.main_arg3) = m ((c.tc : Thread Cert.StepAdaBIdeal.nD Cert.StepAdaBIdeal.τ).loc Cert.StepAdaBIdeal.main_arg3)) →
    ∃ (v0 : (c : Dev Cert.StepAdaBIdeal.nD) → Buf (Elt Ideal) ((c.tc : Thread Cert.StepAdaBIdeal.nD Cert.StepAdaBIdeal.τ).loc Cert.StepAdaBIdeal.main_v0_0)) (v1 : (c : Dev Cert.StepAdaBIdeal.nD) → Buf (Elt Ideal) ((c.tc : Thread Cert.StepAdaBIdeal.nD Cert.StepAdaBIdeal.τ).loc Cert.StepAdaBIdeal.main_v0_1)) (v2 : (c : Dev Cert.StepAdaBIdeal.nD) → Buf (Elt Ideal) ((c.tc : Thread Cert.StepAdaBIdeal.nD Cert.StepAdaBIdeal.τ).loc Cert.StepAdaBIdeal.main_v0_2)),
      θ_run (Cert.StepAdaBIdeal.defs (F := Ideal)) (onTc (τ := Cert.StepAdaBIdeal.τ) (Cert.StepAdaBIdeal.main (F := Ideal))) ⟨m, fun _ => 0, g⟩ (fun r => ∀ c : Dev Cert.StepAdaBIdeal.nD,
          r.2.mem ((c.tc : Thread Cert.StepAdaBIdeal.nD Cert.StepAdaBIdeal.τ).loc Cert.StepAdaBIdeal.main_v0_0) = v0 c
          ∧ r.2.mem ((c.tc : Thread Cert.StepAdaBIdeal.nD Cert.StepAdaBIdeal.τ).loc Cert.StepAdaBIdeal.main_v0_1) = v1 c
          ∧ r.2.mem ((c.tc : Thread Cert.StepAdaBIdeal.nD Cert.StepAdaBIdeal.τ).loc Cert.StepAdaBIdeal.main_v0_2) = v2 c
          ∧ r.2.mem ((c.tc : Thread Cert.StepAdaBIdeal.nD Cert.StepAdaBIdeal.τ).loc Cert.StepAdaBIdeal.main_arg0) = m ((c.tc : Thread Cert.StepAdaBIdeal.nD Cert.StepAdaBIdeal.τ).loc Cert.StepAdaBIdeal.main_arg0)
          ∧ r.2.mem ((c.tc : Thread Cert.StepAdaBIdeal.nD Cert.StepAdaBIdeal.τ).loc Cert.StepAdaBIdeal.main_arg1) = m ((c.tc : Thread Cert.StepAdaBIdeal.nD Cert.StepAdaBIdeal.τ).loc Cert.StepAdaBIdeal.main_arg1)
          ∧ r.2.mem ((c.tc : Thread Cert.StepAdaBIdeal.nD Cert.StepAdaBIdeal.τ).loc Cert.StepAdaBIdeal.main_arg2) = m ((c.tc : Thread Cert.StepAdaBIdeal.nD Cert.StepAdaBIdeal.τ).loc Cert.StepAdaBIdeal.main_arg2)
          ∧ r.2.mem ((c.tc : Thread Cert.StepAdaBIdeal.nD Cert.StepAdaBIdeal.τ).loc Cert.StepAdaBIdeal.main_arg3) = m ((c.tc : Thread Cert.StepAdaBIdeal.nD Cert.StepAdaBIdeal.τ).loc Cert.StepAdaBIdeal.main_arg3))
      ∧ θ_run (Cert.StepAdaBRefIdeal.defs (F := Ideal)) (onTc (τ := Cert.StepAdaBRefIdeal.τ) (Cert.StepAdaBRefIdeal.main (F := Ideal))) ⟨m', fun _ => 0, g'⟩ (fun r => ∀ c : Dev Cert.StepAdaBRefIdeal.nD,
          r.2.mem ((c.tc : Thread Cert.StepAdaBRefIdeal.nD Cert.StepAdaBRefIdeal.τ).loc Cert.StepAdaBRefIdeal.main_v23) = v0 c
          ∧ r.2.mem ((c.tc : Thread Cert.StepAdaBRefIdeal.nD Cert.StepAdaBRefIdeal.τ).loc Cert.StepAdaBRefIdeal.main_v4) = v1 c
          ∧ r.2.mem ((c.tc : Thread Cert.StepAdaBRefIdeal.nD Cert.StepAdaBRefIdeal.τ).loc Cert.StepAdaBRefIdeal.main_v10) = v2 c
          ∧ r.2.mem ((c.tc : Thread Cert.StepAdaBRefIdeal.nD Cert.StepAdaBRefIdeal.τ).loc Cert.StepAdaBRefIdeal.main_arg0) = m' ((c.tc : Thread Cert.StepAdaBRefIdeal.nD Cert.StepAdaBRefIdeal.τ).loc Cert.StepAdaBRefIdeal.main_arg0)
          ∧ r.2.mem ((c.tc : Thread Cert.StepAdaBRefIdeal.nD Cert.StepAdaBRefIdeal.τ).loc Cert.StepAdaBRefIdeal.main_arg1) = m' ((c.tc : Thread Cert.StepAdaBRefIdeal.nD Cert.StepAdaBRefIdeal.τ).loc Cert.StepAdaBRefIdeal.main_arg1)
          ∧ r.2.mem ((c.tc : Thread Cert.StepAdaBRefIdeal.nD Cert.StepAdaBRefIdeal.τ).loc Cert.StepAdaBRefIdeal.main_arg2) = m' ((c.tc : Thread Cert.StepAdaBRefIdeal.nD Cert.StepAdaBRefIdeal.τ).loc Cert.StepAdaBRefIdeal.main_arg2)
          ∧ r.2.mem ((c.tc : Thread Cert.StepAdaBRefIdeal.nD Cert.StepAdaBRefIdeal.τ).loc Cert.StepAdaBRefIdeal.main_arg3) = m' ((c.tc : Thread Cert.StepAdaBRefIdeal.nD Cert.StepAdaBRefIdeal.τ).loc Cert.StepAdaBRefIdeal.main_arg3))

def algebraic_StepGainIdeal_StepGainRefIdeal [hStepGainIdeal : Cert.StepGainIdeal.Facts] [hStepGainRefIdeal : Cert.StepGainRefIdeal.Facts] : Prop :=
  ∀ (m : (ℓ : Loc Cert.StepGainIdeal.nD Cert.StepGainIdeal.τ Cert.StepGainIdeal.sig) → Buf (Elt Ideal) ℓ) (g : Dev Cert.StepGainIdeal.nD → PrngReg)
    (m' : (ℓ : Loc Cert.StepGainRefIdeal.nD Cert.StepGainRefIdeal.τ Cert.StepGainRefIdeal.sig) → Buf (Elt Ideal) ℓ) (g' : Dev Cert.StepGainRefIdeal.nD → PrngReg), Pre_StepGainIdeal m →
    (∀ c : Dev Cert.StepGainIdeal.nD,
      m' ((c.tc : Thread Cert.StepGainRefIdeal.nD Cert.StepGainRefIdeal.τ).loc Cert.StepGainRefIdeal.main_arg0) = m ((c.tc : Thread Cert.StepGainIdeal.nD Cert.StepGainIdeal.τ).loc Cert.StepGainIdeal.main_arg0)
      ∧ m' ((c.tc : Thread Cert.StepGainRefIdeal.nD Cert.StepGainRefIdeal.τ).loc Cert.StepGainRefIdeal.main_arg1) = m ((c.tc : Thread Cert.StepGainIdeal.nD Cert.StepGainIdeal.τ).loc Cert.StepGainIdeal.main_arg1)
      ∧ m' ((c.tc : Thread Cert.StepGainRefIdeal.nD Cert.StepGainRefIdeal.τ).loc Cert.StepGainRefIdeal.main_arg2) = m ((c.tc : Thread Cert.StepGainIdeal.nD Cert.StepGainIdeal.τ).loc Cert.StepGainIdeal.main_arg2)
      ∧ m' ((c.tc : Thread Cert.StepGainRefIdeal.nD Cert.StepGainRefIdeal.τ).loc Cert.StepGainRefIdeal.main_arg3) = m ((c.tc : Thread Cert.StepGainIdeal.nD Cert.StepGainIdeal.τ).loc Cert.StepGainIdeal.main_arg3)) →
    ∃ (v0 : (c : Dev Cert.StepGainIdeal.nD) → Buf (Elt Ideal) ((c.tc : Thread Cert.StepGainIdeal.nD Cert.StepGainIdeal.τ).loc Cert.StepGainIdeal.main_v0_0)) (v1 : (c : Dev Cert.StepGainIdeal.nD) → Buf (Elt Ideal) ((c.tc : Thread Cert.StepGainIdeal.nD Cert.StepGainIdeal.τ).loc Cert.StepGainIdeal.main_v0_1)) (v2 : (c : Dev Cert.StepGainIdeal.nD) → Buf (Elt Ideal) ((c.tc : Thread Cert.StepGainIdeal.nD Cert.StepGainIdeal.τ).loc Cert.StepGainIdeal.main_v0_2)),
      θ_run (Cert.StepGainIdeal.defs (F := Ideal)) (onTc (τ := Cert.StepGainIdeal.τ) (Cert.StepGainIdeal.main (F := Ideal))) ⟨m, fun _ => 0, g⟩ (fun r => ∀ c : Dev Cert.StepGainIdeal.nD,
          r.2.mem ((c.tc : Thread Cert.StepGainIdeal.nD Cert.StepGainIdeal.τ).loc Cert.StepGainIdeal.main_v0_0) = v0 c
          ∧ r.2.mem ((c.tc : Thread Cert.StepGainIdeal.nD Cert.StepGainIdeal.τ).loc Cert.StepGainIdeal.main_v0_1) = v1 c
          ∧ r.2.mem ((c.tc : Thread Cert.StepGainIdeal.nD Cert.StepGainIdeal.τ).loc Cert.StepGainIdeal.main_v0_2) = v2 c
          ∧ r.2.mem ((c.tc : Thread Cert.StepGainIdeal.nD Cert.StepGainIdeal.τ).loc Cert.StepGainIdeal.main_arg0) = m ((c.tc : Thread Cert.StepGainIdeal.nD Cert.StepGainIdeal.τ).loc Cert.StepGainIdeal.main_arg0)
          ∧ r.2.mem ((c.tc : Thread Cert.StepGainIdeal.nD Cert.StepGainIdeal.τ).loc Cert.StepGainIdeal.main_arg1) = m ((c.tc : Thread Cert.StepGainIdeal.nD Cert.StepGainIdeal.τ).loc Cert.StepGainIdeal.main_arg1)
          ∧ r.2.mem ((c.tc : Thread Cert.StepGainIdeal.nD Cert.StepGainIdeal.τ).loc Cert.StepGainIdeal.main_arg2) = m ((c.tc : Thread Cert.StepGainIdeal.nD Cert.StepGainIdeal.τ).loc Cert.StepGainIdeal.main_arg2)
          ∧ r.2.mem ((c.tc : Thread Cert.StepGainIdeal.nD Cert.StepGainIdeal.τ).loc Cert.StepGainIdeal.main_arg3) = m ((c.tc : Thread Cert.StepGainIdeal.nD Cert.StepGainIdeal.τ).loc Cert.StepGainIdeal.main_arg3))
      ∧ θ_run (Cert.StepGainRefIdeal.defs (F := Ideal)) (onTc (τ := Cert.StepGainRefIdeal.τ) (Cert.StepGainRefIdeal.main (F := Ideal))) ⟨m', fun _ => 0, g'⟩ (fun r => ∀ c : Dev Cert.StepGainRefIdeal.nD,
          r.2.mem ((c.tc : Thread Cert.StepGainRefIdeal.nD Cert.StepGainRefIdeal.τ).loc Cert.StepGainRefIdeal.main_v23) = v0 c
          ∧ r.2.mem ((c.tc : Thread Cert.StepGainRefIdeal.nD Cert.StepGainRefIdeal.τ).loc Cert.StepGainRefIdeal.main_v4) = v1 c
          ∧ r.2.mem ((c.tc : Thread Cert.StepGainRefIdeal.nD Cert.StepGainRefIdeal.τ).loc Cert.StepGainRefIdeal.main_v10) = v2 c
          ∧ r.2.mem ((c.tc : Thread Cert.StepGainRefIdeal.nD Cert.StepGainRefIdeal.τ).loc Cert.StepGainRefIdeal.main_arg0) = m' ((c.tc : Thread Cert.StepGainRefIdeal.nD Cert.StepGainRefIdeal.τ).loc Cert.StepGainRefIdeal.main_arg0)
          ∧ r.2.mem ((c.tc : Thread Cert.StepGainRefIdeal.nD Cert.StepGainRefIdeal.τ).loc Cert.StepGainRefIdeal.main_arg1) = m' ((c.tc : Thread Cert.StepGainRefIdeal.nD Cert.StepGainRefIdeal.τ).loc Cert.StepGainRefIdeal.main_arg1)
          ∧ r.2.mem ((c.tc : Thread Cert.StepGainRefIdeal.nD Cert.StepGainRefIdeal.τ).loc Cert.StepGainRefIdeal.main_arg2) = m' ((c.tc : Thread Cert.StepGainRefIdeal.nD Cert.StepGainRefIdeal.τ).loc Cert.StepGainRefIdeal.main_arg2)
          ∧ r.2.mem ((c.tc : Thread Cert.StepGainRefIdeal.nD Cert.StepGainRefIdeal.τ).loc Cert.StepGainRefIdeal.main_arg3) = m' ((c.tc : Thread Cert.StepGainRefIdeal.nD Cert.StepGainRefIdeal.τ).loc Cert.StepGainRefIdeal.main_arg3))

def algebraic_StepQkvAIdeal_StepQkvARefIdeal [hStepQkvAIdeal : Cert.StepQkvAIdeal.Facts] [hStepQkvARefIdeal : Cert.StepQkvARefIdeal.Facts] : Prop :=
  ∀ (m : (ℓ : Loc Cert.StepQkvAIdeal.nD Cert.StepQkvAIdeal.τ Cert.StepQkvAIdeal.sig) → Buf (Elt Ideal) ℓ) (g : Dev Cert.StepQkvAIdeal.nD → PrngReg)
    (m' : (ℓ : Loc Cert.StepQkvARefIdeal.nD Cert.StepQkvARefIdeal.τ Cert.StepQkvARefIdeal.sig) → Buf (Elt Ideal) ℓ) (g' : Dev Cert.StepQkvARefIdeal.nD → PrngReg), Pre_StepQkvAIdeal m →
    (∀ c : Dev Cert.StepQkvAIdeal.nD,
      m' ((c.tc : Thread Cert.StepQkvARefIdeal.nD Cert.StepQkvARefIdeal.τ).loc Cert.StepQkvARefIdeal.main_arg0) = m ((c.tc : Thread Cert.StepQkvAIdeal.nD Cert.StepQkvAIdeal.τ).loc Cert.StepQkvAIdeal.main_arg0)
      ∧ m' ((c.tc : Thread Cert.StepQkvARefIdeal.nD Cert.StepQkvARefIdeal.τ).loc Cert.StepQkvARefIdeal.main_arg1) = m ((c.tc : Thread Cert.StepQkvAIdeal.nD Cert.StepQkvAIdeal.τ).loc Cert.StepQkvAIdeal.main_arg1)
      ∧ m' ((c.tc : Thread Cert.StepQkvARefIdeal.nD Cert.StepQkvARefIdeal.τ).loc Cert.StepQkvARefIdeal.main_arg2) = m ((c.tc : Thread Cert.StepQkvAIdeal.nD Cert.StepQkvAIdeal.τ).loc Cert.StepQkvAIdeal.main_arg2)
      ∧ m' ((c.tc : Thread Cert.StepQkvARefIdeal.nD Cert.StepQkvARefIdeal.τ).loc Cert.StepQkvARefIdeal.main_arg3) = m ((c.tc : Thread Cert.StepQkvAIdeal.nD Cert.StepQkvAIdeal.τ).loc Cert.StepQkvAIdeal.main_arg3)) →
    ∃ (v0 : (c : Dev Cert.StepQkvAIdeal.nD) → Buf (Elt Ideal) ((c.tc : Thread Cert.StepQkvAIdeal.nD Cert.StepQkvAIdeal.τ).loc Cert.StepQkvAIdeal.main_v4_0)) (v1 : (c : Dev Cert.StepQkvAIdeal.nD) → Buf (Elt Ideal) ((c.tc : Thread Cert.StepQkvAIdeal.nD Cert.StepQkvAIdeal.τ).loc Cert.StepQkvAIdeal.main_v4_1)) (v2 : (c : Dev Cert.StepQkvAIdeal.nD) → Buf (Elt Ideal) ((c.tc : Thread Cert.StepQkvAIdeal.nD Cert.StepQkvAIdeal.τ).loc Cert.StepQkvAIdeal.main_v4_2)),
      θ_run (Cert.StepQkvAIdeal.defs (F := Ideal)) (onTc (τ := Cert.StepQkvAIdeal.τ) (Cert.StepQkvAIdeal.main (F := Ideal))) ⟨m, fun _ => 0, g⟩ (fun r => ∀ c : Dev Cert.StepQkvAIdeal.nD,
          r.2.mem ((c.tc : Thread Cert.StepQkvAIdeal.nD Cert.StepQkvAIdeal.τ).loc Cert.StepQkvAIdeal.main_v4_0) = v0 c
          ∧ r.2.mem ((c.tc : Thread Cert.StepQkvAIdeal.nD Cert.StepQkvAIdeal.τ).loc Cert.StepQkvAIdeal.main_v4_1) = v1 c
          ∧ r.2.mem ((c.tc : Thread Cert.StepQkvAIdeal.nD Cert.StepQkvAIdeal.τ).loc Cert.StepQkvAIdeal.main_v4_2) = v2 c
          ∧ r.2.mem ((c.tc : Thread Cert.StepQkvAIdeal.nD Cert.StepQkvAIdeal.τ).loc Cert.StepQkvAIdeal.main_arg0) = m ((c.tc : Thread Cert.StepQkvAIdeal.nD Cert.StepQkvAIdeal.τ).loc Cert.StepQkvAIdeal.main_arg0)
          ∧ r.2.mem ((c.tc : Thread Cert.StepQkvAIdeal.nD Cert.StepQkvAIdeal.τ).loc Cert.StepQkvAIdeal.main_arg1) = m ((c.tc : Thread Cert.StepQkvAIdeal.nD Cert.StepQkvAIdeal.τ).loc Cert.StepQkvAIdeal.main_arg1)
          ∧ r.2.mem ((c.tc : Thread Cert.StepQkvAIdeal.nD Cert.StepQkvAIdeal.τ).loc Cert.StepQkvAIdeal.main_arg2) = m ((c.tc : Thread Cert.StepQkvAIdeal.nD Cert.StepQkvAIdeal.τ).loc Cert.StepQkvAIdeal.main_arg2)
          ∧ r.2.mem ((c.tc : Thread Cert.StepQkvAIdeal.nD Cert.StepQkvAIdeal.τ).loc Cert.StepQkvAIdeal.main_arg3) = m ((c.tc : Thread Cert.StepQkvAIdeal.nD Cert.StepQkvAIdeal.τ).loc Cert.StepQkvAIdeal.main_arg3))
      ∧ θ_run (Cert.StepQkvARefIdeal.defs (F := Ideal)) (onTc (τ := Cert.StepQkvARefIdeal.τ) (Cert.StepQkvARefIdeal.main (F := Ideal))) ⟨m', fun _ => 0, g'⟩ (fun r => ∀ c : Dev Cert.StepQkvARefIdeal.nD,
          r.2.mem ((c.tc : Thread Cert.StepQkvARefIdeal.nD Cert.StepQkvARefIdeal.τ).loc Cert.StepQkvARefIdeal.main_v24) = v0 c
          ∧ r.2.mem ((c.tc : Thread Cert.StepQkvARefIdeal.nD Cert.StepQkvARefIdeal.τ).loc Cert.StepQkvARefIdeal.main_v25) = v1 c
          ∧ r.2.mem ((c.tc : Thread Cert.StepQkvARefIdeal.nD Cert.StepQkvARefIdeal.τ).loc Cert.StepQkvARefIdeal.main_v26) = v2 c
          ∧ r.2.mem ((c.tc : Thread Cert.StepQkvARefIdeal.nD Cert.StepQkvARefIdeal.τ).loc Cert.StepQkvARefIdeal.main_arg0) = m' ((c.tc : Thread Cert.StepQkvARefIdeal.nD Cert.StepQkvARefIdeal.τ).loc Cert.StepQkvARefIdeal.main_arg0)
          ∧ r.2.mem ((c.tc : Thread Cert.StepQkvARefIdeal.nD Cert.StepQkvARefIdeal.τ).loc Cert.StepQkvARefIdeal.main_arg1) = m' ((c.tc : Thread Cert.StepQkvARefIdeal.nD Cert.StepQkvARefIdeal.τ).loc Cert.StepQkvARefIdeal.main_arg1)
          ∧ r.2.mem ((c.tc : Thread Cert.StepQkvARefIdeal.nD Cert.StepQkvARefIdeal.τ).loc Cert.StepQkvARefIdeal.main_arg2) = m' ((c.tc : Thread Cert.StepQkvARefIdeal.nD Cert.StepQkvARefIdeal.τ).loc Cert.StepQkvARefIdeal.main_arg2)
          ∧ r.2.mem ((c.tc : Thread Cert.StepQkvARefIdeal.nD Cert.StepQkvARefIdeal.τ).loc Cert.StepQkvARefIdeal.main_arg3) = m' ((c.tc : Thread Cert.StepQkvARefIdeal.nD Cert.StepQkvARefIdeal.τ).loc Cert.StepQkvARefIdeal.main_arg3))

def algebraic_StepHeadGainIdeal_StepHeadGainRefIdeal [hStepHeadGainIdeal : Cert.StepHeadGainIdeal.Facts] [hStepHeadGainRefIdeal : Cert.StepHeadGainRefIdeal.Facts] : Prop :=
  ∀ (m : (ℓ : Loc Cert.StepHeadGainIdeal.nD Cert.StepHeadGainIdeal.τ Cert.StepHeadGainIdeal.sig) → Buf (Elt Ideal) ℓ) (g : Dev Cert.StepHeadGainIdeal.nD → PrngReg)
    (m' : (ℓ : Loc Cert.StepHeadGainRefIdeal.nD Cert.StepHeadGainRefIdeal.τ Cert.StepHeadGainRefIdeal.sig) → Buf (Elt Ideal) ℓ) (g' : Dev Cert.StepHeadGainRefIdeal.nD → PrngReg), Pre_StepHeadGainIdeal m →
    (∀ c : Dev Cert.StepHeadGainIdeal.nD,
      m' ((c.tc : Thread Cert.StepHeadGainRefIdeal.nD Cert.StepHeadGainRefIdeal.τ).loc Cert.StepHeadGainRefIdeal.main_arg0) = m ((c.tc : Thread Cert.StepHeadGainIdeal.nD Cert.StepHeadGainIdeal.τ).loc Cert.StepHeadGainIdeal.main_arg0)
      ∧ m' ((c.tc : Thread Cert.StepHeadGainRefIdeal.nD Cert.StepHeadGainRefIdeal.τ).loc Cert.StepHeadGainRefIdeal.main_arg1) = m ((c.tc : Thread Cert.StepHeadGainIdeal.nD Cert.StepHeadGainIdeal.τ).loc Cert.StepHeadGainIdeal.main_arg1)
      ∧ m' ((c.tc : Thread Cert.StepHeadGainRefIdeal.nD Cert.StepHeadGainRefIdeal.τ).loc Cert.StepHeadGainRefIdeal.main_arg2) = m ((c.tc : Thread Cert.StepHeadGainIdeal.nD Cert.StepHeadGainIdeal.τ).loc Cert.StepHeadGainIdeal.main_arg2)
      ∧ m' ((c.tc : Thread Cert.StepHeadGainRefIdeal.nD Cert.StepHeadGainRefIdeal.τ).loc Cert.StepHeadGainRefIdeal.main_arg3) = m ((c.tc : Thread Cert.StepHeadGainIdeal.nD Cert.StepHeadGainIdeal.τ).loc Cert.StepHeadGainIdeal.main_arg3)) →
    ∃ (v0 : (c : Dev Cert.StepHeadGainIdeal.nD) → Buf (Elt Ideal) ((c.tc : Thread Cert.StepHeadGainIdeal.nD Cert.StepHeadGainIdeal.τ).loc Cert.StepHeadGainIdeal.main_v0_0)) (v1 : (c : Dev Cert.StepHeadGainIdeal.nD) → Buf (Elt Ideal) ((c.tc : Thread Cert.StepHeadGainIdeal.nD Cert.StepHeadGainIdeal.τ).loc Cert.StepHeadGainIdeal.main_v0_1)) (v2 : (c : Dev Cert.StepHeadGainIdeal.nD) → Buf (Elt Ideal) ((c.tc : Thread Cert.StepHeadGainIdeal.nD Cert.StepHeadGainIdeal.τ).loc Cert.StepHeadGainIdeal.main_v0_2)),
      θ_run (Cert.StepHeadGainIdeal.defs (F := Ideal)) (onTc (τ := Cert.StepHeadGainIdeal.τ) (Cert.StepHeadGainIdeal.main (F := Ideal))) ⟨m, fun _ => 0, g⟩ (fun r => ∀ c : Dev Cert.StepHeadGainIdeal.nD,
          r.2.mem ((c.tc : Thread Cert.StepHeadGainIdeal.nD Cert.StepHeadGainIdeal.τ).loc Cert.StepHeadGainIdeal.main_v0_0) = v0 c
          ∧ r.2.mem ((c.tc : Thread Cert.StepHeadGainIdeal.nD Cert.StepHeadGainIdeal.τ).loc Cert.StepHeadGainIdeal.main_v0_1) = v1 c
          ∧ r.2.mem ((c.tc : Thread Cert.StepHeadGainIdeal.nD Cert.StepHeadGainIdeal.τ).loc Cert.StepHeadGainIdeal.main_v0_2) = v2 c
          ∧ r.2.mem ((c.tc : Thread Cert.StepHeadGainIdeal.nD Cert.StepHeadGainIdeal.τ).loc Cert.StepHeadGainIdeal.main_arg0) = m ((c.tc : Thread Cert.StepHeadGainIdeal.nD Cert.StepHeadGainIdeal.τ).loc Cert.StepHeadGainIdeal.main_arg0)
          ∧ r.2.mem ((c.tc : Thread Cert.StepHeadGainIdeal.nD Cert.StepHeadGainIdeal.τ).loc Cert.StepHeadGainIdeal.main_arg1) = m ((c.tc : Thread Cert.StepHeadGainIdeal.nD Cert.StepHeadGainIdeal.τ).loc Cert.StepHeadGainIdeal.main_arg1)
          ∧ r.2.mem ((c.tc : Thread Cert.StepHeadGainIdeal.nD Cert.StepHeadGainIdeal.τ).loc Cert.StepHeadGainIdeal.main_arg2) = m ((c.tc : Thread Cert.StepHeadGainIdeal.nD Cert.StepHeadGainIdeal.τ).loc Cert.StepHeadGainIdeal.main_arg2)
          ∧ r.2.mem ((c.tc : Thread Cert.StepHeadGainIdeal.nD Cert.StepHeadGainIdeal.τ).loc Cert.StepHeadGainIdeal.main_arg3) = m ((c.tc : Thread Cert.StepHeadGainIdeal.nD Cert.StepHeadGainIdeal.τ).loc Cert.StepHeadGainIdeal.main_arg3))
      ∧ θ_run (Cert.StepHeadGainRefIdeal.defs (F := Ideal)) (onTc (τ := Cert.StepHeadGainRefIdeal.τ) (Cert.StepHeadGainRefIdeal.main (F := Ideal))) ⟨m', fun _ => 0, g'⟩ (fun r => ∀ c : Dev Cert.StepHeadGainRefIdeal.nD,
          r.2.mem ((c.tc : Thread Cert.StepHeadGainRefIdeal.nD Cert.StepHeadGainRefIdeal.τ).loc Cert.StepHeadGainRefIdeal.main_v23) = v0 c
          ∧ r.2.mem ((c.tc : Thread Cert.StepHeadGainRefIdeal.nD Cert.StepHeadGainRefIdeal.τ).loc Cert.StepHeadGainRefIdeal.main_v4) = v1 c
          ∧ r.2.mem ((c.tc : Thread Cert.StepHeadGainRefIdeal.nD Cert.StepHeadGainRefIdeal.τ).loc Cert.StepHeadGainRefIdeal.main_v10) = v2 c
          ∧ r.2.mem ((c.tc : Thread Cert.StepHeadGainRefIdeal.nD Cert.StepHeadGainRefIdeal.τ).loc Cert.StepHeadGainRefIdeal.main_arg0) = m' ((c.tc : Thread Cert.StepHeadGainRefIdeal.nD Cert.StepHeadGainRefIdeal.τ).loc Cert.StepHeadGainRefIdeal.main_arg0)
          ∧ r.2.mem ((c.tc : Thread Cert.StepHeadGainRefIdeal.nD Cert.StepHeadGainRefIdeal.τ).loc Cert.StepHeadGainRefIdeal.main_arg1) = m' ((c.tc : Thread Cert.StepHeadGainRefIdeal.nD Cert.StepHeadGainRefIdeal.τ).loc Cert.StepHeadGainRefIdeal.main_arg1)
          ∧ r.2.mem ((c.tc : Thread Cert.StepHeadGainRefIdeal.nD Cert.StepHeadGainRefIdeal.τ).loc Cert.StepHeadGainRefIdeal.main_arg2) = m' ((c.tc : Thread Cert.StepHeadGainRefIdeal.nD Cert.StepHeadGainRefIdeal.τ).loc Cert.StepHeadGainRefIdeal.main_arg2)
          ∧ r.2.mem ((c.tc : Thread Cert.StepHeadGainRefIdeal.nD Cert.StepHeadGainRefIdeal.τ).loc Cert.StepHeadGainRefIdeal.main_arg3) = m' ((c.tc : Thread Cert.StepHeadGainRefIdeal.nD Cert.StepHeadGainRefIdeal.τ).loc Cert.StepHeadGainRefIdeal.main_arg3))

def algebraic_StepSinksIdeal_StepSinksRefIdeal [hStepSinksIdeal : Cert.StepSinksIdeal.Facts] [hStepSinksRefIdeal : Cert.StepSinksRefIdeal.Facts] : Prop :=
  ∀ (m : (ℓ : Loc Cert.StepSinksIdeal.nD Cert.StepSinksIdeal.τ Cert.StepSinksIdeal.sig) → Buf (Elt Ideal) ℓ) (g : Dev Cert.StepSinksIdeal.nD → PrngReg)
    (m' : (ℓ : Loc Cert.StepSinksRefIdeal.nD Cert.StepSinksRefIdeal.τ Cert.StepSinksRefIdeal.sig) → Buf (Elt Ideal) ℓ) (g' : Dev Cert.StepSinksRefIdeal.nD → PrngReg), Pre_StepSinksIdeal m →
    (∀ c : Dev Cert.StepSinksIdeal.nD,
      m' ((c.tc : Thread Cert.StepSinksRefIdeal.nD Cert.StepSinksRefIdeal.τ).loc Cert.StepSinksRefIdeal.main_arg0) = m ((c.tc : Thread Cert.StepSinksIdeal.nD Cert.StepSinksIdeal.τ).loc Cert.StepSinksIdeal.main_arg0)
      ∧ m' ((c.tc : Thread Cert.StepSinksRefIdeal.nD Cert.StepSinksRefIdeal.τ).loc Cert.StepSinksRefIdeal.main_arg1) = m ((c.tc : Thread Cert.StepSinksIdeal.nD Cert.StepSinksIdeal.τ).loc Cert.StepSinksIdeal.main_arg1)
      ∧ m' ((c.tc : Thread Cert.StepSinksRefIdeal.nD Cert.StepSinksRefIdeal.τ).loc Cert.StepSinksRefIdeal.main_arg2) = m ((c.tc : Thread Cert.StepSinksIdeal.nD Cert.StepSinksIdeal.τ).loc Cert.StepSinksIdeal.main_arg2)
      ∧ m' ((c.tc : Thread Cert.StepSinksRefIdeal.nD Cert.StepSinksRefIdeal.τ).loc Cert.StepSinksRefIdeal.main_arg3) = m ((c.tc : Thread Cert.StepSinksIdeal.nD Cert.StepSinksIdeal.τ).loc Cert.StepSinksIdeal.main_arg3)) →
    ∃ (v0 : (c : Dev Cert.StepSinksIdeal.nD) → Buf (Elt Ideal) ((c.tc : Thread Cert.StepSinksIdeal.nD Cert.StepSinksIdeal.τ).loc Cert.StepSinksIdeal.main_v0_0)) (v1 : (c : Dev Cert.StepSinksIdeal.nD) → Buf (Elt Ideal) ((c.tc : Thread Cert.StepSinksIdeal.nD Cert.StepSinksIdeal.τ).loc Cert.StepSinksIdeal.main_v0_1)) (v2 : (c : Dev Cert.StepSinksIdeal.nD) → Buf (Elt Ideal) ((c.tc : Thread Cert.StepSinksIdeal.nD Cert.StepSinksIdeal.τ).loc Cert.StepSinksIdeal.main_v0_2)),
      θ_run (Cert.StepSinksIdeal.defs (F := Ideal)) (onTc (τ := Cert.StepSinksIdeal.τ) (Cert.StepSinksIdeal.main (F := Ideal))) ⟨m, fun _ => 0, g⟩ (fun r => ∀ c : Dev Cert.StepSinksIdeal.nD,
          r.2.mem ((c.tc : Thread Cert.StepSinksIdeal.nD Cert.StepSinksIdeal.τ).loc Cert.StepSinksIdeal.main_v0_0) = v0 c
          ∧ r.2.mem ((c.tc : Thread Cert.StepSinksIdeal.nD Cert.StepSinksIdeal.τ).loc Cert.StepSinksIdeal.main_v0_1) = v1 c
          ∧ r.2.mem ((c.tc : Thread Cert.StepSinksIdeal.nD Cert.StepSinksIdeal.τ).loc Cert.StepSinksIdeal.main_v0_2) = v2 c
          ∧ r.2.mem ((c.tc : Thread Cert.StepSinksIdeal.nD Cert.StepSinksIdeal.τ).loc Cert.StepSinksIdeal.main_arg0) = m ((c.tc : Thread Cert.StepSinksIdeal.nD Cert.StepSinksIdeal.τ).loc Cert.StepSinksIdeal.main_arg0)
          ∧ r.2.mem ((c.tc : Thread Cert.StepSinksIdeal.nD Cert.StepSinksIdeal.τ).loc Cert.StepSinksIdeal.main_arg1) = m ((c.tc : Thread Cert.StepSinksIdeal.nD Cert.StepSinksIdeal.τ).loc Cert.StepSinksIdeal.main_arg1)
          ∧ r.2.mem ((c.tc : Thread Cert.StepSinksIdeal.nD Cert.StepSinksIdeal.τ).loc Cert.StepSinksIdeal.main_arg2) = m ((c.tc : Thread Cert.StepSinksIdeal.nD Cert.StepSinksIdeal.τ).loc Cert.StepSinksIdeal.main_arg2)
          ∧ r.2.mem ((c.tc : Thread Cert.StepSinksIdeal.nD Cert.StepSinksIdeal.τ).loc Cert.StepSinksIdeal.main_arg3) = m ((c.tc : Thread Cert.StepSinksIdeal.nD Cert.StepSinksIdeal.τ).loc Cert.StepSinksIdeal.main_arg3))
      ∧ θ_run (Cert.StepSinksRefIdeal.defs (F := Ideal)) (onTc (τ := Cert.StepSinksRefIdeal.τ) (Cert.StepSinksRefIdeal.main (F := Ideal))) ⟨m', fun _ => 0, g'⟩ (fun r => ∀ c : Dev Cert.StepSinksRefIdeal.nD,
          r.2.mem ((c.tc : Thread Cert.StepSinksRefIdeal.nD Cert.StepSinksRefIdeal.τ).loc Cert.StepSinksRefIdeal.main_v23) = v0 c
          ∧ r.2.mem ((c.tc : Thread Cert.StepSinksRefIdeal.nD Cert.StepSinksRefIdeal.τ).loc Cert.StepSinksRefIdeal.main_v4) = v1 c
          ∧ r.2.mem ((c.tc : Thread Cert.StepSinksRefIdeal.nD Cert.StepSinksRefIdeal.τ).loc Cert.StepSinksRefIdeal.main_v10) = v2 c
          ∧ r.2.mem ((c.tc : Thread Cert.StepSinksRefIdeal.nD Cert.StepSinksRefIdeal.τ).loc Cert.StepSinksRefIdeal.main_arg0) = m' ((c.tc : Thread Cert.StepSinksRefIdeal.nD Cert.StepSinksRefIdeal.τ).loc Cert.StepSinksRefIdeal.main_arg0)
          ∧ r.2.mem ((c.tc : Thread Cert.StepSinksRefIdeal.nD Cert.StepSinksRefIdeal.τ).loc Cert.StepSinksRefIdeal.main_arg1) = m' ((c.tc : Thread Cert.StepSinksRefIdeal.nD Cert.StepSinksRefIdeal.τ).loc Cert.StepSinksRefIdeal.main_arg1)
          ∧ r.2.mem ((c.tc : Thread Cert.StepSinksRefIdeal.nD Cert.StepSinksRefIdeal.τ).loc Cert.StepSinksRefIdeal.main_arg2) = m' ((c.tc : Thread Cert.StepSinksRefIdeal.nD Cert.StepSinksRefIdeal.τ).loc Cert.StepSinksRefIdeal.main_arg2)
          ∧ r.2.mem ((c.tc : Thread Cert.StepSinksRefIdeal.nD Cert.StepSinksRefIdeal.τ).loc Cert.StepSinksRefIdeal.main_arg3) = m' ((c.tc : Thread Cert.StepSinksRefIdeal.nD Cert.StepSinksRefIdeal.τ).loc Cert.StepSinksRefIdeal.main_arg3))

def algebraic_StepOutIdeal_StepOutRefIdeal [hStepOutIdeal : Cert.StepOutIdeal.Facts] [hStepOutRefIdeal : Cert.StepOutRefIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutRefIdeal.nD Cert.StepOutRefIdeal.τ Cert.StepOutRefIdeal.sig) → Buf (Elt Ideal) ℓ) (g' : Dev Cert.StepOutRefIdeal.nD → PrngReg), Pre_StepOutIdeal m →
    (∀ c : Dev Cert.StepOutIdeal.nD,
      m' ((c.tc : Thread Cert.StepOutRefIdeal.nD Cert.StepOutRefIdeal.τ).loc Cert.StepOutRefIdeal.main_arg0) = m ((c.tc : Thread Cert.StepOutIdeal.nD Cert.StepOutIdeal.τ).loc Cert.StepOutIdeal.main_arg0)
      ∧ m' ((c.tc : Thread Cert.StepOutRefIdeal.nD Cert.StepOutRefIdeal.τ).loc Cert.StepOutRefIdeal.main_arg1) = m ((c.tc : Thread Cert.StepOutIdeal.nD Cert.StepOutIdeal.τ).loc Cert.StepOutIdeal.main_arg1)
      ∧ m' ((c.tc : Thread Cert.StepOutRefIdeal.nD Cert.StepOutRefIdeal.τ).loc Cert.StepOutRefIdeal.main_arg2) = m ((c.tc : Thread Cert.StepOutIdeal.nD Cert.StepOutIdeal.τ).loc Cert.StepOutIdeal.main_arg2)
      ∧ m' ((c.tc : Thread Cert.StepOutRefIdeal.nD Cert.StepOutRefIdeal.τ).loc Cert.StepOutRefIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v4_0)) (v1 : (c : Dev Cert.StepOutIdeal.nD) → Buf (Elt Ideal) ((c.tc : Thread Cert.StepOutIdeal.nD Cert.StepOutIdeal.τ).loc Cert.StepOutIdeal.main_v4_1)) (v2 : (c : Dev Cert.StepOutIdeal.nD) → Buf (Elt Ideal) ((c.tc : Thread Cert.StepOutIdeal.nD Cert.StepOutIdeal.τ).loc Cert.StepOutIdeal.main_v4_2)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v4_0) = v0 c
          ∧ r.2.mem ((c.tc : Thread Cert.StepOutIdeal.nD Cert.StepOutIdeal.τ).loc Cert.StepOutIdeal.main_v4_1) = v1 c
          ∧ r.2.mem ((c.tc : Thread Cert.StepOutIdeal.nD Cert.StepOutIdeal.τ).loc Cert.StepOutIdeal.main_v4_2) = v2 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutRefIdeal.defs (F := Ideal)) (onTc (τ := Cert.StepOutRefIdeal.τ) (Cert.StepOutRefIdeal.main (F := Ideal))) ⟨m', fun _ => 0, g'⟩ (fun r => ∀ c : Dev Cert.StepOutRefIdeal.nD,
          r.2.mem ((c.tc : Thread Cert.StepOutRefIdeal.nD Cert.StepOutRefIdeal.τ).loc Cert.StepOutRefIdeal.main_v24) = v0 c
          ∧ r.2.mem ((c.tc : Thread Cert.StepOutRefIdeal.nD Cert.StepOutRefIdeal.τ).loc Cert.StepOutRefIdeal.main_v25) = v1 c
          ∧ r.2.mem ((c.tc : Thread Cert.StepOutRefIdeal.nD Cert.StepOutRefIdeal.τ).loc Cert.StepOutRefIdeal.main_v26) = v2 c
          ∧ r.2.mem ((c.tc : Thread Cert.StepOutRefIdeal.nD Cert.StepOutRefIdeal.τ).loc Cert.StepOutRefIdeal.main_arg0) = m' ((c.tc : Thread Cert.StepOutRefIdeal.nD Cert.StepOutRefIdeal.τ).loc Cert.StepOutRefIdeal.main_arg0)
          ∧ r.2.mem ((c.tc : Thread Cert.StepOutRefIdeal.nD Cert.StepOutRefIdeal.τ).loc Cert.StepOutRefIdeal.main_arg1) = m' ((c.tc : Thread Cert.StepOutRefIdeal.nD Cert.StepOutRefIdeal.τ).loc Cert.StepOutRefIdeal.main_arg1)
          ∧ r.2.mem ((c.tc : Thread Cert.StepOutRefIdeal.nD Cert.StepOutRefIdeal.τ).loc Cert.StepOutRefIdeal.main_arg2) = m' ((c.tc : Thread Cert.StepOutRefIdeal.nD Cert.StepOutRefIdeal.τ).loc Cert.StepOutRefIdeal.main_arg2)
          ∧ r.2.mem ((c.tc : Thread Cert.StepOutRefIdeal.nD Cert.StepOutRefIdeal.τ).loc Cert.StepOutRefIdeal.main_arg3) = m' ((c.tc : Thread Cert.StepOutRefIdeal.nD Cert.StepOutRefIdeal.τ).loc Cert.StepOutRefIdeal.main_arg3))

def algebraic_StepQkvBIdeal_StepQkvBRefIdeal [hStepQkvBIdeal : Cert.StepQkvBIdeal.Facts] [hStepQkvBRefIdeal : Cert.StepQkvBRefIdeal.Facts] : Prop :=
  ∀ (m : (ℓ : Loc Cert.StepQkvBIdeal.nD Cert.StepQkvBIdeal.τ Cert.StepQkvBIdeal.sig) → Buf (Elt Ideal) ℓ) (g : Dev Cert.StepQkvBIdeal.nD → PrngReg)
    (m' : (ℓ : Loc Cert.StepQkvBRefIdeal.nD Cert.StepQkvBRefIdeal.τ Cert.StepQkvBRefIdeal.sig) → Buf (Elt Ideal) ℓ) (g' : Dev Cert.StepQkvBRefIdeal.nD → PrngReg), Pre_StepQkvBIdeal m →
    (∀ c : Dev Cert.StepQkvBIdeal.nD,
      m' ((c.tc : Thread Cert.StepQkvBRefIdeal.nD Cert.StepQkvBRefIdeal.τ).loc Cert.StepQkvBRefIdeal.main_arg0) = m ((c.tc : Thread Cert.StepQkvBIdeal.nD Cert.StepQkvBIdeal.τ).loc Cert.StepQkvBIdeal.main_arg0)
      ∧ m' ((c.tc : Thread Cert.StepQkvBRefIdeal.nD Cert.StepQkvBRefIdeal.τ).loc Cert.StepQkvBRefIdeal.main_arg1) = m ((c.tc : Thread Cert.StepQkvBIdeal.nD Cert.StepQkvBIdeal.τ).loc Cert.StepQkvBIdeal.main_arg1)
      ∧ m' ((c.tc : Thread Cert.StepQkvBRefIdeal.nD Cert.StepQkvBRefIdeal.τ).loc Cert.StepQkvBRefIdeal.main_arg2) = m ((c.tc : Thread Cert.StepQkvBIdeal.nD Cert.StepQkvBIdeal.τ).loc Cert.StepQkvBIdeal.main_arg2)
      ∧ m' ((c.tc : Thread Cert.StepQkvBRefIdeal.nD Cert.StepQkvBRefIdeal.τ).loc Cert.StepQkvBRefIdeal.main_arg3) = m ((c.tc : Thread Cert.StepQkvBIdeal.nD Cert.StepQkvBIdeal.τ).loc Cert.StepQkvBIdeal.main_arg3)) →
    ∃ (v0 : (c : Dev Cert.StepQkvBIdeal.nD) → Buf (Elt Ideal) ((c.tc : Thread Cert.StepQkvBIdeal.nD Cert.StepQkvBIdeal.τ).loc Cert.StepQkvBIdeal.main_v4_0)) (v1 : (c : Dev Cert.StepQkvBIdeal.nD) → Buf (Elt Ideal) ((c.tc : Thread Cert.StepQkvBIdeal.nD Cert.StepQkvBIdeal.τ).loc Cert.StepQkvBIdeal.main_v4_1)) (v2 : (c : Dev Cert.StepQkvBIdeal.nD) → Buf (Elt Ideal) ((c.tc : Thread Cert.StepQkvBIdeal.nD Cert.StepQkvBIdeal.τ).loc Cert.StepQkvBIdeal.main_v4_2)),
      θ_run (Cert.StepQkvBIdeal.defs (F := Ideal)) (onTc (τ := Cert.StepQkvBIdeal.τ) (Cert.StepQkvBIdeal.main (F := Ideal))) ⟨m, fun _ => 0, g⟩ (fun r => ∀ c : Dev Cert.StepQkvBIdeal.nD,
          r.2.mem ((c.tc : Thread Cert.StepQkvBIdeal.nD Cert.StepQkvBIdeal.τ).loc Cert.StepQkvBIdeal.main_v4_0) = v0 c
          ∧ r.2.mem ((c.tc : Thread Cert.StepQkvBIdeal.nD Cert.StepQkvBIdeal.τ).loc Cert.StepQkvBIdeal.main_v4_1) = v1 c
          ∧ r.2.mem ((c.tc : Thread Cert.StepQkvBIdeal.nD Cert.StepQkvBIdeal.τ).loc Cert.StepQkvBIdeal.main_v4_2) = v2 c
          ∧ r.2.mem ((c.tc : Thread Cert.StepQkvBIdeal.nD Cert.StepQkvBIdeal.τ).loc Cert.StepQkvBIdeal.main_arg0) = m ((c.tc : Thread Cert.StepQkvBIdeal.nD Cert.StepQkvBIdeal.τ).loc Cert.StepQkvBIdeal.main_arg0)
          ∧ r.2.mem ((c.tc : Thread Cert.StepQkvBIdeal.nD Cert.StepQkvBIdeal.τ).loc Cert.StepQkvBIdeal.main_arg1) = m ((c.tc : Thread Cert.StepQkvBIdeal.nD Cert.StepQkvBIdeal.τ).loc Cert.StepQkvBIdeal.main_arg1)
          ∧ r.2.mem ((c.tc : Thread Cert.StepQkvBIdeal.nD Cert.StepQkvBIdeal.τ).loc Cert.StepQkvBIdeal.main_arg2) = m ((c.tc : Thread Cert.StepQkvBIdeal.nD Cert.StepQkvBIdeal.τ).loc Cert.StepQkvBIdeal.main_arg2)
          ∧ r.2.mem ((c.tc : Thread Cert.StepQkvBIdeal.nD Cert.StepQkvBIdeal.τ).loc Cert.StepQkvBIdeal.main_arg3) = m ((c.tc : Thread Cert.StepQkvBIdeal.nD Cert.StepQkvBIdeal.τ).loc Cert.StepQkvBIdeal.main_arg3))
      ∧ θ_run (Cert.StepQkvBRefIdeal.defs (F := Ideal)) (onTc (τ := Cert.StepQkvBRefIdeal.τ) (Cert.StepQkvBRefIdeal.main (F := Ideal))) ⟨m', fun _ => 0, g'⟩ (fun r => ∀ c : Dev Cert.StepQkvBRefIdeal.nD,
          r.2.mem ((c.tc : Thread Cert.StepQkvBRefIdeal.nD Cert.StepQkvBRefIdeal.τ).loc Cert.StepQkvBRefIdeal.main_v24) = v0 c
          ∧ r.2.mem ((c.tc : Thread Cert.StepQkvBRefIdeal.nD Cert.StepQkvBRefIdeal.τ).loc Cert.StepQkvBRefIdeal.main_v25) = v1 c
          ∧ r.2.mem ((c.tc : Thread Cert.StepQkvBRefIdeal.nD Cert.StepQkvBRefIdeal.τ).loc Cert.StepQkvBRefIdeal.main_v26) = v2 c
          ∧ r.2.mem ((c.tc : Thread Cert.StepQkvBRefIdeal.nD Cert.StepQkvBRefIdeal.τ).loc Cert.StepQkvBRefIdeal.main_arg0) = m' ((c.tc : Thread Cert.StepQkvBRefIdeal.nD Cert.StepQkvBRefIdeal.τ).loc Cert.StepQkvBRefIdeal.main_arg0)
          ∧ r.2.mem ((c.tc : Thread Cert.StepQkvBRefIdeal.nD Cert.StepQkvBRefIdeal.τ).loc Cert.StepQkvBRefIdeal.main_arg1) = m' ((c.tc : Thread Cert.StepQkvBRefIdeal.nD Cert.StepQkvBRefIdeal.τ).loc Cert.StepQkvBRefIdeal.main_arg1)
          ∧ r.2.mem ((c.tc : Thread Cert.StepQkvBRefIdeal.nD Cert.StepQkvBRefIdeal.τ).loc Cert.StepQkvBRefIdeal.main_arg2) = m' ((c.tc : Thread Cert.StepQkvBRefIdeal.nD Cert.StepQkvBRefIdeal.τ).loc Cert.StepQkvBRefIdeal.main_arg2)
          ∧ r.2.mem ((c.tc : Thread Cert.StepQkvBRefIdeal.nD Cert.StepQkvBRefIdeal.τ).loc Cert.StepQkvBRefIdeal.main_arg3) = m' ((c.tc : Thread Cert.StepQkvBRefIdeal.nD Cert.StepQkvBRefIdeal.τ).loc Cert.StepQkvBRefIdeal.main_arg3))

def algebraic_StepUpIdeal_StepUpRefIdeal [hStepUpIdeal : Cert.StepUpIdeal.Facts] [hStepUpRefIdeal : Cert.StepUpRefIdeal.Facts] : Prop :=
  ∀ (m : (ℓ : Loc Cert.StepUpIdeal.nD Cert.StepUpIdeal.τ Cert.StepUpIdeal.sig) → Buf (Elt Ideal) ℓ) (g : Dev Cert.StepUpIdeal.nD → PrngReg)
    (m' : (ℓ : Loc Cert.StepUpRefIdeal.nD Cert.StepUpRefIdeal.τ Cert.StepUpRefIdeal.sig) → Buf (Elt Ideal) ℓ) (g' : Dev Cert.StepUpRefIdeal.nD → PrngReg), Pre_StepUpIdeal m →
    (∀ c : Dev Cert.StepUpIdeal.nD,
      m' ((c.tc : Thread Cert.StepUpRefIdeal.nD Cert.StepUpRefIdeal.τ).loc Cert.StepUpRefIdeal.main_arg0) = m ((c.tc : Thread Cert.StepUpIdeal.nD Cert.StepUpIdeal.τ).loc Cert.StepUpIdeal.main_arg0)
      ∧ m' ((c.tc : Thread Cert.StepUpRefIdeal.nD Cert.StepUpRefIdeal.τ).loc Cert.StepUpRefIdeal.main_arg1) = m ((c.tc : Thread Cert.StepUpIdeal.nD Cert.StepUpIdeal.τ).loc Cert.StepUpIdeal.main_arg1)
      ∧ m' ((c.tc : Thread Cert.StepUpRefIdeal.nD Cert.StepUpRefIdeal.τ).loc Cert.StepUpRefIdeal.main_arg2) = m ((c.tc : Thread Cert.StepUpIdeal.nD Cert.StepUpIdeal.τ).loc Cert.StepUpIdeal.main_arg2)
      ∧ m' ((c.tc : Thread Cert.StepUpRefIdeal.nD Cert.StepUpRefIdeal.τ).loc Cert.StepUpRefIdeal.main_arg3) = m ((c.tc : Thread Cert.StepUpIdeal.nD Cert.StepUpIdeal.τ).loc Cert.StepUpIdeal.main_arg3)) →
    ∃ (v0 : (c : Dev Cert.StepUpIdeal.nD) → Buf (Elt Ideal) ((c.tc : Thread Cert.StepUpIdeal.nD Cert.StepUpIdeal.τ).loc Cert.StepUpIdeal.main_v4_0)) (v1 : (c : Dev Cert.StepUpIdeal.nD) → Buf (Elt Ideal) ((c.tc : Thread Cert.StepUpIdeal.nD Cert.StepUpIdeal.τ).loc Cert.StepUpIdeal.main_v4_1)) (v2 : (c : Dev Cert.StepUpIdeal.nD) → Buf (Elt Ideal) ((c.tc : Thread Cert.StepUpIdeal.nD Cert.StepUpIdeal.τ).loc Cert.StepUpIdeal.main_v4_2)),
      θ_run (Cert.StepUpIdeal.defs (F := Ideal)) (onTc (τ := Cert.StepUpIdeal.τ) (Cert.StepUpIdeal.main (F := Ideal))) ⟨m, fun _ => 0, g⟩ (fun r => ∀ c : Dev Cert.StepUpIdeal.nD,
          r.2.mem ((c.tc : Thread Cert.StepUpIdeal.nD Cert.StepUpIdeal.τ).loc Cert.StepUpIdeal.main_v4_0) = v0 c
          ∧ r.2.mem ((c.tc : Thread Cert.StepUpIdeal.nD Cert.StepUpIdeal.τ).loc Cert.StepUpIdeal.main_v4_1) = v1 c
          ∧ r.2.mem ((c.tc : Thread Cert.StepUpIdeal.nD Cert.StepUpIdeal.τ).loc Cert.StepUpIdeal.main_v4_2) = v2 c
          ∧ r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3))
      ∧ θ_run (Cert.StepUpRefIdeal.defs (F := Ideal)) (onTc (τ := Cert.StepUpRefIdeal.τ) (Cert.StepUpRefIdeal.main (F := Ideal))) ⟨m', fun _ => 0, g'⟩ (fun r => ∀ c : Dev Cert.StepUpRefIdeal.nD,
          r.2.mem ((c.tc : Thread Cert.StepUpRefIdeal.nD Cert.StepUpRefIdeal.τ).loc Cert.StepUpRefIdeal.main_v24) = v0 c
          ∧ r.2.mem ((c.tc : Thread Cert.StepUpRefIdeal.nD Cert.StepUpRefIdeal.τ).loc Cert.StepUpRefIdeal.main_v25) = v1 c
          ∧ r.2.mem ((c.tc : Thread Cert.StepUpRefIdeal.nD Cert.StepUpRefIdeal.τ).loc Cert.StepUpRefIdeal.main_v26) = v2 c
          ∧ r.2.mem ((c.tc : Thread Cert.StepUpRefIdeal.nD Cert.StepUpRefIdeal.τ).loc Cert.StepUpRefIdeal.main_arg0) = m' ((c.tc : Thread Cert.StepUpRefIdeal.nD Cert.StepUpRefIdeal.τ).loc Cert.StepUpRefIdeal.main_arg0)
          ∧ r.2.mem ((c.tc : Thread Cert.StepUpRefIdeal.nD Cert.StepUpRefIdeal.τ).loc Cert.StepUpRefIdeal.main_arg1) = m' ((c.tc : Thread Cert.StepUpRefIdeal.nD Cert.StepUpRefIdeal.τ).loc Cert.StepUpRefIdeal.main_arg1)
          ∧ r.2.mem ((c.tc : Thread Cert.StepUpRefIdeal.nD Cert.StepUpRefIdeal.τ).loc Cert.StepUpRefIdeal.main_arg2) = m' ((c.tc : Thread Cert.StepUpRefIdeal.nD Cert.StepUpRefIdeal.τ).loc Cert.StepUpRefIdeal.main_arg2)
          ∧ r.2.mem ((c.tc : Thread Cert.StepUpRefIdeal.nD Cert.StepUpRefIdeal.τ).loc Cert.StepUpRefIdeal.main_arg3) = m' ((c.tc : Thread Cert.StepUpRefIdeal.nD Cert.StepUpRefIdeal.τ).loc Cert.StepUpRefIdeal.main_arg3))

def algebraic_StepDownIdeal_StepDownRefIdeal [hStepDownIdeal : Cert.StepDownIdeal.Facts] [hStepDownRefIdeal : Cert.StepDownRefIdeal.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownRefIdeal.nD Cert.StepDownRefIdeal.τ Cert.StepDownRefIdeal.sig) → Buf (Elt Ideal) ℓ) (g' : Dev Cert.StepDownRefIdeal.nD → PrngReg), Pre_StepDownIdeal m →
    (∀ c : Dev Cert.StepDownIdeal.nD,
      m' ((c.tc : Thread Cert.StepDownRefIdeal.nD Cert.StepDownRefIdeal.τ).loc Cert.StepDownRefIdeal.main_arg0) = m ((c.tc : Thread Cert.StepDownIdeal.nD Cert.StepDownIdeal.τ).loc Cert.StepDownIdeal.main_arg0)
      ∧ m' ((c.tc : Thread Cert.StepDownRefIdeal.nD Cert.StepDownRefIdeal.τ).loc Cert.StepDownRefIdeal.main_arg1) = m ((c.tc : Thread Cert.StepDownIdeal.nD Cert.StepDownIdeal.τ).loc Cert.StepDownIdeal.main_arg1)
      ∧ m' ((c.tc : Thread Cert.StepDownRefIdeal.nD Cert.StepDownRefIdeal.τ).loc Cert.StepDownRefIdeal.main_arg2) = m ((c.tc : Thread Cert.StepDownIdeal.nD Cert.StepDownIdeal.τ).loc Cert.StepDownIdeal.main_arg2)
      ∧ m' ((c.tc : Thread Cert.StepDownRefIdeal.nD Cert.StepDownRefIdeal.τ).loc Cert.StepDownRefIdeal.main_arg3) = m ((c.tc : Thread Cert.StepDownIdeal.nD Cert.StepDownIdeal.τ).loc Cert.StepDownIdeal.main_arg3)) →
    ∃ (v0 : (c : Dev Cert.StepDownIdeal.nD) → Buf (Elt Ideal) ((c.tc : Thread Cert.StepDownIdeal.nD Cert.StepDownIdeal.τ).loc Cert.StepDownIdeal.main_v4_0)) (v1 : (c : Dev Cert.StepDownIdeal.nD) → Buf (Elt Ideal) ((c.tc : Thread Cert.StepDownIdeal.nD Cert.StepDownIdeal.τ).loc Cert.StepDownIdeal.main_v4_1)) (v2 : (c : Dev Cert.StepDownIdeal.nD) → Buf (Elt Ideal) ((c.tc : Thread Cert.StepDownIdeal.nD Cert.StepDownIdeal.τ).loc Cert.StepDownIdeal.main_v4_2)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v4_0) = v0 c
          ∧ r.2.mem ((c.tc : Thread Cert.StepDownIdeal.nD Cert.StepDownIdeal.τ).loc Cert.StepDownIdeal.main_v4_1) = v1 c
          ∧ r.2.mem ((c.tc : Thread Cert.StepDownIdeal.nD Cert.StepDownIdeal.τ).loc Cert.StepDownIdeal.main_v4_2) = v2 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ θ_run (Cert.StepDownRefIdeal.defs (F := Ideal)) (onTc (τ := Cert.StepDownRefIdeal.τ) (Cert.StepDownRefIdeal.main (F := Ideal))) ⟨m', fun _ => 0, g'⟩ (fun r => ∀ c : Dev Cert.StepDownRefIdeal.nD,
          r.2.mem ((c.tc : Thread Cert.StepDownRefIdeal.nD Cert.StepDownRefIdeal.τ).loc Cert.StepDownRefIdeal.main_v24) = v0 c
          ∧ r.2.mem ((c.tc : Thread Cert.StepDownRefIdeal.nD Cert.StepDownRefIdeal.τ).loc Cert.StepDownRefIdeal.main_v25) = v1 c
          ∧ r.2.mem ((c.tc : Thread Cert.StepDownRefIdeal.nD Cert.StepDownRefIdeal.τ).loc Cert.StepDownRefIdeal.main_v26) = v2 c
          ∧ r.2.mem ((c.tc : Thread Cert.StepDownRefIdeal.nD Cert.StepDownRefIdeal.τ).loc Cert.StepDownRefIdeal.main_arg0) = m' ((c.tc : Thread Cert.StepDownRefIdeal.nD Cert.StepDownRefIdeal.τ).loc Cert.StepDownRefIdeal.main_arg0)
          ∧ r.2.mem ((c.tc : Thread Cert.StepDownRefIdeal.nD Cert.StepDownRefIdeal.τ).loc Cert.StepDownRefIdeal.main_arg1) = m' ((c.tc : Thread Cert.StepDownRefIdeal.nD Cert.StepDownRefIdeal.τ).loc Cert.StepDownRefIdeal.main_arg1)
          ∧ r.2.mem ((c.tc : Thread Cert.StepDownRefIdeal.nD Cert.StepDownRefIdeal.τ).loc Cert.StepDownRefIdeal.main_arg2) = m' ((c.tc : Thread Cert.StepDownRefIdeal.nD Cert.StepDownRefIdeal.τ).loc Cert.StepDownRefIdeal.main_arg2)
          ∧ r.2.mem ((c.tc : Thread Cert.StepDownRefIdeal.nD Cert.StepDownRefIdeal.τ).loc Cert.StepDownRefIdeal.main_arg3) = m' ((c.tc : Thread Cert.StepDownRefIdeal.nD Cert.StepDownRefIdeal.τ).loc Cert.StepDownRefIdeal.main_arg3))

def Claim : Prop :=
  ∃ (hKernel : Cert.Kernel.Facts) (hKernelIdeal : Cert.KernelIdeal.Facts) (hReferenceIdeal : Cert.ReferenceIdeal.Facts) (hWeightGrad : Cert.WeightGrad.Facts) (hWeightGradIdeal : Cert.WeightGradIdeal.Facts) (hSwigluGrad : Cert.SwigluGrad.Facts) (hSwigluGradIdeal : Cert.SwigluGradIdeal.Facts) (hNormGrad : Cert.NormGrad.Facts) (hNormGradIdeal : Cert.NormGradIdeal.Facts) (hSwiglu : Cert.Swiglu.Facts) (hSwigluIdeal : Cert.SwigluIdeal.Facts) (hResidual : Cert.Residual.Facts) (hResidualIdeal : Cert.ResidualIdeal.Facts) (hOutGrad : Cert.OutGrad.Facts) (hOutGradIdeal : Cert.OutGradIdeal.Facts) (hQkvGrad : Cert.QkvGrad.Facts) (hQkvGradIdeal : Cert.QkvGradIdeal.Facts) (hFirstGrad : Cert.FirstGrad.Facts) (hFirstGradIdeal : Cert.FirstGradIdeal.Facts) (hAttnGrad : Cert.AttnGrad.Facts) (hAttnGradIdeal : Cert.AttnGradIdeal.Facts) (hQkvA : Cert.QkvA.Facts) (hQkvAIdeal : Cert.QkvAIdeal.Facts) (hQkvB : Cert.QkvB.Facts) (hQkvBIdeal : Cert.QkvBIdeal.Facts) (hAttnOut : Cert.AttnOut.Facts) (hAttnOutIdeal : Cert.AttnOutIdeal.Facts) (hLossHead : Cert.LossHead.Facts) (hLossHeadIdeal : Cert.LossHeadIdeal.Facts) (hTopGrad : Cert.TopGrad.Facts) (hTopGradIdeal : Cert.TopGradIdeal.Facts) (hAdaGrad : Cert.AdaGrad.Facts) (hAdaGradIdeal : Cert.AdaGradIdeal.Facts) (hSumMod : Cert.SumMod.Facts) (hSumModIdeal : Cert.SumModIdeal.Facts) (hSumGain : Cert.SumGain.Facts) (hSumGainIdeal : Cert.SumGainIdeal.Facts) (hStepAdaW : Cert.StepAdaW.Facts) (hStepAdaWIdeal : Cert.StepAdaWIdeal.Facts) (hStepAdaB : Cert.StepAdaB.Facts) (hStepAdaBIdeal : Cert.StepAdaBIdeal.Facts) (hStepGain : Cert.StepGain.Facts) (hStepGainIdeal : Cert.StepGainIdeal.Facts) (hStepQkvA : Cert.StepQkvA.Facts) (hStepQkvAIdeal : Cert.StepQkvAIdeal.Facts) (hStepHeadGain : Cert.StepHeadGain.Facts) (hStepHeadGainIdeal : Cert.StepHeadGainIdeal.Facts) (hStepSinks : Cert.StepSinks.Facts) (hStepSinksIdeal : Cert.StepSinksIdeal.Facts) (hStepOut : Cert.StepOut.Facts) (hStepOutIdeal : Cert.StepOutIdeal.Facts) (hStepQkvB : Cert.StepQkvB.Facts) (hStepQkvBIdeal : Cert.StepQkvBIdeal.Facts) (hStepUp : Cert.StepUp.Facts) (hStepUpIdeal : Cert.StepUpIdeal.Facts) (hStepDown : Cert.StepDown.Facts) (hStepDownIdeal : Cert.StepDownIdeal.Facts) (hDownGradRefIdeal : Cert.DownGradRefIdeal.Facts) (hGateGradRefIdeal : Cert.GateGradRefIdeal.Facts) (hSwigluGradRefIdeal : Cert.SwigluGradRefIdeal.Facts) (hNormGradRefIdeal : Cert.NormGradRefIdeal.Facts) (hSwigluRefIdeal : Cert.SwigluRefIdeal.Facts) (hResidualRefIdeal : Cert.ResidualRefIdeal.Facts) (hOutGradRefIdeal : Cert.OutGradRefIdeal.Facts) (hThirdGradRefIdeal : Cert.ThirdGradRefIdeal.Facts) (hQkvGradRefIdeal : Cert.QkvGradRefIdeal.Facts) (hFirstGradRefIdeal : Cert.FirstGradRefIdeal.Facts) (hAttnGradRefIdeal : Cert.AttnGradRefIdeal.Facts) (hQkvARefIdeal : Cert.QkvARefIdeal.Facts) (hQkvBRefIdeal : Cert.QkvBRefIdeal.Facts) (hAttnOutRefIdeal : Cert.AttnOutRefIdeal.Facts) (hLossHeadRefIdeal : Cert.LossHeadRefIdeal.Facts) (hTopGradRefIdeal : Cert.TopGradRefIdeal.Facts) (hAdaGradRefIdeal : Cert.AdaGradRefIdeal.Facts) (hSumModRefIdeal : Cert.SumModRefIdeal.Facts) (hSumGainRefIdeal : Cert.SumGainRefIdeal.Facts) (hStepAdaWRefIdeal : Cert.StepAdaWRefIdeal.Facts) (hStepAdaBRefIdeal : Cert.StepAdaBRefIdeal.Facts) (hStepGainRefIdeal : Cert.StepGainRefIdeal.Facts) (hStepQkvARefIdeal : Cert.StepQkvARefIdeal.Facts) (hStepHeadGainRefIdeal : Cert.StepHeadGainRefIdeal.Facts) (hStepSinksRefIdeal : Cert.StepSinksRefIdeal.Facts) (hStepOutRefIdeal : Cert.StepOutRefIdeal.Facts) (hStepQkvBRefIdeal : Cert.StepQkvBRefIdeal.Facts) (hStepUpRefIdeal : Cert.StepUpRefIdeal.Facts) (hStepDownRefIdeal : Cert.StepDownRefIdeal.Facts) (hPre_finite : Cert.Pre_finite.Facts) (hPre_finite_swiglu : Cert.Pre_finite_swiglu.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WeightGrad (hWeightGrad := hWeightGrad)
    ∧ quiescent_WeightGradIdeal (hWeightGradIdeal := hWeightGradIdeal)
    ∧ quiescent_SwigluGrad (hSwigluGrad := hSwigluGrad)
    ∧ quiescent_SwigluGradIdeal (hSwigluGradIdeal := hSwigluGradIdeal)
    ∧ quiescent_SwigluGradIdeal_pre_finite_swiglu (hSwigluGradIdeal := hSwigluGradIdeal) (hPre_finite_swiglu := hPre_finite_swiglu)
    ∧ quiescent_NormGrad (hNormGrad := hNormGrad)
    ∧ quiescent_NormGradIdeal (hNormGradIdeal := hNormGradIdeal)
    ∧ quiescent_Swiglu (hSwiglu := hSwiglu)
    ∧ quiescent_SwigluIdeal (hSwigluIdeal := hSwigluIdeal)
    ∧ quiescent_Residual (hResidual := hResidual)
    ∧ quiescent_ResidualIdeal (hResidualIdeal := hResidualIdeal)
    ∧ quiescent_OutGrad (hOutGrad := hOutGrad)
    ∧ quiescent_OutGradIdeal (hOutGradIdeal := hOutGradIdeal)
    ∧ quiescent_QkvGrad (hQkvGrad := hQkvGrad)
    ∧ quiescent_QkvGradIdeal (hQkvGradIdeal := hQkvGradIdeal)
    ∧ quiescent_FirstGrad (hFirstGrad := hFirstGrad)
    ∧ quiescent_FirstGradIdeal (hFirstGradIdeal := hFirstGradIdeal)
    ∧ quiescent_AttnGrad (hAttnGrad := hAttnGrad)
    ∧ quiescent_AttnGradIdeal (hAttnGradIdeal := hAttnGradIdeal)
    ∧ quiescent_QkvA (hQkvA := hQkvA)
    ∧ quiescent_QkvAIdeal (hQkvAIdeal := hQkvAIdeal)
    ∧ quiescent_QkvB (hQkvB := hQkvB)
    ∧ quiescent_QkvBIdeal (hQkvBIdeal := hQkvBIdeal)
    ∧ quiescent_AttnOut (hAttnOut := hAttnOut)
    ∧ quiescent_AttnOutIdeal (hAttnOutIdeal := hAttnOutIdeal)
    ∧ quiescent_LossHead (hLossHead := hLossHead)
    ∧ quiescent_LossHeadIdeal (hLossHeadIdeal := hLossHeadIdeal)
    ∧ quiescent_TopGrad (hTopGrad := hTopGrad)
    ∧ quiescent_TopGradIdeal (hTopGradIdeal := hTopGradIdeal)
    ∧ quiescent_AdaGrad (hAdaGrad := hAdaGrad)
    ∧ quiescent_AdaGradIdeal (hAdaGradIdeal := hAdaGradIdeal)
    ∧ quiescent_SumMod (hSumMod := hSumMod)
    ∧ quiescent_SumModIdeal (hSumModIdeal := hSumModIdeal)
    ∧ quiescent_SumGain (hSumGain := hSumGain)
    ∧ quiescent_SumGainIdeal (hSumGainIdeal := hSumGainIdeal)
    ∧ quiescent_StepAdaW (hStepAdaW := hStepAdaW)
    ∧ quiescent_StepAdaWIdeal (hStepAdaWIdeal := hStepAdaWIdeal)
    ∧ quiescent_StepAdaB (hStepAdaB := hStepAdaB)
    ∧ quiescent_StepAdaBIdeal (hStepAdaBIdeal := hStepAdaBIdeal)
    ∧ quiescent_StepGain (hStepGain := hStepGain)
    ∧ quiescent_StepGainIdeal (hStepGainIdeal := hStepGainIdeal)
    ∧ quiescent_StepQkvA (hStepQkvA := hStepQkvA)
    ∧ quiescent_StepQkvAIdeal (hStepQkvAIdeal := hStepQkvAIdeal)
    ∧ quiescent_StepHeadGain (hStepHeadGain := hStepHeadGain)
    ∧ quiescent_StepHeadGainIdeal (hStepHeadGainIdeal := hStepHeadGainIdeal)
    ∧ quiescent_StepSinks (hStepSinks := hStepSinks)
    ∧ quiescent_StepSinksIdeal (hStepSinksIdeal := hStepSinksIdeal)
    ∧ quiescent_StepOut (hStepOut := hStepOut)
    ∧ quiescent_StepOutIdeal (hStepOutIdeal := hStepOutIdeal)
    ∧ quiescent_StepQkvB (hStepQkvB := hStepQkvB)
    ∧ quiescent_StepQkvBIdeal (hStepQkvBIdeal := hStepQkvBIdeal)
    ∧ quiescent_StepUp (hStepUp := hStepUp)
    ∧ quiescent_StepUpIdeal (hStepUpIdeal := hStepUpIdeal)
    ∧ quiescent_StepDown (hStepDown := hStepDown)
    ∧ quiescent_StepDownIdeal (hStepDownIdeal := hStepDownIdeal)
    ∧ quiescent_DownGradRefIdeal (hDownGradRefIdeal := hDownGradRefIdeal)
    ∧ quiescent_GateGradRefIdeal (hGateGradRefIdeal := hGateGradRefIdeal)
    ∧ quiescent_SwigluGradRefIdeal (hSwigluGradRefIdeal := hSwigluGradRefIdeal)
    ∧ quiescent_SwigluGradRefIdeal_pre_finite_swiglu (hSwigluGradRefIdeal := hSwigluGradRefIdeal) (hPre_finite_swiglu := hPre_finite_swiglu)
    ∧ quiescent_NormGradRefIdeal (hNormGradRefIdeal := hNormGradRefIdeal)
    ∧ quiescent_SwigluRefIdeal (hSwigluRefIdeal := hSwigluRefIdeal)
    ∧ quiescent_ResidualRefIdeal (hResidualRefIdeal := hResidualRefIdeal)
    ∧ quiescent_OutGradRefIdeal (hOutGradRefIdeal := hOutGradRefIdeal)
    ∧ quiescent_ThirdGradRefIdeal (hThirdGradRefIdeal := hThirdGradRefIdeal)
    ∧ quiescent_QkvGradRefIdeal (hQkvGradRefIdeal := hQkvGradRefIdeal)
    ∧ quiescent_FirstGradRefIdeal (hFirstGradRefIdeal := hFirstGradRefIdeal)
    ∧ quiescent_AttnGradRefIdeal (hAttnGradRefIdeal := hAttnGradRefIdeal)
    ∧ quiescent_QkvARefIdeal (hQkvARefIdeal := hQkvARefIdeal)
    ∧ quiescent_QkvBRefIdeal (hQkvBRefIdeal := hQkvBRefIdeal)
    ∧ quiescent_AttnOutRefIdeal (hAttnOutRefIdeal := hAttnOutRefIdeal)
    ∧ quiescent_LossHeadRefIdeal (hLossHeadRefIdeal := hLossHeadRefIdeal)
    ∧ quiescent_TopGradRefIdeal (hTopGradRefIdeal := hTopGradRefIdeal)
    ∧ quiescent_AdaGradRefIdeal (hAdaGradRefIdeal := hAdaGradRefIdeal)
    ∧ quiescent_SumModRefIdeal (hSumModRefIdeal := hSumModRefIdeal)
    ∧ quiescent_SumGainRefIdeal (hSumGainRefIdeal := hSumGainRefIdeal)
    ∧ quiescent_StepAdaWRefIdeal (hStepAdaWRefIdeal := hStepAdaWRefIdeal)
    ∧ quiescent_StepAdaBRefIdeal (hStepAdaBRefIdeal := hStepAdaBRefIdeal)
    ∧ quiescent_StepGainRefIdeal (hStepGainRefIdeal := hStepGainRefIdeal)
    ∧ quiescent_StepQkvARefIdeal (hStepQkvARefIdeal := hStepQkvARefIdeal)
    ∧ quiescent_StepHeadGainRefIdeal (hStepHeadGainRefIdeal := hStepHeadGainRefIdeal)
    ∧ quiescent_StepSinksRefIdeal (hStepSinksRefIdeal := hStepSinksRefIdeal)
    ∧ quiescent_StepOutRefIdeal (hStepOutRefIdeal := hStepOutRefIdeal)
    ∧ quiescent_StepQkvBRefIdeal (hStepQkvBRefIdeal := hStepQkvBRefIdeal)
    ∧ quiescent_StepUpRefIdeal (hStepUpRefIdeal := hStepUpRefIdeal)
    ∧ quiescent_StepDownRefIdeal (hStepDownRefIdeal := hStepDownRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_WeightGrad_WeightGradIdeal
    ∧ preserves_SwigluGrad_SwigluGradIdeal
    ∧ preserves_NormGrad_NormGradIdeal
    ∧ preserves_Swiglu_SwigluIdeal
    ∧ preserves_Residual_ResidualIdeal
    ∧ preserves_OutGrad_OutGradIdeal
    ∧ preserves_QkvGrad_QkvGradIdeal
    ∧ preserves_FirstGrad_FirstGradIdeal
    ∧ preserves_AttnGrad_AttnGradIdeal
    ∧ preserves_QkvA_QkvAIdeal
    ∧ preserves_QkvB_QkvBIdeal
    ∧ preserves_AttnOut_AttnOutIdeal
    ∧ preserves_LossHead_LossHeadIdeal
    ∧ preserves_TopGrad_TopGradIdeal
    ∧ preserves_AdaGrad_AdaGradIdeal
    ∧ preserves_SumMod_SumModIdeal
    ∧ preserves_SumGain_SumGainIdeal
    ∧ preserves_StepAdaW_StepAdaWIdeal
    ∧ preserves_StepAdaB_StepAdaBIdeal
    ∧ preserves_StepGain_StepGainIdeal
    ∧ preserves_StepQkvA_StepQkvAIdeal
    ∧ preserves_StepHeadGain_StepHeadGainIdeal
    ∧ preserves_StepSinks_StepSinksIdeal
    ∧ preserves_StepOut_StepOutIdeal
    ∧ preserves_StepQkvB_StepQkvBIdeal
    ∧ preserves_StepUp_StepUpIdeal
    ∧ preserves_StepDown_StepDownIdeal
    ∧ algebraic_WeightGradIdeal_DownGradRefIdeal (hWeightGradIdeal := hWeightGradIdeal) (hDownGradRefIdeal := hDownGradRefIdeal)
    ∧ algebraic_WeightGradIdeal_GateGradRefIdeal (hWeightGradIdeal := hWeightGradIdeal) (hGateGradRefIdeal := hGateGradRefIdeal)
    ∧ algebraic_SwigluGradIdeal_SwigluGradRefIdeal_pre_finite_swiglu (hSwigluGradIdeal := hSwigluGradIdeal) (hSwigluGradRefIdeal := hSwigluGradRefIdeal) (hPre_finite_swiglu := hPre_finite_swiglu)
    ∧ algebraic_NormGradIdeal_NormGradRefIdeal (hNormGradIdeal := hNormGradIdeal) (hNormGradRefIdeal := hNormGradRefIdeal)
    ∧ algebraic_SwigluIdeal_SwigluRefIdeal (hSwigluIdeal := hSwigluIdeal) (hSwigluRefIdeal := hSwigluRefIdeal)
    ∧ algebraic_ResidualIdeal_ResidualRefIdeal (hResidualIdeal := hResidualIdeal) (hResidualRefIdeal := hResidualRefIdeal)
    ∧ algebraic_OutGradIdeal_OutGradRefIdeal (hOutGradIdeal := hOutGradIdeal) (hOutGradRefIdeal := hOutGradRefIdeal)
    ∧ algebraic_OutGradIdeal_ThirdGradRefIdeal (hOutGradIdeal := hOutGradIdeal) (hThirdGradRefIdeal := hThirdGradRefIdeal)
    ∧ algebraic_QkvGradIdeal_QkvGradRefIdeal (hQkvGradIdeal := hQkvGradIdeal) (hQkvGradRefIdeal := hQkvGradRefIdeal)
    ∧ algebraic_FirstGradIdeal_FirstGradRefIdeal (hFirstGradIdeal := hFirstGradIdeal) (hFirstGradRefIdeal := hFirstGradRefIdeal)
    ∧ algebraic_AttnGradIdeal_AttnGradRefIdeal (hAttnGradIdeal := hAttnGradIdeal) (hAttnGradRefIdeal := hAttnGradRefIdeal)
    ∧ algebraic_QkvAIdeal_QkvARefIdeal (hQkvAIdeal := hQkvAIdeal) (hQkvARefIdeal := hQkvARefIdeal)
    ∧ algebraic_QkvBIdeal_QkvBRefIdeal (hQkvBIdeal := hQkvBIdeal) (hQkvBRefIdeal := hQkvBRefIdeal)
    ∧ algebraic_AttnOutIdeal_AttnOutRefIdeal (hAttnOutIdeal := hAttnOutIdeal) (hAttnOutRefIdeal := hAttnOutRefIdeal)
    ∧ algebraic_LossHeadIdeal_LossHeadRefIdeal (hLossHeadIdeal := hLossHeadIdeal) (hLossHeadRefIdeal := hLossHeadRefIdeal)
    ∧ algebraic_TopGradIdeal_TopGradRefIdeal (hTopGradIdeal := hTopGradIdeal) (hTopGradRefIdeal := hTopGradRefIdeal)
    ∧ algebraic_AdaGradIdeal_AdaGradRefIdeal (hAdaGradIdeal := hAdaGradIdeal) (hAdaGradRefIdeal := hAdaGradRefIdeal)
    ∧ algebraic_SumModIdeal_SumModRefIdeal (hSumModIdeal := hSumModIdeal) (hSumModRefIdeal := hSumModRefIdeal)
    ∧ algebraic_SumGainIdeal_SumGainRefIdeal (hSumGainIdeal := hSumGainIdeal) (hSumGainRefIdeal := hSumGainRefIdeal)
    ∧ algebraic_StepAdaWIdeal_StepAdaWRefIdeal (hStepAdaWIdeal := hStepAdaWIdeal) (hStepAdaWRefIdeal := hStepAdaWRefIdeal)
    ∧ algebraic_StepAdaBIdeal_StepAdaBRefIdeal (hStepAdaBIdeal := hStepAdaBIdeal) (hStepAdaBRefIdeal := hStepAdaBRefIdeal)
    ∧ algebraic_StepGainIdeal_StepGainRefIdeal (hStepGainIdeal := hStepGainIdeal) (hStepGainRefIdeal := hStepGainRefIdeal)
    ∧ algebraic_StepQkvAIdeal_StepQkvARefIdeal (hStepQkvAIdeal := hStepQkvAIdeal) (hStepQkvARefIdeal := hStepQkvARefIdeal)
    ∧ algebraic_StepHeadGainIdeal_StepHeadGainRefIdeal (hStepHeadGainIdeal := hStepHeadGainIdeal) (hStepHeadGainRefIdeal := hStepHeadGainRefIdeal)
    ∧ algebraic_StepSinksIdeal_StepSinksRefIdeal (hStepSinksIdeal := hStepSinksIdeal) (hStepSinksRefIdeal := hStepSinksRefIdeal)
    ∧ algebraic_StepOutIdeal_StepOutRefIdeal (hStepOutIdeal := hStepOutIdeal) (hStepOutRefIdeal := hStepOutRefIdeal)
    ∧ algebraic_StepQkvBIdeal_StepQkvBRefIdeal (hStepQkvBIdeal := hStepQkvBIdeal) (hStepQkvBRefIdeal := hStepQkvBRefIdeal)
    ∧ algebraic_StepUpIdeal_StepUpRefIdeal (hStepUpIdeal := hStepUpIdeal) (hStepUpRefIdeal := hStepUpRefIdeal)
    ∧ algebraic_StepDownIdeal_StepDownRefIdeal (hStepDownIdeal := hStepDownIdeal) (hStepDownRefIdeal := hStepDownRefIdeal)
-- ==== Pre_finite.lean ====
abbrev S2x4096x16x64 : Shape := ⟨4, ![2, 4096, 16, 64]⟩
abbrev S2x4096x2x64 : Shape := ⟨4, ![2, 4096, 2, 64]⟩
abbrev S16 : Shape := ⟨1, ![16]⟩
abbrev S2x4096x1024 : Shape := ⟨3, ![2, 4096, 1024]⟩
abbrev S_ : Shape := ⟨0, ![]⟩

class Facts : Prop where
  bcast_S_S2x4096x16x64 : S_.BroadcastsInDim S2x4096x16x64 (![] : Fin 0 → Fin S2x4096x16x64.rank)
  reducesTo_S2x4096x16x64_S_d0_1_2_3 : S2x4096x16x64.ReducesTo [0, 1, 2, 3] S_
  h_S_ : 0 < S_.numel
  bcast_S_S2x4096x2x64 : S_.BroadcastsInDim S2x4096x2x64 (![] : Fin 0 → Fin S2x4096x2x64.rank)
  reducesTo_S2x4096x2x64_S_d0_1_2_3 : S2x4096x2x64.ReducesTo [0, 1, 2, 3] S_
  bcast_S_S16 : S_.BroadcastsInDim S16 (![] : Fin 0 → Fin S16.rank)
  reducesTo_S16_S_d0 : S16.ReducesTo [0] S_
  bcast_S_S2x4096x1024 : S_.BroadcastsInDim S2x4096x1024 (![] : Fin 0 → Fin S2x4096x1024.rank)
  reducesTo_S2x4096x1024_S_d0_1_2 : S2x4096x1024.ReducesTo [0, 1, 2] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S2x4096x2x64 .f32) (main_arg3 : FVec F S16 .f32) (main_arg4 : FVec F S2x4096x1024 .f32) (main_v12 : IVec S_ 1) (main_v14 : IVec S2x4096x2x64 1) (main_v15 : FVec F S2x4096x2x64 .f32) : IVec S_ 1 :=
  let main_v16 : IVec S2x4096x2x64 1 := cmpf .olt main_arg2 main_v15
  let main_v17 : IVec S2x4096x2x64 1 := andi main_v14 main_v16
  let main_c_6 : IVec S_ 1 := constantI S_ 1 1#1
  let main_v18 : IVec S_ 1 := (fun x v => Host.reduce IntOp.andi x v reducesTo_S2x4096x2x64_S_d0_1_2_3 h_S_) main_v17 main_c_6
  let main_v19 : IVec S_ 1 := andi main_v12 main_v18
  let main_cst_7 : FVec F S_ .f32 := constant S_ .f32 0xFF800000#32
  let main_v20 : FVec F S16 .f32 := broadcastInDim S16 ![] bcast_S_S16 main_cst_7
  let main_v21 : IVec S16 1 := cmpf .ogt main_arg3 main_v20
  let main_cst_8 : FVec F S_ .f32 := constant S_ .f32 0x7F800000#32
  let main_v22 : FVec F S16 .f32 := broadcastInDim S16 ![] bcast_S_S16 main_cst_8
  let main_v23 : IVec S16 1 := cmpf .olt main_arg3 main_v22
  let main_v24 : IVec S16 1 := andi main_v21 main_v23
  let main_c_9 : IVec S_ 1 := constantI S_ 1 1#1
  let main_v25 : IVec S_ 1 := (fun x v => Host.reduce IntOp.andi x v reducesTo_S16_S_d0 h_S_) main_v24 main_c_9
  let main_v26 : IVec S_ 1 := andi main_v19 main_v25
  let main_cst_10 : FVec F S_ .f32 := constant S_ .f32 0xFF800000#32
  let main_v27 : FVec F S2x4096x1024 .f32 := broadcastInDim S2x4096x1024 ![] bcast_S_S2x4096x1024 main_cst_10
  let main_v28 : IVec S2x4096x1024 1 := cmpf .ogt main_arg4 main_v27
  let main_cst_11 : FVec F S_ .f32 := constant S_ .f32 0x7F800000#32
  let main_v29 : FVec F S2x4096x1024 .f32 := broadcastInDim S2x4096x1024 ![] bcast_S_S2x4096x1024 main_cst_11
  let main_v30 : IVec S2x4096x1024 1 := cmpf .olt main_arg4 main_v29
  let main_v31 : IVec S2x4096x1024 1 := andi main_v28 main_v30
  let main_c_12 : IVec S_ 1 := constantI S_ 1 1#1
  let main_v32 : IVec S_ 1 := (fun x v => Host.reduce IntOp.andi x v reducesTo_S2x4096x1024_S_d0_1_2 h_S_) main_v31 main_c_12
  fn_part2 (F := F) main_v26 main_v32

def fn {F : FTy → Type} [FloatOps F] (main_arg0 : FVec F S2x4096x16x64 .f32) (main_arg1 : FVec F S2x4096x2x64 .f32) (main_arg2 : FVec F S2x4096x2x64 .f32) (main_arg3 : FVec F S16 .f32) (main_arg4 : FVec F S2x4096x1024 .f32) : IVec S_ 1 :=
  let main_cst : FVec F S_ .f32 := constant S_ .f32 0xFF800000#32
  let main_v0 : FVec F S2x4096x16x64 .f32 := broadcastInDim S2x4096x16x64 ![] bcast_S_S2x4096x16x64 main_cst
  let main_v1 : IVec S2x4096x16x64 1 := cmpf .ogt main_arg0 main_v0
  let main_cst_0 : FVec F S_ .f32 := constant S_ .f32 0x7F800000#32
  let main_v2 : FVec F S2x4096x16x64 .f32 := broadcastInDim S2x4096x16x64 ![] bcast_S_S2x4096x16x64 main_cst_0
  let main_v3 : IVec S2x4096x16x64 1 := cmpf .olt main_arg0 main_v2
  let main_v4 : IVec S2x4096x16x64 1 := andi main_v1 main_v3
  let main_c : IVec S_ 1 := constantI S_ 1 1#1
  let main_v5 : IVec S_ 1 := (fun x v => Host.reduce IntOp.andi x v reducesTo_S2x4096x16x64_S_d0_1_2_3 h_S_) main_v4 main_c
  let main_cst_1 : FVec F S_ .f32 := constant S_ .f32 0xFF800000#32
  let main_v6 : FVec F S2x4096x2x64 .f32 := broadcastInDim S2x4096x2x64 ![] bcast_S_S2x4096x2x64 main_cst_1
  let main_v7 : IVec S2x4096x2x64 1 := cmpf .ogt main_arg1 main_v6
  let main_cst_2 : FVec F S_ .f32 := constant S_ .f32 0x7F800000#32
  let main_v8 : FVec F S2x4096x2x64 .f32 := broadcastInDim S2x4096x2x64 ![] bcast_S_S2x4096x2x64 main_cst_2
  let main_v9 : IVec S2x4096x2x64 1 := cmpf .olt main_arg1 main_v8
  let main_v10 : IVec S2x4096x2x64 1 := andi main_v7 main_v9
  let main_c_3 : IVec S_ 1 := constantI S_ 1 1#1
  let main_v11 : IVec S_ 1 := (fun x v => Host.reduce IntOp.andi x v reducesTo_S2x4096x2x64_S_d0_1_2_3 h_S_) main_v10 main_c_3
  let main_v12 : IVec S_ 1 := andi main_v5 main_v11
  let main_cst_4 : FVec F S_ .f32 := constant S_ .f32 0xFF800000#32
  let main_v13 : FVec F S2x4096x2x64 .f32 := broadcastInDim S2x4096x2x64 ![] bcast_S_S2x4096x2x64 main_cst_4
  let main_v14 : IVec S2x4096x2x64 1 := cmpf .ogt main_arg2 main_v13
  let main_cst_5 : FVec F S_ .f32 := constant S_ .f32 0x7F800000#32
  let main_v15 : FVec F S2x4096x2x64 .f32 := broadcastInDim S2x4096x2x64 ![] bcast_S_S2x4096x2x64 main_cst_5
  fn_part1 (F := F) main_arg2 main_arg3 main_arg4 main_v12 main_v14 main_v15
-- ==== Pre_finite_swiglu.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg2 : FVec F S8192x2816 .f32) (main_arg3 : FVec F S8192x2816 .f32) (main_v12 : IVec S_ 1) (main_v14 : IVec S8192x2816 1) (main_v15 : FVec F S8192x2816 .f32) : IVec S_ 1 :=
  let main_v16 : IVec S8192x2816 1 := cmpf .olt main_arg2 main_v15
  let main_v17 : IVec S8192x2816 1 := andi main_v14 main_v16
  let main_c_6 : IVec S_ 1 := constantI S_ 1 1#1
  let main_v18 : IVec S_ 1 := (fun x v => Host.reduce IntOp.andi x v reducesTo_S8192x2816_S_d0_1 h_S_) main_v17 main_c_6
  let main_v19 : IVec S_ 1 := andi main_v12 main_v18
  let main_cst_7 : FVec F S_ .f32 := constant S_ .f32 0xFF800000#32
  let main_v20 : FVec F S8192x2816 .f32 := broadcastInDim S8192x2816 ![] bcast_S_S8192x2816 main_cst_7
  let main_v21 : IVec S8192x2816 1 := cmpf .ogt main_arg3 main_v20
  let main_cst_8 : FVec F S_ .f32 := constant S_ .f32 0x7F800000#32
  let main_v22 : FVec F S8192x2816 .f32 := broadcastInDim S8192x2816 ![] bcast_S_S8192x2816 main_cst_8
  let main_v23 : IVec S8192x2816 1 := cmpf .olt main_arg3 main_v22
  let main_v24 : IVec S8192x2816 1 := andi main_v21 main_v23
  let main_c_9 : IVec S_ 1 := constantI S_ 1 1#1
  let main_v25 : IVec S_ 1 := (fun x v => Host.reduce IntOp.andi x v reducesTo_S8192x2816_S_d0_1 h_S_) main_v24 main_c_9
  let main_v26 : IVec S_ 1 := andi main_v19 main_v25
  main_v26

def fn {F : FTy → Type} [FloatOps F] (main_arg0 : FVec F S8192x1024 .f32) (main_arg1 : FVec F S2816x1024 .f32) (main_arg2 : FVec F S8192x2816 .f32) (main_arg3 : FVec F S8192x2816 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S2816x1024 .f32 := broadcastInDim S2816x1024 ![] bcast_S_S2816x1024 main_cst_1
  let main_v7 : IVec S2816x1024 1 := cmpf .ogt main_arg1 main_v6
  let main_cst_2 : FVec F S_ .f32 := constant S_ .f32 0x7F800000#32
  let main_v8 : FVec F S2816x1024 .f32 := broadcastInDim S2816x1024 ![] bcast_S_S2816x1024 main_cst_2
  let main_v9 : IVec S2816x1024 1 := cmpf .olt main_arg1 main_v8
  let main_v10 : IVec S2816x1024 1 := andi main_v7 main_v9
  let main_c_3 : IVec S_ 1 := constantI S_ 1 1#1
  let main_v11 : IVec S_ 1 := (fun x v => Host.reduce IntOp.andi x v reducesTo_S2816x1024_S_d0_1 h_S_) main_v10 main_c_3
  let main_v12 : IVec S_ 1 := andi main_v5 main_v11
  let main_cst_4 : FVec F S_ .f32 := constant S_ .f32 0xFF800000#32
  let main_v13 : FVec F S8192x2816 .f32 := broadcastInDim S8192x2816 ![] bcast_S_S8192x2816 main_cst_4
  let main_v14 : IVec S8192x2816 1 := cmpf .ogt main_arg2 main_v13
  let main_cst_5 : FVec F S_ .f32 := constant S_ .f32 0x7F800000#32
  let main_v15 : FVec F S8192x2816 .f32 := broadcastInDim S8192x2816 ![] bcast_S_S8192x2816 main_cst_5
  fn_part1 (F := F) main_arg2 main_arg3 main_v12 main_v14 main_v15
-- ==== Kernel.lean ====
abbrev S2x4096x16x64 : Shape := ⟨4, ![2, 4096, 16, 64]⟩
abbrev S2x4096x2x64 : Shape := ⟨4, ![2, 4096, 2, 64]⟩
abbrev S16 : Shape := ⟨1, ![16]⟩
abbrev S2x4096x1024 : Shape := ⟨3, ![2, 4096, 1024]⟩
abbrev S8x1x2x1 : Shape := ⟨4, ![8, 1, 2, 1]⟩
abbrev S8x1x2x64 : Shape := ⟨4, ![8, 1, 2, 64]⟩
abbrev S8x1x128 : Shape := ⟨3, ![8, 1, 128]⟩
abbrev S_ : Shape := ⟨0, ![]⟩
abbrev S2x128x2x64 : Shape := ⟨4, ![2, 128, 2, 64]⟩
abbrev S2x4224x2x64 : Shape := ⟨4, ![2, 4224, 2, 64]⟩
abbrev S2x33x128x2x64 : Shape := ⟨5, ![2, 33, 128, 2, 64]⟩
abbrev S2x32x128x2x64 : Shape := ⟨5, ![2, 32, 128, 2, 64]⟩
abbrev S2x32x256x2x64 : Shape := ⟨5, ![2, 32, 256, 2, 64]⟩
abbrev S64x256x2x64 : Shape := ⟨4, ![64, 256, 2, 64]⟩
abbrev S64x256x2x1x64 : Shape := ⟨5, ![64, 256, 2, 1, 64]⟩
abbrev S64x256x2x2x64 : Shape := ⟨5, ![64, 256, 2, 2, 64]⟩
abbrev S64x256x4x64 : Shape := ⟨4, ![64, 256, 4, 64]⟩
abbrev S8192x2x4x2x64 : Shape := ⟨5, ![8192, 2, 4, 2, 64]⟩
abbrev S8192x4x2x2x64 : Shape := ⟨5, ![8192, 4, 2, 2, 64]⟩
abbrev S64x128x4x4x64 : Shape := ⟨5, ![64, 128, 4, 4, 64]⟩
abbrev S64x4x128x4x256 : Shape := ⟨5, ![64, 4, 128, 4, 256]⟩
abbrev S2x4x2 : Shape := ⟨3, ![2, 4, 2]⟩
abbrev S2x2x4 : Shape := ⟨3, ![2, 2, 4]⟩
abbrev S1x4x1x4x1 : Shape := ⟨5, ![1, 4, 1, 4, 1]⟩
abbrev S64x4x128x4x1 : Shape := ⟨5, ![64, 4, 128, 4, 1]⟩
abbrev S64x4x128x4x257 : Shape := ⟨5, ![64, 4, 128, 4, 257]⟩
abbrev S64x4x128x4 : Shape := ⟨4, ![64, 4, 128, 4]⟩
abbrev S64x128x4x4 : Shape := ⟨4, ![64, 128, 4, 4]⟩
abbrev S8192x4x2x2 : Shape := ⟨4, ![8192, 4, 2, 2]⟩
abbrev S8192x2x4x2 : Shape := ⟨4, ![8192, 2, 4, 2]⟩
abbrev S8192x16x1 : Shape := ⟨3, ![8192, 16, 1]⟩
abbrev S8192x16x64 : Shape := ⟨3, ![8192, 16, 64]⟩
abbrev S8192x1024 : Shape := ⟨2, ![8192, 1024]⟩
abbrev S8192x2x1x64 : Shape := ⟨4, ![8192, 2, 1, 64]⟩
abbrev S8192x2x2x64 : Shape := ⟨4, ![8192, 2, 2, 64]⟩
abbrev S8192x256 : Shape := ⟨2, ![8192, 256]⟩
abbrev S128x512 : Shape := ⟨2, ![128, 512]⟩
abbrev S128x128 : Shape := ⟨2, ![128, 128]⟩
abbrev S4x1x128 : Shape := ⟨3, ![4, 1, 128]⟩
abbrev S256x256 : Shape := ⟨2, ![256, 256]⟩
abbrev S256x128 : Shape := ⟨2, ![256, 128]⟩
abbrev S1x1x128 : Shape := ⟨3, ![1, 1, 128]⟩
abbrev S1x128 : Shape := ⟨2, ![1, 128]⟩
abbrev S1x1 : Shape := ⟨2, ![1, 1]⟩
abbrev S128x1 : Shape := ⟨2, ![128, 1]⟩
abbrev S256x1 : Shape := ⟨2, ![256, 1]⟩
abbrev S256 : Shape := ⟨1, ![256]⟩
abbrev S1 : Shape := ⟨1, ![1]⟩

abbrev nBuf : Space → Nat
  | .hbm => 102
  | .vmem => 28
  | .smem => 0
  | _ => 0

abbrev bufTy : (tb : Table) → Fin (tcTables nBuf tb) → BufTy
  | .hbm, ⟨0, _⟩ => ⟨S2x4096x16x64, .f32⟩
  | .hbm, ⟨1, _⟩ => ⟨S2x4096x2x64, .f32⟩
  | .hbm, ⟨2, _⟩ => ⟨S2x4096x2x64, .f32⟩
  | .hbm, ⟨3, _⟩ => ⟨S16, .f32⟩
  | .hbm, ⟨4, _⟩ => ⟨S2x4096x1024, .f32⟩
  | .hbm, ⟨5, _⟩ => ⟨S8x1x2x1, .f32⟩
  | .hbm, ⟨6, _⟩ => ⟨S8x1x2x64, .f32⟩
  | .hbm, ⟨7, _⟩ => ⟨S8x1x128, .f32⟩
  | .hbm, ⟨8, _⟩ => ⟨S_, .f32⟩
  | .hbm, ⟨9, _⟩ => ⟨S2x128x2x64, .f32⟩
  | .hbm, ⟨10, _⟩ => ⟨S2x4224x2x64, .f32⟩
  | .hbm, ⟨11, _⟩ => ⟨S2x33x128x2x64, .f32⟩
  | .hbm, ⟨12, _⟩ => ⟨S2x32x128x2x64, .f32⟩
  | .hbm, ⟨13, _⟩ => ⟨S2x32x128x2x64, .f32⟩
  | .hbm, ⟨14, _⟩ => ⟨S2x32x256x2x64, .f32⟩
  | .hbm, ⟨15, _⟩ => ⟨S64x256x2x64, .f32⟩
  | .hbm, ⟨16, _⟩ => ⟨S64x256x2x1x64, .f32⟩
  | .hbm, ⟨17, _⟩ => ⟨S64x256x2x2x64, .f32⟩
  | .hbm, ⟨18, _⟩ => ⟨S64x256x4x64, .f32⟩
  | .hbm, ⟨19, _⟩ => ⟨S8192x2x4x2x64, .f32⟩
  | .hbm, ⟨20, _⟩ => ⟨S8192x4x2x2x64, .f32⟩
  | .hbm, ⟨21, _⟩ => ⟨S64x128x4x4x64, .f32⟩
  | .hbm, ⟨22, _⟩ => ⟨S64x4x128x4x256, .f32⟩
  | .hbm, ⟨23, _⟩ => ⟨S_, .f32⟩
  | .hbm, ⟨24, _⟩ => ⟨S64x4x128x4x256, .f32⟩
  | .hbm, ⟨25, _⟩ => ⟨S64x4x128x4x256, .f32⟩
  | .hbm, ⟨26, _⟩ => ⟨S64x4x128x4x256, .i32⟩
  | .hbm, ⟨27, _⟩ => ⟨S_, .i32⟩
  | .hbm, ⟨28, _⟩ => ⟨S64x4x128x4x256, .i32⟩
  | .hbm, ⟨29, _⟩ => ⟨S64x4x128x4x256, .i32⟩
  | .hbm, ⟨30, _⟩ => ⟨S64x4x128x4x256, .i32⟩
  | .hbm, ⟨31, _⟩ => ⟨S64x4x128x4x256, .i32⟩
  | .hbm, ⟨32, _⟩ => ⟨S_, .i32⟩
  | .hbm, ⟨33, _⟩ => ⟨S64x4x128x4x256, .i32⟩
  | .hbm, ⟨34, _⟩ => ⟨S64x4x128x4x256, .i32⟩
  | .hbm, ⟨35, _⟩ => ⟨S_, .i32⟩
  | .hbm, ⟨36, _⟩ => ⟨S64x4x128x4x256, .i32⟩
  | .hbm, ⟨37, _⟩ => ⟨S64x4x128x4x256, .i32⟩
  | .hbm, ⟨38, _⟩ => ⟨S64x4x128x4x256, .i32⟩
  | .hbm, ⟨39, _⟩ => ⟨S_, .i32⟩
  | .hbm, ⟨40, _⟩ => ⟨S64x4x128x4x256, .i32⟩
  | .hbm, ⟨41, _⟩ => ⟨S64x4x128x4x256, .i1⟩
  | .hbm, ⟨42, _⟩ => ⟨S_, .i32⟩
  | .hbm, ⟨43, _⟩ => ⟨S64x4x128x4x256, .i32⟩
  | .hbm, ⟨44, _⟩ => ⟨S64x4x128x4x256, .i1⟩
  | .hbm, ⟨45, _⟩ => ⟨S64x4x128x4x256, .i1⟩
  | .hbm, ⟨46, _⟩ => ⟨S_, .i32⟩
  | .hbm, ⟨47, _⟩ => ⟨S64x4x128x4x256, .i32⟩
  | .hbm, ⟨48, _⟩ => ⟨S64x4x128x4x256, .i32⟩
  | .hbm, ⟨49, _⟩ => ⟨S64x4x128x4x256, .i32⟩
  | .hbm, ⟨50, _⟩ => ⟨S_, .i32⟩
  | .hbm, ⟨51, _⟩ => ⟨S64x4x128x4x256, .i32⟩
  | .hbm, ⟨52, _⟩ => ⟨S64x4x128x4x256, .i1⟩
  | .hbm, ⟨53, _⟩ => ⟨S64x4x128x4x256, .i1⟩
  | .hbm, ⟨54, _⟩ => ⟨S_, .f32⟩
  | .hbm, ⟨55, _⟩ => ⟨S_, .f32⟩
  | .hbm, ⟨56, _⟩ => ⟨S64x4x128x4x256, .f32⟩
  | .hbm, ⟨57, _⟩ => ⟨S64x4x128x4x256, .f32⟩
  | .hbm, ⟨58, _⟩ => ⟨S2x4x2, .f32⟩
  | .hbm, ⟨59, _⟩ => ⟨S2x2x4, .f32⟩
  | .hbm, ⟨60, _⟩ => ⟨S1x4x1x4x1, .f32⟩
  | .hbm, ⟨61, _⟩ => ⟨S64x4x128x4x1, .f32⟩
  | .hbm, ⟨62, _⟩ => ⟨S64x4x128x4x257, .f32⟩
  | .hbm, ⟨63, _⟩ => ⟨S_, .f32⟩
  | .hbm, ⟨64, _⟩ => ⟨S64x4x128x4, .f32⟩
  | .hbm, ⟨65, _⟩ => ⟨S_, .f32⟩
  | .hbm, ⟨66, _⟩ => ⟨S64x4x128x4, .f32⟩
  | .hbm, ⟨67, _⟩ => ⟨S64x4x128x4, .f32⟩
  | .hbm, ⟨68, _⟩ => ⟨S64x4x128x4x1, .f32⟩
  | .hbm, ⟨69, _⟩ => ⟨S64x4x128x4x257, .f32⟩
  | .hbm, ⟨70, _⟩ => ⟨S64x4x128x4x257, .f32⟩
  | .hbm, ⟨71, _⟩ => ⟨S64x4x128x4x257, .f32⟩
  | .hbm, ⟨72, _⟩ => ⟨S_, .f32⟩
  | .hbm, ⟨73, _⟩ => ⟨S64x4x128x4, .f32⟩
  | .hbm, ⟨74, _⟩ => ⟨S64x4x128x4x1, .f32⟩
  | .hbm, ⟨75, _⟩ => ⟨S64x4x128x4x1, .f32⟩
  | .hbm, ⟨76, _⟩ => ⟨S64x4x128x4x1, .f32⟩
  | .hbm, ⟨77, _⟩ => ⟨S64x4x128x4, .f32⟩
  | .hbm, ⟨78, _⟩ => ⟨S64x128x4x4, .f32⟩
  | .hbm, ⟨79, _⟩ => ⟨S8192x4x2x2, .f32⟩
  | .hbm, ⟨80, _⟩ => ⟨S8192x2x4x2, .f32⟩
  | .hbm, ⟨81, _⟩ => ⟨S8192x16x1, .f32⟩
  | .hbm, ⟨82, _⟩ => ⟨S8192x16x64, .f32⟩
  | .hbm, ⟨83, _⟩ => ⟨S8192x1024, .f32⟩
  | .hbm, ⟨84, _⟩ => ⟨S8192x1024, .f32⟩
  | .hbm, ⟨85, _⟩ => ⟨S8192x1024, .bf16⟩
  | .hbm, ⟨86, _⟩ => ⟨S8192x2x1x64, .f32⟩
  | .hbm, ⟨87, _⟩ => ⟨S8192x2x2x64, .f32⟩
  | .hbm, ⟨88, _⟩ => ⟨S8192x256, .f32⟩
  | .hbm, ⟨89, _⟩ => ⟨S8192x256, .bf16⟩
  | .hbm, ⟨90, _⟩ => ⟨S8192x2x1x64, .f32⟩
  | .hbm, ⟨91, _⟩ => ⟨S8192x2x2x64, .f32⟩
  | .hbm, ⟨92, _⟩ => ⟨S8192x256, .f32⟩
  | .hbm, ⟨93, _⟩ => ⟨S8192x256, .bf16⟩
  | .hbm, ⟨94, _⟩ => ⟨S8192x1024, .f32⟩
  | .hbm, ⟨95, _⟩ => ⟨S8192x1024, .bf16⟩
  | .hbm, ⟨96, _⟩ => ⟨S8192x1024, .f32⟩
  | .hbm, ⟨97, _⟩ => ⟨S8192x256, .f32⟩
  | .hbm, ⟨98, _⟩ => ⟨S8192x256, .f32⟩
  | .hbm, ⟨99, _⟩ => ⟨S8192x256, .f32⟩
  | .hbm, ⟨100, _⟩ => ⟨S8192x256, .f32⟩
  | .hbm, ⟨101, _⟩ => ⟨S8x1x128, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S4x1x128, .f32⟩
  | .local _ .vmem, ⟨11, _⟩ => ⟨S4x1x128, .f32⟩
  | .local _ .vmem, ⟨12, _⟩ => ⟨S128x512, .bf16⟩
  | .local _ .vmem, ⟨13, _⟩ => ⟨S128x512, .bf16⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S4x1x128, .f32⟩
  | .local _ .vmem, ⟨27, _⟩ => ⟨S4x1x128, .f32⟩
  | _, _ => ⟨S2x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_call0_v0 : Ref sig .tc := ⟨.hbm, 55, rfl⟩
abbrev main_call0_v1 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76_0 : Ref sig .tc := ⟨.hbm, 96, rfl⟩
abbrev main_v76_1 : Ref sig .tc := ⟨.hbm, 97, rfl⟩
abbrev main_v76_2 : Ref sig .tc := ⟨.hbm, 98, rfl⟩
abbrev main_v76_3 : Ref sig .tc := ⟨.hbm, 99, rfl⟩
abbrev main_v76_4 : Ref sig .tc := ⟨.hbm, 100, rfl⟩
abbrev main_v76_5 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![2, 2, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c0_i32_0 : BitVec 32 := 0#32
  ![v3.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c0_i32_0 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S4x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]
-- ==== KernelIdeal.lean ====
variable {F : FTy → Type} [FloatOps F] [Named F]
def κ : String → Option EReal := fun
  | "mask" => some ⊥
  | _ => none
-- ==== ReferenceIdeal.lean ====
abbrev S2x4096x16x64 : Shape := ⟨4, ![2, 4096, 16, 64]⟩
abbrev S2x4096x2x64 : Shape := ⟨4, ![2, 4096, 2, 64]⟩
abbrev S16 : Shape := ⟨1, ![16]⟩
abbrev S2x4096x1024 : Shape := ⟨3, ![2, 4096, 1024]⟩
abbrev S_ : Shape := ⟨0, ![]⟩
abbrev S2x128x2x64 : Shape := ⟨4, ![2, 128, 2, 64]⟩
abbrev S2x4224x2x64 : Shape := ⟨4, ![2, 4224, 2, 64]⟩
abbrev S2x33x128x2x64 : Shape := ⟨5, ![2, 33, 128, 2, 64]⟩
abbrev S2x32x128x2x64 : Shape := ⟨5, ![2, 32, 128, 2, 64]⟩
abbrev S2x32x256x2x64 : Shape := ⟨5, ![2, 32, 256, 2, 64]⟩
abbrev S64x256x2x64 : Shape := ⟨4, ![64, 256, 2, 64]⟩
abbrev S64x256x2x1x64 : Shape := ⟨5, ![64, 256, 2, 1, 64]⟩
abbrev S64x256x2x2x64 : Shape := ⟨5, ![64, 256, 2, 2, 64]⟩
abbrev S64x256x4x64 : Shape := ⟨4, ![64, 256, 4, 64]⟩
abbrev S8192x2x4x2x64 : Shape := ⟨5, ![8192, 2, 4, 2, 64]⟩
abbrev S8192x4x2x2x64 : Shape := ⟨5, ![8192, 4, 2, 2, 64]⟩
abbrev S64x128x4x4x64 : Shape := ⟨5, ![64, 128, 4, 4, 64]⟩
abbrev S64x4x128x4x256 : Shape := ⟨5, ![64, 4, 128, 4, 256]⟩
abbrev S2x4x2 : Shape := ⟨3, ![2, 4, 2]⟩
abbrev S2x2x4 : Shape := ⟨3, ![2, 2, 4]⟩
abbrev S1x4x1x4x1 : Shape := ⟨5, ![1, 4, 1, 4, 1]⟩
abbrev S64x4x128x4x1 : Shape := ⟨5, ![64, 4, 128, 4, 1]⟩
abbrev S64x4x128x4x257 : Shape := ⟨5, ![64, 4, 128, 4, 257]⟩
abbrev S64x4x128x4 : Shape := ⟨4, ![64, 4, 128, 4]⟩
abbrev S64x4x64x128x4 : Shape := ⟨5, ![64, 4, 64, 128, 4]⟩
abbrev S64x4x64x256 : Shape := ⟨4, ![64, 4, 64, 256]⟩
abbrev S4x4 : Shape := ⟨2, ![4, 4]⟩
abbrev S64x4x256x64 : Shape := ⟨4, ![64, 4, 256, 64]⟩
abbrev S64x4x128x4x64 : Shape := ⟨5, ![64, 4, 128, 4, 64]⟩
abbrev S8x1x2x1 : Shape := ⟨4, ![8, 1, 2, 1]⟩
abbrev S8x1x2x64 : Shape := ⟨4, ![8, 1, 2, 64]⟩
abbrev S8x1x128 : Shape := ⟨3, ![8, 1, 128]⟩
abbrev S8192x1024 : Shape := ⟨2, ![8192, 1024]⟩
abbrev S64x128x4x64 : Shape := ⟨4, ![64, 128, 4, 64]⟩
abbrev S8192x256 : Shape := ⟨2, ![8192, 256]⟩

abbrev nBuf : Space → Nat
  | .hbm => 173
  | .vmem => 0
  | .smem => 0
  | _ => 0

abbrev hbmTy0_0 (i : Nat) : BufTy := match i % 128 with
  | 0 => ⟨S2x4096x16x64, .f32⟩
  | 1 => ⟨S2x4096x2x64, .f32⟩
  | 2 => ⟨S2x4096x2x64, .f32⟩
  | 3 => ⟨S16, .f32⟩
  | 4 => ⟨S2x4096x1024, .f32⟩
  | 5 => ⟨S_, .f32⟩
  | 6 => ⟨S2x128x2x64, .f32⟩
  | 7 => ⟨S2x4224x2x64, .f32⟩
  | 8 => ⟨S2x33x128x2x64, .f32⟩
  | 9 => ⟨S2x32x128x2x64, .f32⟩
  | 10 => ⟨S2x32x128x2x64, .f32⟩
  | 11 => ⟨S2x32x256x2x64, .f32⟩
  | 12 => ⟨S64x256x2x64, .f32⟩
  | 13 => ⟨S64x256x2x1x64, .f32⟩
  | 14 => ⟨S64x256x2x2x64, .f32⟩
  | 15 => ⟨S64x256x4x64, .f32⟩
  | 16 => ⟨S_, .f32⟩
  | 17 => ⟨S2x128x2x64, .f32⟩
  | 18 => ⟨S2x4224x2x64, .f32⟩
  | 19 => ⟨S2x33x128x2x64, .f32⟩
  | 20 => ⟨S2x32x128x2x64, .f32⟩
  | 21 => ⟨S2x32x128x2x64, .f32⟩
  | 22 => ⟨S2x32x256x2x64, .f32⟩
  | 23 => ⟨S64x256x2x64, .f32⟩
  | 24 => ⟨S64x256x2x1x64, .f32⟩
  | 25 => ⟨S64x256x2x2x64, .f32⟩
  | 26 => ⟨S64x256x4x64, .f32⟩
  | 27 => ⟨S8192x2x4x2x64, .f32⟩
  | 28 => ⟨S8192x4x2x2x64, .f32⟩
  | 29 => ⟨S64x128x4x4x64, .f32⟩
  | 30 => ⟨S64x4x128x4x256, .f32⟩
  | 31 => ⟨S_, .f32⟩
  | 32 => ⟨S64x4x128x4x256, .f32⟩
  | 33 => ⟨S64x4x128x4x256, .f32⟩
  | 34 => ⟨S64x4x128x4x256, .i32⟩
  | 35 => ⟨S_, .i32⟩
  | 36 => ⟨S64x4x128x4x256, .i32⟩
  | 37 => ⟨S64x4x128x4x256, .i32⟩
  | 38 => ⟨S64x4x128x4x256, .i32⟩
  | 39 => ⟨S64x4x128x4x256, .i32⟩
  | 40 => ⟨S_, .i32⟩
  | 41 => ⟨S64x4x128x4x256, .i32⟩
  | 42 => ⟨S64x4x128x4x256, .i32⟩
  | 43 => ⟨S_, .i32⟩
  | 44 => ⟨S64x4x128x4x256, .i32⟩
  | 45 => ⟨S64x4x128x4x256, .i32⟩
  | 46 => ⟨S64x4x128x4x256, .i32⟩
  | 47 => ⟨S_, .i32⟩
  | 48 => ⟨S64x4x128x4x256, .i32⟩
  | 49 => ⟨S64x4x128x4x256, .i1⟩
  | 50 => ⟨S_, .i32⟩
  | 51 => ⟨S64x4x128x4x256, .i32⟩
  | 52 => ⟨S64x4x128x4x256, .i1⟩
  | 53 => ⟨S64x4x128x4x256, .i1⟩
  | 54 => ⟨S_, .i32⟩
  | 55 => ⟨S64x4x128x4x256, .i32⟩
  | 56 => ⟨S64x4x128x4x256, .i32⟩
  | 57 => ⟨S64x4x128x4x256, .i32⟩
  | 58 => ⟨S_, .i32⟩
  | 59 => ⟨S64x4x128x4x256, .i32⟩
  | 60 => ⟨S64x4x128x4x256, .i1⟩
  | 61 => ⟨S64x4x128x4x256, .i1⟩
  | 62 => ⟨S_, .f32⟩
  | 63 => ⟨S_, .f32⟩
  | 64 => ⟨S64x4x128x4x256, .f32⟩
  | 65 => ⟨S64x4x128x4x256, .f32⟩
  | 66 => ⟨S_, .f32⟩
  | 67 => ⟨S64x4x128x4x256, .f32⟩
  | 68 => ⟨S2x4x2, .f32⟩
  | 69 => ⟨S2x2x4, .f32⟩
  | 70 => ⟨S1x4x1x4x1, .f32⟩
  | 71 => ⟨S64x4x128x4x1, .f32⟩
  | 72 => ⟨S64x4x128x4x257, .f32⟩
  | 73 => ⟨S_, .f32⟩
  | 74 => ⟨S64x4x128x4, .f32⟩
  | 75 => ⟨S64x4x128x4x1, .f32⟩
  | 76 => ⟨S64x4x128x4x257, .f32⟩
  | 77 => ⟨S64x4x128x4x257, .i1⟩
  | 78 => ⟨S64x4x128x4x257, .f32⟩
  | 79 => ⟨S_, .f32⟩
  | 80 => ⟨S64x4x128x4, .f32⟩
  | 81 => ⟨S_, .f32⟩
  | 82 => ⟨S64x4x128x4, .f32⟩
  | 83 => ⟨S64x4x128x4, .f32⟩
  | 84 => ⟨S_, .f32⟩
  | 85 => ⟨S64x4x128x4, .f32⟩
  | 86 => ⟨S64x4x128x4, .i1⟩
  | 87 => ⟨S_, .f32⟩
  | 88 => ⟨S64x4x128x4, .f32⟩
  | 89 => ⟨S64x4x128x4, .i1⟩
  | 90 => ⟨S_, .f32⟩
  | 91 => ⟨S64x4x128x4, .f32⟩
  | 92 => ⟨S_, .f32⟩
  | 93 => ⟨S64x4x128x4, .f32⟩
  | 94 => ⟨S_, .f32⟩
  | 95 => ⟨S64x4x128x4, .f32⟩
  | 96 => ⟨S64x4x128x4, .f32⟩
  | 97 => ⟨S64x4x128x4, .f32⟩
  | 98 => ⟨S64x4x128x4x1, .f32⟩
  | 99 => ⟨S64x4x128x4x257, .f32⟩
  | 100 => ⟨S64x4x128x4x257, .f32⟩
  | 101 => ⟨S64x4x128x4x257, .f32⟩
  | 102 => ⟨S_, .f32⟩
  | 103 => ⟨S64x4x128x4, .f32⟩
  | 104 => ⟨S64x4x128x4x1, .f32⟩
  | 105 => ⟨S64x4x128x4x257, .f32⟩
  | 106 => ⟨S64x4x128x4x257, .f32⟩
  | 107 => ⟨S64x4x128x4x1, .f32⟩
  | 108 => ⟨S_, .f32⟩
  | 109 => ⟨S64x4x128x4x1, .f32⟩
  | 110 => ⟨S64x4x128x4x1, .f32⟩
  | 111 => ⟨S64x4x128x4x256, .f32⟩
  | 112 => ⟨S64x4x64x128x4, .f32⟩
  | 113 => ⟨S64x128x4x4x64, .f32⟩
  | 114 => ⟨S8192x4x2x2x64, .f32⟩
  | 115 => ⟨S8192x2x4x2x64, .f32⟩
  | 116 => ⟨S2x4096x1024, .f32⟩
  | 117 => ⟨S8192x2x4x2x64, .f32⟩
  | 118 => ⟨S8192x4x2x2x64, .f32⟩
  | 119 => ⟨S64x128x4x4x64, .f32⟩
  | 120 => ⟨S64x4x64x128x4, .f32⟩
  | 121 => ⟨S64x4x128x4x256, .f32⟩
  | 122 => ⟨S64x4x64x256, .f32⟩
  | 123 => ⟨S64x256x4x64, .f32⟩
  | 124 => ⟨S_, .f32⟩
  | 125 => ⟨S64x4x128x4x257, .f32⟩
  | 126 => ⟨S64x4x128x4x257, .f32⟩
  | 127 => ⟨S64x4x128x4x257, .f32⟩
  | _ => ⟨S2x4096x16x64, .f32⟩

abbrev hbmTy0_1 (i : Nat) : BufTy := match i % 128 with
  | 0 => ⟨S64x4x128x4x257, .f32⟩
  | 1 => ⟨S_, .f32⟩
  | 2 => ⟨S64x4x128x4, .f32⟩
  | 3 => ⟨S64x4x128x4x1, .f32⟩
  | 4 => ⟨S64x4x128x4x1, .f32⟩
  | 5 => ⟨S64x4x128x4x257, .f32⟩
  | 6 => ⟨S64x4x128x4x257, .f32⟩
  | 7 => ⟨S_, .f32⟩
  | 8 => ⟨S64x4x128x4, .f32⟩
  | 9 => ⟨S64x4x128x4x257, .f32⟩
  | 10 => ⟨S64x4x128x4x257, .f32⟩
  | 11 => ⟨S64x4x128x4x257, .f32⟩
  | 12 => ⟨S64x4x128x4x256, .f32⟩
  | 13 => ⟨S64x4x128x4x1, .f32⟩
  | 14 => ⟨S_, .f32⟩
  | 15 => ⟨S4x4, .f32⟩
  | 16 => ⟨S1x4x1x4x1, .f32⟩
  | 17 => ⟨S2x2x4, .f32⟩
  | 18 => ⟨S2x4x2, .f32⟩
  | 19 => ⟨S16, .f32⟩
  | 20 => ⟨S_, .f32⟩
  | 21 => ⟨S64x4x128x4x256, .f32⟩
  | 22 => ⟨S64x4x128x4x256, .f32⟩
  | 23 => ⟨S_, .f32⟩
  | 24 => ⟨S64x4x128x4x256, .f32⟩
  | 25 => ⟨S64x4x128x4x256, .f32⟩
  | 26 => ⟨S64x4x256x64, .f32⟩
  | 27 => ⟨S64x256x4x64, .f32⟩
  | 28 => ⟨S64x4x128x4x64, .f32⟩
  | 29 => ⟨S64x128x4x4x64, .f32⟩
  | 30 => ⟨S8192x4x2x2x64, .f32⟩
  | 31 => ⟨S8192x2x4x2x64, .f32⟩
  | 32 => ⟨S2x4096x16x64, .f32⟩
  | 33 => ⟨S8x1x2x1, .f32⟩
  | 34 => ⟨S8x1x2x64, .f32⟩
  | 35 => ⟨S8x1x128, .f32⟩
  | 36 => ⟨S8192x1024, .f32⟩
  | 37 => ⟨S64x128x4x64, .f32⟩
  | 38 => ⟨S8192x256, .f32⟩
  | 39 => ⟨S64x128x4x64, .f32⟩
  | 40 => ⟨S8192x256, .f32⟩
  | 41 => ⟨S64x128x4x64, .f32⟩
  | 42 => ⟨S8192x256, .f32⟩
  | 43 => ⟨S64x128x4x64, .f32⟩
  | 44 => ⟨S8192x256, .f32⟩
  | _ => ⟨S2x4096x16x64, .f32⟩

abbrev hbmTy (i : Nat) : BufTy := match i / 128 with
  | 0 => hbmTy0_0 i
  | 1 => hbmTy0_1 i
  | _ => ⟨S2x4096x16x64, .f32⟩

abbrev bufTy : (tb : Table) → Fin (tcTables nBuf tb) → BufTy
  | .hbm, ⟨i, _⟩ => hbmTy i
  | _, _ => ⟨S2x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_call0_v0 : Ref sig .tc := ⟨.hbm, 63, rfl⟩
abbrev main_call0_v1 : Ref sig .tc := ⟨.hbm, 64, rfl⟩
abbrev main_v47_0 : Ref sig .tc := ⟨.hbm, 65, rfl⟩
abbrev main_call0_cst : Ref sig .tc := ⟨.hbm, 66, rfl⟩
abbrev main_v47_1 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_17 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_18 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_19 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_20 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_21 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_22 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_call1_cst : Ref sig .tc := ⟨.hbm, 148, rfl⟩
abbrev main_call1_v0 : Ref sig .tc := ⟨.hbm, 149, rfl⟩
abbrev main_v114 : Ref sig .tc := ⟨.hbm, 150, rfl⟩
abbrev main_cst_23 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩

abbrev nD : Nat := 1
abbrev τ : Topo := Topo.v7x

variable {F : FTy → Type} [FloatOps F]
-- ==== WeightGrad.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== SwigluGrad.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .hbm, ⟨3, _⟩ => ⟨S8192x2816, .f32⟩
  | .hbm, ⟨4, _⟩ => ⟨S8192x1024, .bf16⟩
  | .hbm, ⟨5, _⟩ => ⟨S2816x1024, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== NormGrad.lean ====
abbrev S2x4096x1024 : Shape := ⟨3, ![2, 4096, 1024]⟩
abbrev S2x1x1024 : Shape := ⟨3, ![2, 1, 1024]⟩
abbrev S1024 : Shape := ⟨1, ![1024]⟩
abbrev S1024x2816 : Shape := ⟨2, ![1024, 2816]⟩
abbrev S2x4096x2816 : Shape := ⟨3, ![2, 4096, 2816]⟩
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 32
  | .vmem => 29
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1x1024, .f32⟩
  | .hbm, ⟨3, _⟩ => ⟨S1024, .f32⟩
  | .hbm, ⟨4, _⟩ => ⟨S2x1x1024, .f32⟩
  | .hbm, ⟨5, _⟩ => ⟨S1024x2816, .f32⟩
  | .hbm, ⟨6, _⟩ => ⟨S1024x2816, .f32⟩
  | .hbm, ⟨7, _⟩ => ⟨S2x4096x1024, .f32⟩
  | .hbm, ⟨8, _⟩ => ⟨S2x4096x2816, .f32⟩
  | .hbm, ⟨9, _⟩ => ⟨S2x4096x2816, .f32⟩
  | .hbm, ⟨10, _⟩ => ⟨S2x4096x1024, .f32⟩
  | .hbm, ⟨11, _⟩ => ⟨S2x4096x1024, .f32⟩
  | .hbm, ⟨12, _⟩ => ⟨S2x4096x1024, .f32⟩
  | .hbm, ⟨13, _⟩ => ⟨S8192x1024, .f32⟩
  | .hbm, ⟨14, _⟩ => ⟨S8192x2816, .f32⟩
  | .hbm, ⟨15, _⟩ => ⟨S8192x2816, .bf16⟩
  | .hbm, ⟨16, _⟩ => ⟨S2816x1024, .f32⟩
  | .hbm, ⟨17, _⟩ => ⟨S2816x1024, .bf16⟩
  | .hbm, ⟨18, _⟩ => ⟨S8192x2816, .f32⟩
  | .hbm, ⟨19, _⟩ => ⟨S8192x2816, .bf16⟩
  | .hbm, ⟨20, _⟩ => ⟨S2816x1024, .f32⟩
  | .hbm, ⟨21, _⟩ => ⟨S2816x1024, .bf16⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S2x1x1024, .f32⟩
  | .hbm, ⟨28, _⟩ => ⟨S2x1x1024, .f32⟩
  | .hbm, ⟨29, _⟩ => ⟨S2x1x1024, .f32⟩
  | .hbm, ⟨30, _⟩ => ⟨S8192x1024, .bf16⟩
  | .hbm, ⟨31, _⟩ => ⟨S2x1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .bf16⟩
  | .local _ .vmem, ⟨14, _⟩ => ⟨S512x1024, .bf16⟩
  | .local _ .vmem, ⟨15, _⟩ => ⟨S1x1x1024, .f32⟩
  | .local _ .vmem, ⟨16, _⟩ => ⟨S1x1x1024, .f32⟩
  | .local _ .vmem, ⟨17, _⟩ => ⟨S512x1024, .f32⟩
  | .local _ .vmem, ⟨18, _⟩ => ⟨S512x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S512x1024, .bf16⟩
  | .local _ .vmem, ⟨26, _⟩ => ⟨S512x1024, .bf16⟩
  | .local _ .vmem, ⟨27, _⟩ => ⟨S1x1x1024, .f32⟩
  | .local _ .vmem, ⟨28, _⟩ => ⟨S1x1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Swiglu.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S8192x2816, .bf16⟩
  | .hbm, ⟨9, _⟩ => ⟨S8192x2816, .bf16⟩
  | .hbm, ⟨10, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Residual.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1x1024 : Shape := ⟨3, ![2, 1, 1024]⟩
abbrev S1024 : Shape := ⟨1, ![1024]⟩
abbrev S8192x2816 : Shape := ⟨2, ![8192, 2816]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 15
  | .vmem => 18
  | .smem => 0
  | _ => 0

abbrev bufTy : (tb : Table) → Fin (tcTables nBuf tb) → BufTy
  | .hbm, ⟨0, _⟩ => ⟨S2x4096x2816, .f32⟩
  | .hbm, ⟨1, _⟩ => ⟨S2816x1024, .f32⟩
  | .hbm, ⟨2, _⟩ => ⟨S2x4096x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S8192x2816, .f32⟩
  | .hbm, ⟨8, _⟩ => ⟨S8192x2816, .bf16⟩
  | .hbm, ⟨9, _⟩ => ⟨S2816x1024, .bf16⟩
  | .hbm, ⟨10, _⟩ => ⟨S8192x1024, .f32⟩
  | .hbm, ⟨11, _⟩ => ⟨S1x1024, .f32⟩
  | .hbm, ⟨12, _⟩ => ⟨S8192x1024, .bf16⟩
  | .hbm, ⟨13, _⟩ => ⟨S8192x1024, .f32⟩
  | .hbm, ⟨14, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutGrad.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== QkvGrad.lean ====
abbrev S8192x1280 : Shape := ⟨2, ![8192, 1280]⟩
abbrev S8192x1024 : Shape := ⟨2, ![8192, 1024]⟩
abbrev S1280x1024 : Shape := ⟨2, ![1280, 1024]⟩
abbrev S2048x1280 : Shape := ⟨2, ![2048, 1280]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1280, .f32⟩
  | .hbm, ⟨1, _⟩ => ⟨S8192x1024, .f32⟩
  | .hbm, ⟨2, _⟩ => ⟨S8192x1280, .bf16⟩
  | .hbm, ⟨3, _⟩ => ⟨S8192x1024, .bf16⟩
  | .hbm, ⟨4, _⟩ => ⟨S1280x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .bf16⟩
  | .local _ .vmem, ⟨5, _⟩ => ⟨S1280x1024, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== FirstGrad.lean ====
abbrev S2x4096x1024 : Shape := ⟨3, ![2, 4096, 1024]⟩
abbrev S1024 : Shape := ⟨1, ![1024]⟩
abbrev S2x1x1024 : Shape := ⟨3, ![2, 1, 1024]⟩
abbrev S1024x1280 : Shape := ⟨2, ![1024, 1280]⟩
abbrev S2x4096x1280 : Shape := ⟨3, ![2, 4096, 1280]⟩
abbrev S8192x1280 : Shape := ⟨2, ![8192, 1280]⟩
abbrev S1280x1024 : Shape := ⟨2, ![1280, 1024]⟩
abbrev S8192x1024 : Shape := ⟨2, ![8192, 1024]⟩
abbrev S1x1024 : Shape := ⟨2, ![1, 1024]⟩
abbrev S512x1280 : Shape := ⟨2, ![512, 1280]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 17
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1x1024, .f32⟩
  | .hbm, ⟨3, _⟩ => ⟨S1024x1280, .f32⟩
  | .hbm, ⟨4, _⟩ => ⟨S2x4096x1024, .f32⟩
  | .hbm, ⟨5, _⟩ => ⟨S2x4096x1280, .f32⟩
  | .hbm, ⟨6, _⟩ => ⟨S8192x1280, .f32⟩
  | .hbm, ⟨7, _⟩ => ⟨S8192x1280, .bf16⟩
  | .hbm, ⟨8, _⟩ => ⟨S1280x1024, .f32⟩
  | .hbm, ⟨9, _⟩ => ⟨S1280x1024, .bf16⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .local _ .vmem, ⟨0, _⟩ => ⟨S512x1280, .bf16⟩
  | .local _ .vmem, ⟨1, _⟩ => ⟨S512x1280, .bf16⟩
  | .local _ .vmem, ⟨2, _⟩ => ⟨S1280x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== AttnGrad.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvA.lean ====
abbrev S8192x1024 : Shape := ⟨2, ![8192, 1024]⟩
abbrev S1024x1280 : Shape := ⟨2, ![1024, 1280]⟩
abbrev S1280x1024 : Shape := ⟨2, ![1280, 1024]⟩
abbrev S8192x1280 : Shape := ⟨2, ![8192, 1280]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1280, .f32⟩
  | .hbm, ⟨2, _⟩ => ⟨S8192x1024, .bf16⟩
  | .hbm, ⟨3, _⟩ => ⟨S1280x1024, .f32⟩
  | .hbm, ⟨4, _⟩ => ⟨S1280x1024, .bf16⟩
  | .hbm, ⟨5, _⟩ => ⟨S8192x1280, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1024x1280, .f32⟩
  | .local _ .vmem, ⟨4, _⟩ => ⟨S1024x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvB.lean ====
abbrev S8192x1024 : Shape := ⟨2, ![8192, 1024]⟩
abbrev S1024x3072 : Shape := ⟨2, ![1024, 3072]⟩
abbrev S3072x1024 : Shape := ⟨2, ![3072, 1024]⟩
abbrev S8192x3072 : Shape := ⟨2, ![8192, 3072]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S3072x1024, .f32⟩
  | .hbm, ⟨4, _⟩ => ⟨S3072x1024, .bf16⟩
  | .hbm, ⟨5, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1536, .bf16⟩
  | .local _ .vmem, ⟨5, _⟩ => ⟨S1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnOut.lean ====
abbrev S2x4096x1024 : Shape := ⟨3, ![2, 4096, 1024]⟩
abbrev S1024x1024 : Shape := ⟨2, ![1024, 1024]⟩
abbrev S2x1x1024 : Shape := ⟨3, ![2, 1, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 15
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S2x4096x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S8192x1024, .f32⟩
  | .hbm, ⟨8, _⟩ => ⟨S8192x1024, .bf16⟩
  | .hbm, ⟨9, _⟩ => ⟨S1024x1024, .bf16⟩
  | .hbm, ⟨10, _⟩ => ⟨S8192x1024, .f32⟩
  | .hbm, ⟨11, _⟩ => ⟨S1x1024, .f32⟩
  | .hbm, ⟨12, _⟩ => ⟨S8192x1024, .bf16⟩
  | .hbm, ⟨13, _⟩ => ⟨S8192x1024, .f32⟩
  | .hbm, ⟨14, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LossHead.lean ====
abbrev S2x4096x1024 : Shape := ⟨3, ![2, 4096, 1024]⟩
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== TopGrad.lean ====
abbrev S2x4096x1024 : Shape := ⟨3, ![2, 4096, 1024]⟩
abbrev S2x1x1024 : Shape := ⟨3, ![2, 1, 1024]⟩
abbrev S8192x1024 : Shape := ⟨2, ![8192, 1024]⟩
abbrev S512x1024 : Shape := ⟨2, ![512, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S8192x1024, .bf16⟩
  | .hbm, ⟨7, _⟩ => ⟨S2x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== AdaGrad.lean ====
abbrev S16x1024 : Shape := ⟨2, ![16, 1024]⟩
abbrev S4x16x768 : Shape := ⟨3, ![4, 16, 768]⟩
abbrev S4x1024x768 : Shape := ⟨3, ![4, 1024, 768]⟩
abbrev S1x16x768 : Shape := ⟨3, ![1, 16, 768]⟩
abbrev S1x1024x768 : Shape := ⟨3, ![1, 1024, 768]⟩
abbrev S16x768 : Shape := ⟨2, ![16, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S4x16x768, .f32⟩
  | .hbm, ⟨2, _⟩ => ⟨S4x1024x768, .f32⟩
  | .local _ .vmem, ⟨0, _⟩ => ⟨S16x1024, .f32⟩
  | .local _ .vmem, ⟨1, _⟩ => ⟨S1x16x768, .f32⟩
  | .local _ .vmem, ⟨2, _⟩ => ⟨S1x16x768, .f32⟩
  | .local _ .vmem, ⟨3, _⟩ => ⟨S1x1024x768, .f32⟩
  | .local _ .vmem, ⟨4, _⟩ => ⟨S1x1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumMod.lean ====
abbrev S16x24x1024 : Shape := ⟨3, ![16, 24, 1024]⟩
abbrev S24x1024 : Shape := ⟨2, ![24, 1024]⟩
abbrev S1x24x1024 : Shape := ⟨3, ![1, 24, 1024]⟩

abbrev nBuf : Space → Nat
  | .hbm => 2
  | .vmem => 2
  | .smem => 0
  | _ => 0

abbrev bufTy : (tb : Table) → Fin (tcTables nBuf tb) → BufTy
  | .hbm, ⟨0, _⟩ => ⟨S16x24x1024, .f32⟩
  | .hbm, ⟨1, _⟩ => ⟨S24x1024, .f32⟩
  | .local _ .vmem, ⟨0, _⟩ => ⟨S16x24x1024, .f32⟩
  | .local _ .vmem, ⟨1, _⟩ => ⟨S24x1024, .f32⟩
  | _, _ => ⟨S16x24x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumModIdeal.lean ====
abbrev S16x24x1024 : Shape := ⟨3, ![16, 24, 1024]⟩
abbrev S24x1024 : Shape := ⟨2, ![24, 1024]⟩
abbrev S1x24x1024 : Shape := ⟨3, ![1, 24, 1024]⟩

abbrev nBuf : Space → Nat
  | .hbm => 2
  | .vmem => 2
  | .smem => 0
  | _ => 0

abbrev bufTy : (tb : Table) → Fin (tcTables nBuf tb) → BufTy
  | .hbm, ⟨0, _⟩ => ⟨S16x24x1024, .f32⟩
  | .hbm, ⟨1, _⟩ => ⟨S24x1024, .f32⟩
  | .local _ .vmem, ⟨0, _⟩ => ⟨S16x24x1024, .f32⟩
  | .local _ .vmem, ⟨1, _⟩ => ⟨S24x1024, .f32⟩
  | _, _ => ⟨S16x24x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumGain.lean ====
abbrev S2x4x1024 : Shape := ⟨3, ![2, 4, 1024]⟩
abbrev S4x1024 : Shape := ⟨2, ![4, 1024]⟩
abbrev S1x4x1024 : Shape := ⟨3, ![1, 4, 1024]⟩

abbrev nBuf : Space → Nat
  | .hbm => 2
  | .vmem => 2
  | .smem => 0
  | _ => 0

abbrev bufTy : (tb : Table) → Fin (tcTables nBuf tb) → BufTy
  | .hbm, ⟨0, _⟩ => ⟨S2x4x1024, .f32⟩
  | .hbm, ⟨1, _⟩ => ⟨S4x1024, .f32⟩
  | .local _ .vmem, ⟨0, _⟩ => ⟨S2x4x1024, .f32⟩
  | .local _ .vmem, ⟨1, _⟩ => ⟨S4x1024, .f32⟩
  | _, _ => ⟨S2x4x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== StepAdaW.lean ====
abbrev S4x1024x768 : Shape := ⟨3, ![4, 1024, 768]⟩
abbrev S4096x768 : Shape := ⟨2, ![4096, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepAdaWIdeal.lean ====
abbrev S4x1024x768 : Shape := ⟨3, ![4, 1024, 768]⟩
abbrev S4096x768 : Shape := ⟨2, ![4096, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepAdaB.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepAdaBIdeal.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepGain.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepGainIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepQkvA.lean ====
abbrev S2x1024x160 : Shape := ⟨3, ![2, 1024, 160]⟩
abbrev S2048x160 : Shape := ⟨2, ![2048, 160]⟩

abbrev nBuf : Space → Nat
  | .hbm => 11
  | .vmem => 7
  | .smem => 0
  | _ => 0

abbrev bufTy : (tb : Table) → Fin (tcTables nBuf tb) → BufTy
  | .hbm, ⟨0, _⟩ => ⟨S2x1024x160, .f32⟩
  | .hbm, ⟨1, _⟩ => ⟨S2x1024x160, .f32⟩
  | .hbm, ⟨2, _⟩ => ⟨S2x1024x160, .f32⟩
  | .hbm, ⟨3, _⟩ => ⟨S2x1024x160, .f32⟩
  | .hbm, ⟨4, _⟩ => ⟨S2048x160, .f32⟩
  | .hbm, ⟨5, _⟩ => ⟨S2048x160, .f32⟩
  | .hbm, ⟨6, _⟩ => ⟨S2048x160, .f32⟩
  | .hbm, ⟨7, _⟩ => ⟨S2048x160, .f32⟩
  | .hbm, ⟨8, _⟩ => ⟨S2048x160, .f32⟩
  | .hbm, ⟨9, _⟩ => ⟨S2048x160, .f32⟩
  | .hbm, ⟨10, _⟩ => ⟨S2048x160, .f32⟩
  | .local _ .vmem, ⟨0, _⟩ => ⟨S2048x160, .f32⟩
  | .local _ .vmem, ⟨1, _⟩ => ⟨S2048x160, .f32⟩
  | .local _ .vmem, ⟨2, _⟩ => ⟨S2048x160, .f32⟩
  | .local _ .vmem, ⟨3, _⟩ => ⟨S2048x160, .f32⟩
  | .local _ .vmem, ⟨4, _⟩ => ⟨S2048x160, .f32⟩
  | .local _ .vmem, ⟨5, _⟩ => ⟨S2048x160, .f32⟩
  | .local _ .vmem, ⟨6, _⟩ => ⟨S2048x160, .f32⟩
  | _, _ => ⟨S2x1024x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepQkvAIdeal.lean ====
abbrev S2x1024x160 : Shape := ⟨3, ![2, 1024, 160]⟩
abbrev S2048x160 : Shape := ⟨2, ![2048, 160]⟩

abbrev nBuf : Space → Nat
  | .hbm => 11
  | .vmem => 7
  | .smem => 0
  | _ => 0

abbrev bufTy : (tb : Table) → Fin (tcTables nBuf tb) → BufTy
  | .hbm, ⟨0, _⟩ => ⟨S2x1024x160, .f32⟩
  | .hbm, ⟨1, _⟩ => ⟨S2x1024x160, .f32⟩
  | .hbm, ⟨2, _⟩ => ⟨S2x1024x160, .f32⟩
  | .hbm, ⟨3, _⟩ => ⟨S2x1024x160, .f32⟩
  | .hbm, ⟨4, _⟩ => ⟨S2048x160, .f32⟩
  | .hbm, ⟨5, _⟩ => ⟨S2048x160, .f32⟩
  | .hbm, ⟨6, _⟩ => ⟨S2048x160, .f32⟩
  | .hbm, ⟨7, _⟩ => ⟨S2048x160, .f32⟩
  | .hbm, ⟨8, _⟩ => ⟨S2048x160, .f32⟩
  | .hbm, ⟨9, _⟩ => ⟨S2048x160, .f32⟩
  | .hbm, ⟨10, _⟩ => ⟨S2048x160, .f32⟩
  | .local _ .vmem, ⟨0, _⟩ => ⟨S2048x160, .f32⟩
  | .local _ .vmem, ⟨1, _⟩ => ⟨S2048x160, .f32⟩
  | .local _ .vmem, ⟨2, _⟩ => ⟨S2048x160, .f32⟩
  | .local _ .vmem, ⟨3, _⟩ => ⟨S2048x160, .f32⟩
  | .local _ .vmem, ⟨4, _⟩ => ⟨S2048x160, .f32⟩
  | .local _ .vmem, ⟨5, _⟩ => ⟨S2048x160, .f32⟩
  | .local _ .vmem, ⟨6, _⟩ => ⟨S2048x160, .f32⟩
  | _, _ => ⟨S2x1024x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepHeadGain.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepHeadGainIdeal.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepSinks.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepSinksIdeal.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepOut.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepOutIdeal.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepQkvB.lean ====
abbrev S2x1024x384 : Shape := ⟨3, ![2, 1024, 384]⟩
abbrev S2048x384 : Shape := ⟨2, ![2048, 384]⟩
abbrev S1024x384 : Shape := ⟨2, ![1024, 384]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .vmem, ⟨9, _⟩ => ⟨S1024x384, .f32⟩
  | .local _ .vmem, ⟨10, _⟩ => ⟨S1024x384, .f32⟩
  | .local _ .vmem, ⟨11, _⟩ => ⟨S1024x384, .f32⟩
  | .local _ .vmem, ⟨12, _⟩ => ⟨S1024x384, .f32⟩
  | .local _ .vmem, ⟨13, _⟩ => ⟨S1024x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepQkvBIdeal.lean ====
abbrev S2x1024x384 : Shape := ⟨3, ![2, 1024, 384]⟩
abbrev S2048x384 : Shape := ⟨2, ![2048, 384]⟩
abbrev S1024x384 : Shape := ⟨2, ![1024, 384]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .vmem, ⟨9, _⟩ => ⟨S1024x384, .f32⟩
  | .local _ .vmem, ⟨10, _⟩ => ⟨S1024x384, .f32⟩
  | .local _ .vmem, ⟨11, _⟩ => ⟨S1024x384, .f32⟩
  | .local _ .vmem, ⟨12, _⟩ => ⟨S1024x384, .f32⟩
  | .local _ .vmem, ⟨13, _⟩ => ⟨S1024x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepUp.lean ====
abbrev S4x1024x352 : Shape := ⟨3, ![4, 1024, 352]⟩
abbrev S4096x352 : Shape := ⟨2, ![4096, 352]⟩
abbrev S1024x352 : Shape := ⟨2, ![1024, 352]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .local _ .vmem, ⟨0, _⟩ => ⟨S1024x352, .f32⟩
  | .local _ .vmem, ⟨1, _⟩ => ⟨S1024x352, .f32⟩
  | .local _ .vmem, ⟨2, _⟩ => ⟨S1024x352, .f32⟩
  | .local _ .vmem, ⟨3, _⟩ => ⟨S1024x352, .f32⟩
  | .local _ .vmem, ⟨4, _⟩ => ⟨S1024x352, .f32⟩
  | .local _ .vmem, ⟨5, _⟩ => ⟨S1024x352, .f32⟩
  | .local _ .vmem, ⟨6, _⟩ => ⟨S1024x352, .f32⟩
  | .local _ .vmem, ⟨7, _⟩ => ⟨S1024x352, .f32⟩
  | .local _ .vmem, ⟨8, _⟩ => ⟨S1024x352, .f32⟩
  | .local _ .vmem, ⟨9, _⟩ => ⟨S1024x352, .f32⟩
  | .local _ .vmem, ⟨10, _⟩ => ⟨S1024x352, .f32⟩
  | .local _ .vmem, ⟨11, _⟩ => ⟨S1024x352, .f32⟩
  | .local _ .vmem, ⟨12, _⟩ => ⟨S1024x352, .f32⟩
  | .local _ .vmem, ⟨13, _⟩ => ⟨S1024x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepUpIdeal.lean ====
abbrev S4x1024x352 : Shape := ⟨3, ![4, 1024, 352]⟩
abbrev S4096x352 : Shape := ⟨2, ![4096, 352]⟩
abbrev S1024x352 : Shape := ⟨2, ![1024, 352]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .local _ .vmem, ⟨0, _⟩ => ⟨S1024x352, .f32⟩
  | .local _ .vmem, ⟨1, _⟩ => ⟨S1024x352, .f32⟩
  | .local _ .vmem, ⟨2, _⟩ => ⟨S1024x352, .f32⟩
  | .local _ .vmem, ⟨3, _⟩ => ⟨S1024x352, .f32⟩
  | .local _ .vmem, ⟨4, _⟩ => ⟨S1024x352, .f32⟩
  | .local _ .vmem, ⟨5, _⟩ => ⟨S1024x352, .f32⟩
  | .local _ .vmem, ⟨6, _⟩ => ⟨S1024x352, .f32⟩
  | .local _ .vmem, ⟨7, _⟩ => ⟨S1024x352, .f32⟩
  | .local _ .vmem, ⟨8, _⟩ => ⟨S1024x352, .f32⟩
  | .local _ .vmem, ⟨9, _⟩ => ⟨S1024x352, .f32⟩
  | .local _ .vmem, ⟨10, _⟩ => ⟨S1024x352, .f32⟩
  | .local _ .vmem, ⟨11, _⟩ => ⟨S1024x352, .f32⟩
  | .local _ .vmem, ⟨12, _⟩ => ⟨S1024x352, .f32⟩
  | .local _ .vmem, ⟨13, _⟩ => ⟨S1024x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepDown.lean ====
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownGradRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateGradRefIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SwigluGradRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== NormGradRefIdeal.lean ====
abbrev S2x4096x1024 : Shape := ⟨3, ![2, 4096, 1024]⟩
abbrev S2x1x1024 : Shape := ⟨3, ![2, 1, 1024]⟩
abbrev S1024 : Shape := ⟨1, ![1024]⟩
abbrev S1024x2816 : Shape := ⟨2, ![1024, 2816]⟩
abbrev S2x4096x2816 : Shape := ⟨3, ![2, 4096, 2816]⟩
abbrev S1x1x1024 : Shape := ⟨3, ![1, 1, 1024]⟩
abbrev S_ : Shape := ⟨0, ![]⟩
abbrev S2x4096 : Shape := ⟨2, ![2, 4096]⟩
abbrev S2x4096x1 : Shape := ⟨3, ![2, 4096, 1]⟩
abbrev S2x1024 : Shape := ⟨2, ![2, 1024]⟩
abbrev S8192x1024 : Shape := ⟨2, ![8192, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1x1024, .f32⟩
  | .hbm, ⟨3, _⟩ => ⟨S1024, .f32⟩
  | .hbm, ⟨4, _⟩ => ⟨S2x1x1024, .f32⟩
  | .hbm, ⟨5, _⟩ => ⟨S1024x2816, .f32⟩
  | .hbm, ⟨6, _⟩ => ⟨S1024x2816, .f32⟩
  | .hbm, ⟨7, _⟩ => ⟨S2x4096x1024, .f32⟩
  | .hbm, ⟨8, _⟩ => ⟨S2x4096x2816, .f32⟩
  | .hbm, ⟨9, _⟩ => ⟨S2x4096x2816, .f32⟩
  | .hbm, ⟨10, _⟩ => ⟨S1x1x1024, .f32⟩
  | .hbm, ⟨11, _⟩ => ⟨S2x1x1024, .f32⟩
  | .hbm, ⟨12, _⟩ => ⟨S_, .f32⟩
  | .hbm, ⟨13, _⟩ => ⟨S2x1x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x2816, .f32⟩
  | .hbm, ⟨44, _⟩ => ⟨S2x4096x2816, .f32⟩
  | .hbm, ⟨45, _⟩ => ⟨S2x4096x1024, .f32⟩
  | .hbm, ⟨46, _⟩ => ⟨S2x4096x1024, .f32⟩
  | .hbm, ⟨47, _⟩ => ⟨S2x4096x1024, .f32⟩
  | .hbm, ⟨48, _⟩ => ⟨S_, .f32⟩
  | .hbm, ⟨49, _⟩ => ⟨S2x1024, .f32⟩
  | .hbm, ⟨50, _⟩ => ⟨S2x1x1024, .f32⟩
  | .hbm, ⟨51, _⟩ => ⟨S2x4096x1024, .f32⟩
  | .hbm, ⟨52, _⟩ => ⟨S_, .f32⟩
  | .hbm, ⟨53, _⟩ => ⟨S2x1024, .f32⟩
  | .hbm, ⟨54, _⟩ => ⟨S2x1x1024, .f32⟩
  | .hbm, ⟨55, _⟩ => ⟨S2x4096x1024, .f32⟩
  | .hbm, ⟨56, _⟩ => ⟨S2x4096x1024, .f32⟩
  | .hbm, ⟨57, _⟩ => ⟨S2x4096x1024, .f32⟩
  | .hbm, ⟨58, _⟩ => ⟨S_, .f32⟩
  | .hbm, ⟨59, _⟩ => ⟨S2x1024, .f32⟩
  | .hbm, ⟨60, _⟩ => ⟨S2x1x1024, .f32⟩
  | .hbm, ⟨61, _⟩ => ⟨S2x4096x1024, .f32⟩
  | .hbm, ⟨62, _⟩ => ⟨S2x4096x1024, .f32⟩
  | .hbm, ⟨63, _⟩ => ⟨S2x4096x1024, .f32⟩
  | .hbm, ⟨64, _⟩ => ⟨S_, .f32⟩
  | .hbm, ⟨65, _⟩ => ⟨S2x4096, .f32⟩
  | .hbm, ⟨66, _⟩ => ⟨S2x4096x1, .f32⟩
  | .hbm, ⟨67, _⟩ => ⟨S2x4096x1024, .f32⟩
  | .hbm, ⟨68, _⟩ => ⟨S2x4096x1024, .f32⟩
  | .hbm, ⟨69, _⟩ => ⟨S2x4096x1024, .f32⟩
  | .hbm, ⟨70, _⟩ => ⟨S2x4096x1, .f32⟩
  | .hbm, ⟨71, _⟩ => ⟨S_, .f32⟩
  | .hbm, ⟨72, _⟩ => ⟨S2x4096x1, .f32⟩
  | .hbm, ⟨73, _⟩ => ⟨S2x4096x1, .f32⟩
  | .hbm, ⟨74, _⟩ => ⟨S_, .f32⟩
  | .hbm, ⟨75, _⟩ => ⟨S2x4096, .f32⟩
  | .hbm, ⟨76, _⟩ => ⟨S2x4096x1024, .f32⟩
  | .hbm, ⟨77, _⟩ => ⟨S2x4096x1024, .f32⟩
  | .hbm, ⟨78, _⟩ => ⟨S2x4096x1024, .f32⟩
  | .hbm, ⟨79, _⟩ => ⟨S2x4096x1024, .f32⟩
  | .hbm, ⟨80, _⟩ => ⟨S2x4096x1024, .f32⟩
  | .hbm, ⟨81, _⟩ => ⟨S2x4096x1024, .f32⟩
  | .hbm, ⟨82, _⟩ => ⟨S2x4096x1024, .f32⟩
  | .hbm, ⟨83, _⟩ => ⟨S2x4096x1024, .f32⟩
  | .hbm, ⟨84, _⟩ => ⟨S2x4096x1024, .f32⟩
  | .hbm, ⟨85, _⟩ => ⟨S_, .f32⟩
  | .hbm, ⟨86, _⟩ => ⟨S2x1024, .f32⟩
  | .hbm, ⟨87, _⟩ => ⟨S2x1x1024, .f32⟩
  | .hbm, ⟨88, _⟩ => ⟨S8192x1024, .f32⟩
  | .hbm, ⟨89, _⟩ => ⟨S8192x1024, .f32⟩
  | .hbm, ⟨90, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== SwigluRefIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .bf16⟩
  | .hbm, ⟨6, _⟩ => ⟨S8192x2816, .bf16⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== ResidualRefIdeal.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1x1024 : Shape := ⟨3, ![2, 1, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S2816x1024, .f32⟩
  | .hbm, ⟨2, _⟩ => ⟨S2x4096x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S1x1x1024, .f32⟩
  | .hbm, ⟨25, _⟩ => ⟨S2x4096x1024, .f32⟩
  | .hbm, ⟨26, _⟩ => ⟨S2x4096x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S8192x1024, .f32⟩
  | .hbm, ⟨35, _⟩ => ⟨S8192x1024, .bf16⟩
  | .hbm, ⟨36, _⟩ => ⟨S8192x1024, .f32⟩
  | .hbm, ⟨37, _⟩ => ⟨S8192x1024, .f32⟩
  | .hbm, ⟨38, _⟩ => ⟨S8192x1024, .bf16⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== OutGradRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ThirdGradRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QkvGradRefIdeal.lean ====
abbrev S8192x1280 : Shape := ⟨2, ![8192, 1280]⟩
abbrev S8192x1024 : Shape := ⟨2, ![8192, 1024]⟩
abbrev S_ : Shape := ⟨0, ![]⟩
abbrev S1024x1280 : Shape := ⟨2, ![1024, 1280]⟩
abbrev S1280x1024 : Shape := ⟨2, ![1280, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S8192x1024, .f32⟩
  | .hbm, ⟨2, _⟩ => ⟨S_, .f32⟩
  | .hbm, ⟨3, _⟩ => ⟨S1024x1280, .f32⟩
  | .hbm, ⟨4, _⟩ => ⟨S8192x1280, .f32⟩
  | .hbm, ⟨5, _⟩ => ⟨S1280x1024, .f32⟩
  | .hbm, ⟨6, _⟩ => ⟨S1024x1280, .f32⟩
  | .hbm, ⟨7, _⟩ => ⟨S1280x1024, .f32⟩
  | .hbm, ⟨8, _⟩ => ⟨S1280x1024, .bf16⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FirstGradRefIdeal.lean ====
abbrev S2x4096x1024 : Shape := ⟨3, ![2, 4096, 1024]⟩
abbrev S1024 : Shape := ⟨1, ![1024]⟩
abbrev S2x1x1024 : Shape := ⟨3, ![2, 1, 1024]⟩
abbrev S1024x1280 : Shape := ⟨2, ![1024, 1280]⟩
abbrev S2x4096x1280 : Shape := ⟨3, ![2, 4096, 1280]⟩
abbrev S1x1x1024 : Shape := ⟨3, ![1, 1, 1024]⟩
abbrev S_ : Shape := ⟨0, ![]⟩
abbrev S2x4096 : Shape := ⟨2, ![2, 4096]⟩
abbrev S2x4096x1 : Shape := ⟨3, ![2, 4096, 1]⟩
abbrev S2x1024 : Shape := ⟨2, ![2, 1024]⟩
abbrev S8192x1024 : Shape := ⟨2, ![8192, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1x1024, .f32⟩
  | .hbm, ⟨3, _⟩ => ⟨S1024x1280, .f32⟩
  | .hbm, ⟨4, _⟩ => ⟨S2x4096x1024, .f32⟩
  | .hbm, ⟨5, _⟩ => ⟨S2x4096x1280, .f32⟩
  | .hbm, ⟨6, _⟩ => ⟨S1x1x1024, .f32⟩
  | .hbm, ⟨7, _⟩ => ⟨S2x1x1024, .f32⟩
  | .hbm, ⟨8, _⟩ => ⟨S_, .f32⟩
  | .hbm, ⟨9, _⟩ => ⟨S2x1x1024, .f32⟩
  | .hbm, ⟨10, _⟩ => ⟨S2x4096x1024, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x1280, .f32⟩
  | .hbm, ⟨37, _⟩ => ⟨S2x4096x1024, .f32⟩
  | .hbm, ⟨38, _⟩ => ⟨S_, .f32⟩
  | .hbm, ⟨39, _⟩ => ⟨S2x1024, .f32⟩
  | .hbm, ⟨40, _⟩ => ⟨S2x1x1024, .f32⟩
  | .hbm, ⟨41, _⟩ => ⟨S2x4096x1024, .f32⟩
  | .hbm, ⟨42, _⟩ => ⟨S_, .f32⟩
  | .hbm, ⟨43, _⟩ => ⟨S2x1024, .f32⟩
  | .hbm, ⟨44, _⟩ => ⟨S2x1x1024, .f32⟩
  | .hbm, ⟨45, _⟩ => ⟨S2x4096x1024, .f32⟩
  | .hbm, ⟨46, _⟩ => ⟨S2x4096x1024, .f32⟩
  | .hbm, ⟨47, _⟩ => ⟨S2x4096x1024, .f32⟩
  | .hbm, ⟨48, _⟩ => ⟨S_, .f32⟩
  | .hbm, ⟨49, _⟩ => ⟨S2x1024, .f32⟩
  | .hbm, ⟨50, _⟩ => ⟨S2x1x1024, .f32⟩
  | .hbm, ⟨51, _⟩ => ⟨S2x4096x1024, .f32⟩
  | .hbm, ⟨52, _⟩ => ⟨S2x4096x1024, .f32⟩
  | .hbm, ⟨53, _⟩ => ⟨S2x4096x1024, .f32⟩
  | .hbm, ⟨54, _⟩ => ⟨S_, .f32⟩
  | .hbm, ⟨55, _⟩ => ⟨S2x4096, .f32⟩
  | .hbm, ⟨56, _⟩ => ⟨S2x4096x1, .f32⟩
  | .hbm, ⟨57, _⟩ => ⟨S2x4096x1024, .f32⟩
  | .hbm, ⟨58, _⟩ => ⟨S2x4096x1024, .f32⟩
  | .hbm, ⟨59, _⟩ => ⟨S2x4096x1024, .f32⟩
  | .hbm, ⟨60, _⟩ => ⟨S2x4096x1, .f32⟩
  | .hbm, ⟨61, _⟩ => ⟨S_, .f32⟩
  | .hbm, ⟨62, _⟩ => ⟨S2x4096x1, .f32⟩
  | .hbm, ⟨63, _⟩ => ⟨S2x4096x1, .f32⟩
  | .hbm, ⟨64, _⟩ => ⟨S_, .f32⟩
  | .hbm, ⟨65, _⟩ => ⟨S2x4096, .f32⟩
  | .hbm, ⟨66, _⟩ => ⟨S2x4096x1024, .f32⟩
  | .hbm, ⟨67, _⟩ => ⟨S2x4096x1024, .f32⟩
  | .hbm, ⟨68, _⟩ => ⟨S2x4096x1024, .f32⟩
  | .hbm, ⟨69, _⟩ => ⟨S2x4096x1024, .f32⟩
  | .hbm, ⟨70, _⟩ => ⟨S2x4096x1024, .f32⟩
  | .hbm, ⟨71, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== AttnGradRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QkvARefIdeal.lean ====
abbrev S8192x1024 : Shape := ⟨2, ![8192, 1024]⟩
abbrev S1024x1280 : Shape := ⟨2, ![1024, 1280]⟩
abbrev S8192x1280 : Shape := ⟨2, ![8192, 1280]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1280, .f32⟩
  | .hbm, ⟨2, _⟩ => ⟨S8192x1280, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QkvBRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AttnOutRefIdeal.lean ====
abbrev S2x4096x1024 : Shape := ⟨3, ![2, 4096, 1024]⟩
abbrev S1024x1024 : Shape := ⟨2, ![1024, 1024]⟩
abbrev S2x1x1024 : Shape := ⟨3, ![2, 1, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S2x4096x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S1x1x1024, .f32⟩
  | .hbm, ⟨25, _⟩ => ⟨S2x4096x1024, .f32⟩
  | .hbm, ⟨26, _⟩ => ⟨S2x4096x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S8192x1024, .f32⟩
  | .hbm, ⟨35, _⟩ => ⟨S8192x1024, .bf16⟩
  | .hbm, ⟨36, _⟩ => ⟨S8192x1024, .f32⟩
  | .hbm, ⟨37, _⟩ => ⟨S8192x1024, .f32⟩
  | .hbm, ⟨38, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== LossHeadRefIdeal.lean ====
abbrev S2x4096x1024 : Shape := ⟨3, ![2, 4096, 1024]⟩
abbrev S_ : Shape := ⟨0, ![]⟩
abbrev S2x4096 : Shape := ⟨2, ![2, 4096]⟩
abbrev S8192x1024 : Shape := ⟨2, ![8192, 1024]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S_, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S_, .f32⟩
  | .hbm, ⟨10, _⟩ => ⟨S2x4096, .f32⟩
  | .hbm, ⟨11, _⟩ => ⟨S2x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x4096, .f32⟩
  | .hbm, ⟨20, _⟩ => ⟨S_, .f32⟩
  | .hbm, ⟨21, _⟩ => ⟨S2x4096, .f32⟩
  | .hbm, ⟨22, _⟩ => ⟨S2x4096, .f32⟩
  | .hbm, ⟨23, _⟩ => ⟨S2x4096x1024, .f32⟩
  | .hbm, ⟨24, _⟩ => ⟨S2x4096x1024, .f32⟩
  | .hbm, ⟨25, _⟩ => ⟨S8192x1024, .f32⟩
  | .hbm, ⟨26, _⟩ => ⟨S8x128, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== TopGradRefIdeal.lean ====
abbrev S2x4096x1024 : Shape := ⟨3, ![2, 4096, 1024]⟩
abbrev S2x1x1024 : Shape := ⟨3, ![2, 1, 1024]⟩
abbrev S_ : Shape := ⟨0, ![]⟩
abbrev S2x1024 : Shape := ⟨2, ![2, 1024]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1x1024, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S_, .f32⟩
  | .hbm, ⟨9, _⟩ => ⟨S2x1024, .f32⟩
  | .hbm, ⟨10, _⟩ => ⟨S2x1x1024, .f32⟩
  | .hbm, ⟨11, _⟩ => ⟨S8192x1024, .f32⟩
  | .hbm, ⟨12, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AdaGradRefIdeal.lean ====
abbrev S16x1024 : Shape := ⟨2, ![16, 1024]⟩
abbrev S4x16x768 : Shape := ⟨3, ![4, 16, 768]⟩
abbrev S_ : Shape := ⟨0, ![]⟩
abbrev S4x1024x768 : Shape := ⟨3, ![4, 1024, 768]⟩
abbrev S16x4x768 : Shape := ⟨3, ![16, 4, 768]⟩
abbrev S4x768x1024 : Shape := ⟨3, ![4, 768, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x16x768, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S4x1024x768, .f32⟩
  | .hbm, ⟨13, _⟩ => ⟨S16x4x768, .f32⟩
  | .hbm, ⟨14, _⟩ => ⟨S4x16x768, .f32⟩
  | .hbm, ⟨15, _⟩ => ⟨S16x4x768, .f32⟩
  | .hbm, ⟨16, _⟩ => ⟨S4x768x1024, .f32⟩
  | .hbm, ⟨17, _⟩ => ⟨S4x1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== SumModRefIdeal.lean ====
abbrev S16x24x1024 : Shape := ⟨3, ![16, 24, 1024]⟩
abbrev S_ : Shape := ⟨0, ![]⟩
abbrev S24x1024 : Shape := ⟨2, ![24, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16x24x1024, .f32⟩
  | .hbm, ⟨1, _⟩ => ⟨S_, .f32⟩
  | .hbm, ⟨2, _⟩ => ⟨S24x1024, .f32⟩
  | _, _ => ⟨S16x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumGainRefIdeal.lean ====
abbrev S2x4x1024 : Shape := ⟨3, ![2, 4, 1024]⟩
abbrev S_ : Shape := ⟨0, ![]⟩
abbrev S4x1024 : Shape := ⟨2, ![4, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x4x1024, .f32⟩
  | .hbm, ⟨1, _⟩ => ⟨S_, .f32⟩
  | .hbm, ⟨2, _⟩ => ⟨S4x1024, .f32⟩
  | _, _ => ⟨S2x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== StepAdaWRefIdeal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepAdaBRefIdeal.lean ====
abbrev S4x6144 : Shape := ⟨2, ![4, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S4x6144, .f32⟩
  | .hbm, ⟨7, _⟩ => ⟨S_, .f32⟩
  | .hbm, ⟨8, _⟩ => ⟨S4x6144, .f32⟩
  | .hbm, ⟨9, _⟩ => ⟨S4x6144, .f32⟩
  | .hbm, ⟨10, _⟩ => ⟨S4x6144, .f32⟩
  | .hbm, ⟨11, _⟩ => ⟨S_, .f32⟩
  | .hbm, ⟨12, _⟩ => ⟨S4x6144, .f32⟩
  | .hbm, ⟨13, _⟩ => ⟨S4x6144, .f32⟩
  | .hbm, ⟨14, _⟩ => ⟨S4x6144, .f32⟩
  | .hbm, ⟨15, _⟩ => ⟨S_, .f32⟩
  | .hbm, ⟨16, _⟩ => ⟨S4x6144, .f32⟩
  | .hbm, ⟨17, _⟩ => ⟨S4x6144, .f32⟩
  | .hbm, ⟨18, _⟩ => ⟨S4x6144, .f32⟩
  | .hbm, ⟨19, _⟩ => ⟨S_, .f32⟩
  | .hbm, ⟨20, _⟩ => ⟨S4x6144, .f32⟩
  | .hbm, ⟨21, _⟩ => ⟨S4x6144, .f32⟩
  | .hbm, ⟨22, _⟩ => ⟨S_, .f32⟩
  | .hbm, ⟨23, _⟩ => ⟨S4x6144, .f32⟩
  | .hbm, ⟨24, _⟩ => ⟨S4x6144, .f32⟩
  | .hbm, ⟨25, _⟩ => ⟨S4x6144, .f32⟩
  | .hbm, ⟨26, _⟩ => ⟨S_, .f32⟩
  | .hbm, ⟨27, _⟩ => ⟨S4x6144, .f32⟩
  | .hbm, ⟨28, _⟩ => ⟨S4x6144, .f32⟩
  | .hbm, ⟨29, _⟩ => ⟨S4x6144, .f32⟩
  | .hbm, ⟨30, _⟩ => ⟨S_, .f32⟩
  | .hbm, ⟨31, _⟩ => ⟨S4x6144, .f32⟩
  | .hbm, ⟨32, _⟩ => ⟨S4x6144, .f32⟩
  | .hbm, ⟨33, _⟩ => ⟨S4x6144, .f32⟩
  | .hbm, ⟨34, _⟩ => ⟨S_, .f32⟩
  | .hbm, ⟨35, _⟩ => ⟨S4x6144, .f32⟩
  | .hbm, ⟨36, _⟩ => ⟨S4x6144, .f32⟩
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepGainRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepQkvARefIdeal.lean ====
abbrev S2x1024x160 : Shape := ⟨3, ![2, 1024, 160]⟩
abbrev S_ : Shape := ⟨0, ![]⟩
abbrev S2048x160 : Shape := ⟨2, ![2048, 160]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x160, .f32⟩
  | .hbm, ⟨1, _⟩ => ⟨S2x1024x160, .f32⟩
  | .hbm, ⟨2, _⟩ => ⟨S2x1024x160, .f32⟩
  | .hbm, ⟨3, _⟩ => ⟨S2x1024x160, .f32⟩
  | .hbm, ⟨4, _⟩ => ⟨S_, .f32⟩
  | .hbm, ⟨5, _⟩ => ⟨S2x1024x160, .f32⟩
  | .hbm, ⟨6, _⟩ => ⟨S2x1024x160, .f32⟩
  | .hbm, ⟨7, _⟩ => ⟨S_, .f32⟩
  | .hbm, ⟨8, _⟩ => ⟨S2x1024x160, .f32⟩
  | .hbm, ⟨9, _⟩ => ⟨S2x1024x160, .f32⟩
  | .hbm, ⟨10, _⟩ => ⟨S2x1024x160, .f32⟩
  | .hbm, ⟨11, _⟩ => ⟨S_, .f32⟩
  | .hbm, ⟨12, _⟩ => ⟨S2x1024x160, .f32⟩
  | .hbm, ⟨13, _⟩ => ⟨S2x1024x160, .f32⟩
  | .hbm, ⟨14, _⟩ => ⟨S2x1024x160, .f32⟩
  | .hbm, ⟨15, _⟩ => ⟨S_, .f32⟩
  | .hbm, ⟨16, _⟩ => ⟨S2x1024x160, .f32⟩
  | .hbm, ⟨17, _⟩ => ⟨S2x1024x160, .f32⟩
  | .hbm, ⟨18, _⟩ => ⟨S2x1024x160, .f32⟩
  | .hbm, ⟨19, _⟩ => ⟨S_, .f32⟩
  | .hbm, ⟨20, _⟩ => ⟨S2x1024x160, .f32⟩
  | .hbm, ⟨21, _⟩ => ⟨S2x1024x160, .f32⟩
  | .hbm, ⟨22, _⟩ => ⟨S_, .f32⟩
  | .hbm, ⟨23, _⟩ => ⟨S2x1024x160, .f32⟩
  | .hbm, ⟨24, _⟩ => ⟨S2x1024x160, .f32⟩
  | .hbm, ⟨25, _⟩ => ⟨S2x1024x160, .f32⟩
  | .hbm, ⟨26, _⟩ => ⟨S_, .f32⟩
  | .hbm, ⟨27, _⟩ => ⟨S2x1024x160, .f32⟩
  | .hbm, ⟨28, _⟩ => ⟨S2x1024x160, .f32⟩
  | .hbm, ⟨29, _⟩ => ⟨S2x1024x160, .f32⟩
  | .hbm, ⟨30, _⟩ => ⟨S_, .f32⟩
  | .hbm, ⟨31, _⟩ => ⟨S2x1024x160, .f32⟩
  | .hbm, ⟨32, _⟩ => ⟨S2x1024x160, .f32⟩
  | .hbm, ⟨33, _⟩ => ⟨S2x1024x160, .f32⟩
  | .hbm, ⟨34, _⟩ => ⟨S_, .f32⟩
  | .hbm, ⟨35, _⟩ => ⟨S2x1024x160, .f32⟩
  | .hbm, ⟨36, _⟩ => ⟨S2x1024x160, .f32⟩
  | .hbm, ⟨37, _⟩ => ⟨S2048x160, .f32⟩
  | .hbm, ⟨38, _⟩ => ⟨S2048x160, .f32⟩
  | .hbm, ⟨39, _⟩ => ⟨S2048x160, .f32⟩
  | _, _ => ⟨S2x1024x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepHeadGainRefIdeal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSinksRefIdeal.lean ====
abbrev S2x16 : Shape := ⟨2, ![2, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S2x16, .f32⟩
  | .hbm, ⟨7, _⟩ => ⟨S_, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S_, .f32⟩
  | .hbm, ⟨12, _⟩ => ⟨S2x16, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S_, .f32⟩
  | .hbm, ⟨27, _⟩ => ⟨S2x16, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepOutRefIdeal.lean ====
abbrev S2x128x1024 : Shape := ⟨3, ![2, 128, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepQkvBRefIdeal.lean ====
abbrev S2x1024x384 : Shape := ⟨3, ![2, 1024, 384]⟩
abbrev S_ : Shape := ⟨0, ![]⟩
abbrev S2048x384 : Shape := ⟨2, ![2048, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S_, .f32⟩
  | .hbm, ⟨5, _⟩ => ⟨S2x1024x384, .f32⟩
  | .hbm, ⟨6, _⟩ => ⟨S2x1024x384, .f32⟩
  | .hbm, ⟨7, _⟩ => ⟨S_, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S_, .f32⟩
  | .hbm, ⟨12, _⟩ => ⟨S2x1024x384, .f32⟩
  | .hbm, ⟨13, _⟩ => ⟨S2x1024x384, .f32⟩
  | .hbm, ⟨14, _⟩ => ⟨S2x1024x384, .f32⟩
  | .hbm, ⟨15, _⟩ => ⟨S_, .f32⟩
  | .hbm, ⟨16, _⟩ => ⟨S2x1024x384, .f32⟩
  | .hbm, ⟨17, _⟩ => ⟨S2x1024x384, .f32⟩
  | .hbm, ⟨18, _⟩ => ⟨S2x1024x384, .f32⟩
  | .hbm, ⟨19, _⟩ => ⟨S_, .f32⟩
  | .hbm, ⟨20, _⟩ => ⟨S2x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S2x1024x384, .f32⟩
  | .hbm, ⟨26, _⟩ => ⟨S_, .f32⟩
  | .hbm, ⟨27, _⟩ => ⟨S2x1024x384, .f32⟩
  | .hbm, ⟨28, _⟩ => ⟨S2x1024x384, .f32⟩
  | .hbm, ⟨29, _⟩ => ⟨S2x1024x384, .f32⟩
  | .hbm, ⟨30, _⟩ => ⟨S_, .f32⟩
  | .hbm, ⟨31, _⟩ => ⟨S2x1024x384, .f32⟩
  | .hbm, ⟨32, _⟩ => ⟨S2x1024x384, .f32⟩
  | .hbm, ⟨33, _⟩ => ⟨S2x1024x384, .f32⟩
  | .hbm, ⟨34, _⟩ => ⟨S_, .f32⟩
  | .hbm, ⟨35, _⟩ => ⟨S2x1024x384, .f32⟩
  | .hbm, ⟨36, _⟩ => ⟨S2x1024x384, .f32⟩
  | .hbm, ⟨37, _⟩ => ⟨S2048x384, .f32⟩
  | .hbm, ⟨38, _⟩ => ⟨S2048x384, .f32⟩
  | .hbm, ⟨39, _⟩ => ⟨S2048x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepUpRefIdeal.lean ====
abbrev S4x1024x352 : Shape := ⟨3, ![4, 1024, 352]⟩
abbrev S_ : Shape := ⟨0, ![]⟩
abbrev S4096x352 : Shape := ⟨2, ![4096, 352]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S_, .f32⟩
  | .hbm, ⟨5, _⟩ => ⟨S4x1024x352, .f32⟩
  | .hbm, ⟨6, _⟩ => ⟨S4x1024x352, .f32⟩
  | .hbm, ⟨7, _⟩ => ⟨S_, .f32⟩
  | .hbm, ⟨8, _⟩ => ⟨S4x1024x352, .f32⟩
  | .hbm, ⟨9, _⟩ => ⟨S4x1024x352, .f32⟩
  | .hbm, ⟨10, _⟩ => ⟨S4x1024x352, .f32⟩
  | .hbm, ⟨11, _⟩ => ⟨S_, .f32⟩
  | .hbm, ⟨12, _⟩ => ⟨S4x1024x352, .f32⟩
  | .hbm, ⟨13, _⟩ => ⟨S4x1024x352, .f32⟩
  | .hbm, ⟨14, _⟩ => ⟨S4x1024x352, .f32⟩
  | .hbm, ⟨15, _⟩ => ⟨S_, .f32⟩
  | .hbm, ⟨16, _⟩ => ⟨S4x1024x352, .f32⟩
  | .hbm, ⟨17, _⟩ => ⟨S4x1024x352, .f32⟩
  | .hbm, ⟨18, _⟩ => ⟨S4x1024x352, .f32⟩
  | .hbm, ⟨19, _⟩ => ⟨S_, .f32⟩
  | .hbm, ⟨20, _⟩ => ⟨S4x1024x352, .f32⟩
  | .hbm, ⟨21, _⟩ => ⟨S4x1024x352, .f32⟩
  | .hbm, ⟨22, _⟩ => ⟨S_, .f32⟩
  | .hbm, ⟨23, _⟩ => ⟨S4x1024x352, .f32⟩
  | .hbm, ⟨24, _⟩ => ⟨S4x1024x352, .f32⟩
  | .hbm, ⟨25, _⟩ => ⟨S4x1024x352, .f32⟩
  | .hbm, ⟨26, _⟩ => ⟨S_, .f32⟩
  | .hbm, ⟨27, _⟩ => ⟨S4x1024x352, .f32⟩
  | .hbm, ⟨28, _⟩ => ⟨S4x1024x352, .f32⟩
  | .hbm, ⟨29, _⟩ => ⟨S4x1024x352, .f32⟩
  | .hbm, ⟨30, _⟩ => ⟨S_, .f32⟩
  | .hbm, ⟨31, _⟩ => ⟨S4x1024x352, .f32⟩
  | .hbm, ⟨32, _⟩ => ⟨S4x1024x352, .f32⟩
  | .hbm, ⟨33, _⟩ => ⟨S4x1024x352, .f32⟩
  | .hbm, ⟨34, _⟩ => ⟨S_, .f32⟩
  | .hbm, ⟨35, _⟩ => ⟨S4x1024x352, .f32⟩
  | .hbm, ⟨36, _⟩ => ⟨S4x1024x352, .f32⟩
  | .hbm, ⟨37, _⟩ => ⟨S4096x352, .f32⟩
  | .hbm, ⟨38, _⟩ => ⟨S4096x352, .f32⟩
  | .hbm, ⟨39, _⟩ => ⟨S4096x352, .f32⟩
  | _, _ => ⟨S4x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepDownRefIdeal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Host.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.StableHlo.RunRead
public import Idealize.ShloMosaic.Lib.StableHlo.ReadAt
public import Idealize.ShloMosaic.Lib.Claim

/-!
What the host lines before the call leave in the arrays that the call reads. Every array but the log-sum is an argument in
another order. The log-sum is a maximum and the logarithm of a sum over the scores of a window and the sink; the scores and the
maximum are the reference's own arrays, so the log-sum is stated with the generated names of those.
-/
@[expose] public section

set_option maxRecDepth 16384
set_option maxHeartbeats 1000000
noncomputable section
open Idealize.ShloMosaic Idealize.ShloMosaic.TcCoe Idealize.SL.Sem

namespace Cert.KernelIdeal.Host
open Cert.KernelIdeal Cert.KernelIdeal.Gen Cert.ReferenceIdeal.Read
variable (W : Valuation τ sig (Elt Ideal))

/-- The host lines before the call. -/
abbrev host : List (HloOp τ sig (Elt Ideal)) := hostOps0 ++ (hostOps0_1 ++ hostOps0_2)

theorem q_read (r : Fin 8192) (l : Fin 1024) : (StableHlo.after host W (Proc.tc.devRef main_v65) : S8192x1024.Idx → EReal) (ix2 r l)
    = W (Proc.tc.devRef main_arg0) (ix4 ⟨r.val / 4096, by omega⟩ ⟨r.val % 4096, by omega⟩ ⟨l.val / 64, by omega⟩ ⟨l.val % 64, by omega⟩) := by
  unfold host; after_reads_at

theorem k_read (r : Fin 8192) (l : Fin 256) : (StableHlo.after host W (Proc.tc.devRef main_v69) : S8192x256.Idx → EReal) (ix2 r l)
    = W (Proc.tc.devRef main_arg1) (ix4 ⟨r.val / 4096, by omega⟩ ⟨r.val % 4096, by omega⟩ ⟨l.val / 128, by omega⟩ ⟨l.val % 64, by omega⟩) := by
  unfold host; after_reads_at

theorem v_read (r : Fin 8192) (l : Fin 256) : (StableHlo.after host W (Proc.tc.devRef main_v73) : S8192x256.Idx → EReal) (ix2 r l)
    = W (Proc.tc.devRef main_arg2) (ix4 ⟨r.val / 4096, by omega⟩ ⟨r.val % 4096, by omega⟩ ⟨l.val / 128, by omega⟩ ⟨l.val % 64, by omega⟩) := by
  unfold host; after_reads_at

theorem s_read (r : Fin 8) (l : Fin 128) : (StableHlo.after host W (Proc.tc.devRef main_v2) : S8x1x128.Idx → EReal) (ix3 r 0 l)
    = W (Proc.tc.devRef main_arg3) (ix1 ⟨r.val * 2 + l.val / 64, by omega⟩) := by
  unfold host; after_reads_at

theorem c_read (r : Fin 8192) (l : Fin 1024) : (StableHlo.after host W (Proc.tc.devRef main_v75) : S8192x1024.Idx → EReal) (ix2 r l)
    = W (Proc.tc.devRef main_arg4) (ix3 ⟨r.val / 4096, by omega⟩ ⟨r.val % 4096, by omega⟩ l) := by
  unfold host; after_reads_at

/-- The last part of the host lines in four parts: the scores, their maximum, the log-sum, and its order for the call. -/
theorem parts : (hostOps0_2 : List (HloOp τ sig (Elt Ideal)))
    = hostOps0_2.take 5 ++ ((hostOps0_2.drop 5).take 5 ++ ((hostOps0_2.drop 10).take 9 ++ hostOps0_2.drop 19)) := by
  simp only [hostOps0_2, List.drop_succ_cons, List.drop_zero, List.take_succ_cons, List.take_zero, List.cons_append,
    List.nil_append]

theorem scores_read : (StableHlo.after (hostOps0 ++ (hostOps0_1 ++ hostOps0_2.take 5)) W (Proc.tc.devRef main_v45) : S64x4x128x4x257.Idx → EReal)
    = val_main_v52 (F := Ideal) (W (Proc.tc.devRef main_arg0)) (W (Proc.tc.devRef main_arg1)) (W (Proc.tc.devRef main_arg3)) := by
  simp only [hostOps0_2, List.take_succ_cons, List.take_zero]
  after_reads_simp
  rfl

theorem max_read (x0 x1 x3) (h : (W (Proc.tc.devRef main_v45) : S64x4x128x4x257.Idx → EReal) = val_main_v52 (F := Ideal) x0 x1 x3) :
    (StableHlo.after ((hostOps0_2.drop 5).take 5) W (Proc.tc.devRef main_v48) : S64x4x128x4.Idx → EReal) = val_main_v60 (F := Ideal) x0 x1 x3 := by
  simp only [hostOps0_2, List.drop_succ_cons, List.drop_zero, List.take_succ_cons, List.take_zero]
  after_reads_simp
  unfold val_main_v60 val_main_v53
  rw [← h]
  rfl

theorem scores_kept :
    (StableHlo.after ((hostOps0_2.drop 5).take 5) W (Proc.tc.devRef main_v45) : S64x4x128x4x257.Idx → EReal) = W (Proc.tc.devRef main_v45) := by
  simp only [hostOps0_2, List.drop_succ_cons, List.drop_zero, List.take_succ_cons, List.take_zero]
  after_reads_simp

theorem log_read (z : S64x4x128x4x257.Idx → EReal) (M : S64x4x128x4.Idx → EReal) (hz : W (Proc.tc.devRef main_v45) = z)
    (hM : W (Proc.tc.devRef main_v48) = M) (n : Fin 64) (p : Fin 4) (r : Fin 128) (j : Fin 4) :
    (StableHlo.after ((hostOps0_2.drop 10).take 9) W (Proc.tc.devRef main_v56) : S64x4x128x4x1.Idx → EReal) (ix5 n p r j 0)
    = M (ix4 n p r j) + Ideal.log (∑ x, Ideal.exp (z (ix5 n p r j x) - M (ix4 n p r j))) := by
  subst hz hM
  simp only [hostOps0_2, List.drop_succ_cons, List.drop_zero, List.take_succ_cons, List.take_zero]
  after_reads_at

theorem order_read (r : Fin 8192) (l : Fin 1024) :
    (StableHlo.after (hostOps0_2.drop 19) W (Proc.tc.devRef main_v63) : S8192x1024.Idx → EReal) (ix2 r l)
    = W (Proc.tc.devRef main_v56) (ix5 ⟨r.val / 128, by omega⟩ ⟨l.val / 64 / 8 * 2 + l.val / 64 % 2, by omega⟩ ⟨r.val % 128, by omega⟩
        ⟨l.val / 64 / 2 % 4, by omega⟩ 0) := by
  simp only [hostOps0_2, List.drop_succ_cons, List.drop_zero]
  after_reads_at

theorem lse_read (r : Fin 8192) (l : Fin 1024) (n : Fin 64) (p : Fin 4) (b : Fin 128) (j : Fin 4)
    (hn : n.val = r.val / 128) (hp : p.val = l.val / 64 / 8 * 2 + l.val / 64 % 2) (hb : b.val = r.val % 128) (hj : j.val = l.val / 64 / 2 % 4) x0 x1 x3
    (h0 : x0 = W (Proc.tc.devRef main_arg0)) (h1 : x1 = W (Proc.tc.devRef main_arg1)) (h3 : x3 = W (Proc.tc.devRef main_arg3)) :
    (StableHlo.after host W (Proc.tc.devRef main_v63) : S8192x1024.Idx → EReal) (ix2 r l)
    = val_main_v60 (F := Ideal) x0 x1 x3 (ix4 n p b j)
      + Ideal.log (∑ x, Ideal.exp (val_main_v52 (F := Ideal) x0 x1 x3 (ix5 n p b j x) - val_main_v60 (F := Ideal) x0 x1 x3 (ix4 n p b j))) := by
  subst h0 h1 h3
  have e : (host : List (HloOp τ sig (Elt Ideal))) = (hostOps0 ++ (hostOps0_1 ++ hostOps0_2.take 5))
      ++ ((hostOps0_2.drop 5).take 5 ++ ((hostOps0_2.drop 10).take 9 ++ hostOps0_2.drop 19)) := by
    unfold host
    conv_lhs => rw [parts]
    simp only [List.append_assoc]
  rw [e, StableHlo.after_append, StableHlo.after_append, StableHlo.after_append, order_read,
    log_read _ _ _ ((scores_kept _).trans (scores_read W)) (max_read _ _ _ _ (scores_read W)),
    show (⟨r.val / 128, by omega⟩ : Fin 64) = n from Fin.ext hn.symm,
    show (⟨l.val / 64 / 8 * 2 + l.val / 64 % 2, by omega⟩ : Fin 4) = p from Fin.ext hp.symm,
    show (⟨r.val % 128, by omega⟩ : Fin 128) = b from Fin.ext hb.symm,
    show (⟨l.val / 64 / 2 % 4, by omega⟩ : Fin 4) = j from Fin.ext hj.symm]

end Cert.KernelIdeal.Host
-- ==== Proof.Row.lean ====
module

public import Idealize.ShloMosaic.Lib.Pipeline.ValueKit

/-! One row of the attention with a sink, over the reals: the exponentials of the masked logits, their sum with the sink's, the
probabilities, and the gradients with respect to the logits and to the sink. The lemmas say that the two programs' formulas on the extended
reals give these numbers when the entries are finite. -/

@[expose] public section

noncomputable section
open Idealize.ShloMosaic
namespace Cert.Swa

variable (ok : Fin 256 → Prop) [DecidablePred ok] (a dp : Fin 256 → ℝ) (sk M : ℝ)

/-- The exponential of a masked logit, shifted by `M`. -/
def ev (s : Fin 256) : ℝ := if ok s then Real.exp (a s - M) else 0
/-- The exponential of the sink's logit. -/
def es : ℝ := Real.exp (sk - M)
/-- The denominator: the window's exponentials and the sink's. -/
def den : ℝ := (∑ s, ev ok a M s) + es sk M
def prob (s : Fin 256) : ℝ := ev ok a M s / den ok a sk M
def mean : ℝ := ∑ s, prob ok a sk M s * dp s
/-- The gradient with respect to a logit. -/
def grad (s : Fin 256) : ℝ := prob ok a sk M s * (dp s - mean ok a dp sk M)
/-- The gradient with respect to the sink's logit. -/
def gsink : ℝ := -(es sk M / den ok a sk M) * mean ok a dp sk M

theorem es_pos : 0 < es sk M := Real.exp_pos _

theorem ev_nonneg (s : Fin 256) : 0 ≤ ev ok a M s := by
  unfold ev; split
  · exact (Real.exp_pos _).le
  · exact le_rfl

theorem den_pos : 0 < den ok a sk M :=
  add_pos_of_nonneg_of_pos (Finset.sum_nonneg fun s _ => ev_nonneg ok a M s) (es_pos sk M)

/-- A logit under the mask, as an extended real. -/
def lg (s : Fin 256) : EReal := if ok s then (a s : EReal) else ⊥

theorem exp_lg (s : Fin 256) : Ideal.exp (lg ok a s - (M : EReal)) = (ev ok a M s : EReal) := by
  unfold lg ev; split
  · rw [← EReal.coe_sub, Ideal.exp_coe]
  · rw [EReal.bot_sub, Ideal.exp_bot, EReal.coe_zero]

theorem exp_sk : Ideal.exp ((sk : EReal) - (M : EReal)) = (es sk M : EReal) := by
  rw [← EReal.coe_sub, Ideal.exp_coe]; rfl

theorem coe_sum {ι : Type} (t : Finset ι) (f : ι → ℝ) : ((∑ i ∈ t, f i : ℝ) : EReal) = ∑ i ∈ t, (f i : EReal) := by
  classical
  induction t using Finset.induction_on with
  | empty => simp
  | insert i t h ih => rw [Finset.sum_insert h, Finset.sum_insert h, EReal.coe_add, ih]

theorem log_den : (M : EReal) + Ideal.log (den ok a sk M : EReal) = ((M + Real.log (den ok a sk M) : ℝ) : EReal) := by
  rw [Ideal.log_coe, if_neg (not_le.mpr (den_pos ok a sk M)), EReal.coe_add]

theorem exp_lse (x : ℝ) : Real.exp (x - (M + Real.log (den ok a sk M))) = Real.exp (x - M) / den ok a sk M := by
  rw [← sub_sub, Real.exp_sub, Real.exp_log (den_pos ok a sk M)]

theorem prob_eq (s : Fin 256) :
    Ideal.exp (lg ok a s - ((M + Real.log (den ok a sk M) : ℝ) : EReal)) = (prob ok a sk M s : EReal) := by
  unfold lg prob ev; split
  · rw [← EReal.coe_sub, Ideal.exp_coe, exp_lse]
  · rw [EReal.bot_sub, Ideal.exp_bot, zero_div, EReal.coe_zero]

theorem sink_eq :
    Ideal.exp ((sk : EReal) - ((M + Real.log (den ok a sk M) : ℝ) : EReal)) = ((es sk M / den ok a sk M : ℝ) : EReal) := by
  rw [← EReal.coe_sub, Ideal.exp_coe, exp_lse]; rfl

theorem mean_eq : ∑ s, (prob ok a sk M s : EReal) * (dp s : EReal) = (mean ok a dp sk M : EReal) := by
  unfold mean; rw [coe_sum]; simp only [EReal.coe_mul]

theorem grad_eq (s : Fin 256) :
    (prob ok a sk M s : EReal) * ((dp s : EReal) - (mean ok a dp sk M : EReal)) = (grad ok a dp sk M s : EReal) := by
  rw [← EReal.coe_sub, ← EReal.coe_mul]; rfl

theorem gsink_eq :
    (0 - ((es sk M / den ok a sk M : ℝ) : EReal)) * (mean ok a dp sk M : EReal) = (gsink ok a dp sk M : EReal) := by
  rw [zero_sub, ← EReal.coe_neg, ← EReal.coe_mul]; rfl

theorem grad_off (s : Fin 256) (h : ¬ ok s) : grad ok a dp sk M s = 0 := by
  unfold grad prob ev; rw [if_neg h, zero_div, zero_mul]

theorem div_real (x y : ℝ) (h : 0 < y) : Ideal.div (x : EReal) (y : EReal) = ((x / y : ℝ) : EReal) := by
  rw [Ideal.div_coe h.ne', ← EReal.coe_mul, mul_one_div]

/-- The term that a softmax's derivative subtracts, as its transposed program computes it. -/
def back : ℝ := -∑ s, dp s * (1 / (den ok a sk M * den ok a sk M)) * ev ok a M s

theorem grad_ref (s : Fin 256) :
    ((dp s / den ok a sk M) + back ok a dp sk M) * ev ok a M s = grad ok a dp sk M s := by
  have h := (den_pos ok a sk M).ne'
  have hb : back ok a dp sk M = -(mean ok a dp sk M / den ok a sk M) := by
    unfold back mean prob
    rw [Finset.sum_div]
    congr 1
    refine Finset.sum_congr rfl fun t _ => ?_
    field_simp
  rw [hb]; unfold grad prob; field_simp; ring

theorem gsink_ref :
    ((0 / den ok a sk M) + back ok a dp sk M) * es sk M = gsink ok a dp sk M := by
  have h := (den_pos ok a sk M).ne'
  have hb : back ok a dp sk M = -(mean ok a dp sk M / den ok a sk M) := by
    unfold back mean prob
    rw [Finset.sum_div]
    congr 1
    refine Finset.sum_congr rfl fun t _ => ?_
    field_simp
  rw [hb]; unfold gsink; field_simp; ring

/-- A maximum of finitely many numbers below `⊤`, one of them above `⊥`, is a real. -/
theorem fold_max_real {n : ℕ} (f : Fin n → EReal) (i : Fin n) (hi : ⊥ < f i) (hf : ∀ k, f k < ⊤) :
    ∃ M : ℝ, Finset.univ.fold max ⊥ f = (M : EReal) := by
  have h1 : Finset.univ.fold max ⊥ f < ⊤ := (Finset.fold_max_lt _).mpr ⟨bot_lt_top, fun x _ => hf x⟩
  have h2 : ⊥ < Finset.univ.fold max ⊥ f := (Finset.lt_fold_max _).mpr (Or.inr ⟨i, Finset.mem_univ _, hi⟩)
  exact ⟨_, (EReal.coe_toReal h1.ne h2.ne').symm⟩

end Cert.Swa
-- ==== Proof.Mask.lean ====
module

public import proofs.«01_k».proof.Proof.Gen.KernelIdeal.Skeleton
public import proofs.«01_k».proof.Proof.Row
public import Idealize.ShloMosaic.Lib.Pipeline.ValueKit

/-! A pair of heads is stacked: head `par` of the pair has the rows `row par r` of a block of 256 and the lanes `lane par d` of 128. Sums
over stacked rows and lanes, and the window's mask at an index. -/

@[expose] public section

set_option maxRecDepth 16384
noncomputable section
open Idealize.ShloMosaic
namespace Cert.KernelIdeal.Body
open Cert.KernelIdeal Cert.KernelIdeal.Gen Cert.Swa

/-- Row `r` of head `par` of a pair, in the stacked block of 256 rows. -/
abbrev row (par : Fin 2) (r : Fin 128) : Fin 256 := ⟨par.val * 128 + r.val, by omega⟩
/-- Lane `d` of head `par` of a pair, among the 128 lanes. -/
abbrev lane (par : Fin 2) (d : Fin 64) : Fin 128 := ⟨par.val * 64 + d.val, by omega⟩

theorem ofBits_eighth_bf16 : Ideal.ofBits .bf16 0x3E00#16 = ((1 / 8 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num

theorem named_mask : (Named.named κ "mask" 0xF149F2CA#32 : Ideal .f32) = (⊥ : EReal) := by
  rfl

/-! ## Sums over stacked lanes and rows -/

theorem sum_lanes (f : Fin 128 → EReal) (par : Fin 2) (h : ∀ l : Fin 128, l.val / 64 ≠ par.val → f l = 0) :
    ∑ l, f l = ∑ d, f (lane par d) := by
  rw [Fin.sum_univ_two_halves 64 64 rfl f]
  have hp : par = 0 ∨ par = 1 := by omega
  rcases hp with rfl | rfl
  · rw [Finset.sum_eq_zero (s := Finset.univ) (f := fun d : Fin 64 => f ⟨64 + d.val, _⟩) fun d _ => h _ (by simp only; show _ ≠ 0; omega), add_zero]
    exact Finset.sum_congr rfl fun d _ => congrArg f (Fin.ext (by simp))
  · rw [Finset.sum_eq_zero (s := Finset.univ) (f := fun d : Fin 64 => f ⟨d.val, _⟩) fun d _ => h _ (by simp only; show _ ≠ 1; omega), zero_add]
    exact Finset.sum_congr rfl fun d _ => congrArg f (Fin.ext (by simp))

theorem sum_rows (f : Fin 256 → EReal) (par : Fin 2) (h : ∀ l : Fin 256, l.val / 128 ≠ par.val → f l = 0) :
    ∑ l, f l = ∑ r, f (row par r) := by
  rw [Fin.sum_univ_two_halves 128 128 rfl f]
  have hp : par = 0 ∨ par = 1 := by omega
  rcases hp with rfl | rfl
  · rw [Finset.sum_eq_zero (s := Finset.univ) (f := fun d : Fin 128 => f ⟨128 + d.val, _⟩) fun d _ => h _ (by simp only; show _ ≠ 0; omega), add_zero]
    exact Finset.sum_congr rfl fun d _ => congrArg f (Fin.ext (by simp))
  · rw [Finset.sum_eq_zero (s := Finset.univ) (f := fun d : Fin 128 => f ⟨d.val, _⟩) fun d _ => h _ (by simp only; show _ ≠ 1; omega), zero_add]
    exact Finset.sum_congr rfl fun d _ => congrArg f (Fin.ext (by simp))

/-! ## The mask -/

theorem lane_lt : ∀ l : Fin 128, IntOp.cmpi CmpIPredicate.slt (BitVec.ofNat 32 l.val) 64#32 = if l.val / 64 = 0 then 1#1 else 0#1 := by
  decide +kernel

theorem band : ∀ (r : Fin 128) (s : Fin 256), IntOp.andi
    (IntOp.cmpi CmpIPredicate.sge (IntOp.subi (IntOp.addi (BitVec.ofNat 32 r.val) 128#32) (BitVec.ofNat 32 s.val)) 0#32)
    (IntOp.cmpi CmpIPredicate.slt (IntOp.subi (IntOp.addi (BitVec.ofNat 32 r.val) 128#32) (BitVec.ofNat 32 s.val)) 128#32)
    = if r.val < s.val ∧ s.val ≤ r.val + 128 then 1#1 else 0#1 := by
  decide +kernel

/-- Whether row `r` of block `i` sees entry `s` of its window. -/
abbrev ok (i : ℕ) (r : Fin 128) (s : Fin 256) : Prop := (r.val < s.val ∧ s.val ≤ r.val + 128) ∧ (128 ≤ s.val ∨ 0 < i)

theorem rem_row : ∀ r : Fin 256, (Scalar.select
                (IntOp.andi
                  (IntOp.xori
                    (IntOp.cmpi CmpIPredicate.slt
                      (IntOp.remsi ArithUnit.vector (BitVec.ofNat 32 r.val)
                        (Scalar.select (Scalar.cmpi CmpIPredicate.eq 128#32 0#32) 1#32 128#32))
                      0#32)
                    (Scalar.cmpi CmpIPredicate.slt
                      (Scalar.select (Scalar.cmpi CmpIPredicate.eq 128#32 0#32) 1#32 128#32) 0#32))
                  (IntOp.cmpi CmpIPredicate.ne
                    (IntOp.remsi ArithUnit.vector (BitVec.ofNat 32 r.val)
                      (Scalar.select (Scalar.cmpi CmpIPredicate.eq 128#32 0#32) 1#32 128#32))
                    0#32))
                (IntOp.addi
                  (IntOp.remsi ArithUnit.vector (BitVec.ofNat 32 r.val)
                    (Scalar.select (Scalar.cmpi CmpIPredicate.eq 128#32 0#32) 1#32 128#32))
                  (Scalar.select (Scalar.cmpi CmpIPredicate.eq 128#32 0#32) 1#32 128#32))
                (IntOp.remsi ArithUnit.vector (BitVec.ofNat 32 r.val)
                  (Scalar.select (Scalar.cmpi CmpIPredicate.eq 128#32 0#32) 1#32 128#32)))
    = BitVec.ofNat 32 (r.val % 128) := by
  decide +kernel

theorem own_half : ∀ (s : Fin 256) (i : Fin 32), IntOp.ori (IntOp.cmpi CmpIPredicate.sge (BitVec.ofNat 32 s.val) 128#32)
        (Scalar.cmpi CmpIPredicate.sgt (BitVec.ofNat 32 i.val) 0#32) = if 128 ≤ s.val ∨ 0 < i.val then 1#1 else 0#1 := by
  decide +kernel

theorem andi_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem select_ite {α : Type} (p : Prop) [Decidable p] (a b : α) :
    Scalar.select (if p then 1#1 else 0#1) a b = if p then a else b := by
  by_cases hp : p <;> simp [hp, Scalar.select]

theorem mask_apply (i : grid0.Coords) (par : Fin 2) (r : Fin 128) (s : Fin 256) :
    k0_pay4 i (ix2 (row par r) s) = if ok (i 2).val r s then 1#1 else 0#1 := by
  pointwise [k0_pay4]
  rw [rem_row (row par r)]
  have e : (row par r).val % 128 = r.val := by simp only [row]; omega
  rw [e, band r s, own_half s (i 2), andi_ite]

end Cert.KernelIdeal.Body
-- ==== Proof.Leaf.lean ====
module

public import proofs.«01_k».proof.Proof.Gen.ReferenceIdeal.Read
public import proofs.«01_k».proof.Proof.Mask
public import Idealize.ShloMosaic.Lib.Pipeline.ValueKit

/-! The reference's arrays that are an argument in another order, and its mask, each at an index: block `n` of 64, head pair-parity `p`
(key-value head `p / 2`, parity `p % 2`), row `r` of the block, pair `j`, entry `s` of the window, lane `d`. -/

@[expose] public section

set_option maxRecDepth 16384
set_option maxHeartbeats 1000000
noncomputable section
open Idealize.ShloMosaic
namespace Cert.ReferenceIdeal.Leaf
open Cert.ReferenceIdeal Cert.ReferenceIdeal.Read
variable (x0 : S2x4096x16x64.Idx → EReal) (x1 : S2x4096x2x64.Idx → EReal) (x3 : S16.Idx → EReal) (x4 : S2x4096x1024.Idx → EReal)

/-- The head of parity `p % 2` in pair `j` of key-value head `p / 2`. -/
abbrev head (p j : Fin 4) : Fin 16 := ⟨p.val / 2 * 8 + j.val * 2 + p.val % 2, by omega⟩

theorem window (n : Fin 64) (s : Fin 256) (p : Fin 4) (d : Fin 64) : val_main_v9 (F := Ideal) x1 (ix4 n s p d)
    = (if h : s.val < 128 then
      if h : n.val % 32 * 128 + s.val < 128 then 0
      else x1 (ix4 ⟨n.val / 32, by omega⟩ ⟨n.val % 32 * 128 + s.val - 128, by omega⟩ ⟨p.val / 2, by omega⟩ d)
    else
      if h : (1 + n.val % 32) * 128 + (s.val - 128) < 128 then 0
      else x1 (ix4 ⟨n.val / 32, by omega⟩ ⟨(1 + n.val % 32) * 128 + (s.val - 128) - 128, by omega⟩ ⟨p.val / 2, by omega⟩ d)) := by
  pointwise [val_main_v9, val_main_v8, val_main_v7, val_main_v6, val_main_v5, val_main_v4, val_main_v3, val_main_v2, val_main_v1,
    val_main_v0, val_main_cst]

theorem rem_block : ∀ n : Fin 64, IntOp.remsi ArithUnit.host (BitVec.ofNat 32 n.val) 32#32 = BitVec.ofNat 32 (n.val % 32) := by
  decide +kernel

theorem not_before : ∀ (i : Fin 32) (s : Fin 256), IntOp.cmpi CmpIPredicate.sge
        (IntOp.addi (IntOp.subi (IntOp.muli (BitVec.ofNat 32 i.val) 128#32) 128#32) (BitVec.ofNat 32 s.val)) 0#32
      = if 128 ≤ s.val ∨ 0 < i.val then 1#1 else 0#1 := by
  decide +kernel

theorem mask (n : Fin 64) (p : Fin 4) (r : Fin 128) (j : Fin 4) (s : Fin 256) : val_main_v46 (F := Ideal) (ix5 n p r j s)
    = if Cert.KernelIdeal.Body.ok (n.val % 32) r s then 1#1 else 0#1 := by
  pointwise [val_main_v46, val_main_v45, val_main_v44, val_main_v43, val_main_v42, val_main_v41, val_main_v40, val_main_v39, val_main_v38,
    val_main_v37, val_main_v36, val_main_v35, val_main_v34, val_main_v33, val_main_v32, val_main_v31, val_main_v30, val_main_v29,
    val_main_v28, val_main_v27, val_main_v26, val_main_c, val_main_c_2, val_main_c_3, val_main_c_4, val_main_c_5, val_main_c_6, val_main_c_7]
  rw [rem_block, Cert.KernelIdeal.Body.band, not_before ⟨n.val % 32, by omega⟩ s, Cert.KernelIdeal.Body.andi_ite]

theorem queries (n : Fin 64) (p : Fin 4) (r : Fin 128) (j : Fin 4) (d : Fin 64) : val_main_v22 (F := Ideal) x0 (ix5 n r j p d)
    = x0 (ix4 ⟨(n.val * 128 + r.val) / 4096, by omega⟩ ⟨(n.val * 128 + r.val) % 4096, by omega⟩ (head p j) d) := by
  pointwise [val_main_v22, val_main_v21, val_main_v20]

theorem cts (n : Fin 64) (p : Fin 4) (r : Fin 128) (j : Fin 4) (d : Fin 64) : val_main_v90 (F := Ideal) x4 (ix5 n p d r j)
    = x4 (ix3 ⟨(n.val * 128 + r.val) / 4096, by omega⟩ ⟨(n.val * 128 + r.val) % 4096, by omega⟩
        ⟨p.val / 2 * 512 + j.val * 128 + p.val % 2 * 64 + d.val, by omega⟩) := by
  pointwise [val_main_v90, val_main_v89, val_main_v88, val_main_v87]

theorem sinks (n : Fin 64) (p : Fin 4) (r : Fin 128) (j : Fin 4) (o : Fin 1) : val_main_v51 (F := Ideal) x3 (ix5 n p r j o) = x3 (ix1 (head p j)) := by
  pointwise [val_main_v51, val_main_v50, val_main_v49, val_main_v48]

end Cert.ReferenceIdeal.Leaf
-- ==== Proof.Ref.lean ====
module

public import proofs.«01_k».proof.Proof.Leaf

/-! The reference's arrays at an index, when the arguments are real: the numbers of `Row.lean` for each row. -/

@[expose] public section

set_option maxRecDepth 16384
set_option maxHeartbeats 1000000
noncomputable section
open Idealize.ShloMosaic
namespace Cert.ReferenceIdeal.Ref
open Cert.ReferenceIdeal Cert.ReferenceIdeal.Read Cert.ReferenceIdeal.Leaf Cert.Swa Cert.KernelIdeal.Body

/-- A host sum over the axes 0, 2 and 4 of such an array. -/
theorem sum_axes (h : S64x4x128x4x1.ReducesTo [0, 2, 4] S4x4) (hu : 0 < S_.numel) (y : S64x4x128x4x1.Idx → EReal) (z : S_.Idx → EReal) (hz : ∀ i, z i = 0) (p j : Fin 4) :
    Host.reduceAdd (F := Ideal) (φ := .f32) y z h hu (ix2 p j) = ∑ n : Fin 64, ∑ r : Fin 128, y (ix5 n p r j 0) := by
  show Ideal.hostReduceAdd h y _ (ix2 p j) = _
  unfold Ideal.hostReduceAdd
  rw [hz, zero_add, ← Fintype.sum_prod_type' (fun (n : Fin 64) (r : Fin 128) => y (ix5 n p r j 0))]
  refine Finset.sum_filter_eq_sum_of_fiber _ (fun k : Fin 64 × Fin 128 => (ix5 k.1 p k.2 j 0 : S64x4x128x4x1.Idx)) ?_ ?_ y
  · intro a b e
    exact Prod.ext (congrFun e 0) (congrFun e 2)
  · intro i
    constructor
    · intro e
      refine ⟨(i 0, i 2), ?_⟩
      funext a
      match a with
      | ⟨0, _⟩ => rfl
      | ⟨1, _⟩ => exact (congrFun e 0).symm
      | ⟨2, _⟩ => rfl
      | ⟨3, _⟩ => exact (congrFun e 1).symm
      | ⟨4, _⟩ => exact Subsingleton.elim (α := Fin 1) _ _
    · rintro ⟨k, rfl⟩
      funext b
      match b with
      | ⟨0, _⟩ => rfl
      | ⟨1, _⟩ => rfl

theorem word_bot : Ideal.ofBits .f32 0xFF800000#32 = ⊥ := by
  simp [Ideal.ofBits, Ideal.ieee]

/-- A host maximum over the last axis. -/
theorem max_axes (h : S64x4x128x4x257.ReducesTo [4] S64x4x128x4) (hu : 0 < S_.numel) (y : FVec Ideal S64x4x128x4x257 .f32)
    (n : Fin 64) (p : Fin 4) (r : Fin 128) (j : Fin 4) :
    Host.reduce FloatOps.maximumf y (constant S_ .f32 0xFF800000#32) h hu (ix4 n p r j)
      = Finset.univ.fold max (⊥ : EReal) fun x => y (ix5 n p r j x) := by
  pointwise
  rw [word_bot]

/-- Real numbers as extended reals. -/
abbrev up {S : Shape} (f : S.Idx → ℝ) : S.Idx → EReal := fun i => ((f i : ℝ) : EReal)

variable (q : S2x4096x16x64.Idx → ℝ) (k v : S2x4096x2x64.Idx → ℝ) (s : S16.Idx → ℝ) (c : S2x4096x1024.Idx → ℝ)
variable (n : Fin 64) (p : Fin 4) (r : Fin 128) (j : Fin 4)

/-- Entry `t` of the window of block `n`, zero before the sequence begins. -/
def Kw (t : Fin 256) (d : Fin 64) : ℝ :=
  if h : t.val < 128 then
      if h : n.val % 32 * 128 + t.val < 128 then 0
      else k (ix4 ⟨n.val / 32, by omega⟩ ⟨n.val % 32 * 128 + t.val - 128, by omega⟩ ⟨p.val / 2, by omega⟩ d)
    else
      if h : (1 + n.val % 32) * 128 + (t.val - 128) < 128 then 0
      else k (ix4 ⟨n.val / 32, by omega⟩ ⟨(1 + n.val % 32) * 128 + (t.val - 128) - 128, by omega⟩ ⟨p.val / 2, by omega⟩ d)
def Qs (d : Fin 64) : ℝ :=
  q (ix4 ⟨(n.val * 128 + r.val) / 4096, by omega⟩ ⟨(n.val * 128 + r.val) % 4096, by omega⟩ (head p j) d)
def Cs (d : Fin 64) : ℝ :=
  c (ix3 ⟨(n.val * 128 + r.val) / 4096, by omega⟩ ⟨(n.val * 128 + r.val) % 4096, by omega⟩
        ⟨p.val / 2 * 512 + j.val * 128 + p.val % 2 * 64 + d.val, by omega⟩)
/-- The score of a row at an entry of its window. -/
def score (t : Fin 256) : ℝ := (∑ d, Qs q n p r j d * Kw k n p t d) * (1 / 8)
/-- The gradient of a probability. -/
def dprob (t : Fin 256) : ℝ := ∑ d, Cs c n p r j d * Kw v n p t d
def sk : ℝ := s (ix1 (head p j))
/-- The row's maximum. -/
def Mx : ℝ := (val_main_v60 (F := Ideal) (up q) (up k) (up s) (ix4 n p r j)).toReal

/-- The row's probability, the gradient of its logit, and its part of the sink's gradient. -/
abbrev pr (t : Fin 256) : ℝ := prob (ok (n.val % 32) r) (score q k n p r j) (sk s p j) (Mx q k s n p r j) t
abbrev gr (t : Fin 256) : ℝ := grad (ok (n.val % 32) r) (score q k n p r j) (dprob v c n p r j) (sk s p j) (Mx q k s n p r j) t
abbrev gs : ℝ := gsink (ok (n.val % 32) r) (score q k n p r j) (dprob v c n p r j) (sk s p j) (Mx q k s n p r j)
abbrev dn : ℝ := den (ok (n.val % 32) r) (score q k n p r j) (sk s p j) (Mx q k s n p r j)
abbrev bk : ℝ := back (ok (n.val % 32) r) (score q k n p r j) (dprob v c n p r j) (sk s p j) (Mx q k s n p r j)

theorem K_at (t : Fin 256) (d : Fin 64) : val_main_v9 (F := Ideal) (up k) (ix4 n t p d) = ((Kw k n p t d : ℝ) : EReal) := by
  rw [window]
  unfold Kw
  split_ifs <;> first | rfl | exact EReal.coe_zero.symm
theorem V_at (t : Fin 256) (d : Fin 64) : val_main_v19 (F := Ideal) (up v) (ix4 n t p d) = ((Kw v n p t d : ℝ) : EReal) := by
  rw [← K_at]; rfl
theorem Q_at (d : Fin 64) : val_main_v22 (F := Ideal) (up q) (ix5 n r j p d) = ((Qs q n p r j d : ℝ) : EReal) := queries _ n p r j d
theorem C_at (d : Fin 64) : val_main_v90 (F := Ideal) (up c) (ix5 n p d r j) = ((Cs c n p r j d : ℝ) : EReal) := cts _ n p r j d

theorem score_at (t : Fin 256) : val_main_v25 (F := Ideal) (up q) (up k) (ix5 n p r j t) = ((score q k n p r j t : ℝ) : EReal) := by
  pointwise [val_main_v25, val_main_v24, val_main_v23, val_main_cst_1]
  simp only [Q_at, K_at]
  rw [ofBits_eighth]
  unfold score
  rw [EReal.coe_mul, coe_sum]
  simp only [EReal.coe_mul]

theorem z_at (t : Fin 257) : val_main_v52 (F := Ideal) (up q) (up k) (up s) (ix5 n p r j t)
    = if h : t.val < 256 then lg (ok (n.val % 32) r) (score q k n p r j) ⟨t.val, h⟩ else ((sk s p j : ℝ) : EReal) := by
  pointwise [val_main_v52, val_main_v47_0, val_main_call0_v1, val_main_call0_v0, val_main_cst_8]
  split
  · rw [mask, select_ite, score_at]
    rfl
  · exact sinks _ n p r j _

theorem z_lo (t : Fin 256) (h : t.val < 257) : val_main_v52 (F := Ideal) (up q) (up k) (up s) (ix5 n p r j ⟨t.val, h⟩)
    = lg (ok (n.val % 32) r) (score q k n p r j) t := by
  rw [z_at, dif_pos t.isLt]
theorem z_hi (t : Fin 257) (h : t.val = 256) : val_main_v52 (F := Ideal) (up q) (up k) (up s) (ix5 n p r j t) = ((sk s p j : ℝ) : EReal) := by
  rw [z_at, dif_neg (by omega)]

theorem max_at : val_main_v60 (F := Ideal) (up q) (up k) (up s) (ix4 n p r j) = ((Mx q k s n p r j : ℝ) : EReal) := by
  have h : ∃ M : ℝ, val_main_v60 (F := Ideal) (up q) (up k) (up s) (ix4 n p r j) = (M : EReal) := by
    obtain ⟨M, hM⟩ := fold_max_real (fun x : Fin 257 => val_main_v52 (F := Ideal) (up q) (up k) (up s) (ix5 n p r j x)) ⟨256, by omega⟩
      (by rw [z_hi _ _ _ _ _ _ _ _ rfl]; exact EReal.bot_lt_coe _)
      (fun t => by
        show val_main_v52 (F := Ideal) (up q) (up k) (up s) (ix5 n p r j t) < ⊤
        rw [z_at]
        split
        · unfold lg; split
          · exact EReal.coe_lt_top _
          · exact bot_lt_top
        · exact EReal.coe_lt_top _)
    refine ⟨M, ?_⟩
    have e0 : val_main_v59 (F := Ideal) (ix4 n p r j) = (⊥ : EReal) := by
      pointwise [val_main_v59, val_main_cst_11]
      exact word_bot
    have e1 : val_main_v53 (F := Ideal) (up q) (up k) (up s) (ix4 n p r j) = (M : EReal) := by
      unfold val_main_v53 val_main_cst_9
      rw [max_axes]
      exact hM
    rw [val_main_v60_apply, e0, e1]
    exact max_eq_right (bot_le : (⊥ : EReal) ≤ (M : EReal))
  obtain ⟨M, hM⟩ := h
  unfold Mx
  rw [hM, EReal.toReal_coe]

theorem e_lo (t : Fin 256) (h : t.val < 257) : val_main_v73 (F := Ideal) (up q) (up k) (up s) (ix5 n p r j ⟨t.val, h⟩)
    = ((ev (ok (n.val % 32) r) (score q k n p r j) (Mx q k s n p r j) t : ℝ) : EReal) := by
  pointwise [val_main_v73, val_main_v72, val_main_v71, val_main_v70]
  rw [z_lo, max_at, exp_lg]
theorem e_hi (t : Fin 257) (h : t.val = 256) : val_main_v73 (F := Ideal) (up q) (up k) (up s) (ix5 n p r j t)
    = ((es (sk s p j) (Mx q k s n p r j) : ℝ) : EReal) := by
  pointwise [val_main_v73, val_main_v72, val_main_v71, val_main_v70]
  rw [z_hi _ _ _ _ _ _ _ _ h, max_at, exp_sk]

/-- A sum over a row of scores: over the window, and the sink's term. -/
theorem sum_row (f : Fin 257 → EReal) : ∑ t, f t = (∑ t : Fin 256, f ⟨t.val, by omega⟩) + f ⟨256, by omega⟩ :=
  Fin.sum_univ_castSucc f

theorem sum_e : ∑ t, val_main_v73 (F := Ideal) (up q) (up k) (up s) (ix5 n p r j t) = ((dn q k s n p r j : ℝ) : EReal) := by
  rw [sum_row, e_hi _ _ _ _ _ _ _ _ rfl]
  simp only [e_lo]
  rw [← coe_sum, ← EReal.coe_add]
  rfl

/-- The log-sum of a row. -/
theorem lse_at : val_main_v60 (F := Ideal) (up q) (up k) (up s) (ix4 n p r j)
      + Ideal.log (∑ x, Ideal.exp (val_main_v52 (F := Ideal) (up q) (up k) (up s) (ix5 n p r j x)
          - val_main_v60 (F := Ideal) (up q) (up k) (up s) (ix4 n p r j)))
    = ((Mx q k s n p r j + Real.log (dn q k s n p r j) : ℝ) : EReal) := by
  have e : ∀ x : Fin 257, Ideal.exp (val_main_v52 (F := Ideal) (up q) (up k) (up s) (ix5 n p r j x)
      - val_main_v60 (F := Ideal) (up q) (up k) (up s) (ix4 n p r j)) = val_main_v73 (F := Ideal) (up q) (up k) (up s) (ix5 n p r j x) := by
    intro x
    pointwise [val_main_v73, val_main_v72, val_main_v71, val_main_v70]
  simp only [e]
  rw [sum_e, max_at, log_den]

theorem den_at (o : Fin 1) : val_main_v75 (F := Ideal) (up q) (up k) (up s) (ix5 n p r j o) = ((dn q k s n p r j : ℝ) : EReal) := by
  rw [← sum_e]
  pointwise [val_main_v75, val_main_v74, val_main_cst_17]
  first | done | exact zero_add _

theorem prob_at (t : Fin 256) : val_main_v81 (F := Ideal) (up q) (up k) (up s) (ix5 n p r j t) = ((pr q k s n p r j t : ℝ) : EReal) := by
  pointwise [val_main_v81, val_main_v77, val_main_v76]
  rw [e_lo, den_at, div_real _ _ (den_pos _ _ _ _)]
  rfl

theorem dprob_at (t : Fin 256) : val_main_v91 (F := Ideal) (up v) (up c) (ix5 n p r j t) = ((dprob v c n p r j t : ℝ) : EReal) := by
  pointwise [val_main_v91]
  simp only [C_at, V_at]
  unfold dprob
  rw [coe_sum]
  simp only [EReal.coe_mul]

theorem pad_at (t : Fin 257) : val_main_v94 (F := Ideal) (up v) (up c) (ix5 n p r j t)
    = if h : t.val < 256 then ((dprob v c n p r j ⟨t.val, h⟩ : ℝ) : EReal) else 0 := by
  pointwise [val_main_v94, val_main_cst_19]
  simp only [dprob_at]
theorem pad_lo (t : Fin 256) (h : t.val < 257) : val_main_v94 (F := Ideal) (up v) (up c) (ix5 n p r j ⟨t.val, h⟩)
    = ((dprob v c n p r j t : ℝ) : EReal) := by
  rw [pad_at, dif_pos t.isLt]
theorem pad_hi (t : Fin 257) (h : t.val = 256) : val_main_v94 (F := Ideal) (up v) (up c) (ix5 n p r j t) = ((0 : ℝ) : EReal) := by
  rw [pad_at, dif_neg (by omega), EReal.coe_zero]

theorem inv_at (o : Fin 1) : val_main_v80 (F := Ideal) (up q) (up k) (up s) (ix5 n p r j o)
    = ((1 / (dn q k s n p r j * dn q k s n p r j) : ℝ) : EReal) := by
  pointwise [val_main_v80, val_main_v79, val_main_v78, val_main_cst_18]
  rw [den_at, ← EReal.coe_mul, ← div_real _ _ (mul_pos (den_pos _ _ _ _) (den_pos _ _ _ _))]
  rfl

theorem back_at (o : Fin 1) : val_main_v100 (F := Ideal) (up q) (up k) (up v) (up s) (up c) (ix5 n p r j o)
    = ((bk q k v s c n p r j : ℝ) : EReal) := by
  have h : ∑ t, val_main_v97 (F := Ideal) (up q) (up k) (up v) (up s) (up c) (ix5 n p r j t)
      = ((∑ t, dprob v c n p r j t * (1 / (dn q k s n p r j * dn q k s n p r j))
          * ev (ok (n.val % 32) r) (score q k n p r j) (Mx q k s n p r j) t : ℝ) : EReal) := by
    rw [sum_row, coe_sum]
    have e : ∀ t, val_main_v97 (F := Ideal) (up q) (up k) (up v) (up s) (up c) (ix5 n p r j t)
        = val_main_v94 (F := Ideal) (up v) (up c) (ix5 n p r j t) * val_main_v80 (F := Ideal) (up q) (up k) (up s) (ix5 n p r j 0)
          * val_main_v73 (F := Ideal) (up q) (up k) (up s) (ix5 n p r j t) := by
      intro t
      pointwise [val_main_v97, val_main_v96, val_main_v95]
    simp only [e, pad_lo, e_lo, inv_at]
    rw [pad_hi _ _ _ _ _ _ _ rfl, EReal.coe_zero, zero_mul, zero_mul, add_zero]
    simp only [EReal.coe_mul]
  unfold bk back
  rw [EReal.coe_neg, ← h]
  pointwise [val_main_v100, val_main_v99, val_main_v98, val_main_cst_20]
  first | done | rw [zero_add]

theorem dz_at (t : Fin 257) : val_main_v106 (F := Ideal) (up q) (up k) (up v) (up s) (up c) (ix5 n p r j t)
    = (Ideal.div (val_main_v94 (F := Ideal) (up v) (up c) (ix5 n p r j t)) ((dn q k s n p r j : ℝ) : EReal) + ((bk q k v s c n p r j : ℝ) : EReal))
      * val_main_v73 (F := Ideal) (up q) (up k) (up s) (ix5 n p r j t) := by
  rw [← den_at _ _ _ _ _ _ _ 0, ← back_at _ _ _ _ _ _ _ _ _ 0]
  pointwise [val_main_v106, val_main_v105, val_main_v104, val_main_v103, val_main_v102, val_main_v101, val_main_cst_21]
  simp

theorem dz_lo (t : Fin 256) (h : t.val < 257) : val_main_v106 (F := Ideal) (up q) (up k) (up v) (up s) (up c) (ix5 n p r j ⟨t.val, h⟩)
    = ((gr q k v s c n p r j t : ℝ) : EReal) := by
  rw [dz_at, pad_lo, e_lo, div_real _ _ (den_pos _ _ _ _), ← EReal.coe_add, ← EReal.coe_mul, grad_ref]
theorem dz_hi (t : Fin 257) (h : t.val = 256) : val_main_v106 (F := Ideal) (up q) (up k) (up v) (up s) (up c) (ix5 n p r j t)
    = ((gs q k v s c n p r j : ℝ) : EReal) := by
  rw [dz_at, pad_hi _ _ _ _ _ _ _ h, e_hi _ _ _ _ _ _ _ _ h, div_real _ _ (den_pos _ _ _ _), ← EReal.coe_add, ← EReal.coe_mul, gsink_ref]

theorem dscore_at (t : Fin 256) : val_main_v116 (F := Ideal) (up q) (up k) (up v) (up s) (up c) (ix5 n p r j t)
    = ((gr q k v s c n p r j t * (1 / 8) : ℝ) : EReal) := by
  pointwise [val_main_v116, val_main_v115, val_main_v114, val_main_v107, val_main_cst_23, val_main_call1_v0, val_main_call1_cst]
  rw [mask, select_ite, dz_lo, ofBits_eighth]
  split
  · rw [EReal.coe_mul]
  · rename_i h
    rw [show gr q k v s c n p r j t = 0 from grad_off _ _ _ _ _ _ h, zero_mul]; rfl

/-! ## The results -/

theorem dq_at (R : Fin 8192) (L : Fin 1024) (d : Fin 64) (hR : R.val = n.val * 128 + r.val) (hL : L.val = (head p j).val * 64 + d.val) :
    val_main_v127 (F := Ideal) (up q) (up k) (up v) (up s) (up c) (ix2 R L)
    = ((∑ t, gr q k v s c n p r j t * (1 / 8) * Kw k n p t d : ℝ) : EReal) := by
  have h0 : (head p j).val = p.val / 2 * 8 + j.val * 2 + p.val % 2 := rfl
  rw [h0] at hL
  have h1 : n = ⟨R.val / 128, by omega⟩ := Fin.ext (by simp only; omega)
  have h2 : p = ⟨L.val / 64 / 8 * 2 + L.val / 64 % 2, by omega⟩ := Fin.ext (by simp only; omega)
  have h3 : r = ⟨R.val % 128, by omega⟩ := Fin.ext (by simp only; omega)
  have h4 : j = ⟨L.val / 64 / 2 % 4, by omega⟩ := Fin.ext (by simp only; omega)
  have h5 : d = ⟨L.val % 64, by omega⟩ := Fin.ext (by simp only; omega)
  rw [coe_sum]
  simp only [EReal.coe_mul _ (Kw _ _ _ _ _), ← dscore_at, ← K_at]
  pointwise [val_main_v127, val_main_v123, val_main_v122, val_main_v121, val_main_v120, val_main_v119]
  rw [← h1, ← h2, ← h3, ← h4, ← h5]

theorem dk_at (R : Fin 8192) (L : Fin 256) (d : Fin 64) (hR : R.val = n.val * 128 + r.val) (hL : L.val = p.val * 64 + d.val) :
    val_main_v129 (F := Ideal) (up q) (up k) (up v) (up s) (up c) (ix2 R L)
      = ((∑ b, ∑ j, gr q k v s c n p b j ⟨128 + r.val, by omega⟩ * (1 / 8) * Qs q n p b j d : ℝ) : EReal)
    ∧ val_main_v131 (F := Ideal) (up q) (up k) (up v) (up s) (up c) (ix2 R L)
      = ((∑ b, ∑ j, gr q k v s c n p b j ⟨r.val, by omega⟩ * (1 / 8) * Qs q n p b j d : ℝ) : EReal) := by
  have h1 : (⟨R.val / 128, by omega⟩ : Fin 64) = n := Fin.ext (by simp only; omega)
  have h2 : (⟨L.val / 64, by omega⟩ : Fin 4) = p := Fin.ext (by simp only; omega)
  have h3 : R.val % 128 = r.val := by omega
  have h5 : (⟨L.val % 64, by omega⟩ : Fin 64) = d := Fin.ext (by simp only; omega)
  constructor
  · pointwise [val_main_v129, val_main_v128, val_main_v118, val_main_v117]
    simp only [h1, h2, h3, h5]
    rw [coe_sum]
    refine Finset.sum_congr rfl fun b _ => ?_
    rw [coe_sum]
    refine Finset.sum_congr rfl fun j _ => ?_
    rw [dscore_at, Q_at, ← EReal.coe_mul]
  · pointwise [val_main_v131, val_main_v130, val_main_v118, val_main_v117]
    simp only [h1, h2, h3, h5]
    rw [coe_sum]
    refine Finset.sum_congr rfl fun b _ => ?_
    rw [coe_sum]
    refine Finset.sum_congr rfl fun j _ => ?_
    rw [dscore_at, Q_at, ← EReal.coe_mul]

theorem dv_at (R : Fin 8192) (L : Fin 256) (d : Fin 64) (hR : R.val = n.val * 128 + r.val) (hL : L.val = p.val * 64 + d.val) :
    val_main_v133 (F := Ideal) (up q) (up k) (up s) (up c) (ix2 R L)
      = ((∑ b, ∑ j, Cs c n p b j d * pr q k s n p b j ⟨128 + r.val, by omega⟩ : ℝ) : EReal)
    ∧ val_main_v135 (F := Ideal) (up q) (up k) (up s) (up c) (ix2 R L)
      = ((∑ b, ∑ j, Cs c n p b j d * pr q k s n p b j ⟨r.val, by omega⟩ : ℝ) : EReal) := by
  have h1 : (⟨R.val / 128, by omega⟩ : Fin 64) = n := Fin.ext (by simp only; omega)
  have h2 : (⟨L.val / 64, by omega⟩ : Fin 4) = p := Fin.ext (by simp only; omega)
  have h3 : R.val % 128 = r.val := by omega
  have h5 : (⟨L.val % 64, by omega⟩ : Fin 64) = d := Fin.ext (by simp only; omega)
  constructor
  · pointwise [val_main_v133, val_main_v132, val_main_v93, val_main_v92]
    simp only [h1, h2, h3, h5]
    rw [coe_sum]
    refine Finset.sum_congr rfl fun b _ => ?_
    rw [coe_sum]
    refine Finset.sum_congr rfl fun j _ => ?_
    rw [C_at, prob_at, ← EReal.coe_mul]
  · pointwise [val_main_v135, val_main_v134, val_main_v93, val_main_v92]
    simp only [h1, h2, h3, h5]
    rw [coe_sum]
    refine Finset.sum_congr rfl fun b _ => ?_
    rw [coe_sum]
    refine Finset.sum_congr rfl fun j _ => ?_
    rw [C_at, prob_at, ← EReal.coe_mul]

theorem ds_at (R : Fin 8) (L : Fin 128) (hp : p.val = R.val / 4 * 2 + L.val / 64) (hj : j.val = R.val % 4) :
    val_main_v126 (F := Ideal) (up q) (up k) (up v) (up s) (up c) (ix3 R 0 L) = ((∑ n, ∑ r, gs q k v s c n p r j : ℝ) : EReal) := by
  have e : val_main_v109 (F := Ideal) (up q) (up k) (up v) (up s) (up c) (ix2 p j) = ((∑ n, ∑ r, gs q k v s c n p r j : ℝ) : EReal) := by
    unfold val_main_v109
    rw [sum_axes _ _ _ _ (fun i => by pointwise [val_main_cst_22]), coe_sum]
    refine Finset.sum_congr rfl fun n _ => ?_
    rw [coe_sum]
    refine Finset.sum_congr rfl fun r _ => ?_
    pointwise [val_main_v108]
    exact dz_hi _ _ _ _ _ _ _ _ _ _ rfl
  rw [← e]
  pointwise [val_main_v126, val_main_v125, val_main_v124, val_main_v113, val_main_v112, val_main_v111, val_main_v110]
  rw [show p = ⟨R.val / 4 * 2 + L.val / 64, by omega⟩ from Fin.ext hp, show j = ⟨R.val % 4, by omega⟩ from Fin.ext hj]

end Cert.ReferenceIdeal.Ref
-- ==== Proof.Body.lean ====
module

public import proofs.«01_k».proof.Proof.Gen.KernelIdeal.Skeleton
public import proofs.«01_k».proof.Proof.Mask
public import Idealize.ShloMosaic.Lib.Pipeline.ValueKit

/-! What the body of the backward call computes at one grid point, read at an index. A pair of heads is stacked: head `par` of the pair has
the rows `row par r` of a block of 256 and the lanes `lane par d` of 128, and the stacked blocks are zero outside them. -/

@[expose] public section

set_option maxRecDepth 16384
noncomputable section
open Idealize.ShloMosaic
namespace Cert.KernelIdeal.Body
open Cert.KernelIdeal Cert.KernelIdeal.Gen Cert.Swa

/-! ## The stacked blocks -/

theorem stack_apply (x : Vec Ideal S128x128 .bf16) (par : Fin 2) (r l : Fin 128) :
    k0_pay24 (F := Ideal) x (ix2 (row par r) l) = if l.val / 64 = par.val then x (ix2 r l) else 0 := by
  have hp : par = 0 ∨ par = 1 := by omega
  rcases hp with rfl | rfl
  · pointwise [k0_pay24]
    rw [lane_lt l, select_ite]
  · pointwise [k0_pay24]
    rw [lane_lt l, select_ite]
    by_cases h : l.val / 64 = 0
    · rw [if_pos h, if_neg (by show _ ≠ 1; omega)]
    · rw [if_neg h, if_pos (by show _ = 1; omega)]

theorem scaled_apply (x : Vec Ideal S128x128 .bf16) (i) :
    k0_pay8 (F := Ideal) x i = k0_pay24 (F := Ideal) x i * ((1 / 8 : ℝ) : EReal) := by
  rw [← ofBits_eighth_bf16]; rfl

theorem row_split (R : Fin 256) : ∃ (par : Fin 2) (r : Fin 128), R = row par r :=
  ⟨⟨R.val / 128, by omega⟩, ⟨R.val % 128, by omega⟩, Fin.ext (by simp only [row]; omega)⟩

/-- A product over the rows with a stacked block keeps the rows of the lane's head. -/
theorem rows_stack (x : Vec Ideal S128x128 .bf16) (w : Fin 256 → EReal) (par : Fin 2) (d : Fin 64) :
    ∑ R, w R * k0_pay24 (F := Ideal) x (ix2 R (lane par d)) = ∑ r, w (row par r) * x (ix2 r (lane par d)) := by
  rw [sum_rows _ par]
  · refine Finset.sum_congr rfl fun r _ => ?_
    rw [stack_apply, if_pos (by simp only [lane]; omega)]
  · intro R hR
    obtain ⟨p, r, rfl⟩ := row_split R
    rw [stack_apply, if_neg, mul_zero]
    simp only [row, lane] at hR ⊢
    omega

theorem rows_scaled (x : Vec Ideal S128x128 .bf16) (w : Fin 256 → EReal) (par : Fin 2) (d : Fin 64) :
    ∑ R, w R * k0_pay8 (F := Ideal) x (ix2 R (lane par d))
      = ∑ r, w (row par r) * (x (ix2 r (lane par d)) * ((1 / 8 : ℝ) : EReal)) := by
  rw [sum_rows _ par]
  · refine Finset.sum_congr rfl fun r _ => ?_
    rw [scaled_apply, stack_apply, if_pos (by simp only [lane]; omega)]
  · intro R hR
    obtain ⟨p, r, rfl⟩ := row_split R
    rw [scaled_apply, stack_apply, if_neg, zero_mul, mul_zero]
    simp only [row, lane] at hR ⊢
    omega

/-! ## The body's numbers over the reals -/

/-- The body's scores, before the mask. -/
abbrev sc (K : Fin 256 → Fin 2 → Fin 64 → ℝ) (Q : Fin 128 → Fin 2 → Fin 64 → ℝ) (r : Fin 128) (par : Fin 2) (s : Fin 256) : ℝ :=
  (∑ d, Q r par d * K s par d) * (1 / 8)
/-- The gradient of a probability. -/
abbrev dpr (V : Fin 256 → Fin 2 → Fin 64 → ℝ) (C : Fin 128 → Fin 2 → Fin 64 → ℝ) (r : Fin 128) (par : Fin 2) (s : Fin 256) : ℝ :=
  ∑ d, C r par d * V s par d

/-- The blocks that a pair of heads reads hold these reals. -/
structure At (i : ℕ) (mask : IVec S256x256 1) (kk vv : FVec Ideal S256x128 .bf16)
    (q c : Vec Ideal S128x128 .bf16) (l1 l2 : Vec Ideal S128x128 .f32) (sb : Vec Ideal S1x1x128 .f32)
    (K V : Fin 256 → Fin 2 → Fin 64 → ℝ) (Q C : Fin 128 → Fin 2 → Fin 64 → ℝ) (sk : Fin 2 → ℝ) (M : Fin 128 → Fin 2 → ℝ) : Prop where
  hm : ∀ par r s, mask (ix2 (row par r) s) = if ok i r s then 1#1 else 0#1
  hk : ∀ s par d, kk (ix2 s (lane par d)) = ((K s par d : ℝ) : EReal)
  hv : ∀ s par d, vv (ix2 s (lane par d)) = ((V s par d : ℝ) : EReal)
  hq : ∀ r par d, q (ix2 r (lane par d)) = ((Q r par d : ℝ) : EReal)
  hc : ∀ r par d, c (ix2 r (lane par d)) = ((C r par d : ℝ) : EReal)
  hl1 : ∀ r, l1 (ix2 r (lane 0 0)) = ((M r 0 + Real.log (den (ok i r) (sc K Q r 0) (sk 0) (M r 0)) : ℝ) : EReal)
  hl2 : ∀ r, l2 (ix2 r (lane 1 0)) = ((M r 1 + Real.log (den (ok i r) (sc K Q r 1) (sk 1) (M r 1)) : ℝ) : EReal)
  hs : ∀ par, sb (ix3 0 0 (lane par 0)) = ((sk par : ℝ) : EReal)

section
variable {i : ℕ} {mask : IVec S256x256 1} {kk vv : FVec Ideal S256x128 .bf16}
    {q c : Vec Ideal S128x128 .bf16} {l1 l2 : Vec Ideal S128x128 .f32} {sb : Vec Ideal S1x1x128 .f32}
    {K V : Fin 256 → Fin 2 → Fin 64 → ℝ} {Q C : Fin 128 → Fin 2 → Fin 64 → ℝ} {sk : Fin 2 → ℝ} {M : Fin 128 → Fin 2 → ℝ}

/-- The masked scores of a pair of heads. -/
def scores (mask : IVec S256x256 1) (kk : FVec Ideal S256x128 .bf16) (q : Vec Ideal S128x128 .bf16) : FVec Ideal S256x256 .f32 :=
  select mask (matmul dot_S256x128_S256x128_S256x256_1_1_0_0_n_n none (k0_pay8 q) kk (constant S256x256 .f32 0x00000000#32))
    (broadcast S256x256 (Named.named κ "mask" 0xF149F2CA#32))

theorem scores_eq (h : At i mask kk vv q c l1 l2 sb K V Q C sk M) (par : Fin 2) (r : Fin 128) (s : Fin 256) :
    scores mask kk q (ix2 (row par r) s) = lg (ok i r) (sc K Q r par) s := by
  pointwise [scores]
  rw [h.hm, select_ite, named_mask]
  unfold lg
  refine congrArg (fun z => if ok i r s then z else (⊥ : EReal)) ?_
  rw [sum_lanes _ par]
  · simp only [scaled_apply, stack_apply, h.hq, h.hk]
    rw [show sc K Q r par s = ∑ d, Q r par d * K s par d * (1 / 8) from Finset.sum_mul _ _ _, coe_sum]
    refine Finset.sum_congr rfl fun d _ => ?_
    rw [if_pos (by omega), ← EReal.coe_mul, ← EReal.coe_mul]
    congr 1; ring
  · intro l hl
    rw [scaled_apply, stack_apply, if_neg hl, zero_mul, zero_mul]

theorem dp_eq (h : At i mask kk vv q c l1 l2 sb K V Q C sk M) (par : Fin 2) (r : Fin 128) (s : Fin 256) :
    k0_pay30 (F := Ideal) vv (k0_pay24 c) (ix2 (row par r) s) = ((dpr V C r par s : ℝ) : EReal) := by
  pointwise [k0_pay30]
  rw [sum_lanes _ par]
  · rw [coe_sum]
    refine Finset.sum_congr rfl fun d _ => ?_
    rw [stack_apply, if_pos (by simp only [lane]; omega), h.hc, h.hv, ← EReal.coe_mul]
  · intro l hl
    rw [stack_apply, if_neg hl, zero_mul]

theorem lse_eq (h : At i mask kk vv q c l1 l2 sb K V Q C sk M) (par : Fin 2) (r : Fin 128) :
    k0_pay34 (F := Ideal) l1 l2 (ix2 (row par r) 0)
      = ((M r par + Real.log (den (ok i r) (sc K Q r par) (sk par) (M r par)) : ℝ) : EReal) := by
  have hp : par = 0 ∨ par = 1 := by omega
  rcases hp with rfl | rfl
  · rw [← h.hl1]; pointwise [k0_pay34]; rfl
  · rw [← h.hl2]; pointwise [k0_pay34]; rfl

theorem sink_apply (h : At i mask kk vv q c l1 l2 sb K V Q C sk M) (par : Fin 2) (r : Fin 128) :
    k0_pay9 (F := Ideal) sb (ix2 (row par r) 0) = ((sk par : ℝ) : EReal) := by
  have hp : par = 0 ∨ par = 1 := by omega
  rcases hp with rfl | rfl
  · rw [← h.hs]; pointwise [k0_pay9]; rfl
  · rw [← h.hs]; pointwise [k0_pay9]; rfl

abbrev P (i : ℕ) (K : Fin 256 → Fin 2 → Fin 64 → ℝ) (Q : Fin 128 → Fin 2 → Fin 64 → ℝ) (sk : Fin 2 → ℝ) (M : Fin 128 → Fin 2 → ℝ)
    (r : Fin 128) (par : Fin 2) (s : Fin 256) : ℝ := prob (ok i r) (sc K Q r par) (sk par) (M r par) s
abbrev G (i : ℕ) (K V : Fin 256 → Fin 2 → Fin 64 → ℝ) (Q C : Fin 128 → Fin 2 → Fin 64 → ℝ) (sk : Fin 2 → ℝ) (M : Fin 128 → Fin 2 → ℝ)
    (r : Fin 128) (par : Fin 2) (s : Fin 256) : ℝ := grad (ok i r) (sc K Q r par) (dpr V C r par) (sk par) (M r par) s
abbrev GS (i : ℕ) (K V : Fin 256 → Fin 2 → Fin 64 → ℝ) (Q C : Fin 128 → Fin 2 → Fin 64 → ℝ) (sk : Fin 2 → ℝ) (M : Fin 128 → Fin 2 → ℝ)
    (r : Fin 128) (par : Fin 2) : ℝ := gsink (ok i r) (sc K Q r par) (dpr V C r par) (sk par) (M r par)

theorem p_eq (h : At i mask kk vv q c l1 l2 sb K V Q C sk M) (par : Fin 2) (r : Fin 128) (s : Fin 256) :
    k0_pay38 (F := Ideal) (scores mask kk q) (k0_pay34 l1 l2) (ix2 (row par r) s) = ((P i K Q sk M r par s : ℝ) : EReal) := by
  pointwise [k0_pay38]
  rw [scores_eq h, lse_eq h, prob_eq]

theorem mean_apply (h : At i mask kk vv q c l1 l2 sb K V Q C sk M) (par : Fin 2) (r : Fin 128) :
    k0_pay42 (F := Ideal) (scores mask kk q) (k0_pay30 vv (k0_pay24 c)) (k0_pay34 l1 l2) (ix2 (row par r) 0)
      = ((mean (ok i r) (sc K Q r par) (dpr V C r par) (sk par) (M r par) : ℝ) : EReal) := by
  pointwise [k0_pay42]
  rw [← mean_eq]
  refine Finset.sum_congr rfl fun s _ => ?_
  rw [p_eq h, dp_eq h]

theorem g_eq (h : At i mask kk vv q c l1 l2 sb K V Q C sk M) (par : Fin 2) (r : Fin 128) (s : Fin 256) :
    k0_pay46 (F := Ideal) (scores mask kk q) (k0_pay30 vv (k0_pay24 c)) (k0_pay34 l1 l2) (ix2 (row par r) s)
      = ((G i K V Q C sk M r par s : ℝ) : EReal) := by
  pointwise [k0_pay46]
  rw [p_eq h, dp_eq h, mean_apply h, grad_eq]

/-- The gradient of the queries of a pair of heads. -/
theorem dq_eq (h : At i mask kk vv q c l1 l2 sb K V Q C sk M) (par : Fin 2) (r : Fin 128) (d : Fin 64) :
    k0_pay56 (F := Ideal) (k0_pay50 kk (scores mask kk q) (k0_pay30 vv (k0_pay24 c)) (k0_pay34 l1 l2)) (ix2 r (lane par d))
      = (((∑ s, G i K V Q C sk M r par s * K s par d) * (1 / 8) : ℝ) : EReal) := by
  have key : ∀ R : Fin 256, R = row par r → k0_pay50 (F := Ideal) kk (scores mask kk q) (k0_pay30 vv (k0_pay24 c)) (k0_pay34 l1 l2) (ix2 R (lane par d))
      = ((∑ s, G i K V Q C sk M r par s * K s par d : ℝ) : EReal) := by
    rintro R rfl
    pointwise [k0_pay50]
    rw [coe_sum]
    refine Finset.sum_congr rfl fun s _ => ?_
    rw [g_eq h, h.hk, EReal.coe_mul]
  rw [EReal.coe_mul]
  pointwise [k0_pay56]
  rw [lane_lt (lane par d), select_ite, ofBits_eighth]
  congr 1
  have hp : par = 0 ∨ par = 1 := by omega
  rcases hp with rfl | rfl
  · rw [if_pos (by simp only [lane]; simp)]
    exact key _ (Fin.ext (by simp))
  · rw [if_neg (by simp only [lane]; simp)]
    exact key _ (Fin.ext (by simp))

/-- The sink's gradient of a pair of heads, added to what stands there. -/
theorem ds_eq (h : At i mask kk vv q c l1 l2 sb K V Q C sk M) (acc : Vec Ideal S1x1x128 .f32) (par : Fin 2) (d : Fin 64) :
    k0_pay55 (F := Ideal) (k0_pay9 sb) (k0_pay34 l1 l2) (k0_pay42 (scores mask kk q) (k0_pay30 vv (k0_pay24 c)) (k0_pay34 l1 l2)) acc
        (ix3 0 0 (lane par d))
      = acc (ix3 0 0 (lane par d)) + ((∑ r, GS i K V Q C sk M r par : ℝ) : EReal) := by
  pointwise [k0_pay55]
  rw [lane_lt (lane par d), select_ite]
  congr 1
  have key : ∀ (f : Fin 128 → Fin 256), (∀ r, f r = row par r) → ∑ r, (0 - Ideal.exp (k0_pay9 (F := Ideal) sb (ix2 (f r) 0) - k0_pay34 (F := Ideal) l1 l2 (ix2 (f r) 0)))
        * k0_pay42 (F := Ideal) (scores mask kk q) (k0_pay30 vv (k0_pay24 c)) (k0_pay34 l1 l2) (ix2 (f r) 0)
      = ((∑ r, GS i K V Q C sk M r par : ℝ) : EReal) := by
    intro f hf
    rw [coe_sum]
    refine Finset.sum_congr rfl fun r _ => ?_
    rw [hf, sink_apply h, lse_eq h, mean_apply h, sink_eq, gsink_eq]
  have hp : par = 0 ∨ par = 1 := by omega
  rcases hp with rfl | rfl
  · rw [if_pos (by simp only [lane]; simp)]
    exact key _ fun r => Fin.ext (by simp)
  · rw [if_neg (by simp only [lane]; simp)]
    exact key _ fun r => Fin.ext (by simp)

/-- A pair's part of the keys' gradient. -/
theorem dk_part (h : At i mask kk vv q c l1 l2 sb K V Q C sk M) (acc : FVec Ideal S256x128 .f32) (s : Fin 256) (par : Fin 2) (d : Fin 64) :
    k0_pay61 (F := Ideal) (k0_pay8 q) (k0_pay46 (scores mask kk q) (k0_pay30 vv (k0_pay24 c)) (k0_pay34 l1 l2)) acc (ix2 s (lane par d))
      = acc (ix2 s (lane par d)) + ((∑ r, G i K V Q C sk M r par s * (Q r par d * (1 / 8)) : ℝ) : EReal) := by
  pointwise [k0_pay61]
  congr 1
  rw [rows_scaled, coe_sum]
  refine Finset.sum_congr rfl fun r _ => ?_
  rw [g_eq h, h.hq, EReal.coe_mul, EReal.coe_mul]

/-- A pair's part of the values' gradient. -/
theorem dv_part (h : At i mask kk vv q c l1 l2 sb K V Q C sk M) (acc : FVec Ideal S256x128 .f32) (s : Fin 256) (par : Fin 2) (d : Fin 64) :
    k0_pay67 (F := Ideal) (k0_pay24 c) (k0_pay38 (scores mask kk q) (k0_pay34 l1 l2)) acc (ix2 s (lane par d))
      = acc (ix2 s (lane par d)) + ((∑ r, P i K Q sk M r par s * C r par d : ℝ) : EReal) := by
  pointwise [k0_pay67]
  congr 1
  rw [rows_stack, coe_sum]
  refine Finset.sum_congr rfl fun r _ => ?_
  rw [p_eq h, h.hc, EReal.coe_mul]

end
end Cert.KernelIdeal.Body
-- ==== Proof.Blocks.lean ====
module

public import proofs.«01_k».proof.Proof.Host
public import proofs.«01_k».proof.Proof.Ref
public import proofs.«01_k».proof.Proof.Body

/-! The blocks that the backward call reads at a grid point, at an index, when the arguments are real. -/

@[expose] public section

set_option maxRecDepth 16384
set_option maxHeartbeats 1000000
noncomputable section
open Idealize.ShloMosaic Idealize.ShloMosaic.TcCoe Idealize.SL.Sem
open Idealize.ShloMosaic.Pipeline (Dat)
namespace Cert.KernelIdeal.Blocks
open Cert.KernelIdeal Cert.KernelIdeal.Gen Cert.KernelIdeal.Host

theorem idx : ∀ t : Fin cfg0.N,
    win0_0.index t = ![t.val % 64, t.val / 64] ∧ win0_1.index t = ![t.val % 64 / 32 * 32 + (t.val % 32 - 1), t.val / 64]
    ∧ win0_2.index t = ![t.val % 64, t.val / 64] ∧ win0_3.index t = ![t.val % 64 / 32 * 32 + (t.val % 32 - 1), t.val / 64]
    ∧ win0_4.index t = ![t.val % 64, t.val / 64] ∧ win0_5.index t = ![t.val / 64, 0, 0]
    ∧ win0_6.index t = ![t.val % 64, t.val / 64] ∧ win0_7.index t = ![t.val % 64, t.val / 64]
    ∧ (grid0.coords t 2).val = t.val % 32 :=
  (by decide +kernel : ∀ t : Fin grid0.N, _)

variable (m : (ℓ : Loc nD τ sig) → Buf (Elt Ideal) ℓ) (c : Dev nD)

/-- The arguments' arrays, at the call's entry. -/
abbrev W : Valuation τ sig (Elt Ideal) := fun b => m (c, b)

theorem V_eq (b : Ref sig .tc) : V m c b = StableHlo.after host (W m c) (Proc.tc.devRef b) :=
  congrArg (fun l : List (HloOp τ sig (Elt Ideal)) => StableHlo.after l (W m c) (Proc.tc.devRef b))
    (by unfold host; simp only [List.flatten_cons, List.flatten_nil, List.append_nil])

theorem iblk0 (t : Fin cfg0.N) (r : Fin 128) (l : Fin 512) (R : Fin 8192) (L : Fin 1024)
    (hR : R.val = t.val % 64 * 128 + r.val) (hL : L.val = t.val / 64 * 512 + l.val) :
    iblk m c 0 t (ix2 r l) = (StableHlo.after host (W m c) (Proc.tc.devRef main_v65) : S8192x1024.Idx → EReal) (ix2 R L) := by
  blk_simp [iblk]
  show _ = V m c main_v65 (ix2 R L)
  blk_ext [idx t]

theorem iblk1 (t : Fin cfg0.N) (r : Fin 128) (l : Fin 128) (R : Fin 8192) (L : Fin 256)
    (hR : R.val = (t.val % 64 / 32 * 32 + (t.val % 32 - 1)) * 128 + r.val) (hL : L.val = t.val / 64 * 128 + l.val) :
    iblk m c 1 t (ix2 r l) = (StableHlo.after host (W m c) (Proc.tc.devRef main_v69) : S8192x256.Idx → EReal) (ix2 R L) := by
  blk_simp [iblk]
  show _ = V m c main_v69 (ix2 R L)
  blk_ext [idx t]

theorem iblk2 (t : Fin cfg0.N) (r : Fin 128) (l : Fin 128) (R : Fin 8192) (L : Fin 256)
    (hR : R.val = t.val % 64 * 128 + r.val) (hL : L.val = t.val / 64 * 128 + l.val) :
    iblk m c 2 t (ix2 r l) = (StableHlo.after host (W m c) (Proc.tc.devRef main_v69) : S8192x256.Idx → EReal) (ix2 R L) := by
  blk_simp [iblk]
  show _ = V m c main_v69 (ix2 R L)
  blk_ext [idx t]

theorem iblk3 (t : Fin cfg0.N) (r : Fin 128) (l : Fin 128) (R : Fin 8192) (L : Fin 256)
    (hR : R.val = (t.val % 64 / 32 * 32 + (t.val % 32 - 1)) * 128 + r.val) (hL : L.val = t.val / 64 * 128 + l.val) :
    iblk m c 3 t (ix2 r l) = (StableHlo.after host (W m c) (Proc.tc.devRef main_v73) : S8192x256.Idx → EReal) (ix2 R L) := by
  blk_simp [iblk]
  show _ = V m c main_v73 (ix2 R L)
  blk_ext [idx t]

theorem iblk4 (t : Fin cfg0.N) (r : Fin 128) (l : Fin 128) (R : Fin 8192) (L : Fin 256)
    (hR : R.val = t.val % 64 * 128 + r.val) (hL : L.val = t.val / 64 * 128 + l.val) :
    iblk m c 4 t (ix2 r l) = (StableHlo.after host (W m c) (Proc.tc.devRef main_v73) : S8192x256.Idx → EReal) (ix2 R L) := by
  blk_simp [iblk]
  show _ = V m c main_v73 (ix2 R L)
  blk_ext [idx t]

theorem iblk5 (t : Fin cfg0.N) (j : Fin 4) (l : Fin 128) (R : Fin 8) (hR : R.val = t.val / 64 * 4 + j.val) :
    iblk m c 5 t (ix3 j 0 l) = (StableHlo.after host (W m c) (Proc.tc.devRef main_v2) : S8x1x128.Idx → EReal) (ix3 R 0 l) := by
  blk_simp [iblk]
  show _ = V m c main_v2 (ix3 R 0 l)
  blk_ext [idx t]

theorem iblk6 (t : Fin cfg0.N) (r : Fin 128) (l : Fin 512) (R : Fin 8192) (L : Fin 1024)
    (hR : R.val = t.val % 64 * 128 + r.val) (hL : L.val = t.val / 64 * 512 + l.val) :
    iblk m c 6 t (ix2 r l) = (StableHlo.after host (W m c) (Proc.tc.devRef main_v75) : S8192x1024.Idx → EReal) (ix2 R L) := by
  blk_simp [iblk]
  show _ = V m c main_v75 (ix2 R L)
  blk_ext [idx t]

theorem iblk7 (t : Fin cfg0.N) (r : Fin 128) (l : Fin 512) (R : Fin 8192) (L : Fin 1024)
    (hR : R.val = t.val % 64 * 128 + r.val) (hL : L.val = t.val / 64 * 512 + l.val) :
    iblk m c 7 t (ix2 r l) = (StableHlo.after host (W m c) (Proc.tc.devRef main_v63) : S8192x1024.Idx → EReal) (ix2 R L) := by
  rw [← V_eq]
  have e : ∀ X : S8192x1024.Idx → EReal, V m c main_v63 = X → iblk m c 7 t (ix2 r l) = X (ix2 R L) := by
    rintro X hX
    have e : iblk m c 7 t = View.read (Elt Ideal) ((cfg0.win 7).blk t).view X := by rw [← hX]; rfl
    rw [e]
    blk_simp
    blk_ext [idx t]
  exact e _ rfl

/-! ## The blocks as reals -/

open Cert.ReferenceIdeal.Ref Cert.ReferenceIdeal.Leaf Cert.Swa Cert.KernelIdeal.Body
variable (q : S2x4096x16x64.Idx → ℝ) (k v : S2x4096x2x64.Idx → ℝ) (s : S16.Idx → ℝ) (ct : S2x4096x1024.Idx → ℝ)

/-- The arguments are these reals. -/
structure Args : Prop where
  h0 : (W m c (Proc.tc.devRef main_arg0) : S2x4096x16x64.Idx → EReal) = up q
  h1 : (W m c (Proc.tc.devRef main_arg1) : S2x4096x2x64.Idx → EReal) = up k
  h2 : (W m c (Proc.tc.devRef main_arg2) : S2x4096x2x64.Idx → EReal) = up v
  h3 : (W m c (Proc.tc.devRef main_arg3) : S16.Idx → EReal) = up s
  h4 : (W m c (Proc.tc.devRef main_arg4) : S2x4096x1024.Idx → EReal) = up ct

/-- Entry `u` of the window that the call reads at block `n`: as the reference's, except that the first block of a sequence reads itself
where the reference has zeros. -/
def Kb (n : Fin 64) (p : Fin 4) (u : Fin 256) (d : Fin 64) : ℝ :=
  if h : u.val < 128 then k (ix4 ⟨n.val / 32, by omega⟩ ⟨(n.val % 32 - 1) * 128 + u.val, by omega⟩ ⟨p.val / 2, by omega⟩ d)
  else k (ix4 ⟨n.val / 32, by omega⟩ ⟨n.val % 32 * 128 + (u.val - 128), by omega⟩ ⟨p.val / 2, by omega⟩ d)

theorem Kb_ok (n : Fin 64) (p : Fin 4) (r : Fin 128) (u : Fin 256) (d : Fin 64) (h : ok (n.val % 32) r u) : Kb k n p u d = Kw k n p u d := by
  unfold Kb Kw
  by_cases hu : u.val < 128
  · rw [dif_pos hu, dif_pos hu, dif_neg (by omega)]
    congr 1; blk_ext
  · rw [dif_neg hu, dif_neg hu, dif_neg (by omega)]
    congr 1; blk_ext

section
variable {m c q k v s ct} (A : Args m c q k v s ct) (t : Fin cfg0.N) (n : Fin 64) (hn : n.val = t.val % 64)
include A hn

theorem q_at (r : Fin 128) (par : Fin 2) (j p : Fin 4) (hp : p.val = t.val / 64 * 2 + par.val) (d : Fin 64) (l : Fin 512)
    (hl : l.val = j.val * 128 + par.val * 64 + d.val) : iblk m c 0 t (ix2 r l) = ((Qs q n p r j d : ℝ) : EReal) := by
  have ht : t.val < 128 := t.isLt
  rw [iblk0 m c t r l ⟨t.val % 64 * 128 + r.val, by omega⟩ ⟨t.val / 64 * 512 + l.val, by omega⟩ rfl rfl, q_read, A.h0]
  unfold Qs
  show ((q _ : ℝ) : EReal) = _
  congr 2
  blk_ext

theorem c_at (r : Fin 128) (par : Fin 2) (j p : Fin 4) (hp : p.val = t.val / 64 * 2 + par.val) (d : Fin 64) (l : Fin 512)
    (hl : l.val = j.val * 128 + par.val * 64 + d.val) : iblk m c 6 t (ix2 r l) = ((Cs ct n p r j d : ℝ) : EReal) := by
  have ht : t.val < 128 := t.isLt
  rw [iblk6 m c t r l ⟨t.val % 64 * 128 + r.val, by omega⟩ ⟨t.val / 64 * 512 + l.val, by omega⟩ rfl rfl, c_read, A.h4]
  unfold Cs
  show ((ct _ : ℝ) : EReal) = _
  congr 2
  blk_ext

theorem k_prev (par : Fin 2) (p : Fin 4) (hp : p.val = t.val / 64 * 2 + par.val) (u : Fin 128) (d : Fin 64) :
    iblk m c 1 t (ix2 u (lane par d)) = ((Kb k n p ⟨u.val, by omega⟩ d : ℝ) : EReal) := by
  have ht : t.val < 128 := t.isLt
  rw [iblk1 m c t u _ ⟨(t.val % 64 / 32 * 32 + (t.val % 32 - 1)) * 128 + u.val, by omega⟩ ⟨t.val / 64 * 128 + (lane par d).val, by omega⟩ rfl rfl, k_read, A.h1]
  unfold Kb
  rw [dif_pos u.isLt]
  show ((k _ : ℝ) : EReal) = _
  congr 2
  blk_ext

theorem k_own (par : Fin 2) (p : Fin 4) (hp : p.val = t.val / 64 * 2 + par.val) (u : Fin 128) (d : Fin 64) :
    iblk m c 2 t (ix2 u (lane par d)) = ((Kb k n p ⟨128 + u.val, by omega⟩ d : ℝ) : EReal) := by
  have ht : t.val < 128 := t.isLt
  rw [iblk2 m c t u _ ⟨t.val % 64 * 128 + u.val, by omega⟩ ⟨t.val / 64 * 128 + (lane par d).val, by omega⟩ rfl rfl, k_read, A.h1]
  unfold Kb
  rw [dif_neg (by simp only; omega)]
  show ((k _ : ℝ) : EReal) = _
  congr 2
  blk_ext

theorem v_prev (par : Fin 2) (p : Fin 4) (hp : p.val = t.val / 64 * 2 + par.val) (u : Fin 128) (d : Fin 64) :
    iblk m c 3 t (ix2 u (lane par d)) = ((Kb v n p ⟨u.val, by omega⟩ d : ℝ) : EReal) := by
  have ht : t.val < 128 := t.isLt
  rw [iblk3 m c t u _ ⟨(t.val % 64 / 32 * 32 + (t.val % 32 - 1)) * 128 + u.val, by omega⟩ ⟨t.val / 64 * 128 + (lane par d).val, by omega⟩ rfl rfl, v_read, A.h2]
  unfold Kb
  rw [dif_pos u.isLt]
  show ((v _ : ℝ) : EReal) = _
  congr 2
  blk_ext

theorem v_own (par : Fin 2) (p : Fin 4) (hp : p.val = t.val / 64 * 2 + par.val) (u : Fin 128) (d : Fin 64) :
    iblk m c 4 t (ix2 u (lane par d)) = ((Kb v n p ⟨128 + u.val, by omega⟩ d : ℝ) : EReal) := by
  have ht : t.val < 128 := t.isLt
  rw [iblk4 m c t u _ ⟨t.val % 64 * 128 + u.val, by omega⟩ ⟨t.val / 64 * 128 + (lane par d).val, by omega⟩ rfl rfl, v_read, A.h2]
  unfold Kb
  rw [dif_neg (by simp only; omega)]
  show ((v _ : ℝ) : EReal) = _
  congr 2
  blk_ext

omit hn in
theorem s_at (par : Fin 2) (j p : Fin 4) (hp : p.val = t.val / 64 * 2 + par.val) (d : Fin 64) :
    iblk m c 5 t (ix3 j 0 (lane par d)) = ((sk s p j : ℝ) : EReal) := by
  have ht : t.val < 128 := t.isLt
  rw [iblk5 m c t j _ ⟨t.val / 64 * 4 + j.val, by omega⟩ rfl, s_read, A.h3]
  unfold sk
  show ((s _ : ℝ) : EReal) = _
  congr 2
  blk_ext

theorem l_at (r : Fin 128) (par : Fin 2) (j p : Fin 4) (hp : p.val = t.val / 64 * 2 + par.val) (d : Fin 64) (l : Fin 512)
    (hl : l.val = j.val * 128 + par.val * 64 + d.val) :
    iblk m c 7 t (ix2 r l) = ((Mx q k s n p r j + Real.log (dn q k s n p r j) : ℝ) : EReal) := by
  have ht : t.val < 128 := t.isLt
  rw [iblk7 m c t r l ⟨t.val % 64 * 128 + r.val, by omega⟩ ⟨t.val / 64 * 512 + l.val, by omega⟩ rfl rfl,
    lse_read (W m c) _ _ n p r j (by simp only; omega) (by simp only; omega) (by simp only; omega) (by simp only; omega)
      (up q) (up k) (up s) A.h0.symm A.h1.symm A.h3.symm]
  exact lse_at q k s n p r j
end

end Cert.KernelIdeal.Blocks
-- ==== Proof.Canon.lean ====
module

public import proofs.«01_k».proof.Proof.Body

/-! The body's four pairs of heads compute the same functions: each pair's printed terms are those of the first pair. And what the
functions of a row depend on. -/

@[expose] public section

set_option maxRecDepth 16384
noncomputable section
open Idealize.ShloMosaic

namespace Cert.Swa
variable {ok : Fin 256 → Prop} [DecidablePred ok] {a a' dp dp' : Fin 256 → ℝ}

theorem ev_congr (h : ∀ s, ok s → a s = a' s) (M : ℝ) : ev ok a M = ev ok a' M := by
  funext s
  unfold ev
  split
  · rw [h s ‹_›]
  · rfl
theorem den_congr (h : ∀ s, ok s → a s = a' s) (sk M : ℝ) : den ok a sk M = den ok a' sk M := by
  unfold den; rw [ev_congr h]
theorem prob_congr (h : ∀ s, ok s → a s = a' s) (sk M : ℝ) : prob ok a sk M = prob ok a' sk M := by
  funext s; unfold prob; rw [ev_congr h, den_congr h]
theorem prob_off (sk M : ℝ) (s : Fin 256) (h : ¬ ok s) : prob ok a sk M s = 0 := by
  unfold prob ev; rw [if_neg h, zero_div]
theorem mean_congr (h : ∀ s, ok s → a s = a' s) (h' : ∀ s, ok s → dp s = dp' s) (sk M : ℝ) :
    mean ok a dp sk M = mean ok a' dp' sk M := by
  unfold mean
  refine Finset.sum_congr rfl fun s _ => ?_
  rw [prob_congr h]
  by_cases hs : ok s
  · rw [h' s hs]
  · rw [prob_off _ _ _ hs, zero_mul, zero_mul]
theorem grad_congr (h : ∀ s, ok s → a s = a' s) (h' : ∀ s, ok s → dp s = dp' s) (sk M : ℝ) :
    grad ok a dp sk M = grad ok a' dp' sk M := by
  funext s
  unfold grad
  rw [prob_congr h, mean_congr h h']
  by_cases hs : ok s
  · rw [h' s hs]
  · rw [prob_off _ _ _ hs, zero_mul, zero_mul]
theorem gsink_congr (h : ∀ s, ok s → a s = a' s) (h' : ∀ s, ok s → dp s = dp' s) (sk M : ℝ) :
    gsink ok a dp sk M = gsink ok a' dp' sk M := by
  unfold gsink; rw [den_congr h, mean_congr h h']
end Cert.Swa

namespace Cert.KernelIdeal.Body
open Cert.KernelIdeal Cert.KernelIdeal.Gen Cert.Swa

section
variable (mask : IVec S256x256 1) (x y : FVec Ideal S128x128 .bf16) (kk vv k8 : FVec Ideal S256x128 .bf16) (q c : Vec Ideal S128x128 .bf16)
  (a b : Vec Ideal S128x128 .f32) (sb acc1 : Vec Ideal S1x1x128 .f32) (z dp p : FVec Ideal S256x256 .f32) (l mn : FVec Ideal S256x1 .f32)
  (g : FVec Ideal S256x256 .bf16) (acc : FVec Ideal S256x128 .f32) (o : FVec Ideal S256x128 .f32)

theorem c10 : k0_pay10 mask x y q = scores mask (k0_pay6 x y) q := rfl
theorem c16 : k0_pay16 mask kk (k0_pay11 q) k0_pay13 (FloatOps.ofBits FTy.bf16 0#16) = scores mask kk q := rfl
theorem c19 : k0_pay19 mask kk q = scores mask kk q := rfl
theorem c23 : k0_pay23 mask kk (k0_pay20 q) = scores mask kk q := rfl
theorem c14 : k0_pay14 (k0_pay11 q) k0_pay13 (FloatOps.ofBits FTy.bf16 0#16) = k0_pay8 q := rfl
theorem c17 : k0_pay17 q = k0_pay8 q := rfl
theorem c21 : k0_pay21 (k0_pay20 q) = k0_pay8 q := rfl
theorem c25 : k0_pay25 c = k0_pay24 c := rfl
theorem c28 : k0_pay28 (k0_pay26 c) k0_pay27 (FloatOps.ofBits FTy.bf16 0#16) = k0_pay24 c := rfl
theorem c29 : k0_pay29 c = k0_pay24 c := rfl
theorem c31 : k0_pay31 vv k8 = k0_pay30 vv k8 := rfl
theorem c32 : k0_pay32 vv (k0_pay26 c) k0_pay27 (FloatOps.ofBits FTy.bf16 0#16) = k0_pay30 vv (k0_pay24 c) := rfl
theorem c33 : k0_pay33 vv c = k0_pay30 vv (k0_pay24 c) := rfl
theorem c35 : k0_pay35 a b = k0_pay34 a b := rfl
theorem c36 : k0_pay36 a b = k0_pay34 a b := rfl
theorem c37 : k0_pay37 a b = k0_pay34 a b := rfl
theorem c39 : k0_pay39 z l = k0_pay38 z l := rfl
theorem c40 : k0_pay40 z l = k0_pay38 z l := rfl
theorem c41 : k0_pay41 z a b = k0_pay38 z (k0_pay34 a b) := rfl
theorem c43 : k0_pay43 z dp l = k0_pay42 z dp l := rfl
theorem c44 : k0_pay44 z dp l = k0_pay42 z dp l := rfl
theorem c45 : k0_pay45 z dp a b = k0_pay42 z dp (k0_pay34 a b) := rfl
theorem c47 : k0_pay47 z dp l = k0_pay46 z dp l := rfl
theorem c48 : k0_pay48 z dp l = k0_pay46 z dp l := rfl
theorem c49 : k0_pay49 z dp a b = k0_pay46 z dp (k0_pay34 a b) := rfl
theorem c51 : k0_pay51 kk z dp l = k0_pay50 kk z dp l := rfl
theorem c52 : k0_pay52 kk z dp l = k0_pay50 kk z dp l := rfl
theorem c53 : k0_pay53 kk (k0_pay46 z dp l) (constant S256x128 FTy.f32 0#32) = k0_pay50 kk z dp l := rfl
theorem c60 : k0_pay60 o = k0_pay56 o := rfl
theorem c65 : k0_pay65 o = k0_pay56 o := rfl
theorem c71 : k0_pay71 o = k0_pay56 o := rfl
theorem c15 : k0_pay15 (k0_pay12 sb) = k0_pay9 sb := rfl
theorem c59 (s : FVec Ideal S256x1 .f32) : k0_pay59 s l mn acc1 = k0_pay55 s l mn acc1 := rfl
theorem c64 : k0_pay64 mn (k0_pay63 (k0_pay18 sb) l) acc1 = k0_pay55 (k0_pay9 sb) l mn acc1 := rfl
theorem c70 : k0_pay70 mn (k0_pay68 (k0_pay22 sb) l) k0_pay69 acc1 = k0_pay55 (k0_pay9 sb) l mn acc1 := rfl
theorem c57 : k0_pay57 k8 g = k0_pay61 k8 g k0_pay54 := rfl
theorem c66 : k0_pay66 k8 g acc = k0_pay61 k8 g acc := rfl
theorem c62 (k8' : FVec Ideal S256x128 .bf16) (p' : FVec Ideal S256x256 .f32) :
    k0_pay62 k8 k8' p' acc (k0_pay58 p) (constant S256x128 FTy.f32 0#32) = k0_pay67 k8' p' (k0_pay67 k8 p acc) := rfl
theorem c73 : k0_pay73 k8 p acc = k0_pay67 k8 p acc := rfl
end

theorem own_dk (k8 : FVec Ideal S256x128 .bf16) (g : FVec Ideal S256x256 .bf16) (acc : FVec Ideal S256x128 .f32) (u l : Fin 128) :
    k0_pay75 k8 g acc (ix2 u l) = k0_pay61 k8 g acc (ix2 ⟨128 + u.val, by omega⟩ l) := by
  pointwise [k0_pay75]
  rfl
theorem prev_dk (k8 : FVec Ideal S256x128 .bf16) (g : FVec Ideal S256x256 .bf16) (acc : FVec Ideal S256x128 .f32) (u l : Fin 128) :
    k0_pay74 k8 g acc (ix2 u l) = k0_pay61 k8 g acc (ix2 ⟨u.val, by omega⟩ l) := by
  pointwise [k0_pay74]
  rfl
theorem own_dv (o : FVec Ideal S256x128 .f32) (u l : Fin 128) : k0_pay2 o (ix2 u l) = o (ix2 ⟨128 + u.val, by omega⟩ l) := by
  pointwise [k0_pay2]
theorem prev_dv (o : FVec Ideal S256x128 .f32) (u l : Fin 128) : k0_pay1 o (ix2 u l) = o (ix2 ⟨u.val, by omega⟩ l) := by
  pointwise [k0_pay1]
theorem zero54 (i) : (k0_pay54 : FVec Ideal S256x128 .f32) i = 0 := by
  pointwise [k0_pay54]

section
variable {i : ℕ} {mask : IVec S256x256 1} {kk vv : FVec Ideal S256x128 .bf16} {K V : Fin 256 → Fin 2 → Fin 64 → ℝ}
    {q c : Fin 4 → Vec Ideal S128x128 .bf16} {l1 l2 : Fin 4 → Vec Ideal S128x128 .f32} {sb : Fin 4 → Vec Ideal S1x1x128 .f32}
    {Q C : Fin 4 → Fin 128 → Fin 2 → Fin 64 → ℝ} {sk : Fin 4 → Fin 2 → ℝ} {M : Fin 4 → Fin 128 → Fin 2 → ℝ}

/-- The four pairs' parts of a key's gradient add up. -/
theorem dk_sum (h : ∀ j, At i mask kk vv (q j) (c j) (l1 j) (l2 j) (sb j) K V (Q j) (C j) (sk j) (M j)) (s : Fin 256) (par : Fin 2) (d : Fin 64) :
    k0_pay61 (k0_pay8 (q 3)) (k0_pay46 (scores mask kk (q 3)) (k0_pay30 vv (k0_pay24 (c 3))) (k0_pay34 (l1 3) (l2 3)))
      (k0_pay61 (k0_pay8 (q 2)) (k0_pay46 (scores mask kk (q 2)) (k0_pay30 vv (k0_pay24 (c 2))) (k0_pay34 (l1 2) (l2 2)))
        (k0_pay61 (k0_pay8 (q 1)) (k0_pay46 (scores mask kk (q 1)) (k0_pay30 vv (k0_pay24 (c 1))) (k0_pay34 (l1 1) (l2 1)))
          (k0_pay61 (k0_pay8 (q 0)) (k0_pay46 (scores mask kk (q 0)) (k0_pay30 vv (k0_pay24 (c 0))) (k0_pay34 (l1 0) (l2 0))) k0_pay54)))
      (ix2 s (lane par d))
    = ((∑ j, ∑ r, G i K V (Q j) (C j) (sk j) (M j) r par s * (Q j r par d * (1 / 8)) : ℝ) : EReal) := by
  rw [dk_part (h 3), dk_part (h 2), dk_part (h 1), dk_part (h 0), zero54, zero_add, Fin.sum_univ_four]
  simp only [EReal.coe_add]

/-- The four pairs' parts of a value's gradient add up. -/
theorem dv_sum (h : ∀ j, At i mask kk vv (q j) (c j) (l1 j) (l2 j) (sb j) K V (Q j) (C j) (sk j) (M j)) (s : Fin 256) (par : Fin 2) (d : Fin 64) :
    k0_pay67 (k0_pay24 (c 3)) (k0_pay38 (scores mask kk (q 3)) (k0_pay34 (l1 3) (l2 3)))
      (k0_pay67 (k0_pay24 (c 2)) (k0_pay38 (scores mask kk (q 2)) (k0_pay34 (l1 2) (l2 2)))
        (k0_pay67 (k0_pay24 (c 1)) (k0_pay38 (scores mask kk (q 1)) (k0_pay34 (l1 1) (l2 1)))
          (k0_pay67 (k0_pay24 (c 0)) (k0_pay38 (scores mask kk (q 0)) (k0_pay34 (l1 0) (l2 0))) k0_pay54)))
      (ix2 s (lane par d))
    = ((∑ j, ∑ r, P i K (Q j) (sk j) (M j) r par s * C j r par d : ℝ) : EReal) := by
  rw [dv_part (h 3), dv_part (h 2), dv_part (h 1), dv_part (h 0), zero54, zero_add, Fin.sum_univ_four]
  simp only [EReal.coe_add]
end

end Cert.KernelIdeal.Body
-- ==== Proof.Point.lean ====
module

public import proofs.«01_k».proof.Proof.Blocks
public import proofs.«01_k».proof.Proof.Canon

/-! The blocks of a grid point hold the reals that the reference's rows are about. -/

@[expose] public section

set_option maxRecDepth 16384
set_option maxHeartbeats 1000000
noncomputable section
open Idealize.ShloMosaic Idealize.ShloMosaic.TcCoe Idealize.SL.Sem
namespace Cert.KernelIdeal.Point
open Cert.KernelIdeal Cert.KernelIdeal.Gen Cert.KernelIdeal.Blocks Cert.KernelIdeal.Body Cert.ReferenceIdeal.Ref Cert.ReferenceIdeal.Leaf Cert.Swa

theorem keys_apply (x y : FVec Ideal S128x128 .bf16) (u : Fin 256) (l : Fin 128) :
    k0_pay6 (F := Ideal) (k0_pay5 x) y (ix2 u l) = if h : u.val < 128 then x (ix2 ⟨u.val, h⟩ l) else y (ix2 ⟨u.val - 128, by omega⟩ l) := by
  pointwise [k0_pay6, k0_pay5]
theorem values_apply (x y : FVec Ideal S128x128 .bf16) (u : Fin 256) (l : Fin 128) :
    k0_pay7 (F := Ideal) x y (ix2 u l) = if h : u.val < 128 then x (ix2 ⟨u.val, h⟩ l) else y (ix2 ⟨u.val - 128, by omega⟩ l) := by
  pointwise [k0_pay7]

/-- Head pair `par` of a point's group of heads. -/
abbrev pp (t : Fin cfg0.N) (par : Fin 2) : Fin 4 := ⟨t.val / 64 * 2 + par.val, by have : t.val < 128 := t.isLt; omega⟩
/-- A point's block of the sequence. -/
abbrev nn (t : Fin cfg0.N) : Fin 64 := ⟨t.val % 64, by omega⟩

section
variable {m : (ℓ : Loc nD τ sig) → Buf (Elt Ideal) ℓ} {c : Dev nD}
  {q : S2x4096x16x64.Idx → ℝ} {k v : S2x4096x2x64.Idx → ℝ} {s : S16.Idx → ℝ} {ct : S2x4096x1024.Idx → ℝ}

theorem scores_ok (t : Fin cfg0.N) (j : Fin 4) (r : Fin 128) (par : Fin 2) (u : Fin 256) (h : ok ((nn t).val % 32) r u) :
    sc (fun u par d => Kb k (nn t) (pp t par) u d) (fun r par d => Qs q (nn t) (pp t par) r j d) r par u = score q k (nn t) (pp t par) r j u := by
  unfold sc score
  simp only [Kb_ok k (nn t) (pp t par) r u _ h]
theorem dprob_ok (t : Fin cfg0.N) (j : Fin 4) (r : Fin 128) (par : Fin 2) (u : Fin 256) (h : ok ((nn t).val % 32) r u) :
    dpr (fun u par d => Kb v (nn t) (pp t par) u d) (fun r par d => Cs ct (nn t) (pp t par) r j d) r par u = dprob v ct (nn t) (pp t par) r j u := by
  unfold dpr dprob
  simp only [Kb_ok v (nn t) (pp t par) r u _ h]

theorem at_of (A : Args m c q k v s ct) (t : Fin cfg0.N) (j : Fin 4) (xq xc : Vec Ideal S128x128 .bf16) (xl : Vec Ideal S128x128 .f32)
    (xs : Vec Ideal S1x1x128 .f32)
    (hq : ∀ r l : Fin 128, xq (ix2 r l) = iblk m c 0 t (ix2 r (⟨j.val * 128 + l.val, by omega⟩ : Fin 512)))
    (hc : ∀ r l : Fin 128, xc (ix2 r l) = iblk m c 6 t (ix2 r (⟨j.val * 128 + l.val, by omega⟩ : Fin 512)))
    (hl : ∀ r l : Fin 128, xl (ix2 r l) = iblk m c 7 t (ix2 r (⟨j.val * 128 + l.val, by omega⟩ : Fin 512)))
    (hs : ∀ l : Fin 128, xs (ix3 0 0 l) = iblk m c 5 t (ix3 j 0 l)) :
    At ((nn t).val % 32) (k0_pay4 (grid0.coords t)) (k0_pay6 (F := Ideal) (k0_pay5 (iblk m c 1 t)) (iblk m c 2 t))
      (k0_pay7 (F := Ideal) (iblk m c 3 t) (iblk m c 4 t)) xq xc xl xl xs
      (fun u par d => Kb k (nn t) (pp t par) u d) (fun u par d => Kb v (nn t) (pp t par) u d)
      (fun r par d => Qs q (nn t) (pp t par) r j d) (fun r par d => Cs ct (nn t) (pp t par) r j d)
      (fun par => sk s (pp t par) j) (fun r par => Mx q k s (nn t) (pp t par) r j) where
  hm par r u := by
    rw [mask_apply]
    have e : (grid0.coords t 2).val = (nn t).val % 32 := by rw [(idx t).2.2.2.2.2.2.2.2]; simp only [nn]; omega
    rw [e]
  hk u par d := by
    rw [keys_apply]
    split
    · exact k_prev A t (nn t) rfl par (pp t par) rfl ⟨u.val, ‹_›⟩ d
    · rw [k_own A t (nn t) rfl par (pp t par) rfl ⟨u.val - 128, by omega⟩ d]
      have e : (⟨128 + (u.val - 128), by omega⟩ : Fin 256) = u := Fin.ext (by show 128 + (u.val - 128) = u.val; omega)
      exact congrArg (fun u => ((Kb k (nn t) (pp t par) u d : ℝ) : EReal)) e
  hv u par d := by
    rw [values_apply]
    split
    · exact v_prev A t (nn t) rfl par (pp t par) rfl ⟨u.val, ‹_›⟩ d
    · rw [v_own A t (nn t) rfl par (pp t par) rfl ⟨u.val - 128, by omega⟩ d]
      have e : (⟨128 + (u.val - 128), by omega⟩ : Fin 256) = u := Fin.ext (by show 128 + (u.val - 128) = u.val; omega)
      exact congrArg (fun u => ((Kb v (nn t) (pp t par) u d : ℝ) : EReal)) e
  hq r par d := by rw [hq]; exact q_at A t (nn t) rfl r par j (pp t par) rfl d _ (by simp only [lane]; omega)
  hc r par d := by rw [hc]; exact c_at A t (nn t) rfl r par j (pp t par) rfl d _ (by simp only [lane]; omega)
  hl1 r := by
    rw [hl, den_congr (scores_ok t j r 0)]
    exact l_at A t (nn t) rfl r 0 j (pp t 0) rfl 0 _ (by simp only [lane]; omega)
  hl2 r := by
    rw [hl, den_congr (scores_ok t j r 1)]
    exact l_at A t (nn t) rfl r 1 j (pp t 1) rfl 0 _ (by simp only [lane]; omega)
  hs par := by rw [hs]; exact s_at A t par j (pp t par) rfl 0

/-- The pairs' tiles of a block. -/
def tb (X : Vec Ideal S128x512 .bf16) : Fin 4 → Vec Ideal S128x128 .bf16 :=
  ![View.ld X (Rect.unit ![0, 0] ![128, 128] inb_S128x512_S128x128_0_0), View.ld X (Rect.unit ![0, 128] ![128, 128] inb_S128x512_S128x128_0_128),
    View.ld X (Rect.unit ![0, 256] ![128, 128] inb_S128x512_S128x128_0_256), View.ld X (Rect.unit ![0, 384] ![128, 128] inb_S128x512_S128x128_0_384)]
def tf (X : Vec Ideal S128x512 .f32) : Fin 4 → Vec Ideal S128x128 .f32 :=
  ![View.ld X (Rect.unit ![0, 0] ![128, 128] inb_S128x512_S128x128_0_0), View.ld X (Rect.unit ![0, 128] ![128, 128] inb_S128x512_S128x128_0_128),
    View.ld X (Rect.unit ![0, 256] ![128, 128] inb_S128x512_S128x128_0_256), View.ld X (Rect.unit ![0, 384] ![128, 128] inb_S128x512_S128x128_0_384)]
def ts (X : Vec Ideal S4x1x128 .f32) : Fin 4 → Vec Ideal S1x1x128 .f32 :=
  ![View.ld X (Rect.unit ![0, 0, 0] ![1, 1, 128] inb_S4x1x128_S1x1x128_0_0_0), View.ld X (Rect.unit ![1, 0, 0] ![1, 1, 128] inb_S4x1x128_S1x1x128_1_0_0),
    View.ld X (Rect.unit ![2, 0, 0] ![1, 1, 128] inb_S4x1x128_S1x1x128_2_0_0), View.ld X (Rect.unit ![3, 0, 0] ![1, 1, 128] inb_S4x1x128_S1x1x128_3_0_0)]

theorem tb_apply (X : Vec Ideal S128x512 .bf16) (j : Fin 4) (r l : Fin 128) : tb X j (ix2 r l) = X (ix2 r (⟨j.val * 128 + l.val, by omega⟩ : Fin 512)) := by
  have hj : j = 0 ∨ j = 1 ∨ j = 2 ∨ j = 3 := by omega
  rcases hj with rfl | rfl | rfl | rfl
  · show View.ld X (Rect.unit ![0, 0] ![128, 128] inb_S128x512_S128x128_0_0) (ix2 r l) = _
    pointwise; blk_ext
  · show View.ld X (Rect.unit ![0, 128] ![128, 128] inb_S128x512_S128x128_0_128) (ix2 r l) = _
    pointwise; blk_ext
  · show View.ld X (Rect.unit ![0, 256] ![128, 128] inb_S128x512_S128x128_0_256) (ix2 r l) = _
    pointwise; blk_ext
  · show View.ld X (Rect.unit ![0, 384] ![128, 128] inb_S128x512_S128x128_0_384) (ix2 r l) = _
    pointwise; blk_ext
theorem tf_apply (X : Vec Ideal S128x512 .f32) (j : Fin 4) (r l : Fin 128) : tf X j (ix2 r l) = X (ix2 r (⟨j.val * 128 + l.val, by omega⟩ : Fin 512)) :=
  tb_apply X j r l
theorem ts_apply (X : Vec Ideal S4x1x128 .f32) (j : Fin 4) (l : Fin 128) : ts X j (ix3 0 0 l) = X (ix3 j 0 l) := by
  have hj : j = 0 ∨ j = 1 ∨ j = 2 ∨ j = 3 := by omega
  rcases hj with rfl | rfl | rfl | rfl
  · show View.ld X (Rect.unit ![0, 0, 0] ![1, 1, 128] inb_S4x1x128_S1x1x128_0_0_0) (ix3 0 0 l) = _
    pointwise; blk_ext
  · show View.ld X (Rect.unit ![1, 0, 0] ![1, 1, 128] inb_S4x1x128_S1x1x128_1_0_0) (ix3 0 0 l) = _
    pointwise; blk_ext
  · show View.ld X (Rect.unit ![2, 0, 0] ![1, 1, 128] inb_S4x1x128_S1x1x128_2_0_0) (ix3 0 0 l) = _
    pointwise; blk_ext
  · show View.ld X (Rect.unit ![3, 0, 0] ![1, 1, 128] inb_S4x1x128_S1x1x128_3_0_0) (ix3 0 0 l) = _
    pointwise; blk_ext

theorem at_pt (A : Args m c q k v s ct) (t : Fin cfg0.N) (j : Fin 4) :
    At ((nn t).val % 32) (k0_pay4 (grid0.coords t)) (k0_pay6 (F := Ideal) (k0_pay5 (iblk m c 1 t)) (iblk m c 2 t))
      (k0_pay7 (F := Ideal) (iblk m c 3 t) (iblk m c 4 t)) (tb (iblk m c 0 t) j) (tb (iblk m c 6 t) j) (tf (iblk m c 7 t) j) (tf (iblk m c 7 t) j) (ts (iblk m c 5 t) j)
      (fun u par d => Kb k (nn t) (pp t par) u d) (fun u par d => Kb v (nn t) (pp t par) u d)
      (fun r par d => Qs q (nn t) (pp t par) r j d) (fun r par d => Cs ct (nn t) (pp t par) r j d)
      (fun par => sk s (pp t par) j) (fun r par => Mx q k s (nn t) (pp t par) r j) :=
  at_of A t j (tb (iblk m c 0 t) j) (tb (iblk m c 6 t) j) (tf (iblk m c 7 t) j) (ts (iblk m c 5 t) j)
    (tb_apply (iblk m c 0 t) j) (tb_apply (iblk m c 6 t) j) (tf_apply (iblk m c 7 t) j) (ts_apply (iblk m c 5 t) j)

/-! ## The point's rows are the reference's -/

theorem P_eq (t : Fin cfg0.N) (j : Fin 4) (r : Fin 128) (par : Fin 2) (u : Fin 256) :
    P ((nn t).val % 32) (fun u par d => Kb k (nn t) (pp t par) u d) (fun r par d => Qs q (nn t) (pp t par) r j d)
      (fun par => sk s (pp t par) j) (fun r par => Mx q k s (nn t) (pp t par) r j) r par u = pr q k s (nn t) (pp t par) r j u := by
  unfold P pr; rw [prob_congr (scores_ok t j r par)]
theorem G_eq (t : Fin cfg0.N) (j : Fin 4) (r : Fin 128) (par : Fin 2) (u : Fin 256) :
    G ((nn t).val % 32) (fun u par d => Kb k (nn t) (pp t par) u d) (fun u par d => Kb v (nn t) (pp t par) u d)
      (fun r par d => Qs q (nn t) (pp t par) r j d) (fun r par d => Cs ct (nn t) (pp t par) r j d)
      (fun par => sk s (pp t par) j) (fun r par => Mx q k s (nn t) (pp t par) r j) r par u = gr q k v s ct (nn t) (pp t par) r j u := by
  unfold G gr; rw [grad_congr (scores_ok t j r par) (dprob_ok t j r par)]
theorem GS_eq (t : Fin cfg0.N) (j : Fin 4) (r : Fin 128) (par : Fin 2) :
    GS ((nn t).val % 32) (fun u par d => Kb k (nn t) (pp t par) u d) (fun u par d => Kb v (nn t) (pp t par) u d)
      (fun r par d => Qs q (nn t) (pp t par) r j d) (fun r par d => Cs ct (nn t) (pp t par) r j d)
      (fun par => sk s (pp t par) j) (fun r par => Mx q k s (nn t) (pp t par) r j) r par = gs q k v s ct (nn t) (pp t par) r j := by
  unfold GS gs; rw [gsink_congr (scores_ok t j r par) (dprob_ok t j r par)]
end

end Cert.KernelIdeal.Point
-- ==== Proof.Outs.lean ====
module

public import proofs.«01_k».proof.Proof.Point
public import proofs.«01_k».proof.Proof.Gen.KernelIdeal.Value

/-! What the body leaves in the blocks of the first five results, at a grid point. -/

@[expose] public section

set_option maxRecDepth 16384
set_option maxHeartbeats 1000000
noncomputable section
open Idealize.ShloMosaic Idealize.ShloMosaic.TcCoe Idealize.SL.Sem
namespace Cert.KernelIdeal.Outs
open Cert.KernelIdeal Cert.KernelIdeal.Gen Cert.KernelIdeal.Blocks Cert.KernelIdeal.Body Cert.KernelIdeal.Point
open Cert.ReferenceIdeal.Ref Cert.ReferenceIdeal.Leaf Cert.Swa

variable {m : (ℓ : Loc nD τ sig) → Buf (Elt Ideal) ℓ} {c : Dev nD}
  {q : S2x4096x16x64.Idx → ℝ} {k v : S2x4096x2x64.Idx → ℝ} {s : S16.Idx → ℝ} {ct : S2x4096x1024.Idx → ℝ}

theorem lane_of (l : Fin 128) : ∃ (par : Fin 2) (d : Fin 64), l = lane par d :=
  ⟨⟨l.val / 64, by omega⟩, ⟨l.val % 64, by omega⟩, Fin.ext (by show l.val = l.val / 64 * 64 + l.val % 64; omega)⟩

/-! The pairs' tiles. -/

theorem tb_0 (X : Vec Ideal S128x512 .bf16) : View.ld X (Rect.unit ![0, 0] ![128, 128] inb_S128x512_S128x128_0_0) = tb X 0 := rfl
theorem tf_0 (X : Vec Ideal S128x512 .f32) : View.ld X (Rect.unit ![0, 0] ![128, 128] inb_S128x512_S128x128_0_0) = tf X 0 := rfl
theorem tb_1 (X : Vec Ideal S128x512 .bf16) : View.ld X (Rect.unit ![0, 128] ![128, 128] inb_S128x512_S128x128_0_128) = tb X 1 := rfl
theorem tf_1 (X : Vec Ideal S128x512 .f32) : View.ld X (Rect.unit ![0, 128] ![128, 128] inb_S128x512_S128x128_0_128) = tf X 1 := rfl
theorem tb_2 (X : Vec Ideal S128x512 .bf16) : View.ld X (Rect.unit ![0, 256] ![128, 128] inb_S128x512_S128x128_0_256) = tb X 2 := rfl
theorem tf_2 (X : Vec Ideal S128x512 .f32) : View.ld X (Rect.unit ![0, 256] ![128, 128] inb_S128x512_S128x128_0_256) = tf X 2 := rfl
theorem tb_3 (X : Vec Ideal S128x512 .bf16) : View.ld X (Rect.unit ![0, 384] ![128, 128] inb_S128x512_S128x128_0_384) = tb X 3 := rfl
theorem tf_3 (X : Vec Ideal S128x512 .f32) : View.ld X (Rect.unit ![0, 384] ![128, 128] inb_S128x512_S128x128_0_384) = tf X 3 := rfl
theorem ts_0 (X : Vec Ideal S4x1x128 .f32) : View.ld X (Rect.unit ![0, 0, 0] ![1, 1, 128] inb_S4x1x128_S1x1x128_0_0_0) = ts X 0 := rfl
theorem ts_1 (X : Vec Ideal S4x1x128 .f32) : View.ld X (Rect.unit ![1, 0, 0] ![1, 1, 128] inb_S4x1x128_S1x1x128_1_0_0) = ts X 1 := rfl
theorem ts_2 (X : Vec Ideal S4x1x128 .f32) : View.ld X (Rect.unit ![2, 0, 0] ![1, 1, 128] inb_S4x1x128_S1x1x128_2_0_0) = ts X 2 := rfl
theorem ts_3 (X : Vec Ideal S4x1x128 .f32) : View.ld X (Rect.unit ![3, 0, 0] ![1, 1, 128] inb_S4x1x128_S1x1x128_3_0_0) = ts X 3 := rfl

/-- The queries' gradient, from the call's window to the reference's: the two differ off the mask only. -/
theorem dq_real (t : Fin cfg0.N) (j : Fin 4) (par : Fin 2) (r : Fin 128) (d : Fin 64) :
    (∑ u, G ((nn t).val % 32) (fun u par d => Kb k (nn t) (pp t par) u d) (fun u par d => Kb v (nn t) (pp t par) u d)
      (fun r par d => Qs q (nn t) (pp t par) r j d) (fun r par d => Cs ct (nn t) (pp t par) r j d)
      (fun par => sk s (pp t par) j) (fun r par => Mx q k s (nn t) (pp t par) r j) r par u * Kb k (nn t) (pp t par) u d) * (1 / 8)
    = ∑ u, gr q k v s ct (nn t) (pp t par) r j u * (1 / 8) * Kw k (nn t) (pp t par) u d := by
  rw [Finset.sum_mul]
  refine Finset.sum_congr rfl fun u _ => ?_
  rw [G_eq]
  by_cases h : ok ((nn t).val % 32) r u
  · rw [Kb_ok k (nn t) (pp t par) r u d h]; ring
  · rw [show gr q k v s ct (nn t) (pp t par) r j u = 0 from grad_off _ _ _ _ _ _ h]; ring

theorem dq_tile (A : Args m c q k v s ct) (t : Fin cfg0.N) (j : Fin 4) (x : S128x128.Idx) (par : Fin 2) (d : Fin 64) (r : Fin 128)
    (h0 : x 0 = r) (h1 : (x 1).val = par.val * 64 + d.val) :
    k0_pay56 (k0_pay50 (k0_pay6 (F := Ideal) (k0_pay5 (iblk m c 1 t)) (iblk m c 2 t))
      (scores (k0_pay4 (grid0.coords t)) (k0_pay6 (F := Ideal) (k0_pay5 (iblk m c 1 t)) (iblk m c 2 t)) (tb (iblk m c 0 t) j))
      (k0_pay30 (k0_pay7 (F := Ideal) (iblk m c 3 t) (iblk m c 4 t)) (k0_pay24 (tb (iblk m c 6 t) j)))
      (k0_pay34 (tf (iblk m c 7 t) j) (tf (iblk m c 7 t) j))) x
    = ((∑ u, gr q k v s ct (nn t) (pp t par) r j u * (1 / 8) * Kw k (nn t) (pp t par) u d : ℝ) : EReal) := by
  have e : x = ix2 r (lane par d) := by
    funext a
    match a with
    | 0 => exact h0
    | 1 => exact Fin.ext h1
  rw [e, dq_eq (at_pt A t j), dq_real]

theorem pt8 (A : Args m c q k v s ct) (t : Fin cfg0.N) (y : S128x512.Idx) (r : Fin 128) (j : Fin 4) (par : Fin 2) (d : Fin 64)
    (hr : (y 0).val = r.val) (hl : (y 1).val = j.val * 128 + par.val * 64 + d.val) :
    (outsAt0 m c t.val t.isLt).1 y
      = ((∑ u, gr q k v s ct (nn t) (pp t par) r j u * (1 / 8) * Kw k (nn t) (pp t par) u d : ℝ) : EReal) := by
  by_cases ht : t.val % 64 = 0
  · rw [outsAt0_A m c t ht]
    frame_out
    canon_tiles x h
    · obtain rfl : j = 3 := Fin.ext (by show j.val = 3; omega)
      simp only [tb_3, tf_3, c23, c33, c37, c49, c53, c71]
      exact dq_tile A t 3 x par d r (Fin.ext (by omega)) (by omega)
    · obtain rfl : j = 2 := Fin.ext (by show j.val = 2; omega)
      simp only [tb_2, tf_2, c19, c32, c36, c52, c65]
      exact dq_tile A t 2 x par d r (Fin.ext (by omega)) (by omega)
    · obtain rfl : j = 1 := Fin.ext (by show j.val = 1; omega)
      simp only [tb_1, tf_1, c16, c31, c25, c35, c51, c60]
      exact dq_tile A t 1 x par d r (Fin.ext (by omega)) (by omega)
    · obtain rfl : j = 0 := Fin.ext (by show j.val = 0; omega)
      simp only [tb_0, tf_0, c10]
      exact dq_tile A t 0 x par d r (Fin.ext (by omega)) (by omega)
  · rw [outsAt0_B m c t ht]
    frame_out
    canon_tiles x h
    · obtain rfl : j = 3 := Fin.ext (by show j.val = 3; omega)
      simp only [tb_3, tf_3, c23, c33, c37, c49, c53, c71]
      exact dq_tile A t 3 x par d r (Fin.ext (by omega)) (by omega)
    · obtain rfl : j = 2 := Fin.ext (by show j.val = 2; omega)
      simp only [tb_2, tf_2, c19, c32, c36, c52, c65]
      exact dq_tile A t 2 x par d r (Fin.ext (by omega)) (by omega)
    · obtain rfl : j = 1 := Fin.ext (by show j.val = 1; omega)
      simp only [tb_1, tf_1, c16, c31, c25, c35, c51, c60]
      exact dq_tile A t 1 x par d r (Fin.ext (by omega)) (by omega)
    · obtain rfl : j = 0 := Fin.ext (by show j.val = 0; omega)
      simp only [tb_0, tf_0, c10]
      exact dq_tile A t 0 x par d r (Fin.ext (by omega)) (by omega)

/-! ## The keys' and values' gradients -/

theorem dk_real (t : Fin cfg0.N) (par : Fin 2) (u : Fin 256) (d : Fin 64) :
    (∑ j : Fin 4, ∑ r, G ((nn t).val % 32) (fun u par d => Kb k (nn t) (pp t par) u d) (fun u par d => Kb v (nn t) (pp t par) u d)
      (fun r par d => Qs q (nn t) (pp t par) r j d) (fun r par d => Cs ct (nn t) (pp t par) r j d)
      (fun par => sk s (pp t par) j) (fun r par => Mx q k s (nn t) (pp t par) r j) r par u * (Qs q (nn t) (pp t par) r j d * (1 / 8)))
    = ∑ b, ∑ j, gr q k v s ct (nn t) (pp t par) b j u * (1 / 8) * Qs q (nn t) (pp t par) b j d := by
  rw [Finset.sum_comm]
  refine Finset.sum_congr rfl fun b _ => Finset.sum_congr rfl fun j _ => ?_
  rw [G_eq]; ring
theorem dv_real (t : Fin cfg0.N) (par : Fin 2) (u : Fin 256) (d : Fin 64) :
    (∑ j : Fin 4, ∑ r, P ((nn t).val % 32) (fun u par d => Kb k (nn t) (pp t par) u d)
      (fun r par d => Qs q (nn t) (pp t par) r j d)
      (fun par => sk s (pp t par) j) (fun r par => Mx q k s (nn t) (pp t par) r j) r par u * Cs ct (nn t) (pp t par) r j d)
    = ∑ b, ∑ j, Cs ct (nn t) (pp t par) b j d * pr q k s (nn t) (pp t par) b j u := by
  rw [Finset.sum_comm]
  refine Finset.sum_congr rfl fun b _ => Finset.sum_congr rfl fun j _ => ?_
  rw [P_eq]; ring

theorem dk_tile (A : Args m c q k v s ct) (t : Fin cfg0.N) (par : Fin 2) (u : Fin 256) (d : Fin 64) :
    k0_pay61 (k0_pay8 (tb (iblk m c 0 t) 3)) (k0_pay46 (scores (k0_pay4 (grid0.coords t)) (k0_pay6 (F := Ideal) (k0_pay5 (iblk m c 1 t)) (iblk m c 2 t)) (tb (iblk m c 0 t) 3)) (k0_pay30 (k0_pay7 (F := Ideal) (iblk m c 3 t) (iblk m c 4 t)) (k0_pay24 (tb (iblk m c 6 t) 3))) (k0_pay34 (tf (iblk m c 7 t) 3) (tf (iblk m c 7 t) 3)))
      (k0_pay61 (k0_pay8 (tb (iblk m c 0 t) 2)) (k0_pay46 (scores (k0_pay4 (grid0.coords t)) (k0_pay6 (F := Ideal) (k0_pay5 (iblk m c 1 t)) (iblk m c 2 t)) (tb (iblk m c 0 t) 2)) (k0_pay30 (k0_pay7 (F := Ideal) (iblk m c 3 t) (iblk m c 4 t)) (k0_pay24 (tb (iblk m c 6 t) 2))) (k0_pay34 (tf (iblk m c 7 t) 2) (tf (iblk m c 7 t) 2)))
        (k0_pay61 (k0_pay8 (tb (iblk m c 0 t) 1)) (k0_pay46 (scores (k0_pay4 (grid0.coords t)) (k0_pay6 (F := Ideal) (k0_pay5 (iblk m c 1 t)) (iblk m c 2 t)) (tb (iblk m c 0 t) 1)) (k0_pay30 (k0_pay7 (F := Ideal) (iblk m c 3 t) (iblk m c 4 t)) (k0_pay24 (tb (iblk m c 6 t) 1))) (k0_pay34 (tf (iblk m c 7 t) 1) (tf (iblk m c 7 t) 1)))
          (k0_pay61 (k0_pay8 (tb (iblk m c 0 t) 0)) (k0_pay46 (scores (k0_pay4 (grid0.coords t)) (k0_pay6 (F := Ideal) (k0_pay5 (iblk m c 1 t)) (iblk m c 2 t)) (tb (iblk m c 0 t) 0)) (k0_pay30 (k0_pay7 (F := Ideal) (iblk m c 3 t) (iblk m c 4 t)) (k0_pay24 (tb (iblk m c 6 t) 0))) (k0_pay34 (tf (iblk m c 7 t) 0) (tf (iblk m c 7 t) 0))) k0_pay54)))
      (ix2 u (lane par d))
    = ((∑ b, ∑ j, gr q k v s ct (nn t) (pp t par) b j u * (1 / 8) * Qs q (nn t) (pp t par) b j d : ℝ) : EReal) := by
  rw [dk_sum (fun j => at_pt A t j), dk_real]
theorem dv_tile (A : Args m c q k v s ct) (t : Fin cfg0.N) (par : Fin 2) (u : Fin 256) (d : Fin 64) :
    k0_pay67 (k0_pay24 (tb (iblk m c 6 t) 3)) (k0_pay38 (scores (k0_pay4 (grid0.coords t)) (k0_pay6 (F := Ideal) (k0_pay5 (iblk m c 1 t)) (iblk m c 2 t)) (tb (iblk m c 0 t) 3)) (k0_pay34 (tf (iblk m c 7 t) 3) (tf (iblk m c 7 t) 3)))
      (k0_pay67 (k0_pay24 (tb (iblk m c 6 t) 2)) (k0_pay38 (scores (k0_pay4 (grid0.coords t)) (k0_pay6 (F := Ideal) (k0_pay5 (iblk m c 1 t)) (iblk m c 2 t)) (tb (iblk m c 0 t) 2)) (k0_pay34 (tf (iblk m c 7 t) 2) (tf (iblk m c 7 t) 2)))
        (k0_pay67 (k0_pay24 (tb (iblk m c 6 t) 1)) (k0_pay38 (scores (k0_pay4 (grid0.coords t)) (k0_pay6 (F := Ideal) (k0_pay5 (iblk m c 1 t)) (iblk m c 2 t)) (tb (iblk m c 0 t) 1)) (k0_pay34 (tf (iblk m c 7 t) 1) (tf (iblk m c 7 t) 1)))
          (k0_pay67 (k0_pay24 (tb (iblk m c 6 t) 0)) (k0_pay38 (scores (k0_pay4 (grid0.coords t)) (k0_pay6 (F := Ideal) (k0_pay5 (iblk m c 1 t)) (iblk m c 2 t)) (tb (iblk m c 0 t) 0)) (k0_pay34 (tf (iblk m c 7 t) 0) (tf (iblk m c 7 t) 0))) k0_pay54)))
      (ix2 u (lane par d))
    = ((∑ b, ∑ j, Cs ct (nn t) (pp t par) b j d * pr q k s (nn t) (pp t par) b j u : ℝ) : EReal) := by
  rw [dv_sum (fun j => at_pt A t j), dv_real]

theorem pt9 (A : Args m c q k v s ct) (t : Fin cfg0.N) (u : Fin 128) (par : Fin 2) (d : Fin 64) :
    (outsAt0 m c t.val t.isLt).2.1 (ix2 u (lane par d))
      = ((∑ b, ∑ j, gr q k v s ct (nn t) (pp t par) b j ⟨128 + u.val, by omega⟩ * (1 / 8) * Qs q (nn t) (pp t par) b j d : ℝ) : EReal) := by
  by_cases ht : t.val % 64 = 0
  · rw [outsAt0_A m c t ht]
    frame_out
    simp only [tb_0, tb_1, tb_2, tb_3, tf_0, tf_1, tf_2, tf_3, c10, c16, c19, c23, c14, c17, c21, c25, c31, c32, c33, c35, c36, c37, c47, c48, c49, c57, c66, own_dk]
    exact dk_tile A t par _ d
  · rw [outsAt0_B m c t ht]
    frame_out
    simp only [tb_0, tb_1, tb_2, tb_3, tf_0, tf_1, tf_2, tf_3, c10, c16, c19, c23, c14, c17, c21, c25, c31, c32, c33, c35, c36, c37, c47, c48, c49, c57, c66, own_dk]
    exact dk_tile A t par _ d
theorem pt10 (A : Args m c q k v s ct) (t : Fin cfg0.N) (u : Fin 128) (par : Fin 2) (d : Fin 64) :
    (outsAt0 m c t.val t.isLt).2.2.1 (ix2 u (lane par d))
      = ((∑ b, ∑ j, gr q k v s ct (nn t) (pp t par) b j ⟨u.val, by omega⟩ * (1 / 8) * Qs q (nn t) (pp t par) b j d : ℝ) : EReal) := by
  by_cases ht : t.val % 64 = 0
  · rw [outsAt0_A m c t ht]
    frame_out
    simp only [tb_0, tb_1, tb_2, tb_3, tf_0, tf_1, tf_2, tf_3, c10, c16, c19, c23, c14, c17, c21, c25, c31, c32, c33, c35, c36, c37, c47, c48, c49, c57, c66, prev_dk]
    exact dk_tile A t par _ d
  · rw [outsAt0_B m c t ht]
    frame_out
    simp only [tb_0, tb_1, tb_2, tb_3, tf_0, tf_1, tf_2, tf_3, c10, c16, c19, c23, c14, c17, c21, c25, c31, c32, c33, c35, c36, c37, c47, c48, c49, c57, c66, prev_dk]
    exact dk_tile A t par _ d
theorem pt11 (A : Args m c q k v s ct) (t : Fin cfg0.N) (u : Fin 128) (par : Fin 2) (d : Fin 64) :
    (outsAt0 m c t.val t.isLt).2.2.2.1 (ix2 u (lane par d))
      = ((∑ b, ∑ j, Cs ct (nn t) (pp t par) b j d * pr q k s (nn t) (pp t par) b j ⟨128 + u.val, by omega⟩ : ℝ) : EReal) := by
  by_cases ht : t.val % 64 = 0
  · rw [outsAt0_A m c t ht]
    frame_out
    simp only [tb_0, tb_1, tb_2, tb_3, tf_0, tf_1, tf_2, tf_3, c10, c16, c19, c23, c25, c28, c29, c35, c36, c39, c40, c41, c62, c73, own_dv]
    exact dv_tile A t par _ d
  · rw [outsAt0_B m c t ht]
    frame_out
    simp only [tb_0, tb_1, tb_2, tb_3, tf_0, tf_1, tf_2, tf_3, c10, c16, c19, c23, c25, c28, c29, c35, c36, c39, c40, c41, c62, c73, own_dv]
    exact dv_tile A t par _ d
theorem pt12 (A : Args m c q k v s ct) (t : Fin cfg0.N) (u : Fin 128) (par : Fin 2) (d : Fin 64) :
    (outsAt0 m c t.val t.isLt).2.2.2.2.1 (ix2 u (lane par d))
      = ((∑ b, ∑ j, Cs ct (nn t) (pp t par) b j d * pr q k s (nn t) (pp t par) b j ⟨u.val, by omega⟩ : ℝ) : EReal) := by
  by_cases ht : t.val % 64 = 0
  · rw [outsAt0_A m c t ht]
    frame_out
    simp only [tb_0, tb_1, tb_2, tb_3, tf_0, tf_1, tf_2, tf_3, c10, c16, c19, c23, c25, c28, c29, c35, c36, c39, c40, c41, c62, c73, prev_dv]
    exact dv_tile A t par _ d
  · rw [outsAt0_B m c t ht]
    frame_out
    simp only [tb_0, tb_1, tb_2, tb_3, tf_0, tf_1, tf_2, tf_3, c10, c16, c19, c23, c25, c28, c29, c35, c36, c39, c40, c41, c62, c73, prev_dv]
    exact dv_tile A t par _ d

end Cert.KernelIdeal.Outs
-- ==== Proof.Sink.lean ====
module

public import proofs.«01_k».proof.Proof.Outs
public import Idealize.ShloMosaic.Lib.Pipeline.ReadBack

/-! What the body adds to the block of the sinks' gradients, at a grid point. -/

@[expose] public section

set_option maxRecDepth 16384
set_option maxHeartbeats 1000000
noncomputable section
open Idealize.ShloMosaic Idealize.ShloMosaic.TcCoe Idealize.SL.Sem
namespace Cert.KernelIdeal.Outs
open Cert.KernelIdeal Cert.KernelIdeal.Gen Cert.KernelIdeal.Blocks Cert.KernelIdeal.Body Cert.KernelIdeal.Point
open Cert.ReferenceIdeal.Ref Cert.ReferenceIdeal.Leaf Cert.Swa

variable {m : (ℓ : Loc nD τ sig) → Buf (Elt Ideal) ℓ} {c : Dev nD}
  {q : S2x4096x16x64.Idx → ℝ} {k v : S2x4096x2x64.Idx → ℝ} {s : S16.Idx → ℝ} {ct : S2x4096x1024.Idx → ℝ}

/-- A point's part of a sink's gradient. -/
def part (q : S2x4096x16x64.Idx → ℝ) (k v : S2x4096x2x64.Idx → ℝ) (s : S16.Idx → ℝ) (ct : S2x4096x1024.Idx → ℝ)
    (t : Fin cfg0.N) (y : S4x1x128.Idx) : EReal :=
  ((∑ r, gs q k v s ct (nn t) (pp t ⟨(y 2).val / 64, by have : (y 2).val < 128 := (y 2).isLt; omega⟩) r ⟨(y 0).val, (y 0).isLt⟩ : ℝ) : EReal)

theorem ds_tile (A : Args m c q k v s ct) (t : Fin cfg0.N) (j : Fin 4) (y : S4x1x128.Idx) (x : S1x1x128.Idx) (acc : Vec Ideal S1x1x128 .f32)
    (a : EReal) (h0 : (y 0).val = j.val) (h2 : (y 2).val = (x 2).val) (ha : acc x = a) :
    k0_pay55 (F := Ideal) (k0_pay9 (ts (iblk m c 5 t) j)) (k0_pay34 (tf (iblk m c 7 t) j) (tf (iblk m c 7 t) j))
      (k0_pay42 (scores (k0_pay4 (grid0.coords t)) (k0_pay6 (F := Ideal) (k0_pay5 (iblk m c 1 t)) (iblk m c 2 t)) (tb (iblk m c 0 t) j))
        (k0_pay30 (k0_pay7 (F := Ideal) (iblk m c 3 t) (iblk m c 4 t)) (k0_pay24 (tb (iblk m c 6 t) j)))
        (k0_pay34 (tf (iblk m c 7 t) j) (tf (iblk m c 7 t) j))) acc x = a + part q k v s ct t y := by
  obtain ⟨par, d, hl⟩ := lane_of (x 2)
  have e : x = ix3 0 0 (lane par d) := by
    funext a
    match a with
    | 0 => exact Fin.ext (by have : (x 0).val < 1 := (x 0).isLt; show (x 0).val = 0; omega)
    | 1 => exact Fin.ext (by have : (x 1).val < 1 := (x 1).isLt; show (x 1).val = 0; omega)
    | 2 => exact hl
  subst ha
  rw [e, ds_eq (at_pt A t j)]
  unfold part
  have h3 : (x 2).val = par.val * 64 + d.val := congrArg Fin.val hl
  have e1 : (⟨(y 2).val / 64, by have : (y 2).val < 128 := (y 2).isLt; omega⟩ : Fin 2) = par := Fin.ext (by show (y 2).val / 64 = par.val; omega)
  have e2 : (⟨(y 0).val, (y 0).isLt⟩ : Fin 4) = j := Fin.ext h0
  rw [e1, e2]
  simp only [GS_eq]

theorem ld_prev (X : Vec Ideal S4x1x128 .f32) (j : Fin 4) (y : S4x1x128.Idx) (x : S1x1x128.Idx) (h0 : (y 0).val = j.val) (h2 : (y 2).val = (x 2).val) :
    ts X j x = X y := by
  have e : x = ix3 0 0 (x 2) := by
    funext a
    match a with
    | 0 => exact Fin.ext (by have : (x 0).val < 1 := (x 0).isLt; show (x 0).val = 0; omega)
    | 1 => exact Fin.ext (by have : (x 1).val < 1 := (x 1).isLt; show (x 1).val = 0; omega)
    | 2 => rfl
  rw [e]
  refine (ts_apply X j (x 2)).trans (congrArg X ?_)
  funext a
  match a with
  | 0 => exact Fin.ext h0.symm
  | 1 => exact Fin.ext (by have : (y 1).val < 1 := (y 1).isLt; show 0 = (y 1).val; omega)
  | 2 => exact Fin.ext h2.symm
theorem zero3 (i) : k0_pay3 (F := Ideal) i = 0 := by
  pointwise [k0_pay3]

/-- Stores that cover an index leave there what they leave without the stores before them. -/
theorem canon_cover {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem p _ hm, View.canon_cons_of_not_mem p _ hm]
      refine canon_cover L' L y ?_
      obtain ⟨p', hp', hy'⟩ := hy
      rcases List.mem_cons.mp hp' with rfl | hp'
      · exact absurd hy' hm
      · exact ⟨p', hp', hy'⟩

theorem drop (w3 w2 w1 w0 : S1x1x128.Idx → Elt Ideal .f32) (L' : List (View.Piece (Elt Ideal) S4x1x128 .f32)) (y : S4x1x128.Idx) :
    View.canon (Val := Elt Ideal) (⟨Rect.unit ![3, 0, 0] ![1, 1, 128] inb_S4x1x128_S1x1x128_3_0_0, w3⟩
      :: ⟨Rect.unit ![2, 0, 0] ![1, 1, 128] inb_S4x1x128_S1x1x128_2_0_0, w2⟩ :: ⟨Rect.unit ![1, 0, 0] ![1, 1, 128] inb_S4x1x128_S1x1x128_1_0_0, w1⟩
      :: ⟨Rect.unit ![0, 0, 0] ![1, 1, 128] inb_S4x1x128_S1x1x128_0_0_0, w0⟩ :: L') y
    = View.canon (Val := Elt Ideal) [⟨Rect.unit ![3, 0, 0] ![1, 1, 128] inb_S4x1x128_S1x1x128_3_0_0, w3⟩,
      ⟨Rect.unit ![2, 0, 0] ![1, 1, 128] inb_S4x1x128_S1x1x128_2_0_0, w2⟩, ⟨Rect.unit ![1, 0, 0] ![1, 1, 128] inb_S4x1x128_S1x1x128_1_0_0, w1⟩,
      ⟨Rect.unit ![0, 0, 0] ![1, 1, 128] inb_S4x1x128_S1x1x128_0_0_0, w0⟩] y := by
  refine canon_cover L' [⟨Rect.unit ![3, 0, 0] ![1, 1, 128] inb_S4x1x128_S1x1x128_3_0_0, w3⟩,
      ⟨Rect.unit ![2, 0, 0] ![1, 1, 128] inb_S4x1x128_S1x1x128_2_0_0, w2⟩, ⟨Rect.unit ![1, 0, 0] ![1, 1, 128] inb_S4x1x128_S1x1x128_1_0_0, w1⟩,
      ⟨Rect.unit ![0, 0, 0] ![1, 1, 128] inb_S4x1x128_S1x1x128_0_0_0, w0⟩] y ?_
  have h0 : (y 0).val < 4 := (y 0).isLt
  have h1 : (y 1).val < 1 := (y 1).isLt
  have h2 : (y 2).val < 128 := (y 2).isLt
  have hm : ∀ (b : ℕ) (inb : ∀ a, (![b, 0, 0] : Fin 3 → ℕ) a + (![1, 1, 128] : Fin 3 → ℕ) a ≤ S4x1x128.size a), (y 0).val = b →
      y ∈ (Rect.unit (s := S4x1x128) ![b, 0, 0] ![1, 1, 128] inb).set := by
    intro b inb hb
    refine Rect.mem_set_unit.mpr fun a => ?_
    match a with
    | 0 => show b ≤ (y 0).val ∧ (y 0).val < b + 1; omega
    | 1 => show 0 ≤ (y 1).val ∧ (y 1).val < 0 + 1; omega
    | 2 => show 0 ≤ (y 2).val ∧ (y 2).val < 0 + 128; omega
  have hc : (y 0).val = 3 ∨ (y 0).val = 2 ∨ (y 0).val = 1 ∨ (y 0).val = 0 := by omega
  rcases hc with hc | hc | hc | hc
  · exact ⟨⟨Rect.unit ![3, 0, 0] ![1, 1, 128] inb_S4x1x128_S1x1x128_3_0_0, w3⟩, by simp, hm 3 inb_S4x1x128_S1x1x128_3_0_0 hc⟩
  · exact ⟨⟨Rect.unit ![2, 0, 0] ![1, 1, 128] inb_S4x1x128_S1x1x128_2_0_0, w2⟩, by simp, hm 2 inb_S4x1x128_S1x1x128_2_0_0 hc⟩
  · exact ⟨⟨Rect.unit ![1, 0, 0] ![1, 1, 128] inb_S4x1x128_S1x1x128_1_0_0, w1⟩, by simp, hm 1 inb_S4x1x128_S1x1x128_1_0_0 hc⟩
  · exact ⟨⟨Rect.unit ![0, 0, 0] ![1, 1, 128] inb_S4x1x128_S1x1x128_0_0_0, w0⟩, by simp, hm 0 inb_S4x1x128_S1x1x128_0_0_0 hc⟩

theorem rd_0 {sp : Space} (b : View sig .tc sp S4x1x128 .f32) (Z : Vec Ideal S4x1x128 .f32) :
    b.readCov (Val := Elt Ideal) [⟨Rect.unit ![0, 0, 0] ![4, 1, 128] inb_S4x1x128_S4x1x128_0_0_0, Z⟩]
      (Rect.unit ![0, 0, 0] ![1, 1, 128] inb_S4x1x128_S1x1x128_0_0_0).toLoadRect = ts Z 0 :=
  View.readCov_fill b inb_S4x1x128_S4x1x128_0_0_0 Z [] _ (by decide)
theorem rd_1 {sp : Space} (b : View sig .tc sp S4x1x128 .f32) (w0 : S1x1x128.Idx → Elt Ideal .f32) (Z : Vec Ideal S4x1x128 .f32) :
    b.readCov (Val := Elt Ideal) [⟨Rect.unit ![0, 0, 0] ![1, 1, 128] inb_S4x1x128_S1x1x128_0_0_0, w0⟩, ⟨Rect.unit ![0, 0, 0] ![4, 1, 128] inb_S4x1x128_S4x1x128_0_0_0, Z⟩]
      (Rect.unit ![1, 0, 0] ![1, 1, 128] inb_S4x1x128_S1x1x128_1_0_0).toLoadRect = ts Z 1 :=
  (View.readCov_skip b _ _ _ _ (by decide)).trans <| View.readCov_fill b inb_S4x1x128_S4x1x128_0_0_0 Z [] _ (by decide)
theorem rd_2 {sp : Space} (b : View sig .tc sp S4x1x128 .f32) (w0 w1 : S1x1x128.Idx → Elt Ideal .f32) (Z : Vec Ideal S4x1x128 .f32) :
    b.readCov (Val := Elt Ideal) [⟨Rect.unit ![1, 0, 0] ![1, 1, 128] inb_S4x1x128_S1x1x128_1_0_0, w1⟩, ⟨Rect.unit ![0, 0, 0] ![1, 1, 128] inb_S4x1x128_S1x1x128_0_0_0, w0⟩, ⟨Rect.unit ![0, 0, 0] ![4, 1, 128] inb_S4x1x128_S4x1x128_0_0_0, Z⟩]
      (Rect.unit ![2, 0, 0] ![1, 1, 128] inb_S4x1x128_S1x1x128_2_0_0).toLoadRect = ts Z 2 :=
  (View.readCov_skip b _ _ _ _ (by decide)).trans <| (View.readCov_skip b _ _ _ _ (by decide)).trans <| View.readCov_fill b inb_S4x1x128_S4x1x128_0_0_0 Z [] _ (by decide)
theorem rd_3 {sp : Space} (b : View sig .tc sp S4x1x128 .f32) (w0 w1 w2 : S1x1x128.Idx → Elt Ideal .f32) (Z : Vec Ideal S4x1x128 .f32) :
    b.readCov (Val := Elt Ideal) [⟨Rect.unit ![2, 0, 0] ![1, 1, 128] inb_S4x1x128_S1x1x128_2_0_0, w2⟩, ⟨Rect.unit ![1, 0, 0] ![1, 1, 128] inb_S4x1x128_S1x1x128_1_0_0, w1⟩, ⟨Rect.unit ![0, 0, 0] ![1, 1, 128] inb_S4x1x128_S1x1x128_0_0_0, w0⟩, ⟨Rect.unit ![0, 0, 0] ![4, 1, 128] inb_S4x1x128_S4x1x128_0_0_0, Z⟩]
      (Rect.unit ![3, 0, 0] ![1, 1, 128] inb_S4x1x128_S1x1x128_3_0_0).toLoadRect = ts Z 3 :=
  (View.readCov_skip b _ _ _ _ (by decide)).trans <| (View.readCov_skip b _ _ _ _ (by decide)).trans <| (View.readCov_skip b _ _ _ _ (by decide)).trans <| View.readCov_fill b inb_S4x1x128_S4x1x128_0_0_0 Z [] _ (by decide)

theorem pt13_A (A : Args m c q k v s ct) (t : Fin cfg0.N) (ht : t.val % 64 = 0) (y : S4x1x128.Idx) :
    (outsAt0 m c t.val t.isLt).2.2.2.2.2 y = (0 : EReal) + part q k v s ct t y := by
  rw [outsAt0_A m c t ht]
  frame_out
  refine (drop _ _ _ _ _ y).trans ?_
  canon_tiles x h
  · simp only [ts_3, tb_3, tf_3, c23, c33, c37, c45, c70]
    exact ds_tile A t 3 y x _ _ (by show _ = 3; omega) (by omega) ((congrFun (rd_3 _ _ _ _ _ ) x).trans ((ld_prev _ 3 y x (by show _ = 3; omega) (by omega)).trans (zero3 y)))
  · simp only [ts_2, tb_2, tf_2, c19, c32, c36, c44, c64]
    exact ds_tile A t 2 y x _ _ (by show _ = 2; omega) (by omega) ((congrFun (rd_2 _ _ _ _ ) x).trans ((ld_prev _ 2 y x (by show _ = 2; omega) (by omega)).trans (zero3 y)))
  · simp only [ts_1, tb_1, tf_1, c16, c31, c25, c35, c43, c15, c59]
    exact ds_tile A t 1 y x _ _ (by show _ = 1; omega) (by omega) ((congrFun (rd_1 _ _ _ ) x).trans ((ld_prev _ 1 y x (by show _ = 1; omega) (by omega)).trans (zero3 y)))
  · simp only [ts_0, tb_0, tf_0, c10]
    exact ds_tile A t 0 y x _ _ (by show _ = 0; omega) (by omega) ((congrFun (rd_0 _ _ ) x).trans ((ld_prev _ 0 y x (by show _ = 0; omega) (by omega)).trans (zero3 y)))

theorem pt13_B (A : Args m c q k v s ct) (t : Fin cfg0.N) (ht : ¬ t.val % 64 = 0) (y : S4x1x128.Idx) :
    (outsAt0 m c t.val t.isLt).2.2.2.2.2 y
      = (outsAt0 m c (t.val - 1) (Nat.lt_of_le_of_lt (Nat.sub_le _ _) t.isLt)).2.2.2.2.2 y + part q k v s ct t y := by
  rw [outsAt0_B m c t ht]
  frame_out
  canon_tiles x h
  · simp only [ts_3, tb_3, tf_3, c23, c33, c37, c45, c70]
    exact ds_tile A t 3 y x _ _ (by show _ = 3; omega) (by omega) (ld_prev _ 3 y x (by show _ = 3; omega) (by omega))
  · simp only [ts_2, tb_2, tf_2, c19, c32, c36, c44, c64]
    exact ds_tile A t 2 y x _ _ (by show _ = 2; omega) (by omega) (ld_prev _ 2 y x (by show _ = 2; omega) (by omega))
  · simp only [ts_1, tb_1, tf_1, c16, c31, c25, c35, c43, c15, c59]
    exact ds_tile A t 1 y x _ _ (by show _ = 1; omega) (by omega) (ld_prev _ 1 y x (by show _ = 1; omega) (by omega))
  · simp only [ts_0, tb_0, tf_0, c10]
    exact ds_tile A t 0 y x _ _ (by show _ = 0; omega) (by omega) (ld_prev _ 0 y x (by show _ = 0; omega) (by omega))

end Cert.KernelIdeal.Outs
-- ==== Proof.Arrays.lean ====
module

public import proofs.«01_k».proof.Proof.Sink

/-! The six result arrays after the run, as the reference's arrays. -/

@[expose] public section

set_option maxRecDepth 16384
set_option maxHeartbeats 1000000
noncomputable section
open Idealize.ShloMosaic Idealize.ShloMosaic.TcCoe Idealize.SL.Sem
namespace Cert.KernelIdeal.Outs
open Cert.KernelIdeal Cert.KernelIdeal.Gen Cert.KernelIdeal.Blocks Cert.KernelIdeal.Body Cert.KernelIdeal.Point
open Cert.ReferenceIdeal.Ref Cert.ReferenceIdeal.Leaf Cert.ReferenceIdeal.Read Cert.Swa

variable {m : (ℓ : Loc nD τ sig) → Buf (Elt Ideal) ℓ} {c : Dev nD}
  {q : S2x4096x16x64.Idx → ℝ} {k v : S2x4096x2x64.Idx → ℝ} {s : S16.Idx → ℝ} {ct : S2x4096x1024.Idx → ℝ}

/-- Where the results' blocks of a point lie. -/
theorem odx : ∀ t : Fin cfg0.N,
    win0_8.index t = ![t.val % 64, t.val / 64] ∧ win0_9.index t = ![t.val % 64, t.val / 64]
    ∧ win0_10.index t = ![t.val % 64, t.val / 64] ∧ win0_11.index t = ![t.val % 64, t.val / 64]
    ∧ win0_12.index t = ![t.val % 64, t.val / 64] ∧ win0_13.index t = ![t.val / 64, 0, 0] :=
  (by decide +kernel : ∀ t : Fin grid0.N, _)

/-- Queries' gradient. -/
theorem arr8 (A : Args m c q k v s ct) : (dats m 0 c).arrAt 8 cfg0.N = val_main_v127 (F := Ideal) (up q) (up k) (up v) (up s) (up ct) := by
  refine (dats m 0 c).arrAt_eq_of_covers 8 _ (by decide +kernel) fun t hf y => ?_
  blk_simp
  rw [after0_8]
  have ht : t.val < 128 := t.isLt
  have y0 : (y 0).val < 128 := (y 0).isLt
  have y1 : (y 1).val < 512 := (y 1).isLt
  have e : (win0_8.blk t).view.emb y
      = ix2 (⟨t.val % 64 * 128 + (y 0).val, by omega⟩ : Fin 8192) (⟨t.val / 64 * 512 + (y 1).val, by omega⟩ : Fin 1024) := by
    blk_ext [odx t]
  rw [e]
  refine (pt8 A t y ⟨(y 0).val, y0⟩ ⟨(y 1).val / 128, by omega⟩ ⟨(y 1).val % 128 / 64, by omega⟩ ⟨(y 1).val % 64, by omega⟩ rfl (by simp only; omega)).trans
    (Eq.symm (dq_at q k v s ct (nn t) (pp t ⟨(y 1).val % 128 / 64, by omega⟩) ⟨(y 0).val, y0⟩ ⟨(y 1).val / 128, by omega⟩ _ _ ⟨(y 1).val % 64, by omega⟩ rfl ?_))
  simp only [pp, head]
  omega

/-- Keys' gradient, own blocks. -/
theorem arr9 (A : Args m c q k v s ct) : (dats m 0 c).arrAt 9 cfg0.N = val_main_v129 (F := Ideal) (up q) (up k) (up v) (up s) (up ct) := by
  refine (dats m 0 c).arrAt_eq_of_covers 9 _ (by decide +kernel) fun t hf y => ?_
  blk_simp
  rw [after0_9]
  have ht : t.val < 128 := t.isLt
  have y0 : (y 0).val < 128 := (y 0).isLt
  have y1 : (y 1).val < 128 := (y 1).isLt
  have e : (win0_9.blk t).view.emb y
      = ix2 (⟨t.val % 64 * 128 + (y 0).val, by omega⟩ : Fin 8192) (⟨t.val / 64 * 128 + (y 1).val, by omega⟩ : Fin 256) := by
    blk_ext [odx t]
  obtain ⟨par, d, hl⟩ := lane_of ⟨(y 1).val, y1⟩
  have hl' : (y 1).val = par.val * 64 + d.val := congrArg Fin.val hl
  have hy : y = ix2 (⟨(y 0).val, y0⟩ : Fin 128) (lane par d) := by
    funext a
    match a with
    | 0 => rfl
    | 1 => exact Fin.ext hl'
  rw [e]
  refine (congrArg _ hy).trans ((pt9 A t ⟨(y 0).val, y0⟩ par d).trans
    (Eq.symm (dk_at q k v s ct (nn t) (pp t par) ⟨(y 0).val, y0⟩ _ _ d rfl ?_).1))
  simp only [pp]
  omega

/-- Keys' gradient, blocks before. -/
theorem arr10 (A : Args m c q k v s ct) : (dats m 0 c).arrAt 10 cfg0.N = val_main_v131 (F := Ideal) (up q) (up k) (up v) (up s) (up ct) := by
  refine (dats m 0 c).arrAt_eq_of_covers 10 _ (by decide +kernel) fun t hf y => ?_
  blk_simp
  rw [after0_10]
  have ht : t.val < 128 := t.isLt
  have y0 : (y 0).val < 128 := (y 0).isLt
  have y1 : (y 1).val < 128 := (y 1).isLt
  have e : (win0_10.blk t).view.emb y
      = ix2 (⟨t.val % 64 * 128 + (y 0).val, by omega⟩ : Fin 8192) (⟨t.val / 64 * 128 + (y 1).val, by omega⟩ : Fin 256) := by
    blk_ext [odx t]
  obtain ⟨par, d, hl⟩ := lane_of ⟨(y 1).val, y1⟩
  have hl' : (y 1).val = par.val * 64 + d.val := congrArg Fin.val hl
  have hy : y = ix2 (⟨(y 0).val, y0⟩ : Fin 128) (lane par d) := by
    funext a
    match a with
    | 0 => rfl
    | 1 => exact Fin.ext hl'
  rw [e]
  refine (congrArg _ hy).trans ((pt10 A t ⟨(y 0).val, y0⟩ par d).trans
    (Eq.symm (dk_at q k v s ct (nn t) (pp t par) ⟨(y 0).val, y0⟩ _ _ d rfl ?_).2))
  simp only [pp]
  omega

/-- Values' gradient, own blocks. -/
theorem arr11 (A : Args m c q k v s ct) : (dats m 0 c).arrAt 11 cfg0.N = val_main_v133 (F := Ideal) (up q) (up k) (up s) (up ct) := by
  refine (dats m 0 c).arrAt_eq_of_covers 11 _ (by decide +kernel) fun t hf y => ?_
  blk_simp
  rw [after0_11]
  have ht : t.val < 128 := t.isLt
  have y0 : (y 0).val < 128 := (y 0).isLt
  have y1 : (y 1).val < 128 := (y 1).isLt
  have e : (win0_11.blk t).view.emb y
      = ix2 (⟨t.val % 64 * 128 + (y 0).val, by omega⟩ : Fin 8192) (⟨t.val / 64 * 128 + (y 1).val, by omega⟩ : Fin 256) := by
    blk_ext [odx t]
  obtain ⟨par, d, hl⟩ := lane_of ⟨(y 1).val, y1⟩
  have hl' : (y 1).val = par.val * 64 + d.val := congrArg Fin.val hl
  have hy : y = ix2 (⟨(y 0).val, y0⟩ : Fin 128) (lane par d) := by
    funext a
    match a with
    | 0 => rfl
    | 1 => exact Fin.ext hl'
  rw [e]
  refine (congrArg _ hy).trans ((pt11 A t ⟨(y 0).val, y0⟩ par d).trans
    (Eq.symm (dv_at q k s ct (nn t) (pp t par) ⟨(y 0).val, y0⟩ _ _ d rfl ?_).1))
  simp only [pp]
  omega

/-- Values' gradient, blocks before. -/
theorem arr12 (A : Args m c q k v s ct) : (dats m 0 c).arrAt 12 cfg0.N = val_main_v135 (F := Ideal) (up q) (up k) (up s) (up ct) := by
  refine (dats m 0 c).arrAt_eq_of_covers 12 _ (by decide +kernel) fun t hf y => ?_
  blk_simp
  rw [after0_12]
  have ht : t.val < 128 := t.isLt
  have y0 : (y 0).val < 128 := (y 0).isLt
  have y1 : (y 1).val < 128 := (y 1).isLt
  have e : (win0_12.blk t).view.emb y
      = ix2 (⟨t.val % 64 * 128 + (y 0).val, by omega⟩ : Fin 8192) (⟨t.val / 64 * 128 + (y 1).val, by omega⟩ : Fin 256) := by
    blk_ext [odx t]
  obtain ⟨par, d, hl⟩ := lane_of ⟨(y 1).val, y1⟩
  have hl' : (y 1).val = par.val * 64 + d.val := congrArg Fin.val hl
  have hy : y = ix2 (⟨(y 0).val, y0⟩ : Fin 128) (lane par d) := by
    funext a
    match a with
    | 0 => rfl
    | 1 => exact Fin.ext hl'
  rw [e]
  refine (congrArg _ hy).trans ((pt12 A t ⟨(y 0).val, y0⟩ par d).trans
    (Eq.symm (dv_at q k s ct (nn t) (pp t par) ⟨(y 0).val, y0⟩ _ _ d rfl ?_).2))
  simp only [pp]
  omega

/-- Sinks' gradient: the parts of the 64 blocks of the sequence, one after another. -/
theorem acc13 (A : Args m c q k v s ct) (t : Fin cfg0.N) (ht : t.val % 64 = 64 - 1) (y : S4x1x128.Idx) :
    (show EReal from (outsAt0 m c t.val t.isLt).2.2.2.2.2 y)
    = (0 : EReal) + ∑ x : Fin 64, part q k v s ct ⟨64 * (t.val / 64) + x.val, Pipeline.run_point_lt_of_flush t ht x⟩ y :=
  Pipeline.eq_sum_fin_of_reset_step_apply_of_flush (M := EReal) (fun n h => (outsAt0 m c n h).2.2.2.2.2) 64 (fun _ => (0 : EReal))
    (fun t y => part q k v s ct t y) (fun t h y => pt13_A A t h y) (fun t h y => pt13_B A t h y) t ht y

theorem arr13 (A : Args m c q k v s ct) : (dats m 0 c).arrAt 13 cfg0.N = val_main_v126 (F := Ideal) (up q) (up k) (up v) (up s) (up ct) := by
  refine (dats m 0 c).arrAt_eq_of_covers 13 _ (by decide +kernel) fun t hf y => ?_
  blk_simp
  rw [after0_13]
  have ht : t.val < 128 := t.isLt
  have y0 : (y 0).val < 4 := (y 0).isLt
  have y1 : (y 1).val < 1 := (y 1).isLt
  have y2 : (y 2).val < 128 := (y 2).isLt
  have e : (win0_13.blk t).view.emb y
      = ix3 (⟨t.val / 64 * 4 + (y 0).val, by omega⟩ : Fin 8) (0 : Fin 1) (⟨(y 2).val, y2⟩ : Fin 128) := by
    blk_ext [odx t]
  rw [e]
  refine (acc13 A t ((flush0_13 t).mp hf) y).trans (Eq.trans ?_ (Eq.symm (ds_at q k v s ct
    ⟨t.val / 64 * 2 + (y 2).val / 64, by omega⟩ ⟨(y 0).val, y0⟩ _ _ (by simp only; omega) (by simp only; omega))))
  rw [zero_add, coe_sum]
  refine Finset.sum_congr rfl fun x _ => ?_
  unfold part
  have e1 : nn ⟨64 * (t.val / 64) + x.val, Pipeline.run_point_lt_of_flush t ((flush0_13 t).mp hf) x⟩ = x := Fin.ext (by simp only [nn]; omega)
  have e2 : pp ⟨64 * (t.val / 64) + x.val, Pipeline.run_point_lt_of_flush t ((flush0_13 t).mp hf) x⟩ ⟨(y 2).val / 64, by omega⟩
      = ⟨t.val / 64 * 2 + (y 2).val / 64, by omega⟩ := Fin.ext (by simp only [pp]; omega)
  rw [e1, e2]

end Cert.KernelIdeal.Outs
end
-- ==== Proof.Real.lean ====
module

public import proofs.«01_k».proof.Proof.Blocks
public import proofs.«01_k».proof.Proof.Gen.Pre_finite
public import proofs.«01_k».proof.Defs
public import Idealize.ShloMosaic.Lib.ReduceAll

/-! The precondition: arguments that are finite are reals. -/

@[expose] public section

set_option maxRecDepth 16384
set_option maxHeartbeats 1000000
noncomputable section
open Idealize.ShloMosaic Idealize.ShloMosaic.TcCoe Idealize.SL.Sem
namespace Cert.KernelIdeal.Real
open Cert Cert.KernelIdeal
open Cert.Pre_finite (S_)

/-- Between the infinities, every one of an array's elements is real. -/
theorem real_of {S : Shape} (x : FVec Ideal S .f32) (hb : S_.BroadcastsInDim S (![] : Fin 0 → Fin S.rank)) {axes : List (Fin S.rank)}
    (hr : S.ReducesTo axes S_) (hu : 0 < S_.numel) (j : S_.Idx)
    (h : Host.reduce IntOp.andi (andi (cmpf .ogt x (broadcastInDim S ![] hb (constant S_ .f32 0xFF800000#32)))
      (cmpf .olt x (broadcastInDim S ![] hb (constant S_ .f32 0x7F800000#32)))) (constantI S_ 1 1#1) hr hu j = 1#1) :
    (x : S.Idx → EReal) = Cert.ReferenceIdeal.Ref.up (fun i => (x i : EReal).toReal) := by
  have : Subsingleton S_.Idx := ⟨fun a b => funext fun i => i.elim0⟩
  funext i
  have e := IntOp.andi_eq_one.1 (Host.reduce_andi_all _ _ _ _ j h i)
  have b1 : ∀ b : Bool, BitVec.ofBool b = 1#1 → b = true := by decide
  have n1 : Ideal.ofBits .f32 0xFF800000#32 = ⊥ := by simp [Ideal.ofBits, Ideal.ieee]
  have n2 : Ideal.ofBits .f32 0x7F800000#32 = ⊤ := by simp [Ideal.ofBits, Ideal.ieee]
  have e1 : (⊥ : EReal) < x i := n1 ▸ of_decide_eq_true (b1 _ e.1)
  have e2 : (x i : EReal) < ⊤ := n2 ▸ of_decide_eq_true (b1 _ e.2)
  exact (EReal.coe_toReal e2.ne e1.ne').symm

theorem args_of (m : (ℓ : Loc nD τ sig) → Buf (Elt Ideal) ℓ) (h : Pre_KernelIdeal_finite m) (c : Dev nD) :
    ∃ q k v s ct, Cert.KernelIdeal.Blocks.Args m c q k v s ct := by
  have h0 := congrFun (h c) (fun i => i.elim0)
  unfold Cert.Pre_finite.fn Cert.Pre_finite.fn_part1 Cert.Pre_finite.fn_part2 at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨_, _, _, _, _, real_of _ _ _ _ _ e0, real_of _ _ _ _ _ e1, real_of _ _ _ _ _ e2, real_of _ _ _ _ _ e3, real_of _ _ _ _ _ e4⟩

end Cert.KernelIdeal.Real
end
-- ==== Proof.Forward.lean ====
module

public import proofs.«01_k».proof.Proof.Gen.SwigluIdeal.Value
public import proofs.«01_k».proof.Proof.Gen.SwigluRefIdeal.Read
public import Idealize.ShloMosaic.Lib.Pipeline.ValueKit

/-! The SwiGLU's forward call: its three result arrays are the reference's. -/

@[expose] public section

set_option maxRecDepth 16384
set_option maxHeartbeats 1000000
noncomputable section
open Idealize.ShloMosaic Idealize.ShloMosaic.TcCoe Idealize.SL.Sem
open Idealize.ShloMosaic.Pipeline (Dat)
namespace Cert.SwigluIdeal.Fwd
open Cert.SwigluIdeal Cert.SwigluIdeal.Gen Cert.SwigluRefIdeal.Read

variable (m : (ℓ : Loc nD τ sig) → Buf (Elt Ideal) ℓ)

theorem idx : ∀ t : Fin cfg0.N,
    win0_0.index t = ![t.val % 8, 0] ∧ win0_1.index t = ![t.val / 8, 0] ∧ win0_2.index t = ![t.val / 8, 0]
    ∧ win0_3.index t = ![t.val % 8, t.val / 8] ∧ win0_4.index t = ![t.val % 8, t.val / 8] ∧ win0_5.index t = ![t.val % 8, t.val / 8] :=
  (by decide +kernel : ∀ t : Fin grid0.N, _)

theorem gate_at (c : Dev nD) (t : Fin cfg0.N) (y) : k0_pay4 (iblk m c 0 t) (iblk m c 1 t) y
    = val_main_v2 (F := Ideal) (m ((c : Thread nD τ).loc main_arg0)) (m ((c : Thread nD τ).loc main_arg1)) (((cfg0.win 3).blk t).view.emb y) := by
  rw [val_main_v2_apply, val_main_v0_apply]
  pointwise [k0_pay4, k0_pay2, k0_pay1]
  blk_point [iblk, V, idx t]

theorem gate (c : Dev nD) : (dats m 0 c).arrAt 3 cfg0.N
    = val_main_v2 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact gate_at m c t y

theorem up_at (c : Dev nD) (t : Fin cfg0.N) (y) : k0_pay5 (iblk m c 0 t) (iblk m c 2 t) y
    = val_main_v3 (F := Ideal) (m ((c : Thread nD τ).loc main_arg0)) (m ((c : Thread nD τ).loc main_arg2)) (((cfg0.win 4).blk t).view.emb y) := by
  rw [val_main_v3_apply, val_main_v1_apply]
  pointwise [k0_pay5, k0_pay3, k0_pay1]
  blk_point [iblk, V, idx t]

theorem up (c : Dev nD) : (dats m 0 c).arrAt 4 cfg0.N
    = val_main_v3 (F := Ideal) (m ((c : Thread nD τ).loc main_arg0)) (m ((c : Thread nD τ).loc main_arg2)) := by
  refine (dats m 0 c).arrAt_eq_of_covers 4 _ (by decide +kernel) fun t _ y => ?_
  blk_simp
  rw [after0_4]; frame_out
  exact up_at m c t y

theorem act_at (c : Dev nD) (t : Fin cfg0.N) (y) : k0_pay6 (iblk m c 0 t) (iblk m c 1 t) (iblk m c 2 t) y
    = val_main_v6 (F := Ideal) (m ((c : Thread nD τ).loc main_arg0)) (m ((c : Thread nD τ).loc main_arg1)) (m ((c : Thread nD τ).loc main_arg2))
        (((cfg0.win 5).blk t).view.emb y) := by
  rw [val_main_v6_apply, val_main_v5_apply, val_main_v4_apply, val_main_call0_v5_apply, val_main_call0_v4_apply, val_main_call0_cst_0_apply,
    val_main_call0_v3_apply, val_main_call0_v2_apply, val_main_call0_cst_apply, val_main_call0_v1_apply, val_main_call0_v0_apply,
    val_main_v0_apply, val_main_v1_apply]
  pointwise [k0_pay6, k0_pay2, k0_pay3, k0_pay1]
  simp only [Ideal.logistic]
  blk_point [iblk, V, idx t]

theorem act (c : Dev nD) : (dats m 0 c).arrAt 5 cfg0.N
    = val_main_v6 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact act_at m c t y

end Cert.SwigluIdeal.Fwd
-- ==== Proof.Resid.lean ====
module

public import proofs.«01_k».proof.Proof.Gen.ResidualIdeal.Value
public import proofs.«01_k».proof.Proof.Gen.ResidualRefIdeal.Read
public import Idealize.ShloMosaic.Lib.Pipeline.ValueKit

/-! The mixer's last call: product, residual sum and the next norm are the reference's. -/

@[expose] public section

set_option maxRecDepth 16384
set_option maxHeartbeats 1000000
noncomputable section
open Idealize.ShloMosaic Idealize.ShloMosaic.TcCoe Idealize.SL.Sem
open Idealize.ShloMosaic.Pipeline (Dat)
namespace Cert.ResidualIdeal.Outs
open Cert.ResidualIdeal Cert.ResidualIdeal.Gen

variable (m : (ℓ : Loc nD τ sig) → Buf (Elt Ideal) ℓ)

open Cert.ResidualRefIdeal.Read

theorem idx : ∀ t : Fin cfg0.N,
    win0_0.index t = ![t.val, 0] ∧ win0_1.index t = ![0, 0] ∧ win0_2.index t = ![t.val, 0] ∧ win0_3.index t = ![t.val / 8, 0, 0]
    ∧ win0_4.index t = ![0, 0] ∧ win0_5.index t = ![t.val / 8, 0, 0] ∧ win0_6.index t = ![t.val / 8, 0, 0]
    ∧ win0_7.index t = ![t.val, 0] ∧ win0_8.index t = ![t.val, 0] ∧ win0_9.index t = ![t.val, 0] :=
  (by decide +kernel : ∀ t : Fin grid0.N, _)

theorem prod_at (c : Dev nD) (t : Fin cfg0.N) (y) : k0_pay1 (k0_pay2 (iblk m c 0 t) (iblk m c 1 t)) y
    = val_main_v24 (F := Ideal) (m ((c : Thread nD τ).loc main_arg0)) (m ((c : Thread nD τ).loc main_arg1)) (((cfg0.win 7).blk t).view.emb y) := by
  simp only [val_main_v24_apply, val_main_v23_apply, val_main_v0_apply]
  pointwise [k0_pay1, k0_pay2]
  blk_point [iblk, V, idx t]

theorem prod (c : Dev nD) : (dats m 0 c).arrAt 7 cfg0.N = val_main_v24 (F := Ideal) (m ((c : Thread nD τ).loc main_arg0)) (m ((c : Thread nD τ).loc main_arg1)) := by
  refine (dats m 0 c).arrAt_eq_of_covers 7 _ (by decide +kernel) fun t _ y => ?_
  blk_simp
  rw [after0_7]; frame_out
  exact prod_at m c t y

theorem resid_at (c : Dev nD) (t : Fin cfg0.N) (y) : k0_pay3 (iblk m c 0 t) (iblk m c 1 t) (iblk m c 2 t) (iblk m c 3 t) y
    = val_main_v25 (F := Ideal) (m ((c : Thread nD τ).loc main_arg0)) (m ((c : Thread nD τ).loc main_arg1)) (m ((c : Thread nD τ).loc main_arg2)) (m ((c : Thread nD τ).loc main_arg3)) (((cfg0.win 8).blk t).view.emb y) := by
  simp only [val_main_v25_apply, val_main_v3_apply, val_main_v2_apply, val_main_v1_apply, val_main_v0_apply]
  pointwise [k0_pay3, k0_pay2]
  blk_point [iblk, V, idx t]

theorem resid (c : Dev nD) : (dats m 0 c).arrAt 8 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]; frame_out
  exact resid_at m c t y

theorem normed_at (c : Dev nD) (t : Fin cfg0.N) (y) : k0_pay4 (iblk m c 0 t) (iblk m c 1 t) (iblk m c 2 t) (iblk m c 3 t) (iblk m c 4 t) (iblk m c 5 t) (iblk m c 6 t) y
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  simp only [val_main_v27_apply, val_main_v26_apply, val_main_v22_apply, val_main_v21_apply, val_main_v20_apply, val_main_v19_apply, val_main_v18_apply, val_main_v17_apply, val_main_cst_2_apply, val_main_v16_apply, val_main_v15_apply, val_main_v14_apply, val_main_v13_apply, val_main_v12_apply, val_main_v11_apply, val_main_v10_apply, val_main_v9_apply, val_main_cst_1_apply, val_main_v8_apply, val_main_v7_apply, val_main_cst_0_apply, val_main_v6_apply, val_main_v5_apply, val_main_cst_apply, val_main_v4_apply, val_main_v3_apply, val_main_v2_apply, val_main_v1_apply, val_main_v0_apply]
  pointwise [k0_pay4, k0_pay3, k0_pay2]
  blk_point [iblk, V, idx t]

theorem normed (c : Dev nD) : (dats m 0 c).arrAt 9 cfg0.N = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  exact normed_at m c t y

end Cert.ResidualIdeal.Outs
end
-- ==== Proof.Weight.lean ====
module

public import proofs.«01_k».proof.Proof.Gen.WeightGradIdeal.Value
public import proofs.«01_k».proof.Proof.Gen.DownGradRefIdeal.Read
public import proofs.«01_k».proof.Proof.Gen.GateGradRefIdeal.Read
public import Idealize.ShloMosaic.Lib.Pipeline.ValueKit

/-! The weight gradient's product, added up over blocks of rows, is the reference's. -/

@[expose] public section

set_option maxRecDepth 16384
set_option maxHeartbeats 1000000
noncomputable section
open Idealize.ShloMosaic Idealize.ShloMosaic.TcCoe Idealize.SL.Sem
open Idealize.ShloMosaic.Pipeline (Dat)
namespace Cert.WeightGradIdeal.Outs
open Cert.WeightGradIdeal Cert.WeightGradIdeal.Gen

variable (m : (ℓ : Loc nD τ sig) → Buf (Elt Ideal) ℓ)

theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- One block of rows' part of the product. -/
def part (a : FVec Ideal S2048x1408 .bf16) (b : FVec Ideal S2048x1024 .bf16) (j : S1408x1024.Idx) : EReal :=
  ∑ k : Fin 2048, (a (ix2 k (⟨(j 0).val, (j 0).isLt⟩ : Fin 1408)) : EReal) * b (ix2 k (⟨(j 1).val, (j 1).isLt⟩ : Fin 1024))

theorem zero_at (j) : k0_pay1 (F := Ideal) j = (0 : EReal) := by pointwise [k0_pay1]

theorem pay_at (acc a b j) : k0_pay2 (F := Ideal) acc a b j = (acc j : EReal) + part a b j := by
  unfold part
  pointwise [k0_pay2]

theorem reset_at (c : Dev nD) (t : Fin cfg0.N) (h : t.val % 4 = 0) (j) :
    (outsAt0 m c t.val t.isLt).2 j = (0 : EReal) + part (iblk m c 0 t) (iblk m c 1 t) j := by
  rw [outsAt0_A m c t h (by omega)]; frame_out; rw [pay_at, zero_at]

theorem step_at (c : Dev nD) (t : Fin cfg0.N) (h : ¬t.val % 4 = 0) (j) :
    (outsAt0 m c t.val t.isLt).2 j = ((outsAt0 m c (t.val - 1) (Nat.lt_of_le_of_lt (Nat.sub_le _ _) t.isLt)).2 j : EReal)
      + part (iblk m c 0 t) (iblk m c 1 t) j := by
  by_cases h1 : t.val % 4 = 3
  · rw [outsAt0_C m c t h h1]; frame_out; rw [pay_at]
    exact congrArg (· + part (iblk m c 0 t) (iblk m c 1 t) j) (congrFun (Memref.IsWhole.read_unread _ _) j)
  · rw [outsAt0_B m c t h h1]; frame_out; rw [pay_at]
    exact congrArg (· + part (iblk m c 0 t) (iblk m c 1 t) j) (congrFun (Memref.IsWhole.read_unread _ _) j)

theorem last_at (c : Dev nD) (t : Fin cfg0.N) (h : t.val % 4 = 4 - 1) (j) :
    (outsAt0 m c t.val t.isLt).1 j = ((outsAt0 m c t.val t.isLt).2 j : EReal) := by
  rw [outsAt0_C m c t (by omega) h]; frame_out
  pointwise [k0_pay3]

/-- At a run's last point the accumulator is the sum of its four blocks of rows. -/
theorem acc_at (c : Dev nD) (t : Fin cfg0.N) (ht : t.val % 4 = 4 - 1) (j : S1408x1024.Idx) :
    (show EReal from (outsAt0 m c t.val t.isLt).2 j)
    = (0 : EReal) + ∑ x : Fin 4, part (iblk m c 0 ⟨4 * (t.val / 4) + x.val, Pipeline.run_point_lt_of_flush t ht x⟩)
        (iblk m c 1 ⟨4 * (t.val / 4) + x.val, Pipeline.run_point_lt_of_flush t ht x⟩) j :=
  Pipeline.eq_sum_fin_of_reset_step_apply_of_flush (M := EReal) (fun n h => (outsAt0 m c n h).2) 4 (fun _ => (0 : EReal))
    (fun t j => part (iblk m c 0 t) (iblk m c 1 t) j) (fun t h j => reset_at m c t h j) (fun t h j => step_at m c t h j) t ht j

/-- The whole product, over all the rows. -/
def whole (a : FVec Ideal S8192x2816 .f32) (b : FVec Ideal S8192x1024 .f32) (i : S2816x1024.Idx) : EReal :=
  ∑ l : Fin 8192, (a (ix2 l (⟨(i 0).val, (i 0).isLt⟩ : Fin 2816)) : EReal) * b (ix2 l (⟨(i 1).val, (i 1).isLt⟩ : Fin 1024))

theorem prod (c : Dev nD) (f : S2816x1024.Idx → EReal)
    (hf : ∀ i, f i = whole (m ((c : Thread nD τ).loc main_arg0)) (m ((c : Thread nD τ).loc main_arg1)) i) :
    (dats m 0 c).arrAt 2 cfg0.N = f := by
  refine (dats m 0 c).arrAt_eq_of_covers 2 _ (by decide +kernel) fun t hf' y => ?_
  blk_simp
  rw [after0_2]
  refine (last_at m c t ((flush0_2 t).mp hf') y).trans ((acc_at m c t ((flush0_2 t).mp hf') y).trans ?_)
  rw [zero_add, hf]
  unfold part whole
  refine Fin.sum_mul_add_congr fun s k hl => ?_
  blk_point [iblk, V, idx t, idx ⟨_, Pipeline.run_point_lt_of_flush t ((flush0_2 t).mp hf') s⟩]

/-- The gradient of w_down. -/
theorem down (c : Dev nD) : (dats m 0 c).arrAt 2 cfg0.N
    = Cert.DownGradRefIdeal.Read.val_main_v4 (F := Ideal) (m ((c : Thread nD τ).loc main_arg0)) (m ((c : Thread nD τ).loc main_arg1)) := by
  refine prod m c _ fun i => ?_
  simp only [Cert.DownGradRefIdeal.Read.val_main_v4_apply, Cert.DownGradRefIdeal.Read.val_main_v3_apply, Cert.DownGradRefIdeal.Read.val_main_v2_apply]
  unfold whole
  pointwise
  refine Fin.sum_fin_congr fun l => (mul_comm (_ : EReal) _).trans ?_
  blk_point

/-- The gradient of w_gate, and of w_up. -/
theorem gate (c : Dev nD) : (dats m 0 c).arrAt 2 cfg0.N
    = Cert.GateGradRefIdeal.Read.val_main_v5 (F := Ideal) (m ((c : Thread nD τ).loc main_arg0)) (m ((c : Thread nD τ).loc main_arg1)) := by
  refine prod m c _ fun i => ?_
  simp only [Cert.GateGradRefIdeal.Read.val_main_v5_apply, Cert.GateGradRefIdeal.Read.val_main_v4_apply, Cert.GateGradRefIdeal.Read.val_main_v3_apply, Cert.GateGradRefIdeal.Read.val_main_v2_apply]
  unfold whole
  pointwise
  blk_point

end Cert.WeightGradIdeal.Outs
end
-- ==== Proof.OutW.lean ====
module

public import proofs.«01_k».proof.Proof.Gen.OutGradIdeal.Value
public import proofs.«01_k».proof.Proof.Gen.OutGradRefIdeal.Read
public import proofs.«01_k».proof.Proof.Gen.ThirdGradRefIdeal.Read
public import Idealize.ShloMosaic.Lib.Pipeline.ValueKit

/-! The gradient of the attention's output weight, its product, added up over blocks of rows, is the reference's. -/

@[expose] public section

set_option maxRecDepth 16384
set_option maxHeartbeats 1000000
noncomputable section
open Idealize.ShloMosaic Idealize.ShloMosaic.TcCoe Idealize.SL.Sem
open Idealize.ShloMosaic.Pipeline (Dat)
namespace Cert.OutGradIdeal.Outs
open Cert.OutGradIdeal Cert.OutGradIdeal.Gen

variable (m : (ℓ : Loc nD τ sig) → Buf (Elt Ideal) ℓ)

theorem idx : ∀ t : Fin cfg0.N,
    win0_0.index t = ![t.val % 4, 0] ∧ win0_1.index t = ![t.val % 4, 0] ∧ win0_2.index t = ![0, 0] :=
  (by decide +kernel : ∀ t : Fin grid0.N, _)

/-- One block of rows' part of the product. -/
def part (a : FVec Ideal S2048x1024 .bf16) (b : FVec Ideal S2048x1024 .bf16) (j : S1024x1024.Idx) : EReal :=
  ∑ k : Fin 2048, (a (ix2 k (⟨(j 0).val, (j 0).isLt⟩ : Fin 1024)) : EReal) * b (ix2 k (⟨(j 1).val, (j 1).isLt⟩ : Fin 1024))

theorem zero_at (j) : k0_pay1 (F := Ideal) j = (0 : EReal) := by pointwise [k0_pay1]

theorem pay_at (acc a b j) : k0_pay2 (F := Ideal) acc a b j = (acc j : EReal) + part a b j := by
  unfold part
  pointwise [k0_pay2]

theorem reset_at (c : Dev nD) (t : Fin cfg0.N) (h : t.val % 4 = 0) (j) :
    (outsAt0 m c t.val t.isLt).2 j = (0 : EReal) + part (iblk m c 0 t) (iblk m c 1 t) j := by
  rw [outsAt0_A m c t h (by omega)]; frame_out; rw [pay_at, zero_at]

theorem step_at (c : Dev nD) (t : Fin cfg0.N) (h : ¬t.val % 4 = 0) (j) :
    (outsAt0 m c t.val t.isLt).2 j = ((outsAt0 m c (t.val - 1) (Nat.lt_of_le_of_lt (Nat.sub_le _ _) t.isLt)).2 j : EReal)
      + part (iblk m c 0 t) (iblk m c 1 t) j := by
  by_cases h1 : t.val % 4 = 3
  · rw [outsAt0_C m c t h h1]; frame_out; rw [pay_at]
    exact congrArg (· + part (iblk m c 0 t) (iblk m c 1 t) j) (congrFun (Memref.IsWhole.read_unread _ _) j)
  · rw [outsAt0_B m c t h h1]; frame_out; rw [pay_at]
    exact congrArg (· + part (iblk m c 0 t) (iblk m c 1 t) j) (congrFun (Memref.IsWhole.read_unread _ _) j)

theorem last_at (c : Dev nD) (t : Fin cfg0.N) (h : t.val % 4 = 4 - 1) (j) :
    (outsAt0 m c t.val t.isLt).1 j = ((outsAt0 m c t.val t.isLt).2 j : EReal) := by
  rw [outsAt0_C m c t (by omega) h]; frame_out
  pointwise [k0_pay3]

/-- At a run's last point the accumulator is the sum of its four blocks of rows. -/
theorem acc_at (c : Dev nD) (t : Fin cfg0.N) (ht : t.val % 4 = 4 - 1) (j : S1024x1024.Idx) :
    (show EReal from (outsAt0 m c t.val t.isLt).2 j)
    = (0 : EReal) + ∑ x : Fin 4, part (iblk m c 0 ⟨4 * (t.val / 4) + x.val, Pipeline.run_point_lt_of_flush t ht x⟩)
        (iblk m c 1 ⟨4 * (t.val / 4) + x.val, Pipeline.run_point_lt_of_flush t ht x⟩) j :=
  Pipeline.eq_sum_fin_of_reset_step_apply_of_flush (M := EReal) (fun n h => (outsAt0 m c n h).2) 4 (fun _ => (0 : EReal))
    (fun t j => part (iblk m c 0 t) (iblk m c 1 t) j) (fun t h j => reset_at m c t h j) (fun t h j => step_at m c t h j) t ht j

/-- The whole product, over all the rows. -/
def whole (a : FVec Ideal S8192x1024 .f32) (b : FVec Ideal S8192x1024 .f32) (i : S1024x1024.Idx) : EReal :=
  ∑ l : Fin 8192, (a (ix2 l (⟨(i 0).val, (i 0).isLt⟩ : Fin 1024)) : EReal) * b (ix2 l (⟨(i 1).val, (i 1).isLt⟩ : Fin 1024))

theorem prod (c : Dev nD) (f : S1024x1024.Idx → EReal)
    (hf : ∀ i, f i = whole (m ((c : Thread nD τ).loc main_arg0)) (m ((c : Thread nD τ).loc main_arg1)) i) :
    (dats m 0 c).arrAt 2 cfg0.N = f := by
  refine (dats m 0 c).arrAt_eq_of_covers 2 _ (by decide +kernel) fun t hf' y => ?_
  blk_simp
  rw [after0_2]
  refine (last_at m c t ((flush0_2 t).mp hf') y).trans ((acc_at m c t ((flush0_2 t).mp hf') y).trans ?_)
  rw [zero_add, hf]
  unfold part whole
  refine Fin.sum_mul_add_congr fun s k hl => ?_
  blk_point [iblk, V, idx t, idx ⟨_, Pipeline.run_point_lt_of_flush t ((flush0_2 t).mp hf') s⟩]

/-- The gradient of wo. -/
theorem wo (c : Dev nD) : (dats m 0 c).arrAt 2 cfg0.N
    = Cert.OutGradRefIdeal.Read.val_main_v4 (F := Ideal) (m ((c : Thread nD τ).loc main_arg0)) (m ((c : Thread nD τ).loc main_arg1)) := by
  refine prod m c _ fun i => ?_
  simp only [Cert.OutGradRefIdeal.Read.val_main_v4_apply, Cert.OutGradRefIdeal.Read.val_main_v3_apply, Cert.OutGradRefIdeal.Read.val_main_v2_apply]
  unfold whole
  pointwise
  refine Fin.sum_fin_congr fun l => (mul_comm (_ : EReal) _).trans ?_
  blk_point

/-- The gradient of a third of the stick-breaking layers' wqkv. -/
theorem third (c : Dev nD) : (dats m 0 c).arrAt 2 cfg0.N
    = Cert.ThirdGradRefIdeal.Read.val_main_v5 (F := Ideal) (m ((c : Thread nD τ).loc main_arg0)) (m ((c : Thread nD τ).loc main_arg1)) := by
  refine prod m c _ fun i => ?_
  simp only [Cert.ThirdGradRefIdeal.Read.val_main_v5_apply, Cert.ThirdGradRefIdeal.Read.val_main_v4_apply, Cert.ThirdGradRefIdeal.Read.val_main_v3_apply, Cert.ThirdGradRefIdeal.Read.val_main_v2_apply]
  unfold whole
  pointwise
  blk_point

end Cert.OutGradIdeal.Outs
end
-- ==== Proof.QkvW.lean ====
module

public import proofs.«01_k».proof.Proof.Gen.QkvGradIdeal.Value
public import proofs.«01_k».proof.Proof.Gen.QkvGradRefIdeal.Read
public import Idealize.ShloMosaic.Lib.Pipeline.ValueKit

/-! The gradient of the sliding-window layers' wqkv, its product, added up over blocks of rows, is the reference's. -/

@[expose] public section

set_option maxRecDepth 16384
set_option maxHeartbeats 1000000
noncomputable section
open Idealize.ShloMosaic Idealize.ShloMosaic.TcCoe Idealize.SL.Sem
open Idealize.ShloMosaic.Pipeline (Dat)
namespace Cert.QkvGradIdeal.Outs
open Cert.QkvGradIdeal Cert.QkvGradIdeal.Gen

variable (m : (ℓ : Loc nD τ sig) → Buf (Elt Ideal) ℓ)

theorem idx : ∀ t : Fin cfg0.N,
    win0_0.index t = ![t.val % 4, 0] ∧ win0_1.index t = ![t.val % 4, 0] ∧ win0_2.index t = ![0, 0] :=
  (by decide +kernel : ∀ t : Fin grid0.N, _)

/-- One block of rows' part of the product. -/
def part (a : FVec Ideal S2048x1280 .bf16) (b : FVec Ideal S2048x1024 .bf16) (j : S1280x1024.Idx) : EReal :=
  ∑ k : Fin 2048, (a (ix2 k (⟨(j 0).val, (j 0).isLt⟩ : Fin 1280)) : EReal) * b (ix2 k (⟨(j 1).val, (j 1).isLt⟩ : Fin 1024))

theorem zero_at (j) : k0_pay1 (F := Ideal) j = (0 : EReal) := by pointwise [k0_pay1]

theorem pay_at (acc a b j) : k0_pay2 (F := Ideal) acc a b j = (acc j : EReal) + part a b j := by
  unfold part
  pointwise [k0_pay2]

theorem reset_at (c : Dev nD) (t : Fin cfg0.N) (h : t.val % 4 = 0) (j) :
    (outsAt0 m c t.val t.isLt).2 j = (0 : EReal) + part (iblk m c 0 t) (iblk m c 1 t) j := by
  rw [outsAt0_A m c t h (by omega)]; frame_out; rw [pay_at, zero_at]

theorem step_at (c : Dev nD) (t : Fin cfg0.N) (h : ¬t.val % 4 = 0) (j) :
    (outsAt0 m c t.val t.isLt).2 j = ((outsAt0 m c (t.val - 1) (Nat.lt_of_le_of_lt (Nat.sub_le _ _) t.isLt)).2 j : EReal)
      + part (iblk m c 0 t) (iblk m c 1 t) j := by
  by_cases h1 : t.val % 4 = 3
  · rw [outsAt0_C m c t h h1]; frame_out; rw [pay_at]
    exact congrArg (· + part (iblk m c 0 t) (iblk m c 1 t) j) (congrFun (Memref.IsWhole.read_unread _ _) j)
  · rw [outsAt0_B m c t h h1]; frame_out; rw [pay_at]
    exact congrArg (· + part (iblk m c 0 t) (iblk m c 1 t) j) (congrFun (Memref.IsWhole.read_unread _ _) j)

theorem last_at (c : Dev nD) (t : Fin cfg0.N) (h : t.val % 4 = 4 - 1) (j) :
    (outsAt0 m c t.val t.isLt).1 j = ((outsAt0 m c t.val t.isLt).2 j : EReal) := by
  rw [outsAt0_C m c t (by omega) h]; frame_out
  pointwise [k0_pay3]

/-- At a run's last point the accumulator is the sum of its four blocks of rows. -/
theorem acc_at (c : Dev nD) (t : Fin cfg0.N) (ht : t.val % 4 = 4 - 1) (j : S1280x1024.Idx) :
    (show EReal from (outsAt0 m c t.val t.isLt).2 j)
    = (0 : EReal) + ∑ x : Fin 4, part (iblk m c 0 ⟨4 * (t.val / 4) + x.val, Pipeline.run_point_lt_of_flush t ht x⟩)
        (iblk m c 1 ⟨4 * (t.val / 4) + x.val, Pipeline.run_point_lt_of_flush t ht x⟩) j :=
  Pipeline.eq_sum_fin_of_reset_step_apply_of_flush (M := EReal) (fun n h => (outsAt0 m c n h).2) 4 (fun _ => (0 : EReal))
    (fun t j => part (iblk m c 0 t) (iblk m c 1 t) j) (fun t h j => reset_at m c t h j) (fun t h j => step_at m c t h j) t ht j

/-- The whole product, over all the rows. -/
def whole (a : FVec Ideal S8192x1280 .f32) (b : FVec Ideal S8192x1024 .f32) (i : S1280x1024.Idx) : EReal :=
  ∑ l : Fin 8192, (a (ix2 l (⟨(i 0).val, (i 0).isLt⟩ : Fin 1280)) : EReal) * b (ix2 l (⟨(i 1).val, (i 1).isLt⟩ : Fin 1024))

theorem prod (c : Dev nD) (f : S1280x1024.Idx → EReal)
    (hf : ∀ i, f i = whole (m ((c : Thread nD τ).loc main_arg0)) (m ((c : Thread nD τ).loc main_arg1)) i) :
    (dats m 0 c).arrAt 2 cfg0.N = f := by
  refine (dats m 0 c).arrAt_eq_of_covers 2 _ (by decide +kernel) fun t hf' y => ?_
  blk_simp
  rw [after0_2]
  refine (last_at m c t ((flush0_2 t).mp hf') y).trans ((acc_at m c t ((flush0_2 t).mp hf') y).trans ?_)
  rw [zero_add, hf]
  unfold part whole
  refine Fin.sum_mul_add_congr fun s k hl => ?_
  blk_point [iblk, V, idx t, idx ⟨_, Pipeline.run_point_lt_of_flush t ((flush0_2 t).mp hf') s⟩]

/-- The gradient of wqkv. -/
theorem wqkv (c : Dev nD) : (dats m 0 c).arrAt 2 cfg0.N
    = Cert.QkvGradRefIdeal.Read.val_main_v5 (F := Ideal) (m ((c : Thread nD τ).loc main_arg0)) (m ((c : Thread nD τ).loc main_arg1)) := by
  refine prod m c _ fun i => ?_
  simp only [Cert.QkvGradRefIdeal.Read.val_main_v5_apply, Cert.QkvGradRefIdeal.Read.val_main_v4_apply, Cert.QkvGradRefIdeal.Read.val_main_v3_apply, Cert.QkvGradRefIdeal.Read.val_main_v2_apply]
  unfold whole
  pointwise
  blk_point

end Cert.QkvGradIdeal.Outs
end
-- ==== Proof.SwigluGrads.lean ====
module

public import proofs.«01_k».proof.Proof.Gen.SwigluGradIdeal.Value
public import proofs.«01_k».proof.Proof.Gen.SwigluGradRefIdeal.Read
public import proofs.«01_k».proof.Proof.Row
public import Idealize.ShloMosaic.Lib.Pipeline.ValueKit

/-! The SwiGLU's backward call: for real arguments its two result arrays are the reference's. -/

@[expose] public section

set_option maxRecDepth 16384
set_option maxHeartbeats 1000000
noncomputable section
open Idealize.ShloMosaic Idealize.ShloMosaic.TcCoe Idealize.SL.Sem
open Idealize.ShloMosaic.Pipeline (Dat)
namespace Cert.SwigluGradIdeal.Outs
open Cert.SwigluGradIdeal Cert.SwigluGradIdeal.Gen

variable (m : (ℓ : Loc nD τ sig) → Buf (Elt Ideal) ℓ)

open Cert.SwigluGradRefIdeal.Read

theorem idx : ∀ t : Fin cfg0.N,
    win0_0.index t = ![t.val % 8, 0] ∧ win0_1.index t = ![t.val / 8, 0] ∧ win0_2.index t = ![t.val % 8, t.val / 8]
    ∧ win0_3.index t = ![t.val % 8, t.val / 8] ∧ win0_4.index t = ![t.val % 8, t.val / 8] ∧ win0_5.index t = ![t.val % 8, t.val / 8] :=
  (by decide +kernel : ∀ t : Fin grid0.N, _)

theorem du_at (c : Dev nD) (t : Fin cfg0.N) (y) : k0_pay4 (iblk m c 0 t) (iblk m c 1 t) (iblk m c 2 t) y
    = val_main_v8 (F := Ideal) (m ((c : Thread nD τ).loc main_arg0)) (m ((c : Thread nD τ).loc main_arg1)) (m ((c : Thread nD τ).loc main_arg2)) (((cfg0.win 5).blk t).view.emb y) := by
  simp only [val_main_v8_apply, val_main_v4_apply, val_main_v3_apply, val_main_v0_0_apply, val_main_v0_2_apply, val_main_call0_v4_apply, val_main_call0_cst_0_apply, val_main_call0_v3_apply, val_main_call0_v2_apply, val_main_call0_cst_apply, val_main_call0_v1_apply, val_main_call0_v0_apply]
  pointwise [k0_pay4, k0_pay3, k0_pay2, k0_pay1]
  simp only [Ideal.logistic]
  rw [mul_assoc, mul_comm (_ : EReal) (_ * _ : EReal), mul_comm (Ideal.div _ _)]
  blk_point [iblk, V, idx t]

theorem du (c : Dev nD) : (dats m 0 c).arrAt 5 cfg0.N = val_main_v8 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact du_at m c t y

/-- The gate's gradient, for real numbers: the version's form is the derivative's. -/
theorem form (d g u : ℝ) :
    ((d : EReal) * u) * Ideal.logistic g + ((g : EReal) * ((d : EReal) * u)) * (Ideal.logistic g * (1 - Ideal.logistic g))
      = (((d : EReal) * Ideal.logistic g) * u) * (1 + (g : EReal) * (1 - Ideal.logistic g)) := by
  rw [Ideal.logistic_coe]
  generalize (1 + Real.exp (-g))⁻¹ = s
  norm_cast
  ring

theorem da_real {x0 x1} (h0 : ∃ p : _ → ℝ, x0 = fun i => (p i : EReal)) (h1 : ∃ p : _ → ℝ, x1 = fun i => (p i : EReal)) (i) :
    ∃ d : ℝ, val_main_v3 (F := Ideal) x0 x1 i = (d : EReal) := by
  obtain ⟨p, rfl⟩ := h0
  obtain ⟨q, rfl⟩ := h1
  rw [val_main_v3_apply]
  refine ⟨∑ k : Fin 1024, p (lidx_main_v3 i k) * q (ridx_main_v3 i k), ?_⟩
  rw [Cert.Swa.coe_sum]
  exact Finset.sum_congr rfl fun k _ => (EReal.coe_mul _ _).symm

/-- The reference's gradient of the gate in the version's form. -/
theorem ref_at {x0 x1 x2 x3} (h0 : ∃ p : _ → ℝ, x0 = fun i => (p i : EReal)) (h1 : ∃ p : _ → ℝ, x1 = fun i => (p i : EReal))
    (h2 : ∃ p : _ → ℝ, x2 = fun i => (p i : EReal)) (h3 : ∃ p : _ → ℝ, x3 = fun i => (p i : EReal)) (i) :
    val_main_v7 (F := Ideal) x0 x1 x2 x3 i
      = (((show EReal from val_main_v3 (F := Ideal) x0 x1 i) * Ideal.logistic (x2 i)) * x3 i) * (1 + (x2 i : EReal) * (1 - Ideal.logistic (x2 i))) := by
  obtain ⟨d, hd⟩ := da_real h0 h1 i
  obtain ⟨g, rfl⟩ := h2
  obtain ⟨u, rfl⟩ := h3
  simp only [val_main_v7_apply, val_main_v6_apply, val_main_call1_v2_apply, val_main_call1_v1_apply, val_main_call1_v0_apply, val_main_v5_apply,
    val_main_v0_1_apply, val_main_call0_v7_apply, val_main_call0_v6_apply, val_main_call0_cst_1_apply, val_main_v0_2_apply, val_main_call0_v4_apply, val_main_call0_cst_0_apply, val_main_call0_v3_apply, val_main_call0_v2_apply, val_main_call0_cst_apply, val_main_call0_v1_apply, val_main_call0_v0_apply, hd]
  pointwise
  exact form d (g i) (u i)

theorem dg_at (c : Dev nD) (h0 : ∃ p : _ → ℝ, (m ((c : Thread nD τ).loc main_arg0)) = fun i => (p i : EReal)) (h1 : ∃ p : _ → ℝ, (m ((c : Thread nD τ).loc main_arg1)) = fun i => (p i : EReal))
    (h2 : ∃ p : _ → ℝ, (m ((c : Thread nD τ).loc main_arg2)) = fun i => (p i : EReal)) (h3 : ∃ p : _ → ℝ, (m ((c : Thread nD τ).loc main_arg3)) = fun i => (p i : EReal))
    (t : Fin cfg0.N) (y) : k0_pay5 (iblk m c 0 t) (iblk m c 1 t) (iblk m c 2 t) (iblk m c 3 t) y
    = val_main_v7 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  rw [ref_at h0 h1 h2 h3, val_main_v3_apply]
  pointwise [k0_pay5, k0_pay3, k0_pay2, k0_pay1]
  blk_point [iblk, V, idx t]

theorem dg (c : Dev nD) (h0 : ∃ p : _ → ℝ, (m ((c : Thread nD τ).loc main_arg0)) = fun i => (p i : EReal)) (h1 : ∃ p : _ → ℝ, (m ((c : Thread nD τ).loc main_arg1)) = fun i => (p i : EReal))
    (h2 : ∃ p : _ → ℝ, (m ((c : Thread nD τ).loc main_arg2)) = fun i => (p i : EReal)) (h3 : ∃ p : _ → ℝ, (m ((c : Thread nD τ).loc main_arg3)) = fun i => (p i : EReal)) :
    (dats m 0 c).arrAt 4 cfg0.N = val_main_v7 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact dg_at m c h0 h1 h2 h3 t y

end Cert.SwigluGradIdeal.Outs
end
-- ==== Proof.Mixer.lean ====
module

public import proofs.«01_k».proof.Defs
public import proofs.«01_k».proof.Proof.Forward
public import proofs.«01_k».proof.Proof.Resid
public import proofs.«01_k».proof.Proof.Weight
public import proofs.«01_k».proof.Proof.OutW
public import proofs.«01_k».proof.Proof.QkvW
public import proofs.«01_k».proof.Proof.SwigluGrads
public import proofs.«01_k».proof.Proof.Real
public import proofs.«01_k».proof.Proof.Gen.DownGradRefIdeal.Run
public import proofs.«01_k».proof.Proof.Gen.DownGradRefIdeal.Read
public import proofs.«01_k».proof.Proof.Gen.GateGradRefIdeal.Run
public import proofs.«01_k».proof.Proof.Gen.GateGradRefIdeal.Read
public import proofs.«01_k».proof.Proof.Gen.OutGradRefIdeal.Run
public import proofs.«01_k».proof.Proof.Gen.OutGradRefIdeal.Read
public import proofs.«01_k».proof.Proof.Gen.ThirdGradRefIdeal.Run
public import proofs.«01_k».proof.Proof.Gen.ThirdGradRefIdeal.Read
public import proofs.«01_k».proof.Proof.Gen.QkvGradRefIdeal.Run
public import proofs.«01_k».proof.Proof.Gen.QkvGradRefIdeal.Read
public import proofs.«01_k».proof.Proof.Gen.OutGradIdeal.Frame
public import proofs.«01_k».proof.Proof.Gen.OutGradIdeal.Value
public import proofs.«01_k».proof.Proof.Gen.QkvGradIdeal.Frame
public import proofs.«01_k».proof.Proof.Gen.QkvGradIdeal.Value
public import proofs.«01_k».proof.Proof.Gen.SwigluGradRefIdeal.Run
public import proofs.«01_k».proof.Proof.Gen.SwigluGradRefIdeal.Read
public import proofs.«01_k».proof.Proof.Gen.SwigluRefIdeal.Run
public import proofs.«01_k».proof.Proof.Gen.SwigluRefIdeal.Read
public import proofs.«01_k».proof.Proof.Gen.ResidualRefIdeal.Run
public import proofs.«01_k».proof.Proof.Gen.ResidualRefIdeal.Read
public import proofs.«01_k».proof.Proof.Gen.Pre_finite_swiglu
public import proofs.«01_k».proof.Proof.Gen.WeightGradIdeal.Frame
public import proofs.«01_k».proof.Proof.Gen.WeightGradIdeal.Value
public import proofs.«01_k».proof.Proof.Gen.SwigluGradIdeal.Frame
public import proofs.«01_k».proof.Proof.Gen.SwigluGradIdeal.Value
public import proofs.«01_k».proof.Proof.Gen.SwigluIdeal.Frame
public import proofs.«01_k».proof.Proof.Gen.SwigluIdeal.Value
public import proofs.«01_k».proof.Proof.Gen.ResidualIdeal.Frame
public import proofs.«01_k».proof.Proof.Gen.ResidualIdeal.Value
public import Idealize.ShloMosaic.Lib.Quiescent

/-! The mixer's calls against their references, and the references' runs. -/

@[expose] public section

set_option maxRecDepth 16384
noncomputable section
namespace Cert.Proof.Mixer
open Idealize.ShloMosaic Idealize.ShloMosaic.TcCoe Idealize.SL.Sem

theorem frame_DownGradRef : Cert.quiescent_DownGradRefIdeal := fun m g _ =>
  (θ_run Cert.DownGradRefIdeal.defs _ _).mono (fun r h => ⟨fun c => (h c).2, sem_eq_zero_of_no_sems (by decide) r.2⟩)
    (Cert.DownGradRefIdeal.Value.run (F := Ideal) m g)

theorem frame_GateGradRef : Cert.quiescent_GateGradRefIdeal := fun m g _ =>
  (θ_run Cert.GateGradRefIdeal.defs _ _).mono (fun r h => ⟨fun c => (h c).2, sem_eq_zero_of_no_sems (by decide) r.2⟩)
    (Cert.GateGradRefIdeal.Value.run (F := Ideal) m g)

theorem frame_OutGradRef : Cert.quiescent_OutGradRefIdeal := fun m g _ =>
  (θ_run Cert.OutGradRefIdeal.defs _ _).mono (fun r h => ⟨fun c => (h c).2, sem_eq_zero_of_no_sems (by decide) r.2⟩)
    (Cert.OutGradRefIdeal.Value.run (F := Ideal) m g)

theorem frame_ThirdGradRef : Cert.quiescent_ThirdGradRefIdeal := fun m g _ =>
  (θ_run Cert.ThirdGradRefIdeal.defs _ _).mono (fun r h => ⟨fun c => (h c).2, sem_eq_zero_of_no_sems (by decide) r.2⟩)
    (Cert.ThirdGradRefIdeal.Value.run (F := Ideal) m g)

theorem frame_QkvGradRef : Cert.quiescent_QkvGradRefIdeal := fun m g _ =>
  (θ_run Cert.QkvGradRefIdeal.defs _ _).mono (fun r h => ⟨fun c => (h c).2, sem_eq_zero_of_no_sems (by decide) r.2⟩)
    (Cert.QkvGradRefIdeal.Value.run (F := Ideal) m g)

theorem frame_SwigluGradRef : Cert.quiescent_SwigluGradRefIdeal := fun m g _ =>
  (θ_run Cert.SwigluGradRefIdeal.defs _ _).mono (fun r h => ⟨fun c => (h c).2.2, sem_eq_zero_of_no_sems (by decide) r.2⟩)
    (Cert.SwigluGradRefIdeal.Value.run (F := Ideal) m g)

theorem frame_SwigluRef : Cert.quiescent_SwigluRefIdeal := fun m g _ =>
  (θ_run Cert.SwigluRefIdeal.defs _ _).mono (fun r h => ⟨fun c => (h c).2.2.2, sem_eq_zero_of_no_sems (by decide) r.2⟩)
    (Cert.SwigluRefIdeal.Value.run (F := Ideal) m g)

theorem frame_ResidualRef : Cert.quiescent_ResidualRefIdeal := fun m g _ =>
  (θ_run Cert.ResidualRefIdeal.defs _ _).mono (fun r h => ⟨fun c => (h c).2.2.2, sem_eq_zero_of_no_sems (by decide) r.2⟩)
    (Cert.ResidualRefIdeal.Value.run (F := Ideal) m g)

theorem algebraic_WeightGradIdeal_DownGradRefIdeal : Cert.algebraic_WeightGradIdeal_DownGradRefIdeal := by
  intro m g m' g' hp hagree
  refine ⟨_, Cert.WeightGradIdeal.Value.run_blocks m g, ?_⟩
  refine (θ_run Cert.DownGradRefIdeal.defs _ _).mono (fun r h c => ?_) (Cert.DownGradRefIdeal.Value.run (F := Ideal) m' g')
  obtain ⟨a0, a1⟩ := hagree c
  obtain ⟨h0, hk⟩ := h c
  rw [Cert.DownGradRefIdeal.Read.val_main_v4_eq, a0, a1] at h0
  exact ⟨h0.trans (Cert.WeightGradIdeal.Outs.down m c).symm, hk⟩

theorem algebraic_WeightGradIdeal_GateGradRefIdeal : Cert.algebraic_WeightGradIdeal_GateGradRefIdeal := by
  intro m g m' g' hp hagree
  refine ⟨_, Cert.WeightGradIdeal.Value.run_blocks m g, ?_⟩
  refine (θ_run Cert.GateGradRefIdeal.defs _ _).mono (fun r h c => ?_) (Cert.GateGradRefIdeal.Value.run (F := Ideal) m' g')
  obtain ⟨a0, a1⟩ := hagree c
  obtain ⟨h0, hk⟩ := h c
  rw [Cert.GateGradRefIdeal.Read.val_main_v5_eq, a0, a1] at h0
  exact ⟨h0.trans (Cert.WeightGradIdeal.Outs.gate m c).symm, hk⟩

theorem algebraic_OutGradIdeal_OutGradRefIdeal : Cert.algebraic_OutGradIdeal_OutGradRefIdeal := by
  intro m g m' g' hp hagree
  refine ⟨_, Cert.OutGradIdeal.Value.run_blocks m g, ?_⟩
  refine (θ_run Cert.OutGradRefIdeal.defs _ _).mono (fun r h c => ?_) (Cert.OutGradRefIdeal.Value.run (F := Ideal) m' g')
  obtain ⟨a0, a1⟩ := hagree c
  obtain ⟨h0, hk⟩ := h c
  rw [Cert.OutGradRefIdeal.Read.val_main_v4_eq, a0, a1] at h0
  exact ⟨h0.trans (Cert.OutGradIdeal.Outs.wo m c).symm, hk⟩

theorem algebraic_OutGradIdeal_ThirdGradRefIdeal : Cert.algebraic_OutGradIdeal_ThirdGradRefIdeal := by
  intro m g m' g' hp hagree
  refine ⟨_, Cert.OutGradIdeal.Value.run_blocks m g, ?_⟩
  refine (θ_run Cert.ThirdGradRefIdeal.defs _ _).mono (fun r h c => ?_) (Cert.ThirdGradRefIdeal.Value.run (F := Ideal) m' g')
  obtain ⟨a0, a1⟩ := hagree c
  obtain ⟨h0, hk⟩ := h c
  rw [Cert.ThirdGradRefIdeal.Read.val_main_v5_eq, a0, a1] at h0
  exact ⟨h0.trans (Cert.OutGradIdeal.Outs.third m c).symm, hk⟩

theorem algebraic_QkvGradIdeal_QkvGradRefIdeal : Cert.algebraic_QkvGradIdeal_QkvGradRefIdeal := by
  intro m g m' g' hp hagree
  refine ⟨_, Cert.QkvGradIdeal.Value.run_blocks m g, ?_⟩
  refine (θ_run Cert.QkvGradRefIdeal.defs _ _).mono (fun r h c => ?_) (Cert.QkvGradRefIdeal.Value.run (F := Ideal) m' g')
  obtain ⟨a0, a1⟩ := hagree c
  obtain ⟨h0, hk⟩ := h c
  rw [Cert.QkvGradRefIdeal.Read.val_main_v5_eq, a0, a1] at h0
  exact ⟨h0.trans (Cert.QkvGradIdeal.Outs.wqkv m c).symm, hk⟩

/-- Finite arguments of the SwiGLU's backward call are real. -/
theorem args_swiglu (m : (ℓ : Loc Cert.SwigluGradIdeal.nD Cert.SwigluGradIdeal.τ Cert.SwigluGradIdeal.sig) → Buf (Elt Ideal) ℓ) (h : Cert.Pre_SwigluGradIdeal_finite_swiglu m) (c : Dev Cert.SwigluGradIdeal.nD) :
    (∃ p : _ → ℝ, m ((c.tc : Thread Cert.SwigluGradIdeal.nD Cert.SwigluGradIdeal.τ).loc Cert.SwigluGradIdeal.main_arg0) = fun i => (p i : EReal))
    ∧ (∃ p : _ → ℝ, m ((c.tc : Thread Cert.SwigluGradIdeal.nD Cert.SwigluGradIdeal.τ).loc Cert.SwigluGradIdeal.main_arg1) = fun i => (p i : EReal))
    ∧ (∃ p : _ → ℝ, m ((c.tc : Thread Cert.SwigluGradIdeal.nD Cert.SwigluGradIdeal.τ).loc Cert.SwigluGradIdeal.main_arg2) = fun i => (p i : EReal))
    ∧ (∃ p : _ → ℝ, m ((c.tc : Thread Cert.SwigluGradIdeal.nD Cert.SwigluGradIdeal.τ).loc Cert.SwigluGradIdeal.main_arg3) = fun i => (p i : EReal)) := by
  have h0 := congrFun (h c) (fun i => i.elim0)
  unfold Cert.Pre_finite_swiglu.fn Cert.Pre_finite_swiglu.fn_part1 at h0
  obtain ⟨h0, e3⟩ := IntOp.andi_eq_one.1 h0
  obtain ⟨h0, e2⟩ := IntOp.andi_eq_one.1 h0
  obtain ⟨e0, e1⟩ := IntOp.andi_eq_one.1 h0
  exact ⟨⟨_, Cert.KernelIdeal.Real.real_of _ _ _ _ _ e0⟩, ⟨_, Cert.KernelIdeal.Real.real_of _ _ _ _ _ e1⟩,
    ⟨_, Cert.KernelIdeal.Real.real_of _ _ _ _ _ e2⟩, ⟨_, Cert.KernelIdeal.Real.real_of _ _ _ _ _ e3⟩⟩

theorem algebraic_SwigluGradIdeal_SwigluGradRefIdeal_pre_finite_swiglu : Cert.algebraic_SwigluGradIdeal_SwigluGradRefIdeal_pre_finite_swiglu := by
  intro m g m' g' hp hagree
  refine ⟨_, _, Cert.SwigluGradIdeal.Value.run_blocks m g, ?_⟩
  refine (θ_run Cert.SwigluGradRefIdeal.defs _ _).mono (fun r h c => ?_) (Cert.SwigluGradRefIdeal.Value.run (F := Ideal) m' g')
  obtain ⟨a0, a1, a2, a3⟩ := hagree c
  obtain ⟨h0, h1, hk⟩ := h c
  obtain ⟨e0, e1, e2, e3⟩ := args_swiglu m hp c
  rw [Cert.SwigluGradRefIdeal.Read.val_main_v7_eq, a0, a1, a2, a3] at h0
  rw [Cert.SwigluGradRefIdeal.Read.val_main_v8_eq, a0, a1, a2] at h1
  exact ⟨h0.trans (Cert.SwigluGradIdeal.Outs.dg m c e0 e1 e2 e3).symm, h1.trans (Cert.SwigluGradIdeal.Outs.du m c).symm, hk⟩

theorem algebraic_SwigluIdeal_SwigluRefIdeal : Cert.algebraic_SwigluIdeal_SwigluRefIdeal := by
  intro m g m' g' hp hagree
  refine ⟨_, _, _, Cert.SwigluIdeal.Value.run_blocks m g, ?_⟩
  refine (θ_run Cert.SwigluRefIdeal.defs _ _).mono (fun r h c => ?_) (Cert.SwigluRefIdeal.Value.run (F := Ideal) m' g')
  obtain ⟨a0, a1, a2⟩ := hagree c
  obtain ⟨h0, h1, h2, hk⟩ := h c
  rw [Cert.SwigluRefIdeal.Read.val_main_v2_eq, a0, a1] at h0
  rw [Cert.SwigluRefIdeal.Read.val_main_v3_eq, a0, a2] at h1
  rw [Cert.SwigluRefIdeal.Read.val_main_v6_eq, a0, a1, a2] at h2
  exact ⟨h0.trans (Cert.SwigluIdeal.Fwd.gate m c).symm, h1.trans (Cert.SwigluIdeal.Fwd.up m c).symm, h2.trans (Cert.SwigluIdeal.Fwd.act m c).symm, hk⟩

theorem algebraic_ResidualIdeal_ResidualRefIdeal : Cert.algebraic_ResidualIdeal_ResidualRefIdeal := by
  intro m g m' g' hp hagree
  refine ⟨_, _, _, Cert.ResidualIdeal.Value.run_blocks m g, ?_⟩
  refine (θ_run Cert.ResidualRefIdeal.defs _ _).mono (fun r h c => ?_) (Cert.ResidualRefIdeal.Value.run (F := Ideal) m' g')
  obtain ⟨a0, a1, a2, a3, a4, a5, a6⟩ := hagree c
  obtain ⟨h0, h1, h2, hk⟩ := h c
  rw [Cert.ResidualRefIdeal.Read.val_main_v24_eq, a0, a1] at h0
  rw [Cert.ResidualRefIdeal.Read.val_main_v25_eq, a0, a1, a2, a3] at h1
  rw [Cert.ResidualRefIdeal.Read.val_main_v27_eq, a0, a1, a2, a3, a4, a5, a6] at h2
  exact ⟨h0.trans (Cert.ResidualIdeal.Outs.prod m c).symm, h1.trans (Cert.ResidualIdeal.Outs.resid m c).symm, h2.trans (Cert.ResidualIdeal.Outs.normed m c).symm, hk⟩

end Cert.Proof.Mixer
end
-- ==== Proof.SumAda.lean ====
module

public import proofs.«01_k».proof.Proof.Gen.AdaGradIdeal.Value
public import proofs.«01_k».proof.Proof.Gen.AdaGradRefIdeal.Read
public import proofs.«01_k».proof.Proof.Gen.SumModIdeal.Value
public import proofs.«01_k».proof.Proof.Gen.SumModRefIdeal.Read
public import proofs.«01_k».proof.Proof.Gen.SumGainIdeal.Value
public import proofs.«01_k».proof.Proof.Gen.SumGainRefIdeal.Read
public import Idealize.ShloMosaic.Lib.Pipeline.ValueKit

/-! The sums over devices, and the gradient of the modulations' weights. -/

@[expose] public section

set_option maxRecDepth 16384
set_option maxHeartbeats 1000000
noncomputable section
open Idealize.ShloMosaic Idealize.ShloMosaic.TcCoe Idealize.SL.Sem
open Idealize.ShloMosaic.Pipeline (Dat)

namespace Cert.SumGainIdeal.Outs
open Cert.SumGainIdeal Cert.SumGainIdeal.Gen Cert.SumGainRefIdeal.Read

variable (m : (ℓ : Loc nD τ sig) → Buf (Elt Ideal) ℓ)

theorem idx : ∀ t : Fin cfg0.N,
    win0_0.index t = ![0, 0, 0] ∧ win0_1.index t = ![0, 0] :=
  (by decide +kernel : ∀ t : Fin grid0.N, _)

theorem total (c : Dev nD) : (dats m 0 c).arrAt 1 cfg0.N = val_main_v0 (F := Ideal) (m ((c : Thread nD τ).loc main_arg0)) := by
  refine (dats m 0 c).arrAt_eq_of_covers 1 _ (by decide +kernel) fun t _ y => ?_
  blk_simp
  rw [after0_1]; frame_out
  simp only [val_main_v0_apply, val_main_cst_apply, Fin.sum_univ_two]
  pointwise [k0_pay1]
  blk_point [iblk, V, idx t]

end Cert.SumGainIdeal.Outs

namespace Cert.SumModIdeal.Outs
open Cert.SumModIdeal Cert.SumModIdeal.Gen Cert.SumModRefIdeal.Read

variable (m : (ℓ : Loc nD τ sig) → Buf (Elt Ideal) ℓ)

/-- Sixteen terms, added in turn. -/
theorem sum16 (f : Fin 16 → EReal) : ∑ k, f k = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

theorem idx : ∀ t : Fin cfg0.N,
    win0_0.index t = ![0, 0, 0] ∧ win0_1.index t = ![0, 0] :=
  (by decide +kernel : ∀ t : Fin grid0.N, _)

theorem total (c : Dev nD) : (dats m 0 c).arrAt 1 cfg0.N = val_main_v0 (F := Ideal) (m ((c : Thread nD τ).loc main_arg0)) := by
  refine (dats m 0 c).arrAt_eq_of_covers 1 _ (by decide +kernel) fun t _ y => ?_
  blk_simp
  rw [after0_1]; frame_out
  simp only [val_main_v0_apply, val_main_cst_apply, sum16]
  pointwise [k0_pay1, k0_pay2]
  blk_point [iblk, V, idx t]

end Cert.SumModIdeal.Outs

namespace Cert.AdaGradIdeal.Outs
open Cert.AdaGradIdeal Cert.AdaGradIdeal.Gen Cert.AdaGradRefIdeal.Read

variable (m : (ℓ : Loc nD τ sig) → Buf (Elt Ideal) ℓ)

theorem idx : ∀ t : Fin cfg0.N,
    win0_0.index t = ![0, 0] ∧ win0_1.index t = ![t.val, 0, 0] ∧ win0_2.index t = ![t.val, 0, 0] :=
  (by decide +kernel : ∀ t : Fin grid0.N, _)

/-- The product with its factors in the version's order. -/
theorem v5_swap (x0 x1) (i) : val_main_v5 (F := Ideal) x0 x1 i
    = ∑ k : Fin 16, (val_main_v0 (F := Ideal) x0 (ridx_main_v5 i k) : EReal) * val_main_v4 (F := Ideal) x1 (lidx_main_v5 i k) :=
  (val_main_v5_apply x0 x1 i).trans (Finset.sum_congr rfl fun k _ => mul_comm (_ : EReal) _)

theorem prod (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  simp only [val_main_v6_apply, v5_swap, val_main_v4_apply, val_main_v0_apply, val_main_call0_v5_apply, val_main_call0_v4_apply, val_main_call0_cst_0_apply,
    val_main_call0_v3_apply, val_main_call0_v2_apply, val_main_call0_cst_apply, val_main_call0_v1_apply, val_main_call0_v0_apply]
  pointwise [k0_pay1]
  simp only [Ideal.logistic]
  blk_point [iblk, V, idx t]

end Cert.AdaGradIdeal.Outs
end
-- ==== Proof.TopGate.lean ====
module

public import proofs.«01_k».proof.Proof.Gen.TopGradIdeal.Value
public import proofs.«01_k».proof.Proof.Gen.TopGradRefIdeal.Read
public import proofs.«01_k».proof.Proof.Row
public import Idealize.ShloMosaic.Lib.Pipeline.ValueKit

/-! The top layer's gate, backward: the gradients of the layer's output and of the gate. -/

@[expose] public section

set_option maxRecDepth 16384
set_option maxHeartbeats 1000000
noncomputable section
open Idealize.ShloMosaic Idealize.ShloMosaic.TcCoe Idealize.SL.Sem
open Idealize.ShloMosaic.Pipeline (Dat)
namespace Cert.TopGradIdeal.Outs
open Cert.TopGradIdeal Cert.TopGradIdeal.Gen

variable (m : (ℓ : Loc nD τ sig) → Buf (Elt Ideal) ℓ)

open Cert.TopGradRefIdeal.Read

theorem idx : ∀ t : Fin cfg0.N,
    win0_0.index t = ![t.val, 0] ∧ win0_1.index t = ![t.val, 0] ∧ win0_2.index t = ![t.val / 8, 0, 0]
    ∧ win0_3.index t = ![t.val, 0] ∧ win0_4.index t = ![t.val / 8, 0, 0] :=
  (by decide +kernel : ∀ t : Fin grid0.N, _)

theorem lt16 (t : Fin cfg0.N) : t.val < 16 := t.isLt

/-- The row and column a block's entry stands for. -/
def at3 (t : Fin cfg0.N) (p : Fin 512) (d : Fin 1024) : Cert.TopGradRefIdeal.S2x4096x1024.Idx :=
  ix3 (⟨t.val / 8, by have := lt16 t; omega⟩ : Fin 2) (⟨t.val % 8 * 512 + p.val, by have := p.isLt; omega⟩ : Fin 4096) d

/-- A block of rows' part of the sum over a sequence of `R`. -/
def part (R : Cert.TopGradRefIdeal.S2x4096x1024.Idx → EReal) (t : Fin cfg0.N) (j : S1x1x1024.Idx) : EReal :=
  ∑ k : Fin 512, R (at3 t k (⟨(j 2).val, (j 2).isLt⟩ : Fin 1024))

theorem row_congr {a a' : Fin 2} {b b' : Fin 4096} (ha : a = a') (hb : b = b') (d : Fin 1024) : ix3 a b d = ix3 a' b' d := by rw [ha, hb]

/-- A sum begun at a sequence's first block and added to at each is the sum over the sequence. -/
theorem run_sum (R : Cert.TopGradRefIdeal.S2x4096x1024.Idx → EReal) (f : (n : Nat) → n < cfg0.N → S1x1x1024.Idx → EReal)
    (reset : ∀ (t : Fin cfg0.N), t.val % 8 = 0 → ∀ j, f t.val t.isLt j = 0 + part R t j)
    (step : ∀ (t : Fin cfg0.N), ¬t.val % 8 = 0 → ∀ j, f t.val t.isLt j = f (t.val - 1) (Nat.lt_of_le_of_lt (Nat.sub_le _ _) t.isLt) j + part R t j)
    (t : Fin cfg0.N) (ht : t.val % 8 = 8 - 1) (j : S1x1x1024.Idx) :
    f t.val t.isLt j = 0 + ∑ l : Fin 4096, R (ix3 (⟨t.val / 8, by have := lt16 t; omega⟩ : Fin 2) l (⟨(j 2).val, (j 2).isLt⟩ : Fin 1024)) := by
  refine (Pipeline.eq_sum_fin_of_reset_step_apply_of_flush (M := EReal) f 8 (fun _ => (0 : EReal))
    (fun t j => part R t j) (fun t h j => reset t h j) (fun t h j => step t h j) t ht j).trans ?_
  refine congrArg ((0 : EReal) + ·) ?_
  unfold part
  refine Fin.sum_mul_add_congr fun s k hl => ?_
  refine congrArg R ?_
  unfold at3
  have := lt16 t
  have := s.isLt
  refine row_congr (Fin.ext ?_) (Fin.ext ?_) _
  · show (8 * (t.val / 8) + s.val) / 8 = t.val / 8
    omega
  · show (8 * (t.val / 8) + s.val) % 8 * 512 + k.val = _
    have e : (8 * (t.val / 8) + s.val) % 8 = s.val := by omega
    rw [e]

theorem zero1_at (j) : k0_pay1 (F := Ideal) j = (0 : EReal) := by pointwise [k0_pay1]

theorem dy (c : Dev nD) : (dats m 0 c).arrAt 3 cfg0.N = val_main_v8 (F := Ideal) (m ((c : Thread nD τ).loc main_arg0)) (m ((c : Thread nD τ).loc main_arg2)) := by
  refine (dats m 0 c).arrAt_eq_of_covers 3 _ (by decide +kernel) fun t _ y => ?_
  blk_simp
  have e : (outsAt0 m c t.val t.isLt).1 = k0_pay3 (iblk m c 0 t) (iblk m c 2 t) := by
    by_cases h : t.val % 8 = 0
    · rw [outsAt0_A m c t h]; frame_out
    · rw [outsAt0_B m c t h]; frame_out
  rw [after0_3, e]
  simp only [val_main_v8_apply, val_main_v7_apply, val_main_v3_apply, val_main_v2_apply]
  pointwise [k0_pay3, k0_pay2]
  refine (mul_comm (_ : EReal) _).trans ?_
  blk_point [iblk, V, idx t]

theorem dgate_pay (c : Dev nD) (t : Fin cfg0.N) (acc : FVec Ideal S1x1x1024 .f32) (j) : k0_pay4 (iblk m c 0 t) acc (iblk m c 1 t) j = (acc j : EReal) + part (val_main_v4 (F := Ideal) (m ((c : Thread nD τ).loc main_arg0)) (m ((c : Thread nD τ).loc main_arg1))) t j := by
  unfold part
  simp only [val_main_v4_apply]
  pointwise [k0_pay4, k0_pay2]
  reads_congr
  all_goals blk_ext! [iblk, V, idx t, at3]

theorem dgate_reset (c : Dev nD) (t : Fin cfg0.N) (h : t.val % 8 = 0) (j) :
    (outsAt0 m c t.val t.isLt).2 j = (0 : EReal) + part (val_main_v4 (F := Ideal) (m ((c : Thread nD τ).loc main_arg0)) (m ((c : Thread nD τ).loc main_arg1))) t j := by
  rw [outsAt0_A m c t h]; frame_out; rw [dgate_pay, zero1_at]

theorem dgate_step (c : Dev nD) (t : Fin cfg0.N) (h : ¬t.val % 8 = 0) (j) :
    (outsAt0 m c t.val t.isLt).2 j = ((outsAt0 m c (t.val - 1) (Nat.lt_of_le_of_lt (Nat.sub_le _ _) t.isLt)).2 j : EReal) + part (val_main_v4 (F := Ideal) (m ((c : Thread nD τ).loc main_arg0)) (m ((c : Thread nD τ).loc main_arg1))) t j := by
  rw [outsAt0_B m c t h]; frame_out; rw [dgate_pay]

theorem dgate (c : Dev nD) : (dats m 0 c).arrAt 4 cfg0.N = val_main_v6 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  refine (run_sum (val_main_v4 (F := Ideal) (m ((c : Thread nD τ).loc main_arg0)) (m ((c : Thread nD τ).loc main_arg1))) (fun n h => (outsAt0 m c n h).2) (dgate_reset m c) (dgate_step m c) t ((flush0_4 t).mp hf) y).trans ?_
  simp only [val_main_v6_apply, val_main_v5_apply, val_main_cst_apply]
  pointwise
  blk_point [iblk, V, idx t, at3]

end Cert.TopGradIdeal.Outs
end
-- ==== Proof.NormVal.lean ====
module

public import proofs.«01_k».proof.Proof.Gen.NormGradIdeal.Value
public import proofs.«01_k».proof.Proof.Gen.NormGradRefIdeal.Read
public import proofs.«01_k».proof.Proof.Row
public import Idealize.ShloMosaic.Lib.Pipeline.ValueKit

/-! The norm's backward call: what its body computes, at a row and a column, against the reference's stages. -/

@[expose] public section

set_option maxRecDepth 16384
set_option maxHeartbeats 1000000
noncomputable section
open Idealize.ShloMosaic Idealize.ShloMosaic.TcCoe Idealize.SL.Sem
open Idealize.ShloMosaic.Pipeline (Dat)
namespace Cert.NormGradIdeal.Outs
open Cert.NormGradIdeal Cert.NormGradIdeal.Gen

variable (m : (ℓ : Loc nD τ sig) → Buf (Elt Ideal) ℓ)

open Cert.NormGradRefIdeal.Read

theorem idx : ∀ t : Fin cfg0.N,
    win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val / 8, 0, 0]
    ∧ win0_8.index t = ![t.val, 0] ∧ win0_9.index t = ![t.val / 8, 0, 0]
    ∧ win0_10.index t = ![t.val, 0] ∧ win0_11.index t = ![t.val / 8, 0, 0] ∧ win0_12.index t = ![t.val / 8, 0, 0] ∧ win0_13.index t = ![t.val / 8, 0, 0]
    ∧ win0_14.index t = ![t.val, 0] ∧ win0_15.index t = ![t.val / 8, 0, 0] :=
  (by decide +kernel : ∀ t : Fin grid0.N, _)

theorem lt16 (t : Fin cfg0.N) : t.val < 16 := t.isLt

/-- The row and column a block's entry stands for. -/
def at3 (t : Fin cfg0.N) (p : Fin 512) (d : Fin 1024) : Cert.NormGradRefIdeal.S2x4096x1024.Idx :=
  ix3 (⟨t.val / 8, by have := lt16 t; omega⟩ : Fin 2) (⟨t.val % 8 * 512 + p.val, by have := p.isLt; omega⟩ : Fin 4096) d

/-- The same row, of an array with one column. -/
def row3 (t : Fin cfg0.N) (p : Fin 512) : Cert.NormGradRefIdeal.S2x4096x1.Idx :=
  ix3 (⟨t.val / 8, by have := lt16 t; omega⟩ : Fin 2) (⟨t.val % 8 * 512 + p.val, by have := p.isLt; omega⟩ : Fin 4096) (0 : Fin 1)

theorem dh_at (c : Dev nD) (t : Fin cfg0.N) (p : Fin 512) (d : Fin 1024) :
    (k0_pay8 (iblk m c 0 t) (iblk m c 1 t) (iblk m c 2 t) (iblk m c 3 t)) (ix2 p d)
      = val_main_v31 (F := Ideal) (m ((c : Thread nD τ).loc main_arg5)) (m ((c : Thread nD τ).loc main_arg6)) (m ((c : Thread nD τ).loc main_arg8)) (m ((c : Thread nD τ).loc main_arg9)) (at3 t p d) := by
  simp only [val_main_v31_apply, val_main_v30_apply, val_main_v29_apply]
  pointwise [k0_pay8]
  refine (add_comm (_ : EReal) _).trans ?_
  blk_point [iblk, V, idx t, at3, row3]

theorem x_at (c : Dev nD) (t : Fin cfg0.N) (p : Fin 512) (d : Fin 1024) :
    (k0_pay9 (iblk m c 4 t)) (ix2 p d)
      = val_main_v5 (F := Ideal) (m ((c : Thread nD τ).loc main_arg0)) (m ((c : Thread nD τ).loc main_arg1)) (m ((c : Thread nD τ).loc main_arg2)) (at3 t p d) := by
  simp only [val_main_v5_apply, val_main_v4_apply, val_main_v3_apply]
  pointwise [k0_pay9]
  blk_simp [iblk, V, idx t, at3]
  entry_read
  pointwise
  blk_point [iblk, V, idx t, at3, row3]

theorem r_at (c : Dev nD) (t : Fin cfg0.N) (p : Fin 512) :
    (k0_pay11 (iblk m c 4 t)) (ix2 p 0)
      = val_main_v13 (F := Ideal) (m ((c : Thread nD τ).loc main_arg0)) (m ((c : Thread nD τ).loc main_arg1)) (m ((c : Thread nD τ).loc main_arg2)) (row3 t p) := by
  simp only [val_main_v13_apply, val_main_v12_apply, val_main_v11_apply, val_main_cst_2_apply, val_main_v10_apply, val_main_v9_apply, val_main_cst_1_apply, val_main_v8_apply, val_main_v7_apply, val_main_cst_0_apply, val_main_v6_apply]
  pointwise [k0_pay11]
  simp only [x_at m c t]
  blk_point [iblk, V, idx t, at3, row3]

theorem xr_at (c : Dev nD) (t : Fin cfg0.N) (p : Fin 512) (d : Fin 1024) :
    (k0_pay12 (iblk m c 4 t)) (ix2 p d)
      = val_main_v18 (F := Ideal) (m ((c : Thread nD τ).loc main_arg0)) (m ((c : Thread nD τ).loc main_arg1)) (m ((c : Thread nD τ).loc main_arg2)) (at3 t p d) := by
  simp only [val_main_v18_apply, val_main_v17_apply]
  pointwise [k0_pay12]
  rw [x_at m c t, r_at m c t]
  blk_point [iblk, V, idx t, at3, row3]

theorem hs_at (c : Dev nD) (t : Fin cfg0.N) (p : Fin 512) (d : Fin 1024) :
    (k0_pay16 (k0_pay8 (iblk m c 0 t) (iblk m c 1 t) (iblk m c 2 t) (iblk m c 3 t)) (iblk m c 7 t)) (ix2 p d)
      = val_main_v38 (F := Ideal) (m ((c : Thread nD τ).loc main_arg4)) (m ((c : Thread nD τ).loc main_arg5)) (m ((c : Thread nD τ).loc main_arg6)) (m ((c : Thread nD τ).loc main_arg8)) (m ((c : Thread nD τ).loc main_arg9)) (at3 t p d) := by
  simp only [val_main_v42_apply, val_main_v38_apply, val_main_v37_apply, val_main_v22_apply, val_main_v21_apply, val_main_cst_4_apply, val_main_v1_apply, val_main_v0_apply]
  pointwise [k0_pay16]
  rw [dh_at m c t]
  blk_point [iblk, V, idx t, at3, row3]

theorem h_at (c : Dev nD) (t : Fin cfg0.N) (p : Fin 512) (d : Fin 1024) :
    (k0_pay18 (k0_pay8 (iblk m c 0 t) (iblk m c 1 t) (iblk m c 2 t) (iblk m c 3 t)) (k0_pay10 (iblk m c 6 t)) (iblk m c 7 t)) (ix2 p d)
      = val_main_v43 (F := Ideal) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (at3 t p d) := by
  simp only [val_main_v43_apply, val_main_v42_apply, val_main_v38_apply, val_main_v37_apply, val_main_v22_apply, val_main_v21_apply, val_main_cst_4_apply, val_main_v1_apply, val_main_v0_apply]
  pointwise [k0_pay18, k0_pay16, k0_pay10]
  rw [dh_at m c t]
  blk_point [iblk, V, idx t, at3, row3]

end Cert.NormGradIdeal.Outs
end
-- ==== Proof.NormReal.lean ====
module

public import proofs.«01_k».proof.Proof.NormVal

/-! The reference's gradient of the norm's argument, in the version's form. -/

@[expose] public section

set_option maxRecDepth 16384
set_option maxHeartbeats 1000000
noncomputable section
open Idealize.ShloMosaic Idealize.ShloMosaic.TcCoe Idealize.SL.Sem
namespace Cert.NormGradIdeal.Outs
open Cert.NormGradRefIdeal Cert.NormGradRefIdeal.Read

theorem word_1024 : Ideal.ofBits .f32 0x44800000#32 = ((1024 : ℝ) : EReal) := by
  simp [Ideal.ofBits, Ideal.ieee]
  norm_cast
  norm_num

theorem word_half : Ideal.ofBits .f32 0xBF000000#32 = ((-(1 / 2) : ℝ) : EReal) := by
  simp [Ideal.ofBits, Ideal.ieee]
  norm_cast
  norm_num

theorem word_eps : ∃ e : ℝ, 0 < e ∧ Ideal.ofBits .f32 0x358637BD#32 = (e : EReal) := by
  refine ⟨(8796093 : ℝ) * (1 / 8796093022208), by positivity, ?_⟩
  simp [Ideal.ofBits, Ideal.ieee]
  norm_cast

theorem i7 (b : Fin 2) (s : Fin 4096) (k : Fin 1024) : idx_main_v7 (idx_main_v8 (ix3 b s 0)) k = ix3 b s k := by
  funext a; match a with
  | ⟨0, _⟩ => rfl
  | ⟨1, _⟩ => rfl
  | ⟨2, _⟩ => rfl

theorem i47 (b : Fin 2) (s : Fin 4096) (d : Fin 1024) : idx_main_v47 (ix3 b s d) = ix3 b s 0 := by
  funext a; match a with
  | ⟨0, _⟩ => rfl
  | ⟨1, _⟩ => rfl
  | ⟨2, _⟩ => rfl

theorem i17 (b : Fin 2) (s : Fin 4096) (d : Fin 1024) : idx_main_v17 (ix3 b s d) = ix3 b s 0 := by
  funext a; match a with
  | ⟨0, _⟩ => rfl
  | ⟨1, _⟩ => rfl
  | ⟨2, _⟩ => rfl

theorem i53 (b : Fin 2) (s : Fin 4096) (d : Fin 1024) (k : Fin 1) : idx_main_v53 (idx_main_v54 (ix3 b s d)) k = ix3 b s 0 := by
  funext a; match a with
  | ⟨0, _⟩ => rfl
  | ⟨1, _⟩ => rfl
  | ⟨2, _⟩ => exact Fin.ext (by show k.val = 0; omega)

theorem i46 (b : Fin 2) (s : Fin 4096) : idx_main_v46 (ix3 b s 0) = ix2 b s := by
  funext a; match a with
  | ⟨0, _⟩ => exact Fin.ext (by show ((b.val * 4096 + s.val) * 1 + 0) / 4096 = b.val; omega)
  | ⟨1, _⟩ => exact Fin.ext (by show ((b.val * 4096 + s.val) * 1 + 0) % 4096 = s.val; omega)

theorem i45 (b : Fin 2) (s : Fin 4096) (k : Fin 1024) : idx_main_v45 (ix2 b s) k = ix3 b s k := by
  funext a; match a with
  | ⟨0, _⟩ => rfl
  | ⟨1, _⟩ => rfl
  | ⟨2, _⟩ => rfl

/-- A positive number multiplies through a sum of two extended reals. -/
theorem pos_mul_add {r : ℝ} (hr : 0 < r) (a b : EReal) : (r : EReal) * (a + b) = r * a + r * b :=
  EReal.left_distrib_of_nonneg_of_ne_top (EReal.coe_nonneg.2 hr.le) (EReal.coe_ne_top r) a b

theorem sum_mul_pos {r : ℝ} (hr : 0 < r) (f : Fin 1024 → EReal) : ∑ k, f k * (r : EReal) = (∑ k, f k) * (r : EReal) := by
  suffices h : ∀ u : Finset (Fin 1024), ∑ k ∈ u, f k * (r : EReal) = (∑ k ∈ u, f k) * (r : EReal) from h _
  intro u
  induction u using Finset.induction_on with
  | empty => simp
  | insert i u hi ih => rw [Finset.sum_insert hi, Finset.sum_insert hi, ih, mul_comm (f i + _), pos_mul_add hr, mul_comm (r : EReal), mul_comm (r : EReal)]

/-- Two equal terms, each times the same negative number, are one times its double. -/
theorem twice (M : EReal) {c : ℝ} (hc : c < 0) : M * (c : EReal) + M * (c : EReal) = M * ((2 * c : ℝ) : EReal) := by
  have hd : 2 * c < 0 := by linarith
  induction M with
  | bot => rw [EReal.bot_mul_coe_of_neg hc, EReal.bot_mul_coe_of_neg hd]; rfl
  | coe x => rw [← EReal.coe_mul, ← EReal.coe_mul, ← EReal.coe_add]; exact congrArg _ (by ring)
  | top => rw [EReal.top_mul_coe_of_neg hc, EReal.top_mul_coe_of_neg hd]; rfl

theorem div_pos (x : EReal) {y : ℝ} (hy : 0 < y) : Ideal.div x (y : EReal) = x * ((y⁻¹ : ℝ) : EReal) := by
  unfold Ideal.div
  rw [if_neg (by exact_mod_cast hy.ne'), EReal.coe_inv]

/-- The norm's derivative, of a row whose mean of squares is finite: the two halves of the square's derivative are one term of the version's.
The other numbers may be infinite. -/
theorem norm_form {W : ℝ} (hW : 0 < W) (dr hi xi S : EReal) :
    (dr + hi * (((√W)⁻¹ : ℝ) : EReal)) + xi * Ideal.div (S * (((-(1 / 2) : ℝ) : EReal) * Ideal.div (((√W)⁻¹ : ℝ) : EReal) (W : EReal))) ((1024 : ℝ) : EReal)
        + Ideal.div (S * (((-(1 / 2) : ℝ) : EReal) * Ideal.div (((√W)⁻¹ : ℝ) : EReal) (W : EReal))) ((1024 : ℝ) : EReal) * xi
      = dr + (((√W)⁻¹ : ℝ) : EReal) * (hi - (xi * (((√W)⁻¹ : ℝ) : EReal)) * Ideal.div (S * (((√W)⁻¹ : ℝ) : EReal)) ((1024 : ℝ) : EReal)) := by
  have hr : 0 < (√W)⁻¹ := inv_pos.2 (Real.sqrt_pos.2 hW)
  have e2 : W⁻¹ = (√W)⁻¹ * (√W)⁻¹ := by rw [← mul_inv, Real.mul_self_sqrt hW.le]
  rw [div_pos _ hW, div_pos _ (by norm_num : (0 : ℝ) < 1024), div_pos _ (by norm_num : (0 : ℝ) < 1024), e2]
  generalize (√W)⁻¹ = r at hr
  have hc : -(1 / 2) * (r * (r * r)) * (1024 : ℝ)⁻¹ < 0 := by
    have : 0 < r * (r * r) * (1024 : ℝ)⁻¹ := by positivity
    linarith
  have ea : xi * (S * (((-(1 / 2) : ℝ) : EReal) * ((r : EReal) * ((r * r : ℝ) : EReal))) * (((1024 : ℝ)⁻¹ : ℝ) : EReal))
      = (xi * S) * ((-(1 / 2) * (r * (r * r)) * (1024 : ℝ)⁻¹ : ℝ) : EReal) := by
    simp only [EReal.coe_mul, mul_assoc]
  have eb : (r : EReal) * (-((xi * (r : EReal)) * (S * (r : EReal) * (((1024 : ℝ)⁻¹ : ℝ) : EReal))))
      = (xi * S) * ((2 * (-(1 / 2) * (r * (r * r)) * (1024 : ℝ)⁻¹) : ℝ) : EReal) := by
    rw [show (2 * (-(1 / 2) * (r * (r * r)) * (1024 : ℝ)⁻¹) : ℝ) = -(r * (r * (r * (1024 : ℝ)⁻¹))) by ring, EReal.coe_neg, mul_neg, mul_neg]
    simp only [EReal.coe_mul]
    exact congrArg _ (by ac_rfl)
  rw [mul_comm _ xi, ea, sub_eq_add_neg, pos_mul_add hr, eb, add_assoc, twice _ hc, add_assoc, mul_comm hi]

theorem sq_nonneg' (z : EReal) : 0 ≤ z * z := by
  induction z with
  | bot => exact le_top
  | coe x => rw [← EReal.coe_mul]; exact EReal.coe_nonneg.2 (mul_self_nonneg x)
  | top => exact le_top

theorem mean_cases {e : ℝ} (he : 0 < e) (z : EReal) (h0 : 0 ≤ z) : z * (((1024 : ℝ)⁻¹ : ℝ) : EReal) + (e : EReal) = ⊤
    ∨ ∃ W : ℝ, 0 < W ∧ z * (((1024 : ℝ)⁻¹ : ℝ) : EReal) + (e : EReal) = (W : EReal) := by
  induction z with
  | bot => exact absurd h0 (by simp)
  | coe x =>
    refine .inr ⟨x * (1024 : ℝ)⁻¹ + e, ?_, ?_⟩
    · have : (0 : ℝ) ≤ x := EReal.coe_nonneg.1 h0
      positivity
    · rw [EReal.coe_add, EReal.coe_mul]
  | top =>
    left
    rw [EReal.top_mul_coe_of_pos (by norm_num)]
    exact EReal.top_add_coe e

section
variable (x0 x1 : (⟨S2x4096x1024, .f32⟩ : BufTy).Contents (Elt Ideal)) (x2 : (⟨S2x1x1024, .f32⟩ : BufTy).Contents (Elt Ideal))

/-- A row's mean of squares with the small word added: a positive number, or infinite. -/
theorem v12_cases (b s) : val_main_v12 (F := Ideal) x0 x1 x2 (ix3 b s 0) = (⊤ : EReal)
    ∨ ∃ W : ℝ, 0 < W ∧ val_main_v12 (F := Ideal) x0 x1 x2 (ix3 b s 0) = (W : EReal) := by
  obtain ⟨e, he, hw⟩ := word_eps
  simp only [val_main_v12_apply, val_main_v11_apply, val_main_cst_2_apply, val_main_v10_apply, val_main_v9_apply, val_main_cst_1_apply, val_main_v8_apply, val_main_v7_apply, val_main_cst_0_apply, val_main_v6_apply, i7]
  pointwise
  rw [hw, word_1024, div_pos _ (by norm_num : (0 : ℝ) < 1024)]
  exact mean_cases he _ (Finset.sum_nonneg fun k _ => sq_nonneg' _)

theorem ref_form (x3 x4 x5 x6 x7 x8 x9) (b s d) : val_main_v58 (F := Ideal) x0 x1 x2 x3 x4 x5 x6 x7 x8 x9 (ix3 b s d)
    = (x7 (ix3 b s d) : EReal) + (val_main_v13 (F := Ideal) x0 x1 x2 (ix3 b s 0) : EReal)
        * ((val_main_v43 (F := Ideal) x3 x4 x5 x6 x8 x9 (ix3 b s d) : EReal) - (val_main_v18 (F := Ideal) x0 x1 x2 (ix3 b s d) : EReal)
          * Ideal.div (∑ k : Fin 1024, (val_main_v43 (F := Ideal) x3 x4 x5 x6 x8 x9 (ix3 b s k) : EReal) * val_main_v18 (F := Ideal) x0 x1 x2 (ix3 b s k))
            (Ideal.ofBits .f32 0x44800000#32)) := by
  simp only [val_main_v58_apply, val_main_v57_apply, val_main_v56_apply, val_main_v55_apply, val_main_v49_apply, val_main_v48_apply, val_main_v47_apply, val_main_v18_apply, val_main_v17_apply,
    val_main_v54_apply, val_main_v53_apply, val_main_cst_10_apply, val_main_v52_apply, val_main_v51_apply, val_main_cst_9_apply, val_main_v50_apply, i53,
    val_main_v46_apply, val_main_v45_apply, val_main_cst_8_apply, val_main_v44_apply, i46, i45, val_main_v16_apply, val_main_v15_apply, val_main_cst_3_apply, val_main_v14_apply,
    i47, i17, val_main_v13_apply]
  pointwise
  rw [word_1024, word_half]
  simp only [Finset.univ_unique, Finset.sum_singleton]
  rcases v12_cases x0 x1 x2 b s with h | ⟨W, hW, h⟩
  · rw [h, Ideal.rsqrt_top]
    simp [Ideal.div]
  · rw [h, Ideal.rsqrt_coe, if_neg hW.not_gt, if_neg hW.ne']
    have hr : 0 < (√W)⁻¹ := inv_pos.2 (Real.sqrt_pos.2 hW)
    refine (norm_form hW _ _ _ _).trans ?_
    have e : ∀ k : Fin 1024, (val_main_v43 (F := Ideal) x3 x4 x5 x6 x8 x9 (ix3 b s k) : EReal) * ((val_main_v5 (F := Ideal) x0 x1 x2 (ix3 b s k) : EReal) * (((√W)⁻¹ : ℝ) : EReal))
        = ((val_main_v5 (F := Ideal) x0 x1 x2 (ix3 b s k) : EReal) * val_main_v43 (F := Ideal) x3 x4 x5 x6 x8 x9 (ix3 b s k)) * (((√W)⁻¹ : ℝ) : EReal) := fun k => by
      rw [← mul_assoc, mul_comm (val_main_v43 (F := Ideal) x3 x4 x5 x6 x8 x9 (ix3 b s k) : EReal)]
    rw [Finset.sum_congr rfl fun k _ => e k, sum_mul_pos hr]
end

end Cert.NormGradIdeal.Outs
end
-- ==== Proof.Loss.lean ====
module

public import proofs.«01_k».proof.Proof.Gen.LossHeadIdeal.Value
public import proofs.«01_k».proof.Proof.Gen.LossHeadRefIdeal.Read
public import proofs.«01_k».proof.Proof.NormReal
public import Idealize.ShloMosaic.Lib.Pipeline.ValueKit

/-! The loss head: the gradient of its argument, and the loss added up over the blocks of rows. -/

@[expose] public section

set_option maxRecDepth 16384
set_option maxHeartbeats 1000000
noncomputable section
open Idealize.ShloMosaic Idealize.ShloMosaic.TcCoe Idealize.SL.Sem
open Idealize.ShloMosaic.Pipeline (Dat)
namespace Cert.LossHeadIdeal.Outs
open Cert.LossHeadIdeal Cert.LossHeadIdeal.Gen
open Cert.NormGradIdeal.Outs (pos_mul_add word_1024)

variable (m : (ℓ : Loc nD τ sig) → Buf (Elt Ideal) ℓ)

open Cert.LossHeadRefIdeal.Read

theorem idx : ∀ t : Fin cfg0.N,
    win0_0.index t = ![t.val, 0] ∧ win0_1.index t = ![t.val, 0] ∧ win0_2.index t = ![t.val, 0] ∧ win0_3.index t = ![0, 0] :=
  (by decide +kernel : ∀ t : Fin grid0.N, _)

theorem lt16 (t : Fin cfg0.N) : t.val < 16 := t.isLt

theorem word_two : Ideal.ofBits .f32 0x40000000#32 = ((2 : ℝ) : EReal) := by
  simp [Ideal.ofBits, Ideal.ieee]
  norm_cast
  norm_num

theorem word_half : Ideal.ofBits .f32 0x3F000000#32 = ((1 / 2 : ℝ) : EReal) := by
  simp [Ideal.ofBits, Ideal.ieee]
  norm_cast
  norm_num

theorem word_inv : Ideal.ofBits .f32 0x3A800000#32 = ((1 / 1024 : ℝ) : EReal) := by
  simp [Ideal.ofBits, Ideal.ieee]
  norm_cast
  norm_num

/-- The gradient's constants: half of twice a difference, over the row's length, is the difference times the length's reciprocal. -/
theorem consts (e : EReal) : e * Ideal.ofBits .f32 0x3A800000#32
    = Ideal.div (Ideal.ofBits .f32 0x3F000000#32) (Ideal.ofBits .f32 0x44800000#32) * (Ideal.ofBits .f32 0x40000000#32 * e) := by
  rw [word_inv, word_half, word_1024, word_two, Cert.NormGradIdeal.Outs.div_pos _ (by norm_num : (0 : ℝ) < 1024), ← mul_assoc, mul_comm e]
  refine congrArg (· * e) ?_
  norm_cast
  norm_num

/-- A positive number distributes over a sum. -/
theorem pos_mul_sum {r : ℝ} (hr : 0 < r) {ι : Type} (s : Finset ι) (f : ι → EReal) : (r : EReal) * ∑ k ∈ s, f k = ∑ k ∈ s, (r : EReal) * f k := by
  classical
  induction s using Finset.induction_on with
  | empty => simp
  | insert i u hi ih => rw [Finset.sum_insert hi, Finset.sum_insert hi, pos_mul_add hr, ih]

theorem dy (c : Dev nD) : (dats m 0 c).arrAt 2 cfg0.N = val_main_v15 (F := Ideal) (m ((c : Thread nD τ).loc main_arg0)) (m ((c : Thread nD τ).loc main_arg1)) := by
  refine (dats m 0 c).arrAt_eq_of_covers 2 _ (by decide +kernel) fun t _ y => ?_
  blk_simp
  have e : (outsAt0 m c t.val t.isLt).1 = k0_pay3 (iblk m c 0 t) (iblk m c 1 t) := by
    by_cases h : t.val % 16 = 0
    · rw [outsAt0_A m c t h]; frame_out
    · rw [outsAt0_B m c t h]; frame_out
  rw [after0_2, e]
  simp only [val_main_v15_apply, val_main_v14_apply, val_main_v13_apply, val_main_v12_apply, val_main_v11_apply, val_main_cst_6_apply, val_main_v10_apply,
    val_main_v9_apply, val_main_cst_5_apply, val_main_cst_4_apply, val_main_v3_apply, val_main_v2_apply, val_main_cst_apply, val_main_v0_apply]
  pointwise [k0_pay3, k0_pay2]
  refine (consts _).trans ?_
  blk_point [iblk, V, idx t]

theorem zero1_at (j) : k0_pay1 (F := Ideal) j = (0 : EReal) := by pointwise [k0_pay1]

/-- A row's mean square, of the reference. -/
def row (R : Cert.LossHeadRefIdeal.S2x4096.Idx → EReal) (t : Fin cfg0.N) (p : Fin 512) : EReal :=
  R (ix2 (⟨t.val / 8, by have := lt16 t; omega⟩ : Fin 2) (⟨t.val % 8 * 512 + p.val, by have := p.isLt; omega⟩ : Fin 4096))

/-- What a block of rows adds to the loss. -/
def part (R : Cert.LossHeadRefIdeal.S2x4096.Idx → EReal) (t : Fin cfg0.N) : EReal :=
  Ideal.ofBits .f32 0x3F000000#32 * ∑ p : Fin 512, row R t p

/-- A sum begun at the first block and added to at each is the sum over all rows. -/
theorem run_sum (R : Cert.LossHeadRefIdeal.S2x4096.Idx → EReal) (f : (n : Nat) → n < cfg0.N → S8x128.Idx → EReal)
    (reset : ∀ (t : Fin cfg0.N), t.val % 16 = 0 → ∀ j, f t.val t.isLt j = 0 + part R t)
    (step : ∀ (t : Fin cfg0.N), ¬t.val % 16 = 0 → ∀ j, f t.val t.isLt j = f (t.val - 1) (Nat.lt_of_le_of_lt (Nat.sub_le _ _) t.isLt) j + part R t)
    (t : Fin cfg0.N) (ht : t.val % 16 = 16 - 1) (j : S8x128.Idx) :
    f t.val t.isLt j = Ideal.ofBits .f32 0x3F000000#32 * (0 + ∑ a : Fin 2, ∑ l : Fin 4096, R (ix2 a l)) := by
  refine (Pipeline.eq_sum_fin_of_reset_step_apply_of_flush (M := EReal) f 16 (fun _ => (0 : EReal))
    (fun t _ => part R t) (fun t h j => reset t h j) (fun t h j => step t h j) t ht j).trans ?_
  unfold part
  rw [word_half, zero_add, zero_add, ← pos_mul_sum (by norm_num)]
  refine congrArg _ (Fin.sum_points_lanes_congr 8 fun s k ha hl => ?_)
  unfold row
  have h := lt16 t
  have e : 16 * (t.val / 16) + s.val = s.val := by omega
  simp only [e]

theorem loss_pay (c : Dev nD) (t : Fin cfg0.N) (acc : FVec Ideal S8x128 .f32) (j) : k0_pay4 (iblk m c 0 t) (iblk m c 1 t) acc j
    = (acc j : EReal) + part (val_main_v6 (F := Ideal) (m ((c : Thread nD τ).loc main_arg0)) (m ((c : Thread nD τ).loc main_arg1))) t := by
  unfold part row
  simp only [val_main_v6_apply, val_main_v5_apply, val_main_cst_1_apply, val_main_v4_apply, val_main_cst_0_apply, val_main_v1_apply, val_main_v0_apply]
  pointwise [k0_pay4, k0_pay2]
  blk_point [iblk, V, idx t]

theorem loss_reset (c : Dev nD) (t : Fin cfg0.N) (h : t.val % 16 = 0) (j) :
    (outsAt0 m c t.val t.isLt).2 j = (0 : EReal) + part (val_main_v6 (F := Ideal) (m ((c : Thread nD τ).loc main_arg0)) (m ((c : Thread nD τ).loc main_arg1))) t := by
  rw [outsAt0_A m c t h]; frame_out; rw [loss_pay, zero1_at]

theorem loss_step (c : Dev nD) (t : Fin cfg0.N) (h : ¬t.val % 16 = 0) (j) :
    (outsAt0 m c t.val t.isLt).2 j = ((outsAt0 m c (t.val - 1) (Nat.lt_of_le_of_lt (Nat.sub_le _ _) t.isLt)).2 j : EReal)
      + part (val_main_v6 (F := Ideal) (m ((c : Thread nD τ).loc main_arg0)) (m ((c : Thread nD τ).loc main_arg1))) t := by
  rw [outsAt0_B m c t h]; frame_out; rw [loss_pay]

theorem loss (c : Dev nD) : (dats m 0 c).arrAt 3 cfg0.N = val_main_v16 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  refine (run_sum (val_main_v6 (F := Ideal) (m ((c : Thread nD τ).loc main_arg0)) (m ((c : Thread nD τ).loc main_arg1))) (fun n h => (outsAt0 m c n h).2)
    (loss_reset m c) (loss_step m c) t ((flush0_3 t).mp hf) y).trans ?_
  simp only [val_main_v16_apply, val_main_v8_apply, val_main_cst_3_apply, val_main_v7_apply, val_main_cst_2_apply]
  pointwise
  exact congrArg _ (sum_idx2 _).symm

end Cert.LossHeadIdeal.Outs
end
-- ==== Proof.Ends.lean ====
module

public import proofs.«01_k».proof.Defs
public import proofs.«01_k».proof.Proof.SumAda
public import proofs.«01_k».proof.Proof.TopGate
public import proofs.«01_k».proof.Proof.Loss
public import proofs.«01_k».proof.Proof.Gen.LossHeadIdeal.Frame
public import proofs.«01_k».proof.Proof.Gen.LossHeadRefIdeal.Run
public import proofs.«01_k».proof.Proof.Gen.TopGradIdeal.Frame
public import proofs.«01_k».proof.Proof.Gen.TopGradRefIdeal.Run
public import proofs.«01_k».proof.Proof.Gen.AdaGradIdeal.Frame
public import proofs.«01_k».proof.Proof.Gen.AdaGradRefIdeal.Run
public import proofs.«01_k».proof.Proof.Gen.SumModIdeal.Frame
public import proofs.«01_k».proof.Proof.Gen.SumModRefIdeal.Run
public import proofs.«01_k».proof.Proof.Gen.SumGainIdeal.Frame
public import proofs.«01_k».proof.Proof.Gen.SumGainRefIdeal.Run
public import Idealize.ShloMosaic.Lib.Quiescent

/-! The loss head, the top layer's gate, the gradient of the modulations' weights and the sums, against their references. -/

@[expose] public section

set_option maxRecDepth 16384
set_option maxHeartbeats 1000000
noncomputable section
open Idealize.ShloMosaic Idealize.ShloMosaic.TcCoe Idealize.SL.Sem
open Idealize.ShloMosaic.Pipeline (Dat)

namespace Cert.Proof.Ends

theorem frame_LossHeadRef : Cert.quiescent_LossHeadRefIdeal := fun m g _ =>
  (θ_run Cert.LossHeadRefIdeal.defs _ _).mono (fun r h => ⟨fun c => (h c).2.2, sem_eq_zero_of_no_sems (by decide) r.2⟩)
    (Cert.LossHeadRefIdeal.Value.run (F := Ideal) m g)

theorem algebraic_LossHeadIdeal_LossHeadRefIdeal : Cert.algebraic_LossHeadIdeal_LossHeadRefIdeal := by
  intro m g m' g' hp hagree
  refine ⟨_, _, Cert.LossHeadIdeal.Value.run_blocks m g, ?_⟩
  refine (θ_run Cert.LossHeadRefIdeal.defs _ _).mono (fun r h c => ?_) (Cert.LossHeadRefIdeal.Value.run (F := Ideal) m' g')
  obtain ⟨a0, a1⟩ := hagree c
  obtain ⟨h0, h1, hk⟩ := h c
  rw [Cert.LossHeadRefIdeal.Read.val_main_v15_eq, a0, a1] at h0
  rw [Cert.LossHeadRefIdeal.Read.val_main_v16_eq, a0, a1] at h1
  exact ⟨h0.trans (Cert.LossHeadIdeal.Outs.dy m c).symm, h1.trans (Cert.LossHeadIdeal.Outs.loss m c).symm, hk⟩

theorem frame_TopGradRef : Cert.quiescent_TopGradRefIdeal := fun m g _ =>
  (θ_run Cert.TopGradRefIdeal.defs _ _).mono (fun r h => ⟨fun c => (h c).2.2, sem_eq_zero_of_no_sems (by decide) r.2⟩)
    (Cert.TopGradRefIdeal.Value.run (F := Ideal) m g)

theorem algebraic_TopGradIdeal_TopGradRefIdeal : Cert.algebraic_TopGradIdeal_TopGradRefIdeal := by
  intro m g m' g' hp hagree
  refine ⟨_, _, Cert.TopGradIdeal.Value.run_blocks m g, ?_⟩
  refine (θ_run Cert.TopGradRefIdeal.defs _ _).mono (fun r h c => ?_) (Cert.TopGradRefIdeal.Value.run (F := Ideal) m' g')
  obtain ⟨a0, a1, a2⟩ := hagree c
  obtain ⟨h0, h1, hk⟩ := h c
  rw [Cert.TopGradRefIdeal.Read.val_main_v8_eq, a0, a2] at h0
  rw [Cert.TopGradRefIdeal.Read.val_main_v6_eq, a0, a1] at h1
  exact ⟨h0.trans (Cert.TopGradIdeal.Outs.dy m c).symm, h1.trans (Cert.TopGradIdeal.Outs.dgate m c).symm, hk⟩

theorem frame_AdaGradRef : Cert.quiescent_AdaGradRefIdeal := fun m g _ =>
  (θ_run Cert.AdaGradRefIdeal.defs _ _).mono (fun r h => ⟨fun c => (h c).2, sem_eq_zero_of_no_sems (by decide) r.2⟩)
    (Cert.AdaGradRefIdeal.Value.run (F := Ideal) m g)

theorem algebraic_AdaGradIdeal_AdaGradRefIdeal : Cert.algebraic_AdaGradIdeal_AdaGradRefIdeal := by
  intro m g m' g' hp hagree
  refine ⟨_, Cert.AdaGradIdeal.Value.run_blocks m g, ?_⟩
  refine (θ_run Cert.AdaGradRefIdeal.defs _ _).mono (fun r h c => ?_) (Cert.AdaGradRefIdeal.Value.run (F := Ideal) m' g')
  obtain ⟨a0, a1⟩ := hagree c
  obtain ⟨h0, hk⟩ := h c
  rw [Cert.AdaGradRefIdeal.Read.val_main_v6_eq, a0, a1] at h0
  exact ⟨h0.trans (Cert.AdaGradIdeal.Outs.prod m c).symm, hk⟩

theorem frame_SumModRef : Cert.quiescent_SumModRefIdeal := fun m g _ =>
  (θ_run Cert.SumModRefIdeal.defs _ _).mono (fun r h => ⟨fun c => (h c).2, sem_eq_zero_of_no_sems (by decide) r.2⟩)
    (Cert.SumModRefIdeal.Value.run (F := Ideal) m g)

theorem algebraic_SumModIdeal_SumModRefIdeal : Cert.algebraic_SumModIdeal_SumModRefIdeal := by
  intro m g m' g' hp hagree
  refine ⟨_, Cert.SumModIdeal.Value.run_blocks m g, ?_⟩
  refine (θ_run Cert.SumModRefIdeal.defs _ _).mono (fun r h c => ?_) (Cert.SumModRefIdeal.Value.run (F := Ideal) m' g')
  have a0 := hagree c
  obtain ⟨h0, hk⟩ := h c
  rw [Cert.SumModRefIdeal.Read.val_main_v0_eq, a0] at h0
  exact ⟨h0.trans (Cert.SumModIdeal.Outs.total m c).symm, hk⟩

theorem frame_SumGainRef : Cert.quiescent_SumGainRefIdeal := fun m g _ =>
  (θ_run Cert.SumGainRefIdeal.defs _ _).mono (fun r h => ⟨fun c => (h c).2, sem_eq_zero_of_no_sems (by decide) r.2⟩)
    (Cert.SumGainRefIdeal.Value.run (F := Ideal) m g)

theorem algebraic_SumGainIdeal_SumGainRefIdeal : Cert.algebraic_SumGainIdeal_SumGainRefIdeal := by
  intro m g m' g' hp hagree
  refine ⟨_, Cert.SumGainIdeal.Value.run_blocks m g, ?_⟩
  refine (θ_run Cert.SumGainRefIdeal.defs _ _).mono (fun r h c => ?_) (Cert.SumGainRefIdeal.Value.run (F := Ideal) m' g')
  have a0 := hagree c
  obtain ⟨h0, hk⟩ := h c
  rw [Cert.SumGainRefIdeal.Read.val_main_v0_eq, a0] at h0
  exact ⟨h0.trans (Cert.SumGainIdeal.Outs.total m c).symm, hk⟩

end Cert.Proof.Ends
end
-- ==== Proof.Steps.lean ====
module

public import proofs.«01_k».proof.Defs
public import proofs.«01_k».proof.Proof.Gen.StepAdaWIdeal.Value
public import proofs.«01_k».proof.Proof.Gen.StepAdaWIdeal.Frame
public import proofs.«01_k».proof.Proof.Gen.StepAdaWRefIdeal.Read
public import proofs.«01_k».proof.Proof.Gen.StepAdaWRefIdeal.Run
public import proofs.«01_k».proof.Proof.Gen.StepAdaBIdeal.Value
public import proofs.«01_k».proof.Proof.Gen.StepAdaBIdeal.Frame
public import proofs.«01_k».proof.Proof.Gen.StepAdaBRefIdeal.Read
public import proofs.«01_k».proof.Proof.Gen.StepAdaBRefIdeal.Run
public import proofs.«01_k».proof.Proof.Gen.StepGainIdeal.Value
public import proofs.«01_k».proof.Proof.Gen.StepGainIdeal.Frame
public import proofs.«01_k».proof.Proof.Gen.StepGainRefIdeal.Read
public import proofs.«01_k».proof.Proof.Gen.StepGainRefIdeal.Run
public import proofs.«01_k».proof.Proof.Gen.StepHeadGainIdeal.Value
public import proofs.«01_k».proof.Proof.Gen.StepHeadGainIdeal.Frame
public import proofs.«01_k».proof.Proof.Gen.StepHeadGainRefIdeal.Read
public import proofs.«01_k».proof.Proof.Gen.StepHeadGainRefIdeal.Run
public import proofs.«01_k».proof.Proof.Gen.StepSinksIdeal.Value
public import proofs.«01_k».proof.Proof.Gen.StepSinksIdeal.Frame
public import proofs.«01_k».proof.Proof.Gen.StepSinksRefIdeal.Read
public import proofs.«01_k».proof.Proof.Gen.StepSinksRefIdeal.Run
public import Idealize.ShloMosaic.Lib.Pipeline.ValueKit
public import Idealize.ShloMosaic.Lib.Quiescent

/-! The optimiser's calls: each block of a weight, its change and its new moments are the reference's. -/

@[expose] public section

set_option maxRecDepth 16384
set_option maxHeartbeats 1000000
noncomputable section
open Idealize.ShloMosaic Idealize.ShloMosaic.TcCoe Idealize.SL.Sem
open Idealize.ShloMosaic.Pipeline (Dat)

namespace Cert.StepAdaWIdeal.Outs
open Cert.StepAdaWIdeal Cert.StepAdaWIdeal.Gen Cert.StepAdaWRefIdeal.Read

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem new_m (c : Dev nD) : (dats m 0 c).arrAt 5 cfg0.N = val_main_v25 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  simp only [val_main_v25_apply, val_main_v4_apply, val_main_v3_apply, val_main_v2_apply, val_main_cst_0_apply, val_main_v1_apply, val_main_v0_apply, val_main_cst_apply]
  pointwise [k0_pay1, k0_pay2, k0_pay3, k0_pay4]
  blk_point [iblk, V, idx t]

theorem new_v (c : Dev nD) : (dats m 0 c).arrAt 6 cfg0.N = val_main_v26 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  simp only [val_main_v26_apply, val_main_v10_apply, val_main_v9_apply, val_main_v8_apply, val_main_cst_2_apply, val_main_v7_apply, val_main_v6_apply, val_main_v5_apply, val_main_cst_1_apply]
  pointwise [k0_pay1, k0_pay2, k0_pay3, k0_pay4]
  blk_point [iblk, V, idx t]

theorem delta (c : Dev nD) : (dats m 0 c).arrAt 4 cfg0.N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  simp only [val_main_v24_apply, val_main_v23_apply, val_main_v22_apply, val_main_cst_7_apply, val_main_v21_apply, val_main_v20_apply, val_main_v19_apply, val_main_cst_6_apply, val_main_v18_apply, val_main_v17_apply, val_main_v16_apply, val_main_cst_5_apply, val_main_v15_apply, val_main_v14_apply, val_main_v13_apply, val_main_cst_4_apply, val_main_v12_apply, val_main_v11_apply, val_main_cst_3_apply, val_main_v10_apply, val_main_v9_apply, val_main_v8_apply, val_main_cst_2_apply, val_main_v7_apply, val_main_v6_apply, val_main_v5_apply, val_main_cst_1_apply, val_main_v4_apply, val_main_v3_apply, val_main_v2_apply, val_main_cst_0_apply, val_main_v1_apply, val_main_v0_apply, val_main_cst_apply]
  pointwise [k0_pay1, k0_pay2, k0_pay3, k0_pay4]
  blk_point [iblk, V, idx t]

end Cert.StepAdaWIdeal.Outs

namespace Cert.StepAdaBIdeal.Outs
open Cert.StepAdaBIdeal Cert.StepAdaBIdeal.Gen Cert.StepAdaBRefIdeal.Read

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem new_m (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  simp only [val_main_v4_apply, val_main_v3_apply, val_main_v2_apply, val_main_cst_0_apply, val_main_v1_apply, val_main_v0_apply, val_main_cst_apply]
  pointwise [k0_pay1, k0_pay2, k0_pay3]
  blk_point [iblk, V, idx t]

theorem new_v (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  simp only [val_main_v10_apply, val_main_v9_apply, val_main_v8_apply, val_main_cst_2_apply, val_main_v7_apply, val_main_v6_apply, val_main_v5_apply, val_main_cst_1_apply]
  pointwise [k0_pay1, k0_pay2, k0_pay3]
  blk_point [iblk, V, idx t]

theorem delta (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  simp only [val_main_v23_apply, val_main_v22_apply, val_main_cst_7_apply, val_main_v21_apply, val_main_v20_apply, val_main_v19_apply, val_main_cst_6_apply, val_main_v18_apply, val_main_v17_apply, val_main_v16_apply, val_main_cst_5_apply, val_main_v15_apply, val_main_v14_apply, val_main_v13_apply, val_main_cst_4_apply, val_main_v12_apply, val_main_v11_apply, val_main_cst_3_apply, val_main_v10_apply, val_main_v9_apply, val_main_v8_apply, val_main_cst_2_apply, val_main_v7_apply, val_main_v6_apply, val_main_v5_apply, val_main_cst_1_apply, val_main_v4_apply, val_main_v3_apply, val_main_v2_apply, val_main_cst_0_apply, val_main_v1_apply, val_main_v0_apply, val_main_cst_apply]
  pointwise [k0_pay1, k0_pay2, k0_pay3]
  blk_point [iblk, V, idx t]

end Cert.StepAdaBIdeal.Outs

namespace Cert.StepGainIdeal.Outs
open Cert.StepGainIdeal Cert.StepGainIdeal.Gen Cert.StepGainRefIdeal.Read

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem new_m (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  simp only [val_main_v4_apply, val_main_v3_apply, val_main_v2_apply, val_main_cst_0_apply, val_main_v1_apply, val_main_v0_apply, val_main_cst_apply]
  pointwise [k0_pay1, k0_pay2, k0_pay3]
  blk_point [iblk, V, idx t]

theorem new_v (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  simp only [val_main_v10_apply, val_main_v9_apply, val_main_v8_apply, val_main_cst_2_apply, val_main_v7_apply, val_main_v6_apply, val_main_v5_apply, val_main_cst_1_apply]
  pointwise [k0_pay1, k0_pay2, k0_pay3]
  blk_point [iblk, V, idx t]

theorem delta (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  simp only [val_main_v23_apply, val_main_v22_apply, val_main_cst_7_apply, val_main_v21_apply, val_main_v20_apply, val_main_v19_apply, val_main_cst_6_apply, val_main_v18_apply, val_main_v17_apply, val_main_v16_apply, val_main_cst_5_apply, val_main_v15_apply, val_main_v14_apply, val_main_v13_apply, val_main_cst_4_apply, val_main_v12_apply, val_main_v11_apply, val_main_cst_3_apply, val_main_v10_apply, val_main_v9_apply, val_main_v8_apply, val_main_cst_2_apply, val_main_v7_apply, val_main_v6_apply, val_main_v5_apply, val_main_cst_1_apply, val_main_v4_apply, val_main_v3_apply, val_main_v2_apply, val_main_cst_0_apply, val_main_v1_apply, val_main_v0_apply, val_main_cst_apply]
  pointwise [k0_pay1, k0_pay2, k0_pay3]
  blk_point [iblk, V, idx t]

end Cert.StepGainIdeal.Outs

namespace Cert.StepHeadGainIdeal.Outs
open Cert.StepHeadGainIdeal Cert.StepHeadGainIdeal.Gen Cert.StepHeadGainRefIdeal.Read

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem new_m (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  simp only [val_main_v4_apply, val_main_v3_apply, val_main_v2_apply, val_main_cst_0_apply, val_main_v1_apply, val_main_v0_apply, val_main_cst_apply]
  pointwise [k0_pay1, k0_pay2, k0_pay3]
  blk_point [iblk, V, idx t]

theorem new_v (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  simp only [val_main_v10_apply, val_main_v9_apply, val_main_v8_apply, val_main_cst_2_apply, val_main_v7_apply, val_main_v6_apply, val_main_v5_apply, val_main_cst_1_apply]
  pointwise [k0_pay1, k0_pay2, k0_pay3]
  blk_point [iblk, V, idx t]

theorem delta (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  simp only [val_main_v23_apply, val_main_v22_apply, val_main_cst_7_apply, val_main_v21_apply, val_main_v20_apply, val_main_v19_apply, val_main_cst_6_apply, val_main_v18_apply, val_main_v17_apply, val_main_v16_apply, val_main_cst_5_apply, val_main_v15_apply, val_main_v14_apply, val_main_v13_apply, val_main_cst_4_apply, val_main_v12_apply, val_main_v11_apply, val_main_cst_3_apply, val_main_v10_apply, val_main_v9_apply, val_main_v8_apply, val_main_cst_2_apply, val_main_v7_apply, val_main_v6_apply, val_main_v5_apply, val_main_cst_1_apply, val_main_v4_apply, val_main_v3_apply, val_main_v2_apply, val_main_cst_0_apply, val_main_v1_apply, val_main_v0_apply, val_main_cst_apply]
  pointwise [k0_pay1, k0_pay2, k0_pay3]
  blk_point [iblk, V, idx t]

end Cert.StepHeadGainIdeal.Outs

namespace Cert.StepSinksIdeal.Outs
open Cert.StepSinksIdeal Cert.StepSinksIdeal.Gen Cert.StepSinksRefIdeal.Read

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem new_m (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  simp only [val_main_v4_apply, val_main_v3_apply, val_main_v2_apply, val_main_cst_0_apply, val_main_v1_apply, val_main_v0_apply, val_main_cst_apply]
  pointwise [k0_pay1, k0_pay2, k0_pay3]
  blk_point [iblk, V, idx t]

theorem new_v (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  simp only [val_main_v10_apply, val_main_v9_apply, val_main_v8_apply, val_main_cst_2_apply, val_main_v7_apply, val_main_v6_apply, val_main_v5_apply, val_main_cst_1_apply]
  pointwise [k0_pay1, k0_pay2, k0_pay3]
  blk_point [iblk, V, idx t]

theorem delta (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  simp only [val_main_v23_apply, val_main_v22_apply, val_main_cst_7_apply, val_main_v21_apply, val_main_v20_apply, val_main_v19_apply, val_main_cst_6_apply, val_main_v18_apply, val_main_v17_apply, val_main_v16_apply, val_main_cst_5_apply, val_main_v15_apply, val_main_v14_apply, val_main_v13_apply, val_main_cst_4_apply, val_main_v12_apply, val_main_v11_apply, val_main_cst_3_apply, val_main_v10_apply, val_main_v9_apply, val_main_v8_apply, val_main_cst_2_apply, val_main_v7_apply, val_main_v6_apply, val_main_v5_apply, val_main_cst_1_apply, val_main_v4_apply, val_main_v3_apply, val_main_v2_apply, val_main_cst_0_apply, val_main_v1_apply, val_main_v0_apply, val_main_cst_apply]
  pointwise [k0_pay1, k0_pay2, k0_pay3]
  blk_point [iblk, V, idx t]

end Cert.StepSinksIdeal.Outs

namespace Cert.Proof.Steps

theorem frame_StepAdaWRef : Cert.quiescent_StepAdaWRefIdeal := fun m g _ =>
  (θ_run Cert.StepAdaWRefIdeal.defs _ _).mono (fun r h => ⟨fun c => (h c).2.2.2, sem_eq_zero_of_no_sems (by decide) r.2⟩)
    (Cert.StepAdaWRefIdeal.Value.run (F := Ideal) m g)

theorem algebraic_StepAdaWIdeal_StepAdaWRefIdeal : Cert.algebraic_StepAdaWIdeal_StepAdaWRefIdeal := by
  intro m g m' g' hp hagree
  refine ⟨_, _, _, Cert.StepAdaWIdeal.Value.run_blocks m g, ?_⟩
  refine (θ_run Cert.StepAdaWRefIdeal.defs _ _).mono (fun r h c => ?_) (Cert.StepAdaWRefIdeal.Value.run (F := Ideal) m' g')
  obtain ⟨a0, a1, a2, a3⟩ := hagree c
  obtain ⟨h0, h1, h2, hk⟩ := h c
  rw [Cert.StepAdaWRefIdeal.Read.val_main_v24_eq, a0, a1, a2, a3] at h0
  rw [Cert.StepAdaWRefIdeal.Read.val_main_v25_eq, a1, a2] at h1
  rw [Cert.StepAdaWRefIdeal.Read.val_main_v26_eq, a1, a3] at h2
  exact ⟨h0.trans (Cert.StepAdaWIdeal.Outs.delta m c).symm, h1.trans (Cert.StepAdaWIdeal.Outs.new_m m c).symm, h2.trans (Cert.StepAdaWIdeal.Outs.new_v m c).symm, hk⟩

theorem frame_StepAdaBRef : Cert.quiescent_StepAdaBRefIdeal := fun m g _ =>
  (θ_run Cert.StepAdaBRefIdeal.defs _ _).mono (fun r h => ⟨fun c => (h c).2.2.2, sem_eq_zero_of_no_sems (by decide) r.2⟩)
    (Cert.StepAdaBRefIdeal.Value.run (F := Ideal) m g)

theorem algebraic_StepAdaBIdeal_StepAdaBRefIdeal : Cert.algebraic_StepAdaBIdeal_StepAdaBRefIdeal := by
  intro m g m' g' hp hagree
  refine ⟨_, _, _, Cert.StepAdaBIdeal.Value.run_blocks m g, ?_⟩
  refine (θ_run Cert.StepAdaBRefIdeal.defs _ _).mono (fun r h c => ?_) (Cert.StepAdaBRefIdeal.Value.run (F := Ideal) m' g')
  obtain ⟨a0, a1, a2, a3⟩ := hagree c
  obtain ⟨h0, h1, h2, hk⟩ := h c
  rw [Cert.StepAdaBRefIdeal.Read.val_main_v23_eq, a0, a1, a2, a3] at h0
  rw [Cert.StepAdaBRefIdeal.Read.val_main_v4_eq, a1, a2] at h1
  rw [Cert.StepAdaBRefIdeal.Read.val_main_v10_eq, a1, a3] at h2
  exact ⟨h0.trans (Cert.StepAdaBIdeal.Outs.delta m c).symm, h1.trans (Cert.StepAdaBIdeal.Outs.new_m m c).symm, h2.trans (Cert.StepAdaBIdeal.Outs.new_v m c).symm, hk⟩

theorem frame_StepGainRef : Cert.quiescent_StepGainRefIdeal := fun m g _ =>
  (θ_run Cert.StepGainRefIdeal.defs _ _).mono (fun r h => ⟨fun c => (h c).2.2.2, sem_eq_zero_of_no_sems (by decide) r.2⟩)
    (Cert.StepGainRefIdeal.Value.run (F := Ideal) m g)

theorem algebraic_StepGainIdeal_StepGainRefIdeal : Cert.algebraic_StepGainIdeal_StepGainRefIdeal := by
  intro m g m' g' hp hagree
  refine ⟨_, _, _, Cert.StepGainIdeal.Value.run_blocks m g, ?_⟩
  refine (θ_run Cert.StepGainRefIdeal.defs _ _).mono (fun r h c => ?_) (Cert.StepGainRefIdeal.Value.run (F := Ideal) m' g')
  obtain ⟨a0, a1, a2, a3⟩ := hagree c
  obtain ⟨h0, h1, h2, hk⟩ := h c
  rw [Cert.StepGainRefIdeal.Read.val_main_v23_eq, a0, a1, a2, a3] at h0
  rw [Cert.StepGainRefIdeal.Read.val_main_v4_eq, a1, a2] at h1
  rw [Cert.StepGainRefIdeal.Read.val_main_v10_eq, a1, a3] at h2
  exact ⟨h0.trans (Cert.StepGainIdeal.Outs.delta m c).symm, h1.trans (Cert.StepGainIdeal.Outs.new_m m c).symm, h2.trans (Cert.StepGainIdeal.Outs.new_v m c).symm, hk⟩

theorem frame_StepHeadGainRef : Cert.quiescent_StepHeadGainRefIdeal := fun m g _ =>
  (θ_run Cert.StepHeadGainRefIdeal.defs _ _).mono (fun r h => ⟨fun c => (h c).2.2.2, sem_eq_zero_of_no_sems (by decide) r.2⟩)
    (Cert.StepHeadGainRefIdeal.Value.run (F := Ideal) m g)

theorem algebraic_StepHeadGainIdeal_StepHeadGainRefIdeal : Cert.algebraic_StepHeadGainIdeal_StepHeadGainRefIdeal := by
  intro m g m' g' hp hagree
  refine ⟨_, _, _, Cert.StepHeadGainIdeal.Value.run_blocks m g, ?_⟩
  refine (θ_run Cert.StepHeadGainRefIdeal.defs _ _).mono (fun r h c => ?_) (Cert.StepHeadGainRefIdeal.Value.run (F := Ideal) m' g')
  obtain ⟨a0, a1, a2, a3⟩ := hagree c
  obtain ⟨h0, h1, h2, hk⟩ := h c
  rw [Cert.StepHeadGainRefIdeal.Read.val_main_v23_eq, a0, a1, a2, a3] at h0
  rw [Cert.StepHeadGainRefIdeal.Read.val_main_v4_eq, a1, a2] at h1
  rw [Cert.StepHeadGainRefIdeal.Read.val_main_v10_eq, a1, a3] at h2
  exact ⟨h0.trans (Cert.StepHeadGainIdeal.Outs.delta m c).symm, h1.trans (Cert.StepHeadGainIdeal.Outs.new_m m c).symm, h2.trans (Cert.StepHeadGainIdeal.Outs.new_v m c).symm, hk⟩

theorem frame_StepSinksRef : Cert.quiescent_StepSinksRefIdeal := fun m g _ =>
  (θ_run Cert.StepSinksRefIdeal.defs _ _).mono (fun r h => ⟨fun c => (h c).2.2.2, sem_eq_zero_of_no_sems (by decide) r.2⟩)
    (Cert.StepSinksRefIdeal.Value.run (F := Ideal) m g)

theorem algebraic_StepSinksIdeal_StepSinksRefIdeal : Cert.algebraic_StepSinksIdeal_StepSinksRefIdeal := by
  intro m g m' g' hp hagree
  refine ⟨_, _, _, Cert.StepSinksIdeal.Value.run_blocks m g, ?_⟩
  refine (θ_run Cert.StepSinksRefIdeal.defs _ _).mono (fun r h c => ?_) (Cert.StepSinksRefIdeal.Value.run (F := Ideal) m' g')
  obtain ⟨a0, a1, a2, a3⟩ := hagree c
  obtain ⟨h0, h1, h2, hk⟩ := h c
  rw [Cert.StepSinksRefIdeal.Read.val_main_v23_eq, a0, a1, a2, a3] at h0
  rw [Cert.StepSinksRefIdeal.Read.val_main_v4_eq, a1, a2] at h1
  rw [Cert.StepSinksRefIdeal.Read.val_main_v10_eq, a1, a3] at h2
  exact ⟨h0.trans (Cert.StepSinksIdeal.Outs.delta m c).symm, h1.trans (Cert.StepSinksIdeal.Outs.new_m m c).symm, h2.trans (Cert.StepSinksIdeal.Outs.new_v m c).symm, hk⟩

end Cert.Proof.Steps
end
-- ==== Proof.StepsB.lean ====
module

public import proofs.«01_k».proof.Defs
public import proofs.«01_k».proof.Proof.Gen.StepQkvAIdeal.Value
public import proofs.«01_k».proof.Proof.Gen.StepQkvAIdeal.Frame
public import proofs.«01_k».proof.Proof.Gen.StepQkvARefIdeal.Read
public import proofs.«01_k».proof.Proof.Gen.StepQkvARefIdeal.Run
public import proofs.«01_k».proof.Proof.Gen.StepOutIdeal.Value
public import proofs.«01_k».proof.Proof.Gen.StepOutIdeal.Frame
public import proofs.«01_k».proof.Proof.Gen.StepOutRefIdeal.Read
public import proofs.«01_k».proof.Proof.Gen.StepOutRefIdeal.Run
public import proofs.«01_k».proof.Proof.Gen.StepQkvBIdeal.Value
public import proofs.«01_k».proof.Proof.Gen.StepQkvBIdeal.Frame
public import proofs.«01_k».proof.Proof.Gen.StepQkvBRefIdeal.Read
public import proofs.«01_k».proof.Proof.Gen.StepQkvBRefIdeal.Run
public import proofs.«01_k».proof.Proof.Gen.StepUpIdeal.Value
public import proofs.«01_k».proof.Proof.Gen.StepUpIdeal.Frame
public import proofs.«01_k».proof.Proof.Gen.StepUpRefIdeal.Read
public import proofs.«01_k».proof.Proof.Gen.StepUpRefIdeal.Run
public import proofs.«01_k».proof.Proof.Gen.StepDownIdeal.Value
public import proofs.«01_k».proof.Proof.Gen.StepDownIdeal.Frame
public import proofs.«01_k».proof.Proof.Gen.StepDownRefIdeal.Read
public import proofs.«01_k».proof.Proof.Gen.StepDownRefIdeal.Run
public import Idealize.ShloMosaic.Lib.Pipeline.ValueKit
public import Idealize.ShloMosaic.Lib.Quiescent

/-! The optimiser's calls: each block of a weight, its change and its new moments are the reference's. -/

@[expose] public section

set_option maxRecDepth 16384
set_option maxHeartbeats 1000000
noncomputable section
open Idealize.ShloMosaic Idealize.ShloMosaic.TcCoe Idealize.SL.Sem
open Idealize.ShloMosaic.Pipeline (Dat)

namespace Cert.StepQkvAIdeal.Outs
open Cert.StepQkvAIdeal Cert.StepQkvAIdeal.Gen Cert.StepQkvARefIdeal.Read

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem new_m (c : Dev nD) : (dats m 0 c).arrAt 5 cfg0.N = val_main_v25 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  simp only [val_main_v25_apply, val_main_v4_apply, val_main_v3_apply, val_main_v2_apply, val_main_cst_0_apply, val_main_v1_apply, val_main_v0_apply, val_main_cst_apply]
  pointwise [k0_pay1, k0_pay2, k0_pay3, k0_pay4]
  blk_point [iblk, V, idx t]

theorem new_v (c : Dev nD) : (dats m 0 c).arrAt 6 cfg0.N = val_main_v26 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  simp only [val_main_v26_apply, val_main_v10_apply, val_main_v9_apply, val_main_v8_apply, val_main_cst_2_apply, val_main_v7_apply, val_main_v6_apply, val_main_v5_apply, val_main_cst_1_apply]
  pointwise [k0_pay1, k0_pay2, k0_pay3, k0_pay4]
  blk_point [iblk, V, idx t]

theorem delta (c : Dev nD) : (dats m 0 c).arrAt 4 cfg0.N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  simp only [val_main_v24_apply, val_main_v23_apply, val_main_v22_apply, val_main_cst_7_apply, val_main_v21_apply, val_main_v20_apply, val_main_v19_apply, val_main_cst_6_apply, val_main_v18_apply, val_main_v17_apply, val_main_v16_apply, val_main_cst_5_apply, val_main_v15_apply, val_main_v14_apply, val_main_v13_apply, val_main_cst_4_apply, val_main_v12_apply, val_main_v11_apply, val_main_cst_3_apply, val_main_v10_apply, val_main_v9_apply, val_main_v8_apply, val_main_cst_2_apply, val_main_v7_apply, val_main_v6_apply, val_main_v5_apply, val_main_cst_1_apply, val_main_v4_apply, val_main_v3_apply, val_main_v2_apply, val_main_cst_0_apply, val_main_v1_apply, val_main_v0_apply, val_main_cst_apply]
  pointwise [k0_pay1, k0_pay2, k0_pay3, k0_pay4]
  blk_point [iblk, V, idx t]

end Cert.StepQkvAIdeal.Outs

namespace Cert.StepOutIdeal.Outs
open Cert.StepOutIdeal Cert.StepOutIdeal.Gen Cert.StepOutRefIdeal.Read

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem new_m (c : Dev nD) : (dats m 0 c).arrAt 5 cfg0.N = val_main_v25 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  simp only [val_main_v25_apply, val_main_v4_apply, val_main_v3_apply, val_main_v2_apply, val_main_cst_0_apply, val_main_v1_apply, val_main_v0_apply, val_main_cst_apply]
  pointwise [k0_pay1, k0_pay2, k0_pay3, k0_pay4]
  blk_point [iblk, V, idx t]

theorem new_v (c : Dev nD) : (dats m 0 c).arrAt 6 cfg0.N = val_main_v26 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  simp only [val_main_v26_apply, val_main_v10_apply, val_main_v9_apply, val_main_v8_apply, val_main_cst_2_apply, val_main_v7_apply, val_main_v6_apply, val_main_v5_apply, val_main_cst_1_apply]
  pointwise [k0_pay1, k0_pay2, k0_pay3, k0_pay4]
  blk_point [iblk, V, idx t]

theorem delta (c : Dev nD) : (dats m 0 c).arrAt 4 cfg0.N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  simp only [val_main_v24_apply, val_main_v23_apply, val_main_v22_apply, val_main_cst_7_apply, val_main_v21_apply, val_main_v20_apply, val_main_v19_apply, val_main_cst_6_apply, val_main_v18_apply, val_main_v17_apply, val_main_v16_apply, val_main_cst_5_apply, val_main_v15_apply, val_main_v14_apply, val_main_v13_apply, val_main_cst_4_apply, val_main_v12_apply, val_main_v11_apply, val_main_cst_3_apply, val_main_v10_apply, val_main_v9_apply, val_main_v8_apply, val_main_cst_2_apply, val_main_v7_apply, val_main_v6_apply, val_main_v5_apply, val_main_cst_1_apply, val_main_v4_apply, val_main_v3_apply, val_main_v2_apply, val_main_cst_0_apply, val_main_v1_apply, val_main_v0_apply, val_main_cst_apply]
  pointwise [k0_pay1, k0_pay2, k0_pay3, k0_pay4]
  blk_point [iblk, V, idx t]

end Cert.StepOutIdeal.Outs

namespace Cert.StepQkvBIdeal.Outs
open Cert.StepQkvBIdeal Cert.StepQkvBIdeal.Gen Cert.StepQkvBRefIdeal.Read

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem new_m (c : Dev nD) : (dats m 0 c).arrAt 5 cfg0.N = val_main_v25 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  simp only [val_main_v25_apply, val_main_v4_apply, val_main_v3_apply, val_main_v2_apply, val_main_cst_0_apply, val_main_v1_apply, val_main_v0_apply, val_main_cst_apply]
  pointwise [k0_pay1, k0_pay2, k0_pay3, k0_pay4]
  blk_point [iblk, V, idx t]

theorem new_v (c : Dev nD) : (dats m 0 c).arrAt 6 cfg0.N = val_main_v26 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  simp only [val_main_v26_apply, val_main_v10_apply, val_main_v9_apply, val_main_v8_apply, val_main_cst_2_apply, val_main_v7_apply, val_main_v6_apply, val_main_v5_apply, val_main_cst_1_apply]
  pointwise [k0_pay1, k0_pay2, k0_pay3, k0_pay4]
  blk_point [iblk, V, idx t]

theorem delta (c : Dev nD) : (dats m 0 c).arrAt 4 cfg0.N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  simp only [val_main_v24_apply, val_main_v23_apply, val_main_v22_apply, val_main_cst_7_apply, val_main_v21_apply, val_main_v20_apply, val_main_v19_apply, val_main_cst_6_apply, val_main_v18_apply, val_main_v17_apply, val_main_v16_apply, val_main_cst_5_apply, val_main_v15_apply, val_main_v14_apply, val_main_v13_apply, val_main_cst_4_apply, val_main_v12_apply, val_main_v11_apply, val_main_cst_3_apply, val_main_v10_apply, val_main_v9_apply, val_main_v8_apply, val_main_cst_2_apply, val_main_v7_apply, val_main_v6_apply, val_main_v5_apply, val_main_cst_1_apply, val_main_v4_apply, val_main_v3_apply, val_main_v2_apply, val_main_cst_0_apply, val_main_v1_apply, val_main_v0_apply, val_main_cst_apply]
  pointwise [k0_pay1, k0_pay2, k0_pay3, k0_pay4]
  blk_point [iblk, V, idx t]

end Cert.StepQkvBIdeal.Outs

namespace Cert.StepUpIdeal.Outs
open Cert.StepUpIdeal Cert.StepUpIdeal.Gen Cert.StepUpRefIdeal.Read

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem new_m (c : Dev nD) : (dats m 0 c).arrAt 5 cfg0.N = val_main_v25 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  simp only [val_main_v25_apply, val_main_v4_apply, val_main_v3_apply, val_main_v2_apply, val_main_cst_0_apply, val_main_v1_apply, val_main_v0_apply, val_main_cst_apply]
  pointwise [k0_pay1, k0_pay2, k0_pay3, k0_pay4]
  blk_point [iblk, V, idx t]

theorem new_v (c : Dev nD) : (dats m 0 c).arrAt 6 cfg0.N = val_main_v26 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  simp only [val_main_v26_apply, val_main_v10_apply, val_main_v9_apply, val_main_v8_apply, val_main_cst_2_apply, val_main_v7_apply, val_main_v6_apply, val_main_v5_apply, val_main_cst_1_apply]
  pointwise [k0_pay1, k0_pay2, k0_pay3, k0_pay4]
  blk_point [iblk, V, idx t]

theorem delta (c : Dev nD) : (dats m 0 c).arrAt 4 cfg0.N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  simp only [val_main_v24_apply, val_main_v23_apply, val_main_v22_apply, val_main_cst_7_apply, val_main_v21_apply, val_main_v20_apply, val_main_v19_apply, val_main_cst_6_apply, val_main_v18_apply, val_main_v17_apply, val_main_v16_apply, val_main_cst_5_apply, val_main_v15_apply, val_main_v14_apply, val_main_v13_apply, val_main_cst_4_apply, val_main_v12_apply, val_main_v11_apply, val_main_cst_3_apply, val_main_v10_apply, val_main_v9_apply, val_main_v8_apply, val_main_cst_2_apply, val_main_v7_apply, val_main_v6_apply, val_main_v5_apply, val_main_cst_1_apply, val_main_v4_apply, val_main_v3_apply, val_main_v2_apply, val_main_cst_0_apply, val_main_v1_apply, val_main_v0_apply, val_main_cst_apply]
  pointwise [k0_pay1, k0_pay2, k0_pay3, k0_pay4]
  blk_point [iblk, V, idx t]

end Cert.StepUpIdeal.Outs

namespace Cert.StepDownIdeal.Outs
open Cert.StepDownIdeal Cert.StepDownIdeal.Gen Cert.StepDownRefIdeal.Read

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem new_m (c : Dev nD) : (dats m 0 c).arrAt 5 cfg0.N = val_main_v25 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  simp only [val_main_v25_apply, val_main_v4_apply, val_main_v3_apply, val_main_v2_apply, val_main_cst_0_apply, val_main_v1_apply, val_main_v0_apply, val_main_cst_apply]
  pointwise [k0_pay1, k0_pay2, k0_pay3, k0_pay4]
  blk_point [iblk, V, idx t]

theorem new_v (c : Dev nD) : (dats m 0 c).arrAt 6 cfg0.N = val_main_v26 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  simp only [val_main_v26_apply, val_main_v10_apply, val_main_v9_apply, val_main_v8_apply, val_main_cst_2_apply, val_main_v7_apply, val_main_v6_apply, val_main_v5_apply, val_main_cst_1_apply]
  pointwise [k0_pay1, k0_pay2, k0_pay3, k0_pay4]
  blk_point [iblk, V, idx t]

theorem delta (c : Dev nD) : (dats m 0 c).arrAt 4 cfg0.N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  simp only [val_main_v24_apply, val_main_v23_apply, val_main_v22_apply, val_main_cst_7_apply, val_main_v21_apply, val_main_v20_apply, val_main_v19_apply, val_main_cst_6_apply, val_main_v18_apply, val_main_v17_apply, val_main_v16_apply, val_main_cst_5_apply, val_main_v15_apply, val_main_v14_apply, val_main_v13_apply, val_main_cst_4_apply, val_main_v12_apply, val_main_v11_apply, val_main_cst_3_apply, val_main_v10_apply, val_main_v9_apply, val_main_v8_apply, val_main_cst_2_apply, val_main_v7_apply, val_main_v6_apply, val_main_v5_apply, val_main_cst_1_apply, val_main_v4_apply, val_main_v3_apply, val_main_v2_apply, val_main_cst_0_apply, val_main_v1_apply, val_main_v0_apply, val_main_cst_apply]
  pointwise [k0_pay1, k0_pay2, k0_pay3, k0_pay4]
  blk_point [iblk, V, idx t]

end Cert.StepDownIdeal.Outs

namespace Cert.Proof.Steps

theorem frame_StepQkvARef : Cert.quiescent_StepQkvARefIdeal := fun m g _ =>
  (θ_run Cert.StepQkvARefIdeal.defs _ _).mono (fun r h => ⟨fun c => (h c).2.2.2, sem_eq_zero_of_no_sems (by decide) r.2⟩)
    (Cert.StepQkvARefIdeal.Value.run (F := Ideal) m g)

theorem algebraic_StepQkvAIdeal_StepQkvARefIdeal : Cert.algebraic_StepQkvAIdeal_StepQkvARefIdeal := by
  intro m g m' g' hp hagree
  refine ⟨_, _, _, Cert.StepQkvAIdeal.Value.run_blocks m g, ?_⟩
  refine (θ_run Cert.StepQkvARefIdeal.defs _ _).mono (fun r h c => ?_) (Cert.StepQkvARefIdeal.Value.run (F := Ideal) m' g')
  obtain ⟨a0, a1, a2, a3⟩ := hagree c
  obtain ⟨h0, h1, h2, hk⟩ := h c
  rw [Cert.StepQkvARefIdeal.Read.val_main_v24_eq, a0, a1, a2, a3] at h0
  rw [Cert.StepQkvARefIdeal.Read.val_main_v25_eq, a1, a2] at h1
  rw [Cert.StepQkvARefIdeal.Read.val_main_v26_eq, a1, a3] at h2
  exact ⟨h0.trans (Cert.StepQkvAIdeal.Outs.delta m c).symm, h1.trans (Cert.StepQkvAIdeal.Outs.new_m m c).symm, h2.trans (Cert.StepQkvAIdeal.Outs.new_v m c).symm, hk⟩

theorem frame_StepOutRef : Cert.quiescent_StepOutRefIdeal := fun m g _ =>
  (θ_run Cert.StepOutRefIdeal.defs _ _).mono (fun r h => ⟨fun c => (h c).2.2.2, sem_eq_zero_of_no_sems (by decide) r.2⟩)
    (Cert.StepOutRefIdeal.Value.run (F := Ideal) m g)

theorem algebraic_StepOutIdeal_StepOutRefIdeal : Cert.algebraic_StepOutIdeal_StepOutRefIdeal := by
  intro m g m' g' hp hagree
  refine ⟨_, _, _, Cert.StepOutIdeal.Value.run_blocks m g, ?_⟩
  refine (θ_run Cert.StepOutRefIdeal.defs _ _).mono (fun r h c => ?_) (Cert.StepOutRefIdeal.Value.run (F := Ideal) m' g')
  obtain ⟨a0, a1, a2, a3⟩ := hagree c
  obtain ⟨h0, h1, h2, hk⟩ := h c
  rw [Cert.StepOutRefIdeal.Read.val_main_v24_eq, a0, a1, a2, a3] at h0
  rw [Cert.StepOutRefIdeal.Read.val_main_v25_eq, a1, a2] at h1
  rw [Cert.StepOutRefIdeal.Read.val_main_v26_eq, a1, a3] at h2
  exact ⟨h0.trans (Cert.StepOutIdeal.Outs.delta m c).symm, h1.trans (Cert.StepOutIdeal.Outs.new_m m c).symm, h2.trans (Cert.StepOutIdeal.Outs.new_v m c).symm, hk⟩

theorem frame_StepQkvBRef : Cert.quiescent_StepQkvBRefIdeal := fun m g _ =>
  (θ_run Cert.StepQkvBRefIdeal.defs _ _).mono (fun r h => ⟨fun c => (h c).2.2.2, sem_eq_zero_of_no_sems (by decide) r.2⟩)
    (Cert.StepQkvBRefIdeal.Value.run (F := Ideal) m g)

theorem algebraic_StepQkvBIdeal_StepQkvBRefIdeal : Cert.algebraic_StepQkvBIdeal_StepQkvBRefIdeal := by
  intro m g m' g' hp hagree
  refine ⟨_, _, _, Cert.StepQkvBIdeal.Value.run_blocks m g, ?_⟩
  refine (θ_run Cert.StepQkvBRefIdeal.defs _ _).mono (fun r h c => ?_) (Cert.StepQkvBRefIdeal.Value.run (F := Ideal) m' g')
  obtain ⟨a0, a1, a2, a3⟩ := hagree c
  obtain ⟨h0, h1, h2, hk⟩ := h c
  rw [Cert.StepQkvBRefIdeal.Read.val_main_v24_eq, a0, a1, a2, a3] at h0
  rw [Cert.StepQkvBRefIdeal.Read.val_main_v25_eq, a1, a2] at h1
  rw [Cert.StepQkvBRefIdeal.Read.val_main_v26_eq, a1, a3] at h2
  exact ⟨h0.trans (Cert.StepQkvBIdeal.Outs.delta m c).symm, h1.trans (Cert.StepQkvBIdeal.Outs.new_m m c).symm, h2.trans (Cert.StepQkvBIdeal.Outs.new_v m c).symm, hk⟩

theorem frame_StepUpRef : Cert.quiescent_StepUpRefIdeal := fun m g _ =>
  (θ_run Cert.StepUpRefIdeal.defs _ _).mono (fun r h => ⟨fun c => (h c).2.2.2, sem_eq_zero_of_no_sems (by decide) r.2⟩)
    (Cert.StepUpRefIdeal.Value.run (F := Ideal) m g)

theorem algebraic_StepUpIdeal_StepUpRefIdeal : Cert.algebraic_StepUpIdeal_StepUpRefIdeal := by
  intro m g m' g' hp hagree
  refine ⟨_, _, _, Cert.StepUpIdeal.Value.run_blocks m g, ?_⟩
  refine (θ_run Cert.StepUpRefIdeal.defs _ _).mono (fun r h c => ?_) (Cert.StepUpRefIdeal.Value.run (F := Ideal) m' g')
  obtain ⟨a0, a1, a2, a3⟩ := hagree c
  obtain ⟨h0, h1, h2, hk⟩ := h c
  rw [Cert.StepUpRefIdeal.Read.val_main_v24_eq, a0, a1, a2, a3] at h0
  rw [Cert.StepUpRefIdeal.Read.val_main_v25_eq, a1, a2] at h1
  rw [Cert.StepUpRefIdeal.Read.val_main_v26_eq, a1, a3] at h2
  exact ⟨h0.trans (Cert.StepUpIdeal.Outs.delta m c).symm, h1.trans (Cert.StepUpIdeal.Outs.new_m m c).symm, h2.trans (Cert.StepUpIdeal.Outs.new_v m c).symm, hk⟩

theorem frame_StepDownRef : Cert.quiescent_StepDownRefIdeal := fun m g _ =>
  (θ_run Cert.StepDownRefIdeal.defs _ _).mono (fun r h => ⟨fun c => (h c).2.2.2, sem_eq_zero_of_no_sems (by decide) r.2⟩)
    (Cert.StepDownRefIdeal.Value.run (F := Ideal) m g)

theorem algebraic_StepDownIdeal_StepDownRefIdeal : Cert.algebraic_StepDownIdeal_StepDownRefIdeal := by
  intro m g m' g' hp hagree
  refine ⟨_, _, _, Cert.StepDownIdeal.Value.run_blocks m g, ?_⟩
  refine (θ_run Cert.StepDownRefIdeal.defs _ _).mono (fun r h c => ?_) (Cert.StepDownRefIdeal.Value.run (F := Ideal) m' g')
  obtain ⟨a0, a1, a2, a3⟩ := hagree c
  obtain ⟨h0, h1, h2, hk⟩ := h c
  rw [Cert.StepDownRefIdeal.Read.val_main_v24_eq, a0, a1, a2, a3] at h0
  rw [Cert.StepDownRefIdeal.Read.val_main_v25_eq, a1, a2] at h1
  rw [Cert.StepDownRefIdeal.Read.val_main_v26_eq, a1, a3] at h2
  exact ⟨h0.trans (Cert.StepDownIdeal.Outs.delta m c).symm, h1.trans (Cert.StepDownIdeal.Outs.new_m m c).symm, h2.trans (Cert.StepDownIdeal.Outs.new_v m c).symm, hk⟩

end Cert.Proof.Steps
end
-- ==== Proof.FirstVal.lean ====
module

public import proofs.«01_k».proof.Proof.Gen.FirstGradIdeal.Value
public import proofs.«01_k».proof.Proof.Gen.FirstGradRefIdeal.Read
public import proofs.«01_k».proof.Proof.Row
public import Idealize.ShloMosaic.Lib.Pipeline.ValueKit

/-! The first layer's norm, backward: what its body computes, at a row and a column, against the reference's stages. -/

@[expose] public section

set_option maxRecDepth 16384
set_option maxHeartbeats 1000000
noncomputable section
open Idealize.ShloMosaic Idealize.ShloMosaic.TcCoe Idealize.SL.Sem
open Idealize.ShloMosaic.Pipeline (Dat)
namespace Cert.FirstGradIdeal.Outs
open Cert.FirstGradIdeal Cert.FirstGradIdeal.Gen

variable (m : (ℓ : Loc nD τ sig) → Buf (Elt Ideal) ℓ)

open Cert.FirstGradRefIdeal.Read

theorem idx : ∀ t : Fin cfg0.N,
    win0_0.index t = ![t.val, 0] ∧ win0_1.index t = ![0, 0] ∧ win0_2.index t = ![t.val, 0] ∧ win0_3.index t = ![t.val, 0]
    ∧ win0_4.index t = ![0, 0] ∧ win0_5.index t = ![t.val / 8, 0, 0] ∧ win0_6.index t = ![t.val, 0]
    ∧ win0_7.index t = ![t.val / 8, 0, 0] ∧ win0_8.index t = ![t.val / 8, 0, 0] ∧ win0_9.index t = ![t.val / 8, 0, 0] :=
  (by decide +kernel : ∀ t : Fin grid0.N, _)

theorem lt16 (t : Fin cfg0.N) : t.val < 16 := t.isLt

/-- The row and column a block's entry stands for. -/
def at3 (t : Fin cfg0.N) (p : Fin 512) (d : Fin 1024) : Cert.FirstGradRefIdeal.S2x4096x1024.Idx :=
  ix3 (⟨t.val / 8, by have := lt16 t; omega⟩ : Fin 2) (⟨t.val % 8 * 512 + p.val, by have := p.isLt; omega⟩ : Fin 4096) d

/-- The same row, of an array with one column. -/
def row3 (t : Fin cfg0.N) (p : Fin 512) : Cert.FirstGradRefIdeal.S2x4096x1.Idx :=
  ix3 (⟨t.val / 8, by have := lt16 t; omega⟩ : Fin 2) (⟨t.val % 8 * 512 + p.val, by have := p.isLt; omega⟩ : Fin 4096) (0 : Fin 1)

theorem dh_at (c : Dev nD) (t : Fin cfg0.N) (p : Fin 512) (d : Fin 1024) :
    (k0_pay4 (iblk m c 0 t) (iblk m c 1 t)) (ix2 p d)
      = val_main_v25 (F := Ideal) (m ((c : Thread nD τ).loc main_arg3)) (m ((c : Thread nD τ).loc main_arg5)) (at3 t p d) := by
  simp only [val_main_v25_apply]
  pointwise [k0_pay4]
  blk_point [iblk, V, idx t, at3, row3]

theorem r_at (c : Dev nD) (t : Fin cfg0.N) (p : Fin 512) :
    (k0_pay7 (iblk m c 2 t)) (ix2 p 0)
      = val_main_v10 (F := Ideal) (m ((c : Thread nD τ).loc main_arg0)) (row3 t p) := by
  simp only [val_main_v10_apply, val_main_v9_apply, val_main_v8_apply, val_main_cst_2_apply, val_main_v7_apply, val_main_v6_apply, val_main_cst_1_apply, val_main_v5_apply, val_main_v4_apply, val_main_cst_0_apply, val_main_v3_apply]
  pointwise [k0_pay7, k0_pay5]
  blk_point [iblk, V, idx t, at3, row3]

theorem xr_at (c : Dev nD) (t : Fin cfg0.N) (p : Fin 512) (d : Fin 1024) :
    (k0_pay8 (iblk m c 2 t)) (ix2 p d)
      = val_main_v15 (F := Ideal) (m ((c : Thread nD τ).loc main_arg0)) (at3 t p d) := by
  simp only [val_main_v15_apply, val_main_v14_apply]
  pointwise [k0_pay8, k0_pay5]
  rw [r_at m c t]
  blk_point [iblk, V, idx t, at3, row3]

theorem hs_at (c : Dev nD) (t : Fin cfg0.N) (p : Fin 512) (d : Fin 1024) :
    (k0_pay12 (k0_pay4 (iblk m c 0 t) (iblk m c 1 t)) (iblk m c 5 t)) (ix2 p d)
      = val_main_v32 (F := Ideal) (m ((c : Thread nD τ).loc main_arg2)) (m ((c : Thread nD τ).loc main_arg3)) (m ((c : Thread nD τ).loc main_arg5)) (at3 t p d) := by
  simp only [val_main_v32_apply, val_main_v31_apply, val_main_v19_apply, val_main_v18_apply, val_main_cst_4_apply]
  pointwise [k0_pay12]
  rw [dh_at m c t]
  blk_point [iblk, V, idx t, at3, row3]

theorem h_at (c : Dev nD) (t : Fin cfg0.N) (p : Fin 512) (d : Fin 1024) :
    ((k0_pay12 (k0_pay4 (iblk m c 0 t) (iblk m c 1 t)) (iblk m c 5 t)) (ix2 p d) : EReal) * (k0_pay6 (iblk m c 4 t)) (ix2 0 d)
      = val_main_v37 (F := Ideal) (m ((c : Thread nD τ).loc main_arg1)) (m ((c : Thread nD τ).loc main_arg2)) (m ((c : Thread nD τ).loc main_arg3)) (m ((c : Thread nD τ).loc main_arg5)) (at3 t p d) := by
  simp only [val_main_v37_apply, val_main_v36_apply, val_main_v1_apply, val_main_v0_apply, val_main_v32_apply, val_main_v31_apply, val_main_v19_apply, val_main_v18_apply, val_main_cst_4_apply]
  pointwise [k0_pay12, k0_pay6]
  rw [dh_at m c t]
  blk_point [iblk, V, idx t, at3, row3]

end Cert.FirstGradIdeal.Outs
end
-- ==== Proof.FirstSum.lean ====
module

public import proofs.«01_k».proof.Proof.FirstVal

/-! The first layer's norm, backward: the gradients of the shift, the scale and the gain, added up over a sequence's blocks of rows. -/

@[expose] public section

set_option maxRecDepth 16384
set_option maxHeartbeats 1000000
noncomputable section
open Idealize.ShloMosaic Idealize.ShloMosaic.TcCoe Idealize.SL.Sem
open Idealize.ShloMosaic.Pipeline (Dat)
namespace Cert.FirstGradIdeal.Outs
open Cert.FirstGradIdeal Cert.FirstGradIdeal.Gen

variable (m : (ℓ : Loc nD τ sig) → Buf (Elt Ideal) ℓ)

open Cert.FirstGradRefIdeal.Read

/-- A block of rows' part of the sum over a sequence of `R`. -/
def part (R : Cert.FirstGradRefIdeal.S2x4096x1024.Idx → EReal) (t : Fin cfg0.N) (j : S1x1x1024.Idx) : EReal :=
  ∑ k : Fin 512, R (at3 t k (⟨(j 2).val, (j 2).isLt⟩ : Fin 1024))

theorem row_congr {a a' : Fin 2} {b b' : Fin 4096} (ha : a = a') (hb : b = b') (d : Fin 1024) : ix3 a b d = ix3 a' b' d := by rw [ha, hb]

/-- A sum begun at a sequence's first block and added to at each is the sum over the sequence. -/
theorem run_sum (R : Cert.FirstGradRefIdeal.S2x4096x1024.Idx → EReal) (f : (n : Nat) → n < cfg0.N → S1x1x1024.Idx → EReal)
    (reset : ∀ (t : Fin cfg0.N), t.val % 8 = 0 → ∀ j, f t.val t.isLt j = 0 + part R t j)
    (step : ∀ (t : Fin cfg0.N), ¬t.val % 8 = 0 → ∀ j, f t.val t.isLt j = f (t.val - 1) (Nat.lt_of_le_of_lt (Nat.sub_le _ _) t.isLt) j + part R t j)
    (t : Fin cfg0.N) (ht : t.val % 8 = 8 - 1) (j : S1x1x1024.Idx) :
    f t.val t.isLt j = 0 + ∑ l : Fin 4096, R (ix3 (⟨t.val / 8, by have := lt16 t; omega⟩ : Fin 2) l (⟨(j 2).val, (j 2).isLt⟩ : Fin 1024)) := by
  refine (Pipeline.eq_sum_fin_of_reset_step_apply_of_flush (M := EReal) f 8 (fun _ => (0 : EReal))
    (fun t j => part R t j) (fun t h j => reset t h j) (fun t h j => step t h j) t ht j).trans ?_
  refine congrArg ((0 : EReal) + ·) ?_
  unfold part
  refine Fin.sum_mul_add_congr fun s k hl => ?_
  refine congrArg R ?_
  unfold at3
  have := lt16 t
  have := s.isLt
  refine row_congr (Fin.ext ?_) (Fin.ext ?_) _
  · show (8 * (t.val / 8) + s.val) / 8 = t.val / 8
    omega
  · show (8 * (t.val / 8) + s.val) % 8 * 512 + k.val = _
    have e : (8 * (t.val / 8) + s.val) % 8 = s.val := by omega
    rw [e]

theorem zero1_at (j) : k0_pay1 (F := Ideal) j = (0 : EReal) := by pointwise [k0_pay1]

theorem zero2_at (j) : k0_pay2 (F := Ideal) j = (0 : EReal) := by pointwise [k0_pay2]

theorem zero3_at (j) : k0_pay3 (F := Ideal) j = (0 : EReal) := by pointwise [k0_pay3]

theorem v33_swap {x0 x2 x3 x5} (i) : val_main_v33 (F := Ideal) x0 x2 x3 x5 i
    = (val_main_v32 (F := Ideal) x2 x3 x5 i : EReal) * val_main_v15 (F := Ideal) x0 i :=
  (val_main_v33_apply x0 x2 x3 x5 i).trans (mul_comm (_ : EReal) _)

theorem v28_swap {x0 x1 x3 x5} (i) : val_main_v28 (F := Ideal) x0 x1 x3 x5 i
    = (val_main_v25 (F := Ideal) x3 x5 i : EReal) * val_main_v17 (F := Ideal) x0 x1 i :=
  (val_main_v28_apply x0 x1 x3 x5 i).trans (mul_comm (_ : EReal) _)

theorem dsh_pay (c : Dev nD) (t : Fin cfg0.N) (acc : FVec Ideal S1x1x1024 .f32) (j) : k0_pay9 (iblk m c 0 t) (iblk m c 1 t) acc j = (acc j : EReal) + part (val_main_v25 (F := Ideal) (m ((c : Thread nD τ).loc main_arg3)) (m ((c : Thread nD τ).loc main_arg5))) t j := by
  unfold part
  pointwise [k0_pay9]
  reads_congr
  all_goals first
    | exact dh_at m c t _ _
    | blk_ext! [iblk, V, idx t, at3]

theorem dsh_reset (c : Dev nD) (t : Fin cfg0.N) (h : t.val % 8 = 0) (j) :
    (outsAt0 m c t.val t.isLt).2.1 j = (0 : EReal) + part (val_main_v25 (F := Ideal) (m ((c : Thread nD τ).loc main_arg3)) (m ((c : Thread nD τ).loc main_arg5))) t j := by
  rw [outsAt0_A m c t h]; frame_out; rw [dsh_pay, zero1_at]

theorem dsh_step (c : Dev nD) (t : Fin cfg0.N) (h : ¬t.val % 8 = 0) (j) :
    (outsAt0 m c t.val t.isLt).2.1 j = ((outsAt0 m c (t.val - 1) (Nat.lt_of_le_of_lt (Nat.sub_le _ _) t.isLt)).2.1 j : EReal) + part (val_main_v25 (F := Ideal) (m ((c : Thread nD τ).loc main_arg3)) (m ((c : Thread nD τ).loc main_arg5))) t j := by
  rw [outsAt0_B m c t h]; frame_out; rw [dsh_pay]

theorem dsh (c : Dev nD) : (dats m 0 c).arrAt 7 cfg0.N = val_main_v27 (F := Ideal) (m ((c : Thread nD τ).loc main_arg3)) (m ((c : Thread nD τ).loc main_arg5)) := by
  refine (dats m 0 c).arrAt_eq_of_covers 7 _ (by decide +kernel) fun t hf y => ?_
  blk_simp
  rw [after0_7]
  refine (run_sum (val_main_v25 (F := Ideal) (m ((c : Thread nD τ).loc main_arg3)) (m ((c : Thread nD τ).loc main_arg5))) (fun n h => (outsAt0 m c n h).2.1) (dsh_reset m c) (dsh_step m c) t ((flush0_7 t).mp hf) y).trans ?_
  simp only [val_main_v27_apply, val_main_v26_apply, val_main_cst_5_apply]
  pointwise
  blk_point [iblk, V, idx t, at3]

theorem dsc_pay (c : Dev nD) (t : Fin cfg0.N) (acc : FVec Ideal S1x1x1024 .f32) (j) : k0_pay11 (k0_pay4 (iblk m c 0 t) (iblk m c 1 t)) (k0_pay6 (iblk m c 4 t)) (k0_pay8 (iblk m c 2 t)) (k0_pay10 acc) j = (acc j : EReal) + part (val_main_v28 (F := Ideal) (m ((c : Thread nD τ).loc main_arg0)) (m ((c : Thread nD τ).loc main_arg1)) (m ((c : Thread nD τ).loc main_arg3)) (m ((c : Thread nD τ).loc main_arg5))) t j := by
  unfold part
  simp only [v28_swap, val_main_v17_apply, val_main_v16_apply, val_main_v1_apply, val_main_v0_apply]
  pointwise [k0_pay11, k0_pay10, k0_pay6]
  reads_congr
  all_goals first
    | exact dh_at m c t _ _
    | exact xr_at m c t _ _
    | blk_ext! [iblk, V, idx t, at3]

theorem dsc_reset (c : Dev nD) (t : Fin cfg0.N) (h : t.val % 8 = 0) (j) :
    (outsAt0 m c t.val t.isLt).2.2.1 j = (0 : EReal) + part (val_main_v28 (F := Ideal) (m ((c : Thread nD τ).loc main_arg0)) (m ((c : Thread nD τ).loc main_arg1)) (m ((c : Thread nD τ).loc main_arg3)) (m ((c : Thread nD τ).loc main_arg5))) t j := by
  rw [outsAt0_A m c t h]; frame_out; rw [dsc_pay, zero2_at]

theorem dsc_step (c : Dev nD) (t : Fin cfg0.N) (h : ¬t.val % 8 = 0) (j) :
    (outsAt0 m c t.val t.isLt).2.2.1 j = ((outsAt0 m c (t.val - 1) (Nat.lt_of_le_of_lt (Nat.sub_le _ _) t.isLt)).2.2.1 j : EReal) + part (val_main_v28 (F := Ideal) (m ((c : Thread nD τ).loc main_arg0)) (m ((c : Thread nD τ).loc main_arg1)) (m ((c : Thread nD τ).loc main_arg3)) (m ((c : Thread nD τ).loc main_arg5))) t j := by
  rw [outsAt0_B m c t h]; frame_out; rw [dsc_pay]

theorem dsc (c : Dev nD) : (dats m 0 c).arrAt 8 cfg0.N = val_main_v30 (F := Ideal) (m ((c : Thread nD τ).loc main_arg0)) (m ((c : Thread nD τ).loc main_arg1)) (m ((c : Thread nD τ).loc main_arg3)) (m ((c : Thread nD τ).loc main_arg5)) := by
  refine (dats m 0 c).arrAt_eq_of_covers 8 _ (by decide +kernel) fun t hf y => ?_
  blk_simp
  rw [after0_8]
  refine (run_sum (val_main_v28 (F := Ideal) (m ((c : Thread nD τ).loc main_arg0)) (m ((c : Thread nD τ).loc main_arg1)) (m ((c : Thread nD τ).loc main_arg3)) (m ((c : Thread nD τ).loc main_arg5))) (fun n h => (outsAt0 m c n h).2.2.1) (dsc_reset m c) (dsc_step m c) t ((flush0_8 t).mp hf) y).trans ?_
  simp only [val_main_v30_apply, val_main_v29_apply, val_main_cst_6_apply]
  pointwise
  blk_point [iblk, V, idx t, at3]

theorem dgain_pay (c : Dev nD) (t : Fin cfg0.N) (acc : FVec Ideal S1x1x1024 .f32) (j) : k0_pay13 (k0_pay4 (iblk m c 0 t) (iblk m c 1 t)) (k0_pay8 (iblk m c 2 t)) (iblk m c 5 t) acc j = (acc j : EReal) + part (val_main_v33 (F := Ideal) (m ((c : Thread nD τ).loc main_arg0)) (m ((c : Thread nD τ).loc main_arg2)) (m ((c : Thread nD τ).loc main_arg3)) (m ((c : Thread nD τ).loc main_arg5))) t j := by
  unfold part
  simp only [v33_swap]
  pointwise [k0_pay13]
  reads_congr
  · exact hs_at m c t _ _
  · exact xr_at m c t _ _

theorem dgain_reset (c : Dev nD) (t : Fin cfg0.N) (h : t.val % 8 = 0) (j) :
    (outsAt0 m c t.val t.isLt).2.2.2 j = (0 : EReal) + part (val_main_v33 (F := Ideal) (m ((c : Thread nD τ).loc main_arg0)) (m ((c : Thread nD τ).loc main_arg2)) (m ((c : Thread nD τ).loc main_arg3)) (m ((c : Thread nD τ).loc main_arg5))) t j := by
  rw [outsAt0_A m c t h]; frame_out; rw [dgain_pay, zero3_at]

theorem dgain_step (c : Dev nD) (t : Fin cfg0.N) (h : ¬t.val % 8 = 0) (j) :
    (outsAt0 m c t.val t.isLt).2.2.2 j = ((outsAt0 m c (t.val - 1) (Nat.lt_of_le_of_lt (Nat.sub_le _ _) t.isLt)).2.2.2 j : EReal) + part (val_main_v33 (F := Ideal) (m ((c : Thread nD τ).loc main_arg0)) (m ((c : Thread nD τ).loc main_arg2)) (m ((c : Thread nD τ).loc main_arg3)) (m ((c : Thread nD τ).loc main_arg5))) t j := by
  rw [outsAt0_B m c t h]; frame_out; rw [dgain_pay]

theorem dgain (c : Dev nD) : (dats m 0 c).arrAt 9 cfg0.N = val_main_v35 (F := Ideal) (m ((c : Thread nD τ).loc main_arg0)) (m ((c : Thread nD τ).loc main_arg2)) (m ((c : Thread nD τ).loc main_arg3)) (m ((c : Thread nD τ).loc main_arg5)) := by
  refine (dats m 0 c).arrAt_eq_of_covers 9 _ (by decide +kernel) fun t hf y => ?_
  blk_simp
  rw [after0_9]
  refine (run_sum (val_main_v33 (F := Ideal) (m ((c : Thread nD τ).loc main_arg0)) (m ((c : Thread nD τ).loc main_arg2)) (m ((c : Thread nD τ).loc main_arg3)) (m ((c : Thread nD τ).loc main_arg5))) (fun n h => (outsAt0 m c n h).2.2.2) (dgain_reset m c) (dgain_step m c) t ((flush0_9 t).mp hf) y).trans ?_
  simp only [val_main_v35_apply, val_main_v34_apply, val_main_cst_7_apply]
  pointwise
  blk_point [iblk, V, idx t, at3]

end Cert.FirstGradIdeal.Outs
end
-- ==== Proof.FirstReal.lean ====
module

public import proofs.«01_k».proof.Proof.NormReal
public import proofs.«01_k».proof.Proof.FirstVal

/-! The first layer's norm: the reference's gradient of its argument, in the version's form. -/

@[expose] public section

set_option maxRecDepth 16384
set_option maxHeartbeats 1000000
noncomputable section
open Idealize.ShloMosaic Idealize.ShloMosaic.TcCoe Idealize.SL.Sem
open Idealize.ShloMosaic.Pipeline (Dat)
namespace Cert.FirstGradIdeal.Outs
open Cert.NormGradIdeal.Outs (word_1024 word_half word_eps sum_mul_pos norm_form sq_nonneg' mean_cases)
open Cert.FirstGradRefIdeal Cert.FirstGradRefIdeal.Read

theorem i4 (b : Fin 2) (s : Fin 4096) (k : Fin 1024) : idx_main_v4 (idx_main_v5 (ix3 b s 0)) k = ix3 b s k := by
  funext a; match a with
  | ⟨0, _⟩ => rfl
  | ⟨1, _⟩ => rfl
  | ⟨2, _⟩ => rfl

theorem i41 (b : Fin 2) (s : Fin 4096) (d : Fin 1024) : idx_main_v41 (ix3 b s d) = ix3 b s 0 := by
  funext a; match a with
  | ⟨0, _⟩ => rfl
  | ⟨1, _⟩ => rfl
  | ⟨2, _⟩ => rfl

theorem i14 (b : Fin 2) (s : Fin 4096) (d : Fin 1024) : idx_main_v14 (ix3 b s d) = ix3 b s 0 := by
  funext a; match a with
  | ⟨0, _⟩ => rfl
  | ⟨1, _⟩ => rfl
  | ⟨2, _⟩ => rfl

theorem i47 (b : Fin 2) (s : Fin 4096) (d : Fin 1024) (k : Fin 1) : idx_main_v47 (idx_main_v48 (ix3 b s d)) k = ix3 b s 0 := by
  funext a; match a with
  | ⟨0, _⟩ => rfl
  | ⟨1, _⟩ => rfl
  | ⟨2, _⟩ => exact Fin.ext (by show k.val = 0; omega)

theorem i40 (b : Fin 2) (s : Fin 4096) : idx_main_v40 (ix3 b s 0) = ix2 b s := by
  funext a; match a with
  | ⟨0, _⟩ => exact Fin.ext (by show ((b.val * 4096 + s.val) * 1 + 0) / 4096 = b.val; omega)
  | ⟨1, _⟩ => exact Fin.ext (by show ((b.val * 4096 + s.val) * 1 + 0) % 4096 = s.val; omega)

theorem i39 (b : Fin 2) (s : Fin 4096) (k : Fin 1024) : idx_main_v39 (ix2 b s) k = ix3 b s k := by
  funext a; match a with
  | ⟨0, _⟩ => rfl
  | ⟨1, _⟩ => rfl
  | ⟨2, _⟩ => rfl

section
variable (x0 : (⟨S2x4096x1024, .f32⟩ : BufTy).Contents (Elt Ideal))

/-- A row's mean of squares with the small word added: a positive number, or infinite. -/
theorem v9_cases (b s) : val_main_v9 (F := Ideal) x0 (ix3 b s 0) = (⊤ : EReal)
    ∨ ∃ W : ℝ, 0 < W ∧ val_main_v9 (F := Ideal) x0 (ix3 b s 0) = (W : EReal) := by
  obtain ⟨e, he, hw⟩ := word_eps
  simp only [val_main_v9_apply, val_main_v8_apply, val_main_cst_2_apply, val_main_v7_apply, val_main_v6_apply, val_main_cst_1_apply, val_main_v5_apply, val_main_v4_apply, val_main_cst_0_apply, val_main_v3_apply, i4]
  pointwise
  rw [hw, word_1024, Cert.NormGradIdeal.Outs.div_pos _ (by norm_num : (0 : ℝ) < 1024)]
  exact mean_cases he _ (Finset.sum_nonneg fun k _ => sq_nonneg' _)

theorem ref_form (x1 x2 x3 x4 x5) (b s d) : val_main_v52 (F := Ideal) x0 x1 x2 x3 x4 x5 (ix3 b s d)
    = (x4 (ix3 b s d) : EReal) + (val_main_v10 (F := Ideal) x0 (ix3 b s 0) : EReal)
        * ((val_main_v37 (F := Ideal) x1 x2 x3 x5 (ix3 b s d) : EReal) - (val_main_v15 (F := Ideal) x0 (ix3 b s d) : EReal)
          * Ideal.div (∑ k : Fin 1024, (val_main_v37 (F := Ideal) x1 x2 x3 x5 (ix3 b s k) : EReal) * val_main_v15 (F := Ideal) x0 (ix3 b s k))
            (Ideal.ofBits .f32 0x44800000#32)) := by
  simp only [val_main_v52_apply, val_main_v51_apply, val_main_v50_apply, val_main_v49_apply, val_main_v43_apply, val_main_v42_apply, val_main_v41_apply, val_main_v15_apply, val_main_v14_apply,
    val_main_v48_apply, val_main_v47_apply, val_main_cst_10_apply, val_main_v46_apply, val_main_v45_apply, val_main_cst_9_apply, val_main_v44_apply, i47,
    val_main_v40_apply, val_main_v39_apply, val_main_cst_8_apply, val_main_v38_apply, i40, i39, val_main_v13_apply, val_main_v12_apply, val_main_cst_3_apply, val_main_v11_apply,
    i41, i14, val_main_v10_apply]
  pointwise
  rw [word_1024, word_half]
  simp only [Finset.univ_unique, Finset.sum_singleton]
  rcases v9_cases x0 b s with h | ⟨W, hW, h⟩
  · rw [h, Ideal.rsqrt_top]
    simp [Ideal.div]
  · rw [h, Ideal.rsqrt_coe, if_neg hW.not_gt, if_neg hW.ne']
    have hr : 0 < (√W)⁻¹ := inv_pos.2 (Real.sqrt_pos.2 hW)
    refine (norm_form hW _ _ _ _).trans ?_
    have e : ∀ k : Fin 1024, (val_main_v37 (F := Ideal) x1 x2 x3 x5 (ix3 b s k) : EReal) * ((x0 (ix3 b s k) : EReal) * (((√W)⁻¹ : ℝ) : EReal))
        = ((x0 (ix3 b s k) : EReal) * val_main_v37 (F := Ideal) x1 x2 x3 x5 (ix3 b s k)) * (((√W)⁻¹ : ℝ) : EReal) := fun k => by
      rw [← mul_assoc, mul_comm (val_main_v37 (F := Ideal) x1 x2 x3 x5 (ix3 b s k) : EReal)]
    rw [Finset.sum_congr rfl fun k _ => e k, sum_mul_pos hr]
end

end Cert.FirstGradIdeal.Outs
end
-- ==== Proof.First.lean ====
module

public import proofs.«01_k».proof.Proof.FirstSum
public import proofs.«01_k».proof.Proof.FirstReal
public import proofs.«01_k».proof.Defs
public import proofs.«01_k».proof.Proof.Gen.FirstGradIdeal.Frame
public import proofs.«01_k».proof.Proof.Gen.FirstGradRefIdeal.Run
public import Idealize.ShloMosaic.Lib.Quiescent

/-! The first layer's norm, backward: the gradient of its argument, and the call against its reference. -/

@[expose] public section

set_option maxRecDepth 16384
set_option maxHeartbeats 1000000
noncomputable section
open Idealize.ShloMosaic Idealize.ShloMosaic.TcCoe Idealize.SL.Sem
open Idealize.ShloMosaic.Pipeline (Dat)
namespace Cert.FirstGradIdeal.Outs
open Cert.FirstGradIdeal Cert.FirstGradIdeal.Gen

variable (m : (ℓ : Loc nD τ sig) → Buf (Elt Ideal) ℓ)

open Cert.FirstGradRefIdeal.Read

theorem dx_at (c : Dev nD) (t : Fin cfg0.N) (p : Fin 512) (d : Fin 1024) : k0_pay14 (k0_pay4 (iblk m c 0 t) (iblk m c 1 t)) (k0_pay6 (iblk m c 4 t)) (k0_pay7 (iblk m c 2 t)) (k0_pay8 (iblk m c 2 t)) (iblk m c 5 t) (iblk m c 3 t) (ix2 p d)
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (at3 t p d) := by
  refine Eq.trans ?_ (ref_form _ _ _ _ _ _ _ _ _).symm
  pointwise [k0_pay14]
  simp only [r_at m c t, h_at m c t, xr_at m c t]
  blk_point [iblk, V, idx t, at3, row3]

theorem dx (c : Dev nD) : (dats m 0 c).arrAt 6 cfg0.N = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  have hy : y = ix2 (⟨(y 0).val, (y 0).isLt⟩ : Fin 512) (⟨(y 1).val, (y 1).isLt⟩ : Fin 1024) := by
    funext a; match a with
    | ⟨0, _⟩ => rfl
    | ⟨1, _⟩ => rfl
  have e : (outsAt0 m c t.val t.isLt).1 = k0_pay14 (k0_pay4 (iblk m c 0 t) (iblk m c 1 t)) (k0_pay6 (iblk m c 4 t)) (k0_pay7 (iblk m c 2 t)) (k0_pay8 (iblk m c 2 t)) (iblk m c 5 t) (iblk m c 3 t) := by
    by_cases h : t.val % 8 = 0
    · rw [outsAt0_A m c t h]; frame_out
    · rw [outsAt0_B m c t h]; frame_out
  rw [after0_6, e, val_main_v53_apply]
  refine (congrArg _ hy).trans ((dx_at m c t _ _).trans ?_)
  blk_point [iblk, V, idx t, at3]

end Cert.FirstGradIdeal.Outs

namespace Cert.Proof.First

theorem frame_FirstGradRef : Cert.quiescent_FirstGradRefIdeal := fun m g _ =>
  (θ_run Cert.FirstGradRefIdeal.defs _ _).mono (fun r h => ⟨fun c => (h c).2.2.2.2, sem_eq_zero_of_no_sems (by decide) r.2⟩)
    (Cert.FirstGradRefIdeal.Value.run (F := Ideal) m g)

theorem algebraic_FirstGradIdeal_FirstGradRefIdeal : Cert.algebraic_FirstGradIdeal_FirstGradRefIdeal := by
  intro m g m' g' hp hagree
  refine ⟨_, _, _, _, Cert.FirstGradIdeal.Value.run_blocks m g, ?_⟩
  refine (θ_run Cert.FirstGradRefIdeal.defs _ _).mono (fun r h c => ?_) (Cert.FirstGradRefIdeal.Value.run (F := Ideal) m' g')
  obtain ⟨a0, a1, a2, a3, a4, a5⟩ := hagree c
  obtain ⟨h0, h1, h2, h3, hk⟩ := h c
  rw [Cert.FirstGradRefIdeal.Read.val_main_v53_eq, a0, a1, a2, a3, a4, a5] at h0
  rw [Cert.FirstGradRefIdeal.Read.val_main_v27_eq, a3, a5] at h1
  rw [Cert.FirstGradRefIdeal.Read.val_main_v30_eq, a0, a1, a3, a5] at h2
  rw [Cert.FirstGradRefIdeal.Read.val_main_v35_eq, a0, a2, a3, a5] at h3
  exact ⟨h0.trans (Cert.FirstGradIdeal.Outs.dx m c).symm, h1.trans (Cert.FirstGradIdeal.Outs.dsh m c).symm, h2.trans (Cert.FirstGradIdeal.Outs.dsc m c).symm, h3.trans (Cert.FirstGradIdeal.Outs.dgain m c).symm, hk⟩

end Cert.Proof.First
end
-- ==== Proof.Proj.lean ====
module

public import proofs.«01_k».proof.Defs
public import proofs.«01_k».proof.Proof.Gen.AttnGradIdeal.Value
public import proofs.«01_k».proof.Proof.Gen.AttnGradIdeal.Frame
public import proofs.«01_k».proof.Proof.Gen.AttnGradRefIdeal.Read
public import proofs.«01_k».proof.Proof.Gen.AttnGradRefIdeal.Run
public import proofs.«01_k».proof.Proof.Gen.QkvAIdeal.Value
public import proofs.«01_k».proof.Proof.Gen.QkvAIdeal.Frame
public import proofs.«01_k».proof.Proof.Gen.QkvARefIdeal.Read
public import proofs.«01_k».proof.Proof.Gen.QkvARefIdeal.Run
public import proofs.«01_k».proof.Proof.Gen.QkvBIdeal.Value
public import proofs.«01_k».proof.Proof.Gen.QkvBIdeal.Frame
public import proofs.«01_k».proof.Proof.Gen.QkvBRefIdeal.Read
public import proofs.«01_k».proof.Proof.Gen.QkvBRefIdeal.Run
public import proofs.«01_k».proof.Proof.Gen.AttnOutIdeal.Value
public import proofs.«01_k».proof.Proof.Gen.AttnOutIdeal.Frame
public import proofs.«01_k».proof.Proof.Gen.AttnOutRefIdeal.Read
public import proofs.«01_k».proof.Proof.Gen.AttnOutRefIdeal.Run
public import Idealize.ShloMosaic.Lib.Pipeline.ValueKit
public import Idealize.ShloMosaic.Lib.Quiescent

/-! The projections of the mixers: one product each, and the output projection with its residual sum and norm. -/

@[expose] public section

set_option maxRecDepth 16384
set_option maxHeartbeats 1000000
noncomputable section
open Idealize.ShloMosaic Idealize.ShloMosaic.TcCoe Idealize.SL.Sem
open Idealize.ShloMosaic.Pipeline (Dat)

namespace Cert.AttnGradIdeal.Outs
open Cert.AttnGradIdeal Cert.AttnGradIdeal.Gen Cert.AttnGradRefIdeal.Read

variable (m : (ℓ : Loc nD τ sig) → Buf (Elt Ideal) ℓ)

theorem idx : ∀ t : Fin cfg0.N,
    win0_0.index t = ![t.val, 0] ∧ win0_1.index t = ![0, 0] ∧ win0_2.index t = ![t.val, 0] :=
  (by decide +kernel : ∀ t : Fin grid0.N, _)

theorem prod (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  simp only [val_main_v3_apply, val_main_v2_apply]
  pointwise [k0_pay1]
  blk_point [iblk, V, idx t]

end Cert.AttnGradIdeal.Outs

namespace Cert.QkvAIdeal.Outs
open Cert.QkvAIdeal Cert.QkvAIdeal.Gen Cert.QkvARefIdeal.Read

variable (m : (ℓ : Loc nD τ sig) → Buf (Elt Ideal) ℓ)

theorem idx : ∀ t : Fin cfg0.N,
    win0_0.index t = ![t.val, 0] ∧ win0_1.index t = ![0, 0] ∧ win0_2.index t = ![t.val, 0] :=
  (by decide +kernel : ∀ t : Fin grid0.N, _)

theorem prod (c : Dev nD) : (dats m 0 c).arrAt 2 cfg0.N = val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  simp only [val_main_v0_apply]
  pointwise [k0_pay1]
  blk_point [iblk, V, idx t]

end Cert.QkvAIdeal.Outs

namespace Cert.QkvBIdeal.Outs
open Cert.QkvBIdeal Cert.QkvBIdeal.Gen Cert.QkvBRefIdeal.Read

variable (m : (ℓ : Loc nD τ sig) → Buf (Elt Ideal) ℓ)

theorem idx : ∀ t : Fin cfg0.N,
    win0_0.index t = ![t.val % 8, 0] ∧ win0_1.index t = ![t.val / 8, 0] ∧ win0_2.index t = ![t.val % 8, t.val / 8] :=
  (by decide +kernel : ∀ t : Fin grid0.N, _)

theorem prod (c : Dev nD) : (dats m 0 c).arrAt 2 cfg0.N = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  simp only [val_main_v1_apply, val_main_v0_apply]
  pointwise [k0_pay1]
  blk_point [iblk, V, idx t]

end Cert.QkvBIdeal.Outs

namespace Cert.AttnOutIdeal.Outs
open Cert.AttnOutIdeal Cert.AttnOutIdeal.Gen Cert.AttnOutRefIdeal.Read

variable (m : (ℓ : Loc nD τ sig) → Buf (Elt Ideal) ℓ)

theorem idx : ∀ t : Fin cfg0.N,
    win0_0.index t = ![t.val, 0] ∧ win0_1.index t = ![0, 0] ∧ win0_2.index t = ![t.val, 0] ∧ win0_3.index t = ![t.val / 8, 0, 0]
    ∧ win0_4.index t = ![0, 0] ∧ win0_5.index t = ![t.val / 8, 0, 0] ∧ win0_6.index t = ![t.val / 8, 0, 0]
    ∧ win0_7.index t = ![t.val, 0] ∧ win0_8.index t = ![t.val, 0] ∧ win0_9.index t = ![t.val, 0] :=
  (by decide +kernel : ∀ t : Fin grid0.N, _)

theorem prod_at (c : Dev nD) (t : Fin cfg0.N) (y) : k0_pay1 (k0_pay2 (iblk m c 0 t) (iblk m c 1 t)) y
    = val_main_v24 (F := Ideal) (m ((c : Thread nD τ).loc main_arg0)) (m ((c : Thread nD τ).loc main_arg1)) (((cfg0.win 7).blk t).view.emb y) := by
  simp only [val_main_v24_apply, val_main_v23_apply, val_main_v0_apply]
  pointwise [k0_pay1, k0_pay2]
  blk_point [iblk, V, idx t]

theorem prod (c : Dev nD) : (dats m 0 c).arrAt 7 cfg0.N = val_main_v24 (F := Ideal) (m ((c : Thread nD τ).loc main_arg0)) (m ((c : Thread nD τ).loc main_arg1)) := by
  refine (dats m 0 c).arrAt_eq_of_covers 7 _ (by decide +kernel) fun t _ y => ?_
  blk_simp
  rw [after0_7]; frame_out
  exact prod_at m c t y

theorem resid_at (c : Dev nD) (t : Fin cfg0.N) (y) : k0_pay3 (iblk m c 0 t) (iblk m c 1 t) (iblk m c 2 t) (iblk m c 3 t) y
    = val_main_v25 (F := Ideal) (m ((c : Thread nD τ).loc main_arg0)) (m ((c : Thread nD τ).loc main_arg1)) (m ((c : Thread nD τ).loc main_arg2)) (m ((c : Thread nD τ).loc main_arg3)) (((cfg0.win 8).blk t).view.emb y) := by
  simp only [val_main_v25_apply, val_main_v3_apply, val_main_v2_apply, val_main_v1_apply, val_main_v0_apply]
  pointwise [k0_pay3, k0_pay2]
  blk_point [iblk, V, idx t]

theorem resid (c : Dev nD) : (dats m 0 c).arrAt 8 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]; frame_out
  exact resid_at m c t y

theorem normed_at (c : Dev nD) (t : Fin cfg0.N) (y) : k0_pay4 (iblk m c 0 t) (iblk m c 1 t) (iblk m c 2 t) (iblk m c 3 t) (iblk m c 4 t) (iblk m c 5 t) (iblk m c 6 t) y
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  simp only [val_main_v27_apply, val_main_v26_apply, val_main_v22_apply, val_main_v21_apply, val_main_v20_apply, val_main_v19_apply, val_main_v18_apply, val_main_v17_apply, val_main_cst_2_apply, val_main_v16_apply, val_main_v15_apply, val_main_v14_apply, val_main_v13_apply, val_main_v12_apply, val_main_v11_apply, val_main_v10_apply, val_main_v9_apply, val_main_cst_1_apply, val_main_v8_apply, val_main_v7_apply, val_main_cst_0_apply, val_main_v6_apply, val_main_v5_apply, val_main_cst_apply, val_main_v4_apply, val_main_v3_apply, val_main_v2_apply, val_main_v1_apply, val_main_v0_apply]
  pointwise [k0_pay4, k0_pay3, k0_pay2]
  blk_point [iblk, V, idx t]

theorem normed (c : Dev nD) : (dats m 0 c).arrAt 9 cfg0.N = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  exact normed_at m c t y

end Cert.AttnOutIdeal.Outs

namespace Cert.Proof.Proj

theorem frame_AttnGradRef : Cert.quiescent_AttnGradRefIdeal := fun m g _ =>
  (θ_run Cert.AttnGradRefIdeal.defs _ _).mono (fun r h => ⟨fun c => (h c).2, sem_eq_zero_of_no_sems (by decide) r.2⟩)
    (Cert.AttnGradRefIdeal.Value.run (F := Ideal) m g)

theorem algebraic_AttnGradIdeal_AttnGradRefIdeal : Cert.algebraic_AttnGradIdeal_AttnGradRefIdeal := by
  intro m g m' g' hp hagree
  refine ⟨_, Cert.AttnGradIdeal.Value.run_blocks m g, ?_⟩
  refine (θ_run Cert.AttnGradRefIdeal.defs _ _).mono (fun r h c => ?_) (Cert.AttnGradRefIdeal.Value.run (F := Ideal) m' g')
  obtain ⟨a0, a1⟩ := hagree c
  obtain ⟨h0, hk⟩ := h c
  rw [Cert.AttnGradRefIdeal.Read.val_main_v3_eq, a0, a1] at h0
  exact ⟨h0.trans (Cert.AttnGradIdeal.Outs.prod m c).symm, hk⟩

theorem frame_QkvARef : Cert.quiescent_QkvARefIdeal := fun m g _ =>
  (θ_run Cert.QkvARefIdeal.defs _ _).mono (fun r h => ⟨fun c => (h c).2, sem_eq_zero_of_no_sems (by decide) r.2⟩)
    (Cert.QkvARefIdeal.Value.run (F := Ideal) m g)

theorem algebraic_QkvAIdeal_QkvARefIdeal : Cert.algebraic_QkvAIdeal_QkvARefIdeal := by
  intro m g m' g' hp hagree
  refine ⟨_, Cert.QkvAIdeal.Value.run_blocks m g, ?_⟩
  refine (θ_run Cert.QkvARefIdeal.defs _ _).mono (fun r h c => ?_) (Cert.QkvARefIdeal.Value.run (F := Ideal) m' g')
  obtain ⟨a0, a1⟩ := hagree c
  obtain ⟨h0, hk⟩ := h c
  rw [Cert.QkvARefIdeal.Read.val_main_v0_eq, a0, a1] at h0
  exact ⟨h0.trans (Cert.QkvAIdeal.Outs.prod m c).symm, hk⟩

theorem frame_QkvBRef : Cert.quiescent_QkvBRefIdeal := fun m g _ =>
  (θ_run Cert.QkvBRefIdeal.defs _ _).mono (fun r h => ⟨fun c => (h c).2, sem_eq_zero_of_no_sems (by decide) r.2⟩)
    (Cert.QkvBRefIdeal.Value.run (F := Ideal) m g)

theorem algebraic_QkvBIdeal_QkvBRefIdeal : Cert.algebraic_QkvBIdeal_QkvBRefIdeal := by
  intro m g m' g' hp hagree
  refine ⟨_, Cert.QkvBIdeal.Value.run_blocks m g, ?_⟩
  refine (θ_run Cert.QkvBRefIdeal.defs _ _).mono (fun r h c => ?_) (Cert.QkvBRefIdeal.Value.run (F := Ideal) m' g')
  obtain ⟨a0, a1⟩ := hagree c
  obtain ⟨h0, hk⟩ := h c
  rw [Cert.QkvBRefIdeal.Read.val_main_v1_eq, a0, a1] at h0
  exact ⟨h0.trans (Cert.QkvBIdeal.Outs.prod m c).symm, hk⟩

theorem frame_AttnOutRef : Cert.quiescent_AttnOutRefIdeal := fun m g _ =>
  (θ_run Cert.AttnOutRefIdeal.defs _ _).mono (fun r h => ⟨fun c => (h c).2.2.2, sem_eq_zero_of_no_sems (by decide) r.2⟩)
    (Cert.AttnOutRefIdeal.Value.run (F := Ideal) m g)

theorem algebraic_AttnOutIdeal_AttnOutRefIdeal : Cert.algebraic_AttnOutIdeal_AttnOutRefIdeal := by
  intro m g m' g' hp hagree
  refine ⟨_, _, _, Cert.AttnOutIdeal.Value.run_blocks m g, ?_⟩
  refine (θ_run Cert.AttnOutRefIdeal.defs _ _).mono (fun r h c => ?_) (Cert.AttnOutRefIdeal.Value.run (F := Ideal) m' g')
  obtain ⟨a0, a1, a2, a3, a4, a5, a6⟩ := hagree c
  obtain ⟨h0, h1, h2, hk⟩ := h c
  rw [Cert.AttnOutRefIdeal.Read.val_main_v24_eq, a0, a1] at h0
  rw [Cert.AttnOutRefIdeal.Read.val_main_v25_eq, a0, a1, a2, a3] at h1
  rw [Cert.AttnOutRefIdeal.Read.val_main_v27_eq, a0, a1, a2, a3, a4, a5, a6] at h2
  exact ⟨h0.trans (Cert.AttnOutIdeal.Outs.prod m c).symm, h1.trans (Cert.AttnOutIdeal.Outs.resid m c).symm, h2.trans (Cert.AttnOutIdeal.Outs.normed m c).symm, hk⟩

end Cert.Proof.Proj
end
-- ==== Proof.NormSum.lean ====
module

public import proofs.«01_k».proof.Proof.NormVal
public import Idealize.ShloMosaic.Lib.Pipeline.ValueKit

/-! The norm's backward call: the gradients of the shift, the scale and the gain, added up over a sequence's blocks of rows. -/

@[expose] public section

set_option maxRecDepth 16384
set_option maxHeartbeats 1000000
noncomputable section
open Idealize.ShloMosaic Idealize.ShloMosaic.TcCoe Idealize.SL.Sem
open Idealize.ShloMosaic.Pipeline (Dat)
namespace Cert.NormGradIdeal.Outs
open Cert.NormGradIdeal Cert.NormGradIdeal.Gen

variable (m : (ℓ : Loc nD τ sig) → Buf (Elt Ideal) ℓ)

open Cert.NormGradRefIdeal.Read

/-- A block of rows' part of the sum over a sequence of `R`. -/
def part (R : Cert.NormGradRefIdeal.S2x4096x1024.Idx → EReal) (t : Fin cfg0.N) (j : S1x1x1024.Idx) : EReal :=
  ∑ k : Fin 512, R (at3 t k (⟨(j 2).val, (j 2).isLt⟩ : Fin 1024))

theorem row_congr {a a' : Fin 2} {b b' : Fin 4096} (ha : a = a') (hb : b = b') (d : Fin 1024) : ix3 a b d = ix3 a' b' d := by rw [ha, hb]

/-- A sum begun at a sequence's first block and added to at each is the sum over the sequence. -/
theorem run_sum (R : Cert.NormGradRefIdeal.S2x4096x1024.Idx → EReal) (f : (n : Nat) → n < cfg0.N → S1x1x1024.Idx → EReal)
    (reset : ∀ (t : Fin cfg0.N), t.val % 8 = 0 → ∀ j, f t.val t.isLt j = 0 + part R t j)
    (step : ∀ (t : Fin cfg0.N), ¬t.val % 8 = 0 → ∀ j, f t.val t.isLt j = f (t.val - 1) (Nat.lt_of_le_of_lt (Nat.sub_le _ _) t.isLt) j + part R t j)
    (t : Fin cfg0.N) (ht : t.val % 8 = 8 - 1) (j : S1x1x1024.Idx) :
    f t.val t.isLt j = 0 + ∑ l : Fin 4096, R (ix3 (⟨t.val / 8, by have := lt16 t; omega⟩ : Fin 2) l (⟨(j 2).val, (j 2).isLt⟩ : Fin 1024)) := by
  refine (Pipeline.eq_sum_fin_of_reset_step_apply_of_flush (M := EReal) f 8 (fun _ => (0 : EReal))
    (fun t j => part R t j) (fun t h j => reset t h j) (fun t h j => step t h j) t ht j).trans ?_
  refine congrArg ((0 : EReal) + ·) ?_
  unfold part
  refine Fin.sum_mul_add_congr fun s k hl => ?_
  refine congrArg R ?_
  unfold at3
  have := lt16 t
  have := s.isLt
  refine row_congr (Fin.ext ?_) (Fin.ext ?_) _
  · show (8 * (t.val / 8) + s.val) / 8 = t.val / 8
    omega
  · show (8 * (t.val / 8) + s.val) % 8 * 512 + k.val = _
    have e : (8 * (t.val / 8) + s.val) % 8 = s.val := by omega
    rw [e]

theorem zero4_at (j) : k0_pay4 (F := Ideal) j = (0 : EReal) := by pointwise [k0_pay4]

theorem zero5_at (j) : k0_pay5 (F := Ideal) j = (0 : EReal) := by pointwise [k0_pay5]

theorem zero6_at (j) : k0_pay6 (F := Ideal) j = (0 : EReal) := by pointwise [k0_pay6]

theorem zero7_at (j) : k0_pay7 (F := Ideal) j = (0 : EReal) := by pointwise [k0_pay7]

theorem v39_swap {x0 x1 x2 x4 x5 x6 x8 x9} (i) : val_main_v39 (F := Ideal) x0 x1 x2 x4 x5 x6 x8 x9 i
    = (val_main_v38 (F := Ideal) x4 x5 x6 x8 x9 i : EReal) * val_main_v18 (F := Ideal) x0 x1 x2 i :=
  (val_main_v39_apply x0 x1 x2 x4 x5 x6 x8 x9 i).trans (mul_comm (_ : EReal) _)

theorem dsh_pay (c : Dev nD) (t : Fin cfg0.N) (acc : FVec Ideal S1x1x1024 .f32) (j) : k0_pay14 (k0_pay13 (iblk m c 0 t) (iblk m c 1 t) (iblk m c 2 t) (iblk m c 3 t) acc) j = (acc j : EReal) + part (val_main_v31 (F := Ideal) (m ((c : Thread nD τ).loc main_arg5)) (m ((c : Thread nD τ).loc main_arg6)) (m ((c : Thread nD τ).loc main_arg8)) (m ((c : Thread nD τ).loc main_arg9))) t j := by
  unfold part
  pointwise [k0_pay14, k0_pay13]
  reads_congr
  all_goals first
    | exact dh_at m c t _ _
    | blk_ext! [iblk, V, idx t, at3]

theorem dsh_reset (c : Dev nD) (t : Fin cfg0.N) (h : t.val % 8 = 0) (j) :
    (outsAt0 m c t.val t.isLt).2.1 j = (0 : EReal) + part (val_main_v31 (F := Ideal) (m ((c : Thread nD τ).loc main_arg5)) (m ((c : Thread nD τ).loc main_arg6)) (m ((c : Thread nD τ).loc main_arg8)) (m ((c : Thread nD τ).loc main_arg9))) t j := by
  rw [outsAt0_A m c t h]; frame_out; rw [dsh_pay, zero4_at]

theorem dsh_step (c : Dev nD) (t : Fin cfg0.N) (h : ¬t.val % 8 = 0) (j) :
    (outsAt0 m c t.val t.isLt).2.1 j = ((outsAt0 m c (t.val - 1) (Nat.lt_of_le_of_lt (Nat.sub_le _ _) t.isLt)).2.1 j : EReal) + part (val_main_v31 (F := Ideal) (m ((c : Thread nD τ).loc main_arg5)) (m ((c : Thread nD τ).loc main_arg6)) (m ((c : Thread nD τ).loc main_arg8)) (m ((c : Thread nD τ).loc main_arg9))) t j := by
  rw [outsAt0_B m c t h]; frame_out; rw [dsh_pay]

theorem dsh (c : Dev nD) : (dats m 0 c).arrAt 11 cfg0.N = val_main_v33 (F := Ideal) (m ((c : Thread nD τ).loc main_arg5)) (m ((c : Thread nD τ).loc main_arg6)) (m ((c : Thread nD τ).loc main_arg8)) (m ((c : Thread nD τ).loc main_arg9)) := by
  refine (dats m 0 c).arrAt_eq_of_covers 11 _ (by decide +kernel) fun t hf y => ?_
  blk_simp
  rw [after0_11]
  refine (run_sum (val_main_v31 (F := Ideal) (m ((c : Thread nD τ).loc main_arg5)) (m ((c : Thread nD τ).loc main_arg6)) (m ((c : Thread nD τ).loc main_arg8)) (m ((c : Thread nD τ).loc main_arg9))) (fun n h => (outsAt0 m c n h).2.1) (dsh_reset m c) (dsh_step m c) t ((flush0_11 t).mp hf) y).trans ?_
  simp only [val_main_v33_apply, val_main_v32_apply, val_main_cst_5_apply]
  pointwise
  blk_point [iblk, V, idx t, at3]

theorem dsc_pay (c : Dev nD) (t : Fin cfg0.N) (acc : FVec Ideal S1x1x1024 .f32) (j) : k0_pay15 (k0_pay8 (iblk m c 0 t) (iblk m c 1 t) (iblk m c 2 t) (iblk m c 3 t)) (k0_pay10 (iblk m c 6 t)) (k0_pay12 (iblk m c 4 t)) acc j = (acc j : EReal) + part (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) (m ((c : Thread nD τ).loc main_arg9))) t j := by
  unfold part
  simp only [val_main_v34_apply, val_main_v20_apply, val_main_v19_apply, val_main_v1_apply, val_main_v0_apply]
  pointwise [k0_pay15, k0_pay10]
  reads_congr
  all_goals first
    | exact dh_at m c t _ _
    | exact xr_at m c t _ _
    | blk_ext! [iblk, V, idx t, at3]

theorem dsc_reset (c : Dev nD) (t : Fin cfg0.N) (h : t.val % 8 = 0) (j) :
    (outsAt0 m c t.val t.isLt).2.2.1 j = (0 : EReal) + part (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) (m ((c : Thread nD τ).loc main_arg9))) t j := by
  rw [outsAt0_A m c t h]; frame_out; rw [dsc_pay, zero5_at]

theorem dsc_step (c : Dev nD) (t : Fin cfg0.N) (h : ¬t.val % 8 = 0) (j) :
    (outsAt0 m c t.val t.isLt).2.2.1 j = ((outsAt0 m c (t.val - 1) (Nat.lt_of_le_of_lt (Nat.sub_le _ _) t.isLt)).2.2.1 j : EReal) + part (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) (m ((c : Thread nD τ).loc main_arg9))) t j := by
  rw [outsAt0_B m c t h]; frame_out; rw [dsc_pay]

theorem dsc (c : Dev nD) : (dats m 0 c).arrAt 12 cfg0.N = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) (m ((c : Thread nD τ).loc main_arg9)) := by
  refine (dats m 0 c).arrAt_eq_of_covers 12 _ (by decide +kernel) fun t hf y => ?_
  blk_simp
  rw [after0_12]
  refine (run_sum (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) (m ((c : Thread nD τ).loc main_arg9))) (fun n h => (outsAt0 m c n h).2.2.1) (dsc_reset m c) (dsc_step m c) t ((flush0_12 t).mp hf) y).trans ?_
  simp only [val_main_v36_apply, val_main_v35_apply, val_main_cst_6_apply]
  pointwise
  blk_point [iblk, V, idx t, at3]

theorem dgain_pay (c : Dev nD) (t : Fin cfg0.N) (acc : FVec Ideal S1x1x1024 .f32) (j) : k0_pay17 (k0_pay8 (iblk m c 0 t) (iblk m c 1 t) (iblk m c 2 t) (iblk m c 3 t)) (k0_pay12 (iblk m c 4 t)) (iblk m c 7 t) acc j = (acc j : EReal) + part (val_main_v39 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9))) t j := by
  unfold part
  simp only [v39_swap]
  pointwise [k0_pay17]
  reads_congr
  · exact hs_at m c t _ _
  · exact xr_at m c t _ _

theorem dgain_reset (c : Dev nD) (t : Fin cfg0.N) (h : t.val % 8 = 0) (j) :
    (outsAt0 m c t.val t.isLt).2.2.2.1 j = (0 : EReal) + part (val_main_v39 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9))) t j := by
  rw [outsAt0_A m c t h]; frame_out; rw [dgain_pay, zero6_at]

theorem dgain_step (c : Dev nD) (t : Fin cfg0.N) (h : ¬t.val % 8 = 0) (j) :
    (outsAt0 m c t.val t.isLt).2.2.2.1 j = ((outsAt0 m c (t.val - 1) (Nat.lt_of_le_of_lt (Nat.sub_le _ _) t.isLt)).2.2.2.1 j : EReal) + part (val_main_v39 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9))) t j := by
  rw [outsAt0_B m c t h]; frame_out; rw [dgain_pay]

theorem dgain (c : Dev nD) : (dats m 0 c).arrAt 13 cfg0.N = val_main_v41 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) := by
  refine (dats m 0 c).arrAt_eq_of_covers 13 _ (by decide +kernel) fun t hf y => ?_
  blk_simp
  rw [after0_13]
  refine (run_sum (val_main_v39 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9))) (fun n h => (outsAt0 m c n h).2.2.2.1) (dgain_reset m c) (dgain_step m c) t ((flush0_13 t).mp hf) y).trans ?_
  simp only [val_main_v41_apply, val_main_v40_apply, val_main_cst_7_apply]
  pointwise
  blk_point [iblk, V, idx t, at3]

end Cert.NormGradIdeal.Outs
end
-- ==== Proof.NormOut.lean ====
module

public import proofs.«01_k».proof.Proof.NormSum
public import proofs.«01_k».proof.Proof.NormReal
public import Idealize.ShloMosaic.Lib.Pipeline.ValueKit

/-! The norm's backward call: the gradients of its argument, of the layer's output below it and of that output's gate. -/

@[expose] public section

set_option maxRecDepth 16384
set_option maxHeartbeats 1000000
noncomputable section
open Idealize.ShloMosaic Idealize.ShloMosaic.TcCoe Idealize.SL.Sem
open Idealize.ShloMosaic.Pipeline (Dat)
namespace Cert.NormGradIdeal.Outs
open Cert.NormGradIdeal Cert.NormGradIdeal.Gen

variable (m : (ℓ : Loc nD τ sig) → Buf (Elt Ideal) ℓ)

open Cert.NormGradRefIdeal.Read

theorem dx_at (c : Dev nD) (t : Fin cfg0.N) (p : Fin 512) (d : Fin 1024) : k0_pay1 (k0_pay11 (iblk m c 4 t)) (k0_pay12 (iblk m c 4 t)) (k0_pay18 (k0_pay8 (iblk m c 0 t) (iblk m c 1 t) (iblk m c 2 t) (iblk m c 3 t)) (k0_pay10 (iblk m c 6 t)) (iblk m c 7 t)) (k0_pay19 (iblk m c 5 t)) (k0_pay20 (k0_pay8 (iblk m c 0 t) (iblk m c 1 t) (iblk m c 2 t) (iblk m c 3 t)) (k0_pay10 (iblk m c 6 t)) (k0_pay12 (iblk m c 4 t)) (iblk m c 7 t)) (ix2 p d)
    = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (at3 t p d) := by
  refine Eq.trans ?_ (ref_form _ _ _ _ _ _ _ _ _ _ _ _ _).symm
  pointwise [k0_pay1, k0_pay19, k0_pay20]
  simp only [r_at m c t, h_at m c t, xr_at m c t]
  blk_point [iblk, V, idx t, at3, row3]

theorem dx (c : Dev nD) : (dats m 0 c).arrAt 10 cfg0.N = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  have hy : y = ix2 (⟨(y 0).val, (y 0).isLt⟩ : Fin 512) (⟨(y 1).val, (y 1).isLt⟩ : Fin 1024) := by
    funext a; match a with
    | ⟨0, _⟩ => rfl
    | ⟨1, _⟩ => rfl
  have e : (outsAt0 m c t.val t.isLt).1 = k0_pay1 (k0_pay11 (iblk m c 4 t)) (k0_pay12 (iblk m c 4 t)) (k0_pay18 (k0_pay8 (iblk m c 0 t) (iblk m c 1 t) (iblk m c 2 t) (iblk m c 3 t)) (k0_pay10 (iblk m c 6 t)) (iblk m c 7 t)) (k0_pay19 (iblk m c 5 t)) (k0_pay20 (k0_pay8 (iblk m c 0 t) (iblk m c 1 t) (iblk m c 2 t) (iblk m c 3 t)) (k0_pay10 (iblk m c 6 t)) (k0_pay12 (iblk m c 4 t)) (iblk m c 7 t)) := by
    by_cases h : t.val % 8 = 0
    · rw [outsAt0_A m c t h]; frame_out
    · rw [outsAt0_B m c t h]; frame_out
  rw [after0_10, e, val_main_v65_apply]
  refine (congrArg _ hy).trans ((dx_at m c t _ _).trans ?_)
  blk_point [iblk, V, idx t, at3]

theorem dy (c : Dev nD) : (dats m 0 c).arrAt 14 cfg0.N = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t _ y => ?_
  blk_simp
  have e : (outsAt0 m c t.val t.isLt).2.2.2.2.1 = k0_pay2 (k0_pay11 (iblk m c 4 t)) (k0_pay12 (iblk m c 4 t)) (k0_pay18 (k0_pay8 (iblk m c 0 t) (iblk m c 1 t) (iblk m c 2 t) (iblk m c 3 t)) (k0_pay10 (iblk m c 6 t)) (iblk m c 7 t)) (k0_pay19 (iblk m c 5 t)) (k0_pay20 (k0_pay8 (iblk m c 0 t) (iblk m c 1 t) (iblk m c 2 t) (iblk m c 3 t)) (k0_pay10 (iblk m c 6 t)) (k0_pay12 (iblk m c 4 t)) (iblk m c 7 t)) (iblk m c 9 t) := by
    by_cases h : t.val % 8 = 0
    · rw [outsAt0_A m c t h]; frame_out
    · rw [outsAt0_B m c t h]; frame_out
  rw [after0_14, e]
  simp only [val_main_v67_apply, val_main_v66_apply, val_main_v61_apply, val_main_v60_apply, val_main_v59_apply]
  pointwise [k0_pay2]
  refine (mul_comm (_ : EReal) _).trans ?_
  reads_congr
  · blk_ext! [iblk, V, idx t]
  · refine (dx_at m c t (⟨(y 0).val, (y 0).isLt⟩ : Fin 512) (⟨(y 1).val, (y 1).isLt⟩ : Fin 1024)).trans ?_
    blk_point [iblk, V, idx t, at3]

theorem i59 (b : Fin 2) (s : Fin 4096) (d : Fin 1024) : idx_main_v59 (ix3 b s d) = ix3 b s d := by
  funext a; match a with
  | ⟨0, _⟩ => exact Fin.ext (by show ((b.val * 4096 + s.val) * 1024 + d.val) / 4194304 = b.val; omega)
  | ⟨1, _⟩ => exact Fin.ext (by show ((b.val * 4096 + s.val) * 1024 + d.val) / 1024 % 4096 = s.val; omega)
  | ⟨2, _⟩ => exact Fin.ext (by show ((b.val * 4096 + s.val) * 1024 + d.val) % 1024 = d.val; omega)

theorem i59_at (t : Fin cfg0.N) (p : Fin 512) (d : Fin 1024) : idx_main_v59 (at3 t p d) = at3 t p d := i59 _ _ _

theorem dg1_pay (c : Dev nD) (t : Fin cfg0.N) (acc : FVec Ideal S1x1x1024 .f32) (j) : k0_pay3 (k0_pay11 (iblk m c 4 t)) (k0_pay12 (iblk m c 4 t)) (k0_pay18 (k0_pay8 (iblk m c 0 t) (iblk m c 1 t) (iblk m c 2 t) (iblk m c 3 t)) (k0_pay10 (iblk m c 6 t)) (iblk m c 7 t)) (k0_pay19 (iblk m c 5 t)) (k0_pay20 (k0_pay8 (iblk m c 0 t) (iblk m c 1 t) (iblk m c 2 t) (iblk m c 3 t)) (k0_pay10 (iblk m c 6 t)) (k0_pay12 (iblk m c 4 t)) (iblk m c 7 t)) acc (iblk m c 8 t) j = (acc j : EReal) + part (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) t j := by
  unfold part
  simp only [val_main_v62_apply, val_main_v59_apply, i59_at]
  pointwise [k0_pay3]
  reads_congr
  · exact dx_at m c t _ _
  · blk_ext! [iblk, V, idx t, at3]

theorem dg1_reset (c : Dev nD) (t : Fin cfg0.N) (h : t.val % 8 = 0) (j) :
    (outsAt0 m c t.val t.isLt).2.2.2.2.2 j = (0 : EReal) + part (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) t j := by
  rw [outsAt0_A m c t h]; frame_out; rw [dg1_pay, zero7_at]

theorem dg1_step (c : Dev nD) (t : Fin cfg0.N) (h : ¬t.val % 8 = 0) (j) :
    (outsAt0 m c t.val t.isLt).2.2.2.2.2 j = ((outsAt0 m c (t.val - 1) (Nat.lt_of_le_of_lt (Nat.sub_le _ _) t.isLt)).2.2.2.2.2 j : EReal) + part (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) t j := by
  rw [outsAt0_B m c t h]; frame_out; rw [dg1_pay]

theorem dg1 (c : Dev nD) : (dats m 0 c).arrAt 15 cfg0.N = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 15 _ (by decide +kernel) fun t hf y => ?_
  blk_simp
  rw [after0_15]
  refine (run_sum (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun n h => (outsAt0 m c n h).2.2.2.2.2) (dg1_reset m c) (dg1_step m c) t ((flush0_15 t).mp hf) y).trans ?_
  simp only [val_main_v64_apply, val_main_v63_apply, val_main_cst_11_apply]
  pointwise
  blk_point [iblk, V, idx t, at3]

end Cert.NormGradIdeal.Outs
end
-- ==== Proof.Norm.lean ====
module

public import proofs.«01_k».proof.Defs
public import proofs.«01_k».proof.Proof.NormOut
public import proofs.«01_k».proof.Proof.Gen.NormGradIdeal.Value
public import proofs.«01_k».proof.Proof.Gen.NormGradIdeal.Frame
public import proofs.«01_k».proof.Proof.Gen.NormGradRefIdeal.Read
public import proofs.«01_k».proof.Proof.Gen.NormGradRefIdeal.Run
public import proofs.«01_k».proof.Proof.Gen.NormGrad.Frame
public import Idealize.ShloMosaic.Lib.Quiescent

/-! The norm's backward call against its reference, and the reference's run. -/

@[expose] public section

set_option maxRecDepth 16384
noncomputable section
namespace Cert.Proof.Norm
open Idealize.ShloMosaic Idealize.ShloMosaic.TcCoe Idealize.SL.Sem

theorem frame_NormGradRef : Cert.quiescent_NormGradRefIdeal := fun m g _ =>
  (θ_run Cert.NormGradRefIdeal.defs _ _).mono (fun r h => ⟨fun c => (h c).2.2.2.2.2.2, sem_eq_zero_of_no_sems (by decide) r.2⟩)
    (Cert.NormGradRefIdeal.Value.run (F := Ideal) m g)

theorem algebraic_NormGradIdeal_NormGradRefIdeal : Cert.algebraic_NormGradIdeal_NormGradRefIdeal := by
  intro m g m' g' hp hagree
  refine ⟨_, _, _, _, _, _, Cert.NormGradIdeal.Value.run_blocks m g, ?_⟩
  refine (θ_run Cert.NormGradRefIdeal.defs _ _).mono (fun r h c => ?_) (Cert.NormGradRefIdeal.Value.run (F := Ideal) m' g')
  obtain ⟨a0, a1, a2, a3, a4, a5, a6, a7, a8, a9⟩ := hagree c
  obtain ⟨h0, h1, h2, h3, h4, h5, hk⟩ := h c
  rw [Cert.NormGradRefIdeal.Read.val_main_v65_eq, a0, a1, a2, a3, a4, a5, a6, a7, a8, a9] at h0
  rw [Cert.NormGradRefIdeal.Read.val_main_v33_eq, a5, a6, a8, a9] at h1
  rw [Cert.NormGradRefIdeal.Read.val_main_v36_eq, a0, a1, a2, a3, a5, a6, a8, a9] at h2
  rw [Cert.NormGradRefIdeal.Read.val_main_v41_eq, a0, a1, a2, a4, a5, a6, a8, a9] at h3
  rw [Cert.NormGradRefIdeal.Read.val_main_v67_eq, a0, a1, a2, a3, a4, a5, a6, a7, a8, a9] at h4
  rw [Cert.NormGradRefIdeal.Read.val_main_v64_eq, a0, a1, a2, a3, a4, a5, a6, a7, a8, a9] at h5
  exact ⟨h0.trans (Cert.NormGradIdeal.Outs.dx m c).symm, h1.trans (Cert.NormGradIdeal.Outs.dsh m c).symm,
    h2.trans (Cert.NormGradIdeal.Outs.dsc m c).symm, h3.trans (Cert.NormGradIdeal.Outs.dgain m c).symm,
    h4.trans (Cert.NormGradIdeal.Outs.dy m c).symm, h5.trans (Cert.NormGradIdeal.Outs.dg1 m c).symm, hk⟩

end Cert.Proof.Norm
end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Arrays
public import proofs.«01_k».proof.Proof.Real
public import proofs.«01_k».proof.Proof.Mixer
public import proofs.«01_k».proof.Proof.Gen.WeightGrad.Frame
public import proofs.«01_k».proof.Proof.Gen.SwigluGrad.Frame
public import proofs.«01_k».proof.Proof.Gen.Swiglu.Frame
public import proofs.«01_k».proof.Proof.Gen.Residual.Frame
public import proofs.«01_k».proof.Proof.Ends
public import proofs.«01_k».proof.Proof.Steps
public import proofs.«01_k».proof.Proof.StepsB
public import proofs.«01_k».proof.Proof.First
public import proofs.«01_k».proof.Proof.Proj
public import proofs.«01_k».proof.Proof.Gen.LossHead.Frame
public import proofs.«01_k».proof.Proof.Gen.TopGrad.Frame
public import proofs.«01_k».proof.Proof.Gen.AdaGrad.Frame
public import proofs.«01_k».proof.Proof.Gen.SumMod.Frame
public import proofs.«01_k».proof.Proof.Gen.SumGain.Frame
public import proofs.«01_k».proof.Proof.Gen.FirstGrad.Frame
public import proofs.«01_k».proof.Proof.Gen.AttnGrad.Frame
public import proofs.«01_k».proof.Proof.Gen.QkvA.Frame
public import proofs.«01_k».proof.Proof.Gen.QkvB.Frame
public import proofs.«01_k».proof.Proof.Gen.AttnOut.Frame
public import proofs.«01_k».proof.Proof.Gen.StepAdaW.Frame
public import proofs.«01_k».proof.Proof.Gen.StepAdaB.Frame
public import proofs.«01_k».proof.Proof.Gen.StepGain.Frame
public import proofs.«01_k».proof.Proof.Gen.StepQkvA.Frame
public import proofs.«01_k».proof.Proof.Gen.StepHeadGain.Frame
public import proofs.«01_k».proof.Proof.Gen.StepSinks.Frame
public import proofs.«01_k».proof.Proof.Gen.StepOut.Frame
public import proofs.«01_k».proof.Proof.Gen.StepQkvB.Frame
public import proofs.«01_k».proof.Proof.Gen.StepUp.Frame
public import proofs.«01_k».proof.Proof.Gen.StepDown.Frame
public import proofs.«01_k».proof.Proof.Norm
public import proofs.«01_k».proof.Proof.Gen.NormGrad.Frame
public import proofs.«01_k».proof.Proof.Gen.OutGrad.Frame
public import proofs.«01_k».proof.Proof.Gen.QkvGrad.Frame
public import Idealize.ShloMosaic.Lib.Quiescent

@[expose] public section

set_option maxRecDepth 16384

noncomputable section

namespace Cert.Proof

open Idealize.ShloMosaic Idealize.SL.Sem
open Cert.ReferenceIdeal.Ref (up)

/-- The reference's run, with the counters: it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2.2.2, sem_eq_zero_of_no_sems (by decide) r.2⟩)
    (Cert.ReferenceIdeal.Value.run (F := Ideal) m g)

theorem algebraic : Cert.algebraic_KernelIdeal_ReferenceIdeal_pre_finite := by
  intro m g m' g' hp hagree
  refine ⟨_, _, _, _, _, _, Cert.KernelIdeal.Value.run_blocks m g, ?_⟩
  refine (θ_run Cert.ReferenceIdeal.defs _ _).mono (fun r h c => ?_) (Cert.ReferenceIdeal.Value.run (F := Ideal) m' g')
  obtain ⟨q, k, v, s, ct, A⟩ := Cert.KernelIdeal.Real.args_of m hp c
  obtain ⟨a0, a1, a2, a3, a4⟩ := hagree c
  have b0 : m' ((c.tc : Thread Cert.ReferenceIdeal.nD Cert.ReferenceIdeal.τ).loc Cert.ReferenceIdeal.main_arg0) = up q := a0.trans A.h0
  have b1 : m' ((c.tc : Thread Cert.ReferenceIdeal.nD Cert.ReferenceIdeal.τ).loc Cert.ReferenceIdeal.main_arg1) = up k := a1.trans A.h1
  have b2 : m' ((c.tc : Thread Cert.ReferenceIdeal.nD Cert.ReferenceIdeal.τ).loc Cert.ReferenceIdeal.main_arg2) = up v := a2.trans A.h2
  have b3 : m' ((c.tc : Thread Cert.ReferenceIdeal.nD Cert.ReferenceIdeal.τ).loc Cert.ReferenceIdeal.main_arg3) = up s := a3.trans A.h3
  have b4 : m' ((c.tc : Thread Cert.ReferenceIdeal.nD Cert.ReferenceIdeal.τ).loc Cert.ReferenceIdeal.main_arg4) = up ct := a4.trans A.h4
  obtain ⟨h0, h1, h2, h3, h4, h5, hk⟩ := h c
  rw [Cert.ReferenceIdeal.Read.val_main_v127_eq, b0, b1, b2, b3, b4] at h0
  rw [Cert.ReferenceIdeal.Read.val_main_v129_eq, b0, b1, b2, b3, b4] at h1
  rw [Cert.ReferenceIdeal.Read.val_main_v131_eq, b0, b1, b2, b3, b4] at h2
  rw [Cert.ReferenceIdeal.Read.val_main_v133_eq, b0, b1, b3, b4] at h3
  rw [Cert.ReferenceIdeal.Read.val_main_v135_eq, b0, b1, b3, b4] at h4
  rw [Cert.ReferenceIdeal.Read.val_main_v126_eq, b0, b1, b2, b3, b4] at h5
  exact ⟨h0.trans (Cert.KernelIdeal.Outs.arr8 A).symm, h1.trans (Cert.KernelIdeal.Outs.arr9 A).symm,
    h2.trans (Cert.KernelIdeal.Outs.arr10 A).symm, h3.trans (Cert.KernelIdeal.Outs.arr11 A).symm,
    h4.trans (Cert.KernelIdeal.Outs.arr12 A).symm, h5.trans (Cert.KernelIdeal.Outs.arr13 A).symm, hk⟩

theorem claim : Cert.Claim :=
  ⟨Cert.Kernel.Gen.facts, Cert.KernelIdeal.Gen.facts, Cert.ReferenceIdeal.Gen.facts, Cert.WeightGrad.Gen.facts,
    Cert.WeightGradIdeal.Gen.facts, Cert.SwigluGrad.Gen.facts, Cert.SwigluGradIdeal.Gen.facts, Cert.NormGrad.Gen.facts,
    Cert.NormGradIdeal.Gen.facts, Cert.Swiglu.Gen.facts, Cert.SwigluIdeal.Gen.facts, Cert.Residual.Gen.facts, Cert.ResidualIdeal.Gen.facts,
    Cert.OutGrad.Gen.facts, Cert.OutGradIdeal.Gen.facts, Cert.QkvGrad.Gen.facts, Cert.QkvGradIdeal.Gen.facts, Cert.FirstGrad.Gen.facts,
    Cert.FirstGradIdeal.Gen.facts, Cert.AttnGrad.Gen.facts, Cert.AttnGradIdeal.Gen.facts, Cert.QkvA.Gen.facts, Cert.QkvAIdeal.Gen.facts,
    Cert.QkvB.Gen.facts, Cert.QkvBIdeal.Gen.facts, Cert.AttnOut.Gen.facts, Cert.AttnOutIdeal.Gen.facts, Cert.LossHead.Gen.facts,
    Cert.LossHeadIdeal.Gen.facts, Cert.TopGrad.Gen.facts, Cert.TopGradIdeal.Gen.facts, Cert.AdaGrad.Gen.facts, Cert.AdaGradIdeal.Gen.facts,
    Cert.SumMod.Gen.facts, Cert.SumModIdeal.Gen.facts, Cert.SumGain.Gen.facts, Cert.SumGainIdeal.Gen.facts, Cert.StepAdaW.Gen.facts,
    Cert.StepAdaWIdeal.Gen.facts, Cert.StepAdaB.Gen.facts, Cert.StepAdaBIdeal.Gen.facts, Cert.StepGain.Gen.facts,
    Cert.StepGainIdeal.Gen.facts, Cert.StepQkvA.Gen.facts, Cert.StepQkvAIdeal.Gen.facts, Cert.StepHeadGain.Gen.facts,
    Cert.StepHeadGainIdeal.Gen.facts, Cert.StepSinks.Gen.facts, Cert.StepSinksIdeal.Gen.facts, Cert.StepOut.Gen.facts,
    Cert.StepOutIdeal.Gen.facts, Cert.StepQkvB.Gen.facts, Cert.StepQkvBIdeal.Gen.facts, Cert.StepUp.Gen.facts, Cert.StepUpIdeal.Gen.facts,
    Cert.StepDown.Gen.facts, Cert.StepDownIdeal.Gen.facts, Cert.DownGradRefIdeal.Gen.facts, Cert.GateGradRefIdeal.Gen.facts,
    Cert.SwigluGradRefIdeal.Gen.facts, Cert.NormGradRefIdeal.Gen.facts, Cert.SwigluRefIdeal.Gen.facts, Cert.ResidualRefIdeal.Gen.facts,
    Cert.OutGradRefIdeal.Gen.facts, Cert.ThirdGradRefIdeal.Gen.facts, Cert.QkvGradRefIdeal.Gen.facts, Cert.FirstGradRefIdeal.Gen.facts,
    Cert.AttnGradRefIdeal.Gen.facts, Cert.QkvARefIdeal.Gen.facts, Cert.QkvBRefIdeal.Gen.facts, Cert.AttnOutRefIdeal.Gen.facts,
    Cert.LossHeadRefIdeal.Gen.facts, Cert.TopGradRefIdeal.Gen.facts, Cert.AdaGradRefIdeal.Gen.facts, Cert.SumModRefIdeal.Gen.facts,
    Cert.SumGainRefIdeal.Gen.facts, Cert.StepAdaWRefIdeal.Gen.facts, Cert.StepAdaBRefIdeal.Gen.facts, Cert.StepGainRefIdeal.Gen.facts,
    Cert.StepQkvARefIdeal.Gen.facts, Cert.StepHeadGainRefIdeal.Gen.facts, Cert.StepSinksRefIdeal.Gen.facts, Cert.StepOutRefIdeal.Gen.facts,
    Cert.StepQkvBRefIdeal.Gen.facts, Cert.StepUpRefIdeal.Gen.facts, Cert.StepDownRefIdeal.Gen.facts, Cert.Pre_finite.Gen.facts,
    Cert.Pre_finite_swiglu.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  fun m ρ _ => Cert.WeightGrad.Gen.frame m ρ,
  fun m ρ _ => Cert.WeightGradIdeal.Gen.frame m ρ,
  fun m ρ _ => Cert.SwigluGrad.Gen.frame m ρ,
  fun m ρ _ => Cert.SwigluGradIdeal.Gen.frame m ρ,
  fun m ρ _ => Cert.SwigluGradIdeal.Gen.frame m ρ,
  fun m ρ _ => Cert.NormGrad.Gen.frame m ρ,
  fun m ρ _ => Cert.NormGradIdeal.Gen.frame m ρ,
  fun m ρ _ => Cert.Swiglu.Gen.frame m ρ,
  fun m ρ _ => Cert.SwigluIdeal.Gen.frame m ρ,
  fun m ρ _ => Cert.Residual.Gen.frame m ρ,
  fun m ρ _ => Cert.ResidualIdeal.Gen.frame m ρ,
  fun m ρ _ => Cert.OutGrad.Gen.frame m ρ,
  fun m ρ _ => Cert.OutGradIdeal.Gen.frame m ρ,
  fun m ρ _ => Cert.QkvGrad.Gen.frame m ρ,
  fun m ρ _ => Cert.QkvGradIdeal.Gen.frame m ρ,
  fun m ρ _ => Cert.FirstGrad.Gen.frame m ρ,
  fun m ρ _ => Cert.FirstGradIdeal.Gen.frame m ρ,
  fun m ρ _ => Cert.AttnGrad.Gen.frame m ρ,
  fun m ρ _ => Cert.AttnGradIdeal.Gen.frame m ρ,
  fun m ρ _ => Cert.QkvA.Gen.frame m ρ,
  fun m ρ _ => Cert.QkvAIdeal.Gen.frame m ρ,
  fun m ρ _ => Cert.QkvB.Gen.frame m ρ,
  fun m ρ _ => Cert.QkvBIdeal.Gen.frame m ρ,
  fun m ρ _ => Cert.AttnOut.Gen.frame m ρ,
  fun m ρ _ => Cert.AttnOutIdeal.Gen.frame m ρ,
  fun m ρ _ => Cert.LossHead.Gen.frame m ρ,
  fun m ρ _ => Cert.LossHeadIdeal.Gen.frame m ρ,
  fun m ρ _ => Cert.TopGrad.Gen.frame m ρ,
  fun m ρ _ => Cert.TopGradIdeal.Gen.frame m ρ,
  fun m ρ _ => Cert.AdaGrad.Gen.frame m ρ,
  fun m ρ _ => Cert.AdaGradIdeal.Gen.frame m ρ,
  fun m ρ _ => Cert.SumMod.Gen.frame m ρ,
  fun m ρ _ => Cert.SumModIdeal.Gen.frame m ρ,
  fun m ρ _ => Cert.SumGain.Gen.frame m ρ,
  fun m ρ _ => Cert.SumGainIdeal.Gen.frame m ρ,
  fun m ρ _ => Cert.StepAdaW.Gen.frame m ρ,
  fun m ρ _ => Cert.StepAdaWIdeal.Gen.frame m ρ,
  fun m ρ _ => Cert.StepAdaB.Gen.frame m ρ,
  fun m ρ _ => Cert.StepAdaBIdeal.Gen.frame m ρ,
  fun m ρ _ => Cert.StepGain.Gen.frame m ρ,
  fun m ρ _ => Cert.StepGainIdeal.Gen.frame m ρ,
  fun m ρ _ => Cert.StepQkvA.Gen.frame m ρ,
  fun m ρ _ => Cert.StepQkvAIdeal.Gen.frame m ρ,
  fun m ρ _ => Cert.StepHeadGain.Gen.frame m ρ,
  fun m ρ _ => Cert.StepHeadGainIdeal.Gen.frame m ρ,
  fun m ρ _ => Cert.StepSinks.Gen.frame m ρ,
  fun m ρ _ => Cert.StepSinksIdeal.Gen.frame m ρ,
  fun m ρ _ => Cert.StepOut.Gen.frame m ρ,
  fun m ρ _ => Cert.StepOutIdeal.Gen.frame m ρ,
  fun m ρ _ => Cert.StepQkvB.Gen.frame m ρ,
  fun m ρ _ => Cert.StepQkvBIdeal.Gen.frame m ρ,
  fun m ρ _ => Cert.StepUp.Gen.frame m ρ,
  fun m ρ _ => Cert.StepUpIdeal.Gen.frame m ρ,
  fun m ρ _ => Cert.StepDown.Gen.frame m ρ,
  fun m ρ _ => Cert.StepDownIdeal.Gen.frame m ρ,
  fun m ρ _ => Mixer.frame_DownGradRef m ρ trivial,
  fun m ρ _ => Mixer.frame_GateGradRef m ρ trivial,
  fun m ρ _ => Mixer.frame_SwigluGradRef m ρ trivial,
  fun m ρ _ => Mixer.frame_SwigluGradRef m ρ trivial,
  fun m ρ _ => Norm.frame_NormGradRef m ρ trivial,
  fun m ρ _ => Mixer.frame_SwigluRef m ρ trivial,
  fun m ρ _ => Mixer.frame_ResidualRef m ρ trivial,
  fun m ρ _ => Mixer.frame_OutGradRef m ρ trivial,
  fun m ρ _ => Mixer.frame_ThirdGradRef m ρ trivial,
  fun m ρ _ => Mixer.frame_QkvGradRef m ρ trivial,
  fun m ρ _ => First.frame_FirstGradRef m ρ trivial,
  fun m ρ _ => Proj.frame_AttnGradRef m ρ trivial,
  fun m ρ _ => Proj.frame_QkvARef m ρ trivial,
  fun m ρ _ => Proj.frame_QkvBRef m ρ trivial,
  fun m ρ _ => Proj.frame_AttnOutRef m ρ trivial,
  fun m ρ _ => Ends.frame_LossHeadRef m ρ trivial,
  fun m ρ _ => Ends.frame_TopGradRef m ρ trivial,
  fun m ρ _ => Ends.frame_AdaGradRef m ρ trivial,
  fun m ρ _ => Ends.frame_SumModRef m ρ trivial,
  fun m ρ _ => Ends.frame_SumGainRef m ρ trivial,
  fun m ρ _ => Steps.frame_StepAdaWRef m ρ trivial,
  fun m ρ _ => Steps.frame_StepAdaBRef m ρ trivial,
  fun m ρ _ => Steps.frame_StepGainRef m ρ trivial,
  fun m ρ _ => Steps.frame_StepQkvARef m ρ trivial,
  fun m ρ _ => Steps.frame_StepHeadGainRef m ρ trivial,
  fun m ρ _ => Steps.frame_StepSinksRef m ρ trivial,
  fun m ρ _ => Steps.frame_StepOutRef m ρ trivial,
  fun m ρ _ => Steps.frame_StepQkvBRef m ρ trivial,
  fun m ρ _ => Steps.frame_StepUpRef m ρ trivial,
  fun m ρ _ => Steps.frame_StepDownRef m ρ trivial,
  IdealRules.named_const.statement Cert.KernelIdeal.κ "mask" .f32 0xF149F2CA#32 ⊥ rfl,
  algebraic,
  trivial,
  trivial,
  trivial,
  trivial,
  trivial,
  trivial,
  trivial,
  trivial,
  trivial,
  trivial,
  trivial,
  trivial,
  trivial,
  trivial,
  trivial,
  trivial,
  trivial,
  trivial,
  trivial,
  trivial,
  trivial,
  trivial,
  trivial,
  trivial,
  trivial,
  trivial,
  trivial,
  Mixer.algebraic_WeightGradIdeal_DownGradRefIdeal,
  Mixer.algebraic_WeightGradIdeal_GateGradRefIdeal,
  Mixer.algebraic_SwigluGradIdeal_SwigluGradRefIdeal_pre_finite_swiglu,
  Norm.algebraic_NormGradIdeal_NormGradRefIdeal,
  Mixer.algebraic_SwigluIdeal_SwigluRefIdeal,
  Mixer.algebraic_ResidualIdeal_ResidualRefIdeal,
  Mixer.algebraic_OutGradIdeal_OutGradRefIdeal,
  Mixer.algebraic_OutGradIdeal_ThirdGradRefIdeal,
  Mixer.algebraic_QkvGradIdeal_QkvGradRefIdeal,
  First.algebraic_FirstGradIdeal_FirstGradRefIdeal,
  Proj.algebraic_AttnGradIdeal_AttnGradRefIdeal,
  Proj.algebraic_QkvAIdeal_QkvARefIdeal,
  Proj.algebraic_QkvBIdeal_QkvBRefIdeal,
  Proj.algebraic_AttnOutIdeal_AttnOutRefIdeal,
  Ends.algebraic_LossHeadIdeal_LossHeadRefIdeal,
  Ends.algebraic_TopGradIdeal_TopGradRefIdeal,
  Ends.algebraic_AdaGradIdeal_AdaGradRefIdeal,
  Ends.algebraic_SumModIdeal_SumModRefIdeal,
  Ends.algebraic_SumGainIdeal_SumGainRefIdeal,
  Steps.algebraic_StepAdaWIdeal_StepAdaWRefIdeal,
  Steps.algebraic_StepAdaBIdeal_StepAdaBRefIdeal,
  Steps.algebraic_StepGainIdeal_StepGainRefIdeal,
  Steps.algebraic_StepQkvAIdeal_StepQkvARefIdeal,
  Steps.algebraic_StepHeadGainIdeal_StepHeadGainRefIdeal,
  Steps.algebraic_StepSinksIdeal_StepSinksRefIdeal,
  Steps.algebraic_StepOutIdeal_StepOutRefIdeal,
  Steps.algebraic_StepQkvBIdeal_StepQkvBRefIdeal,
  Steps.algebraic_StepUpIdeal_StepUpRefIdeal,
  Steps.algebraic_StepDownIdeal_StepDownRefIdeal⟩

end Cert.Proof

end
